-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "rsqrt_2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_4)) (v4 : (c : Dev Cert.Kernel2Ideal.nD) → Buf (Elt Ideal) ((c.tc : Thread Cert.Kernel2Ideal.nD Cert.Kernel2Ideal.τ).loc Cert.Kernel2Ideal.main_v22_5)) (v5 : (c : Dev Cert.Kernel2Ideal.nD) → Buf (Elt Ideal) ((c.tc : Thread Cert.Kernel2Ideal.nD Cert.Kernel2Ideal.τ).loc Cert.Kernel2Ideal.main_v22_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_4) = v3 c
          ∧ r.2.mem ((c.tc : Thread Cert.Kernel2Ideal.nD Cert.Kernel2Ideal.τ).loc Cert.Kernel2Ideal.main_v22_5) = v4 c
          ∧ r.2.mem ((c.tc : Thread Cert.Kernel2Ideal.nD Cert.Kernel2Ideal.τ).loc Cert.Kernel2Ideal.main_v22_6) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v69) = v3 c
          ∧ r.2.mem ((c.tc : Thread Cert.Reference2Ideal.nD Cert.Reference2Ideal.τ).loc Cert.Reference2Ideal.main_v70) = v4 c
          ∧ r.2.mem ((c.tc : Thread Cert.Reference2Ideal.nD Cert.Reference2Ideal.τ).loc Cert.Reference2Ideal.main_v71) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v32)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v142) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)) (v3 : (c : Dev Cert.Kernel7Ideal.nD) → Buf (Elt Ideal) ((c.tc : Thread Cert.Kernel7Ideal.nD Cert.Kernel7Ideal.τ).loc Cert.Kernel7Ideal.main_v23_3)) (v4 : (c : Dev Cert.Kernel7Ideal.nD) → Buf (Elt Ideal) ((c.tc : Thread Cert.Kernel7Ideal.nD Cert.Kernel7Ideal.τ).loc Cert.Kernel7Ideal.main_v23_5)) (v5 : (c : Dev Cert.Kernel7Ideal.nD) → Buf (Elt Ideal) ((c.tc : Thread Cert.Kernel7Ideal.nD Cert.Kernel7Ideal.τ).loc Cert.Kernel7Ideal.main_v23_6)) (v6 : (c : Dev Cert.Kernel7Ideal.nD) → Buf (Elt Ideal) ((c.tc : Thread Cert.Kernel7Ideal.nD Cert.Kernel7Ideal.τ).loc Cert.Kernel7Ideal.main_v23_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_v23_3) = v3 c
          ∧ r.2.mem ((c.tc : Thread Cert.Kernel7Ideal.nD Cert.Kernel7Ideal.τ).loc Cert.Kernel7Ideal.main_v23_5) = v4 c
          ∧ r.2.mem ((c.tc : Thread Cert.Kernel7Ideal.nD Cert.Kernel7Ideal.τ).loc Cert.Kernel7Ideal.main_v23_6) = v5 c
          ∧ r.2.mem ((c.tc : Thread Cert.Kernel7Ideal.nD Cert.Kernel7Ideal.τ).loc Cert.Kernel7Ideal.main_v23_7) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_v73) = v2 c
          ∧ r.2.mem ((c.tc : Thread Cert.Reference7Ideal.nD Cert.Reference7Ideal.τ).loc Cert.Reference7Ideal.main_v74) = v3 c
          ∧ r.2.mem ((c.tc : Thread Cert.Reference7Ideal.nD Cert.Reference7Ideal.τ).loc Cert.Reference7Ideal.main_v75) = v4 c
          ∧ r.2.mem ((c.tc : Thread Cert.Reference7Ideal.nD Cert.Reference7Ideal.τ).loc Cert.Reference7Ideal.main_v76) = v5 c
          ∧ r.2.mem ((c.tc : Thread Cert.Reference7Ideal.nD Cert.Reference7Ideal.τ).loc Cert.Reference7Ideal.main_v77) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x2304x384 : Shape := ⟨3, ![8, 2304, 384]⟩
abbrev S8x2304x128 : Shape := ⟨3, ![8, 2304, 128]⟩
abbrev S2x6 : Shape := ⟨2, ![2, 6]⟩
abbrev S_ : Shape := ⟨0, ![]⟩

class Facts : Prop where
  bcast_S_S8x2304x384 : S_.BroadcastsInDim S8x2304x384 (![] : Fin 0 → Fin S8x2304x384.rank)
  reducesTo_S8x2304x384_S_d0_1_2 : S8x2304x384.ReducesTo [0, 1, 2] S_
  h_S_ : 0 < S_.numel
  bcast_S_S8x2304x128 : S_.BroadcastsInDim S8x2304x128 (![] : Fin 0 → Fin S8x2304x128.rank)
  reducesTo_S8x2304x128_S_d0_1_2 : S8x2304x128.ReducesTo [0, 1, 2] S_
  bcast_S_S2x6 : S_.BroadcastsInDim S2x6 (![] : Fin 0 → Fin S2x6.rank)
  reducesTo_S2x6_S_d0_1 : S2x6.ReducesTo [0, 1] S_

variable [Facts]

def fn {F : FTy → Type} [FloatOps F] (main_arg0 : FVec F S8x2304x384 .f32) (main_arg1 : FVec F S8x2304x128 .f32) (main_arg2 : FVec F S8x2304x128 .f32) (main_arg3 : FVec F S2x6 .f32) : IVec S_ 1 :=
  let main_v0 : FVec F S8x2304x384 .f32 := Host.absf main_arg0
  let main_cst : FVec F S_ .f32 := constant S_ .f32 0x7F800000#32
  let main_v1 : FVec F S8x2304x384 .f32 := broadcastInDim S8x2304x384 ![] bcast_S_S8x2304x384 main_cst
  let main_v2 : IVec S8x2304x384 1 := cmpf .olt main_v0 main_v1
  let main_c : IVec S_ 1 := constantI S_ 1 1#1
  let main_v3 : IVec S_ 1 := (fun x v => Host.reduce IntOp.andi x v reducesTo_S8x2304x384_S_d0_1_2 h_S_) main_v2 main_c
  let main_v4 : FVec F S8x2304x128 .f32 := Host.absf main_arg1
  let main_cst_0 : FVec F S_ .f32 := constant S_ .f32 0x7F800000#32
  let main_v5 : FVec F S8x2304x128 .f32 := broadcastInDim S8x2304x128 ![] bcast_S_S8x2304x128 main_cst_0
  let main_v6 : IVec S8x2304x128 1 := cmpf .olt main_v4 main_v5
  let main_c_1 : IVec S_ 1 := constantI S_ 1 1#1
  let main_v7 : IVec S_ 1 := (fun x v => Host.reduce IntOp.andi x v reducesTo_S8x2304x128_S_d0_1_2 h_S_) main_v6 main_c_1
  let main_v8 : IVec S_ 1 := andi main_v3 main_v7
  let main_v9 : FVec F S2x6 .f32 := Host.absf main_arg3
  let main_cst_2 : FVec F S_ .f32 := constant S_ .f32 0x7F800000#32
  let main_v10 : FVec F S2x6 .f32 := broadcastInDim S2x6 ![] bcast_S_S2x6 main_cst_2
  let main_v11 : IVec S2x6 1 := cmpf .olt main_v9 main_v10
  let main_c_3 : IVec S_ 1 := constantI S_ 1 1#1
  let main_v12 : IVec S_ 1 := (fun x v => Host.reduce IntOp.andi x v reducesTo_S2x6_S_d0_1 h_S_) main_v11 main_c_3
  let main_v13 : IVec S_ 1 := andi main_v8 main_v12
  main_v13
-- ==== Kernel.lean ====
abbrev S16384x1024 : Shape := ⟨2, ![16384, 1024]⟩
abbrev S8x16384x8x128 : Shape := ⟨4, ![8, 16384, 8, 128]⟩
abbrev S2x16384x1024 : Shape := ⟨3, ![2, 16384, 1024]⟩
abbrev S1048576x128 : Shape := ⟨2, ![1048576, 128]⟩
abbrev S1x16384x1024 : Shape := ⟨3, ![1, 16384, 1024]⟩
abbrev S16x1024x1024 : Shape := ⟨3, ![16, 1024, 1024]⟩
abbrev S1024x1024 : Shape := ⟨2, ![1024, 1024]⟩
abbrev S8192x128 : Shape := ⟨2, ![8192, 128]⟩
abbrev S1x1024x1024 : Shape := ⟨3, ![1, 1024, 1024]⟩
abbrev S1024x128 : Shape := ⟨2, ![1024, 128]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S8x16384x8x128, .i32⟩
  | .hbm, ⟨2, _⟩ => ⟨S2x16384x1024, .f32⟩
  | .hbm, ⟨3, _⟩ => ⟨S2x16384x1024, .f32⟩
  | .hbm, ⟨4, _⟩ => ⟨S1048576x128, .i32⟩
  | .hbm, ⟨5, _⟩ => ⟨S1x16384x1024, .f32⟩
  | .hbm, ⟨6, _⟩ => ⟨S16384x1024, .f32⟩
  | .hbm, ⟨7, _⟩ => ⟨S16x1024x1024, .f32⟩
  | .hbm, ⟨8, _⟩ => ⟨S16x1024x1024, .f32⟩
  | .hbm, ⟨9, _⟩ => ⟨S16x1024x1024, .bf16⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S8192x128, .i32⟩
  | .local _ .vmem, ⟨3, _⟩ => ⟨S8192x128, .i32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c16_i32 : BitVec 32 := 16#32
  let v14 : BitVec 1 := Scalar.cmpi .slt arg1 c16_i32
  let v15 : BitVec 1 := Scalar.andi v13 v14
  let v16 : BitVec 32 := Scalar.extui v15
  let c0_i32_6 : BitVec 32 := 0#32
  let v17 : BitVec 1 := Scalar.cmpi .ne v16 c0_i32_6
  v17

def k0_mult1 : BitVec 32 :=
  let c0_i32_34 : BitVec 32 := 0#32
  let c1024_i32 : BitVec 32 := 1024#32
  let v63 : BitVec 32 := Scalar.muli c0_i32_34 c1024_i32
  v63
def k0_off1 : Fin 2 → Nat :=
  let c0_i32_34 : BitVec 32 := 0#32
  let c1024_i32 : BitVec 32 := 1024#32
  let v63 : BitVec 32 := Scalar.muli c0_i32_34 c1024_i32
  let v64 : BitVec 32 := v63
  let v65 : Index := Scalar.indexCast v64
  let c0 : Index := 0#32
  ![v65.toNat, 0]
def k0_off2 (c0_i32_48 : BitVec 32) : Fin 2 → Nat :=
  let c0_i32_34 : BitVec 32 := 0#32
  let c8192_i32 : BitVec 32 := 8192#32
  let v90 : BitVec 32 := Scalar.muli c0_i32_34 c8192_i32
  let v91 : BitVec 32 := Scalar.addi v90 c0_i32_48
  let v92 : Index := Scalar.indexCast v91
  let c0_49 : Index := 0#32
  ![v92.toNat, 0]
def k0_off3 : Fin 2 → Nat :=
  let c0_i32_34 : BitVec 32 := 0#32
  let c1024_i32 : BitVec 32 := 1024#32
  let v63 : BitVec 32 := Scalar.muli c0_i32_34 c1024_i32
  let v64 : BitVec 32 := v63
  let v99 : Index := Scalar.indexCast v64
  let c0_50 : Index := 0#32
  ![v99.toNat, 0]
def k0_off4 : Fin 2 → Nat :=
  let c0_i32_34 : BitVec 32 := 0#32
  let c1024_i32 : BitVec 32 := 1024#32
  let v63 : BitVec 32 := Scalar.muli c0_i32_34 c1024_i32
  let v64 : BitVec 32 := v63
  let v112 : Index := Scalar.indexCast v64
  let c128 : Index := 128#32
  ![v112.toNat, 128]
def k0_off5 : Fin 2 → Nat :=
  let c0_i32_34 : BitVec 32 := 0#32
  let c1024_i32 : BitVec 32 := 1024#32
  let v63 : BitVec 32 := Scalar.muli c0_i32_34 c1024_i32
  let v64 : BitVec 32 := v63
  let v125 : Index := Scalar.indexCast v64
  let c256 : Index := 256#32
  ![v125.toNat, 256]
def k0_off6 : Fin 2 → Nat :=
  let c0_i32_34 : BitVec 32 := 0#32
  let c1024_i32 : BitVec 32 := 1024#32
  let v63 : BitVec 32 := Scalar.muli c0_i32_34 c1024_i32
  let v64 : BitVec 32 := v63
  let v138 : Index := Scalar.indexCast v64
  let c384 : Index := 384#32
  ![v138.toNat, 384]
def k0_off7 : Fin 2 → Nat :=
  let c0_i32_34 : BitVec 32 := 0#32
  let c1024_i32 : BitVec 32 := 1024#32
  let v63 : BitVec 32 := Scalar.muli c0_i32_34 c1024_i32
  let v64 : BitVec 32 := v63
  let v151 : Index := Scalar.indexCast v64
  let c512 : Index := 512#32
  ![v151.toNat, 512]
def k0_off8 : Fin 2 → Nat :=
  let c0_i32_34 : BitVec 32 := 0#32
  let c1024_i32 : BitVec 32 := 1024#32
  let v63 : BitVec 32 := Scalar.muli c0_i32_34 c1024_i32
  let v64 : BitVec 32 := v63
  let v164 : Index := Scalar.indexCast v64
  let c640 : Index := 640#32
  ![v164.toNat, 640]
def k0_off9 : Fin 2 → Nat :=
  let c0_i32_34 : BitVec 32 := 0#32
  let c1024_i32 : BitVec 32 := 1024#32
  let v63 : BitVec 32 := Scalar.muli c0_i32_34 c1024_i32
  let v64 : BitVec 32 := v63
  let v177 : Index := Scalar.indexCast v64
  let c768 : Index := 768#32
  ![v177.toNat, 768]
def k0_off10 : Fin 2 → Nat :=
  let c0_i32_34 : BitVec 32 := 0#32
  let c1024_i32 : BitVec 32 := 1024#32
  let v63 : BitVec 32 := Scalar.muli c0_i32_34 c1024_i32
  let v64 : BitVec 32 := v63
  let v190 : Index := Scalar.indexCast v64
  let c896 : Index := 896#32
  ![v190.toNat, 896]
def k0_cond3 (i : grid0.Coords) : BitVec 1 :=
  let arg1 : BitVec 32 := BitVec.ofNat 32 (i 1).val
  let c2_i32_7 : BitVec 32 := 2#32
  let c0_i32_8 : BitVec 32 := 0#32
  let v18 : BitVec 1 := Scalar.cmpi .eq c2_i32_7 c0_i32_8
  let c1_i32_9 : BitVec 32 := 1#32
  let v19 : BitVec 32 := Scalar.select v18 c1_i32_9 c2_i32_7
  let v20 : BitVec 32 := Scalar.remsi arg1 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let c16_i32_14 : BitVec 32 := 16#32
  let v29 : BitVec 1 := Scalar.cmpi .eq arg1 c16_i32_14
  let v30 : BitVec 1 := Scalar.andi v28 v29
  let v31 : BitVec 32 := Scalar.extui v30
  let c0_i32_15 : BitVec 32 := 0#32
  let v32 : BitVec 1 := Scalar.cmpi .ne v31 c0_i32_15
  v32

def k0_mult2 : BitVec 32 :=
  let c0_i32_34 : BitVec 32 := 0#32
  let c1024_i32 : BitVec 32 := 1024#32
  let v63 : BitVec 32 := Scalar.muli c0_i32_34 c1024_i32
  v63
def k0_off11 : Fin 2 → Nat :=
  let c0_i32_34 : BitVec 32 := 0#32
  let c1024_i32 : BitVec 32 := 1024#32
  let v63 : BitVec 32 := Scalar.muli c0_i32_34 c1024_i32
  let v64 : BitVec 32 := v63
  let v65 : Index := Scalar.indexCast v64
  let c0 : Index := 0#32
  ![v65.toNat, 0]
def k0_cond4 (i : grid0.Coords) : BitVec 1 :=
  let arg1 : BitVec 32 := BitVec.ofNat 32 (i 1).val
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi arg1 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let c1_i32_22 : BitVec 32 := 1#32
  let v43 : BitVec 1 := Scalar.cmpi .eq v42 c1_i32_22
  let c16_i32_23 : BitVec 32 := 16#32
  let v44 : BitVec 1 := Scalar.cmpi .slt arg1 c16_i32_23
  let v45 : BitVec 1 := Scalar.andi v43 v44
  let v46 : BitVec 32 := Scalar.extui v45
  let c0_i32_24 : BitVec 32 := 0#32
  let v47 : BitVec 1 := Scalar.cmpi .ne v46 c0_i32_24
  v47

def k0_mult3 : BitVec 32 :=
  let c0_i32_34 : BitVec 32 := 0#32
  let c1024_i32 : BitVec 32 := 1024#32
  let v63 : BitVec 32 := Scalar.muli c0_i32_34 c1024_i32
  v63
def k0_off12 : Fin 2 → Nat :=
  let c0_i32_34 : BitVec 32 := 0#32
  let c1024_i32 : BitVec 32 := 1024#32
  let v63 : BitVec 32 := Scalar.muli c0_i32_34 c1024_i32
  let v64 : BitVec 32 := v63
  let v65 : Index := Scalar.indexCast v64
  let c0 : Index := 0#32
  ![v65.toNat, 0]
def k0_off13 (c0_i32_48 : BitVec 32) : Fin 2 → Nat :=
  let c0_i32_34 : BitVec 32 := 0#32
  let c8192_i32 : BitVec 32 := 8192#32
  let v90 : BitVec 32 := Scalar.muli c0_i32_34 c8192_i32
  let v91 : BitVec 32 := Scalar.addi v90 c0_i32_48
  let v92 : Index := Scalar.indexCast v91
  let c0_49 : Index := 0#32
  ![v92.toNat, 0]
def k0_off14 : Fin 2 → Nat :=
  let c0_i32_34 : BitVec 32 := 0#32
  let c1024_i32 : BitVec 32 := 1024#32
  let v63 : BitVec 32 := Scalar.muli c0_i32_34 c1024_i32
  let v64 : BitVec 32 := v63
  let v99 : Index := Scalar.indexCast v64
  let c0_50 : Index := 0#32
  ![v99.toNat, 0]
def k0_off15 : Fin 2 → Nat :=
  let c0_i32_34 : BitVec 32 := 0#32
  let c1024_i32 : BitVec 32 := 1024#32
  let v63 : BitVec 32 := Scalar.muli c0_i32_34 c1024_i32
  let v64 : BitVec 32 := v63
  let v112 : Index := Scalar.indexCast v64
  let c128 : Index := 128#32
  ![v112.toNat, 128]
def k0_off16 : Fin 2 → Nat :=
  let c0_i32_34 : BitVec 32 := 0#32
  let c1024_i32 : BitVec 32 := 1024#32
  let v63 : BitVec 32 := Scalar.muli c0_i32_34 c1024_i32
  let v64 : BitVec 32 := v63
  let v125 : Index := Scalar.indexCast v64
  let c256 : Index := 256#32
  ![v125.toNat, 256]
def k0_off17 : Fin 2 → Nat :=
  let c0_i32_34 : BitVec 32 := 0#32
  let c1024_i32 : BitVec 32 := 1024#32
  let v63 : BitVec 32 := Scalar.muli c0_i32_34 c1024_i32
  let v64 : BitVec 32 := v63
  let v138 : Index := Scalar.indexCast v64
  let c384 : Index := 384#32
  ![v138.toNat, 384]
def k0_off18 : Fin 2 → Nat :=
  let c0_i32_34 : BitVec 32 := 0#32
  let c1024_i32 : BitVec 32 := 1024#32
  let v63 : BitVec 32 := Scalar.muli c0_i32_34 c1024_i32
  let v64 : BitVec 32 := v63
  let v151 : Index := Scalar.indexCast v64
  let c512 : Index := 512#32
  ![v151.toNat, 512]
def k0_off19 : Fin 2 → Nat :=
  let c0_i32_34 : BitVec 32 := 0#32
  let c1024_i32 : BitVec 32 := 1024#32
  let v63 : BitVec 32 := Scalar.muli c0_i32_34 c1024_i32
  let v64 : BitVec 32 := v63
  let v164 : Index := Scalar.indexCast v64
  let c640 : Index := 640#32
  ![v164.toNat, 640]
def k0_off20 : Fin 2 → Nat :=
  let c0_i32_34 : BitVec 32 := 0#32
  let c1024_i32 : BitVec 32 := 1024#32
  let v63 : BitVec 32 := Scalar.muli c0_i32_34 c1024_i32
  let v64 : BitVec 32 := v63
  let v177 : Index := Scalar.indexCast v64
  let c768 : Index := 768#32
  ![v177.toNat, 768]
def k0_off21 : Fin 2 → Nat :=
  let c0_i32_34 : BitVec 32 := 0#32
  let c1024_i32 : BitVec 32 := 1024#32
  let v63 : BitVec 32 := Scalar.muli c0_i32_34 c1024_i32
  let v64 : BitVec 32 := v63
  let v190 : Index := Scalar.indexCast v64
  let c896 : Index := 896#32
  ![v190.toNat, 896]
def k0_cond5 (i : grid0.Coords) : BitVec 1 :=
  let arg1 : BitVec 32 := BitVec.ofNat 32 (i 1).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg1 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c1_i32_31 : BitVec 32 := 1#32
  let v58 : BitVec 1 := Scalar.cmpi .eq v57 c1_i32_31
  let c16_i32_32 : BitVec 32 := 16#32
  let v59 : BitVec 1 := Scalar.cmpi .eq arg1 c16_i32_32
  let v60 : BitVec 1 := Scalar.andi v58 v59
  let v61 : BitVec 32 := Scalar.extui v60
  let c0_i32_33 : BitVec 32 := 0#32
  let v62 : BitVec 1 := Scalar.cmpi .ne v61 c0_i32_33
  v62

def k0_mult4 : BitVec 32 :=
  let c0_i32_34 : BitVec 32 := 0#32
  let c1024_i32 : BitVec 32 := 1024#32
  let v63 : BitVec 32 := Scalar.muli c0_i32_34 c1024_i32
  v63
def k0_off22 : Fin 2 → Nat :=
  let c0_i32_34 : BitVec 32 := 0#32
  let c1024_i32 : BitVec 32 := 1024#32
  let v63 : BitVec 32 := Scalar.muli c0_i32_34 c1024_i32
  let v64 : BitVec 32 := v63
  let v65 : Index := Scalar.indexCast v64
  let c0 : Index := 0#32
  ![v65.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.muli v17 c16_i32
  let v19 : BitVec 32 := Scalar.addi v18 arg0
  let c0_i32_4 : BitVec 32 := 0#32
  let c0_i32_5 : BitVec 32 := 0#32
  ![v19.toNat, c0_i32_4.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "rsqrt_2" => some (((Real.sqrt 2)⁻¹ : ℝ) : EReal)
  | _ => none
-- ==== ReferenceIdeal.lean ====
abbrev S16384x1024 : Shape := ⟨2, ![16384, 1024]⟩
abbrev S8x16384x8x128 : Shape := ⟨4, ![8, 16384, 8, 128]⟩
abbrev S2x16384x1024 : Shape := ⟨3, ![2, 16384, 1024]⟩
abbrev S8x16384x8x128x2 : Shape := ⟨5, ![8, 16384, 8, 128, 2]⟩
abbrev S16384x8x2x8x128 : Shape := ⟨5, ![16384, 8, 2, 8, 128]⟩
abbrev S16384x16384 : Shape := ⟨2, ![16384, 16384]⟩
abbrev S1x16384x1024 : Shape := ⟨3, ![1, 16384, 1024]⟩
abbrev S1024x16384 : Shape := ⟨2, ![1024, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x16384x8x128, .i32⟩
  | .hbm, ⟨2, _⟩ => ⟨S2x16384x1024, .f32⟩
  | .hbm, ⟨3, _⟩ => ⟨S2x16384x1024, .f32⟩
  | .hbm, ⟨4, _⟩ => ⟨S8x16384x8x128x2, .bf16⟩
  | .hbm, ⟨5, _⟩ => ⟨S16384x8x2x8x128, .bf16⟩
  | .hbm, ⟨6, _⟩ => ⟨S16384x16384, .bf16⟩
  | .hbm, ⟨7, _⟩ => ⟨S16384x1024, .f32⟩
  | .hbm, ⟨8, _⟩ => ⟨S1x16384x1024, .f32⟩
  | .hbm, ⟨9, _⟩ => ⟨S16384x1024, .f32⟩
  | .hbm, ⟨10, _⟩ => ⟨S1024x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S1x16384x1024, .f32⟩
  | .hbm, ⟨27, _⟩ => ⟨S16384x1024, .f32⟩
  | .hbm, ⟨28, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x2456 : Shape := ⟨3, ![2, 1024, 2456]⟩
abbrev S8x2304x1024 : Shape := ⟨3, ![8, 2304, 1024]⟩
abbrev S1x1024x2456 : Shape := ⟨3, ![1, 1024, 2456]⟩
abbrev S1024x2456 : Shape := ⟨2, ![1024, 2456]⟩
abbrev S1024x1792 : Shape := ⟨2, ![1024, 1792]⟩
abbrev S1024x24 : Shape := ⟨2, ![1024, 24]⟩
abbrev S1024x4x3x2 : Shape := ⟨4, ![1024, 4, 3, 2]⟩
abbrev S1024x3x4x2 : Shape := ⟨4, ![1024, 3, 4, 2]⟩
abbrev S1024x3x8 : Shape := ⟨3, ![1024, 3, 8]⟩
abbrev S_ : Shape := ⟨0, ![]⟩
abbrev S1024x3x128 : Shape := ⟨3, ![1024, 3, 128]⟩
abbrev S1024x384 : Shape := ⟨2, ![1024, 384]⟩
abbrev S1024x640 : Shape := ⟨2, ![1024, 640]⟩
abbrev S1024x2816 : Shape := ⟨2, ![1024, 2816]⟩
abbrev S2x8x1x6x1024 : Shape := ⟨5, ![2, 8, 1, 6, 1024]⟩
abbrev S2x1x1x6x1024 : Shape := ⟨5, ![2, 1, 1, 6, 1024]⟩
abbrev S2x8x2x6x1024 : Shape := ⟨5, ![2, 8, 2, 6, 1024]⟩
abbrev S1x8x2x6x1024 : Shape := ⟨5, ![1, 8, 2, 6, 1024]⟩
abbrev S8x2x6x1024 : Shape := ⟨4, ![8, 2, 6, 1024]⟩
abbrev S1x1024 : Shape := ⟨2, ![1, 1024]⟩
abbrev S1024 : Shape := ⟨1, ![1024]⟩
abbrev S8x2304x256 : Shape := ⟨3, ![8, 2304, 256]⟩
abbrev S8x2304x1152 : Shape := ⟨3, ![8, 2304, 1152]⟩
abbrev S8x2304x384 : Shape := ⟨3, ![8, 2304, 384]⟩
abbrev S8x2304x128 : Shape := ⟨3, ![8, 2304, 128]⟩
abbrev S1x768x1024 : Shape := ⟨3, ![1, 768, 1024]⟩
abbrev S1x2x6x1024 : Shape := ⟨4, ![1, 2, 6, 1024]⟩
abbrev S1x768x256 : Shape := ⟨3, ![1, 768, 256]⟩
abbrev S1x768x1152 : Shape := ⟨3, ![1, 768, 1152]⟩
abbrev S1x768x384 : Shape := ⟨3, ![1, 768, 384]⟩
abbrev S1x768x128 : Shape := ⟨3, ![1, 768, 128]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S1024x256 : Shape := ⟨2, ![1024, 256]⟩
abbrev S768x256 : Shape := ⟨2, ![768, 256]⟩
abbrev S1024x1152 : Shape := ⟨2, ![1024, 1152]⟩
abbrev S768x1152 : Shape := ⟨2, ![768, 1152]⟩
abbrev S768x384 : Shape := ⟨2, ![768, 384]⟩
abbrev S1024x128 : Shape := ⟨2, ![1024, 128]⟩
abbrev S768x128 : Shape := ⟨2, ![768, 128]⟩

abbrev nBuf : Space → Nat
  | .hbm => 37
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S2x8x6144, .f32⟩
  | .hbm, ⟨3, _⟩ => ⟨S2x6144, .f32⟩
  | .hbm, ⟨4, _⟩ => ⟨S2x1024, .f32⟩
  | .hbm, ⟨5, _⟩ => ⟨S2x1024x2456, .f32⟩
  | .hbm, ⟨6, _⟩ => ⟨S8x2304x1024, .f32⟩
  | .hbm, ⟨7, _⟩ => ⟨S1x1024x2456, .f32⟩
  | .hbm, ⟨8, _⟩ => ⟨S1024x2456, .f32⟩
  | .hbm, ⟨9, _⟩ => ⟨S1024x1792, .f32⟩
  | .hbm, ⟨10, _⟩ => ⟨S1024x24, .f32⟩
  | .hbm, ⟨11, _⟩ => ⟨S1024x4x3x2, .f32⟩
  | .hbm, ⟨12, _⟩ => ⟨S1024x3x4x2, .f32⟩
  | .hbm, ⟨13, _⟩ => ⟨S1024x3x8, .f32⟩
  | .hbm, ⟨14, _⟩ => ⟨S_, .i32⟩
  | .hbm, ⟨15, _⟩ => ⟨S_, .f32⟩
  | .hbm, ⟨16, _⟩ => ⟨S1024x3x128, .f32⟩
  | .hbm, ⟨17, _⟩ => ⟨S1024x384, .f32⟩
  | .hbm, ⟨18, _⟩ => ⟨S1024x640, .f32⟩
  | .hbm, ⟨19, _⟩ => ⟨S1024x2816, .f32⟩
  | .hbm, ⟨20, _⟩ => ⟨S1024x2816, .bf16⟩
  | .hbm, ⟨21, _⟩ => ⟨S2x8x1x6x1024, .f32⟩
  | .hbm, ⟨22, _⟩ => ⟨S2x1x1x6x1024, .f32⟩
  | .hbm, ⟨23, _⟩ => ⟨S2x8x1x6x1024, .f32⟩
  | .hbm, ⟨24, _⟩ => ⟨S2x8x2x6x1024, .f32⟩
  | .hbm, ⟨25, _⟩ => ⟨S1x8x2x6x1024, .f32⟩
  | .hbm, ⟨26, _⟩ => ⟨S8x2x6x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S8x2304x256, .f32⟩
  | .hbm, ⟨31, _⟩ => ⟨S8x2304x1152, .f32⟩
  | .hbm, ⟨32, _⟩ => ⟨S8x2304x384, .f32⟩
  | .hbm, ⟨33, _⟩ => ⟨S8x2304x384, .f32⟩
  | .hbm, ⟨34, _⟩ => ⟨S8x2304x384, .f32⟩
  | .hbm, ⟨35, _⟩ => ⟨S8x2304x128, .f32⟩
  | .hbm, ⟨36, _⟩ => ⟨S8x2304x128, .f32⟩
  | .local _ .vmem, ⟨0, _⟩ => ⟨S1x768x1024, .f32⟩
  | .local _ .vmem, ⟨1, _⟩ => ⟨S1x768x1024, .f32⟩
  | .local _ .vmem, ⟨2, _⟩ => ⟨S1x2x6x1024, .f32⟩
  | .local _ .vmem, ⟨3, _⟩ => ⟨S1x2x6x1024, .f32⟩
  | .local _ .vmem, ⟨4, _⟩ => ⟨S1x1024, .f32⟩
  | .local _ .vmem, ⟨5, _⟩ => ⟨S1024x2816, .bf16⟩
  | .local _ .vmem, ⟨6, _⟩ => ⟨S1x768x256, .f32⟩
  | .local _ .vmem, ⟨7, _⟩ => ⟨S1x768x256, .f32⟩
  | .local _ .vmem, ⟨8, _⟩ => ⟨S1x768x1152, .f32⟩
  | .local _ .vmem, ⟨9, _⟩ => ⟨S1x768x1152, .f32⟩
  | .local _ .vmem, ⟨10, _⟩ => ⟨S1x768x384, .f32⟩
  | .local _ .vmem, ⟨11, _⟩ => ⟨S1x768x384, .f32⟩
  | .local _ .vmem, ⟨12, _⟩ => ⟨S1x768x384, .f32⟩
  | .local _ .vmem, ⟨13, _⟩ => ⟨S1x768x384, .f32⟩
  | .local _ .vmem, ⟨14, _⟩ => ⟨S1x768x384, .f32⟩
  | .local _ .vmem, ⟨15, _⟩ => ⟨S1x768x384, .f32⟩
  | .local _ .vmem, ⟨16, _⟩ => ⟨S1x768x128, .f32⟩
  | .local _ .vmem, ⟨17, _⟩ => ⟨S1x768x128, .f32⟩
  | .local _ .vmem, ⟨18, _⟩ => ⟨S1x768x128, .f32⟩
  | .local _ .vmem, ⟨19, _⟩ => ⟨S1x768x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x2048x1024 : Shape := ⟨3, ![8, 2048, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x2456 : Shape := ⟨3, ![2, 1024, 2456]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x6144 : Shape := ⟨2, ![1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x2304x1024 : Shape := ⟨3, ![8, 2304, 1024]⟩
abbrev S1x1024x2456 : Shape := ⟨3, ![1, 1024, 2456]⟩
abbrev S1024x2456 : Shape := ⟨2, ![1024, 2456]⟩
abbrev S8x2304x2456 : Shape := ⟨3, ![8, 2304, 2456]⟩
abbrev S8x2304x256 : Shape := ⟨3, ![8, 2304, 256]⟩
abbrev S8x2304x1152 : Shape := ⟨3, ![8, 2304, 1152]⟩
abbrev S8x2304x384 : Shape := ⟨3, ![8, 2304, 384]⟩
abbrev S8x2304x24 : Shape := ⟨3, ![8, 2304, 24]⟩
abbrev S8x2304x128 : Shape := ⟨3, ![8, 2304, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S2x8x6144, .f32⟩
  | .hbm, ⟨3, _⟩ => ⟨S2x6144, .f32⟩
  | .hbm, ⟨4, _⟩ => ⟨S2x1024, .f32⟩
  | .hbm, ⟨5, _⟩ => ⟨S2x1024x2456, .f32⟩
  | .hbm, ⟨6, _⟩ => ⟨S1x8x6144, .f32⟩
  | .hbm, ⟨7, _⟩ => ⟨S8x6144, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S1x6144, .f32⟩
  | .hbm, ⟨16, _⟩ => ⟨S6144, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S1x1024, .f32⟩
  | .hbm, ⟨49, _⟩ => ⟨S1024, .f32⟩
  | .hbm, ⟨50, _⟩ => ⟨S8x256x1024, .f32⟩
  | .hbm, ⟨51, _⟩ => ⟨S_, .f32⟩
  | .hbm, ⟨52, _⟩ => ⟨S8x256, .f32⟩
  | .hbm, ⟨53, _⟩ => ⟨S8x256x1, .f32⟩
  | .hbm, ⟨54, _⟩ => ⟨S_, .f32⟩
  | .hbm, ⟨55, _⟩ => ⟨S8x256x1, .f32⟩
  | .hbm, ⟨56, _⟩ => ⟨S8x256x1, .f32⟩
  | .hbm, ⟨57, _⟩ => ⟨S_, .f32⟩
  | .hbm, ⟨58, _⟩ => ⟨S8x256x1, .f32⟩
  | .hbm, ⟨59, _⟩ => ⟨S8x256x1, .f32⟩
  | .hbm, ⟨60, _⟩ => ⟨S8x256x1, .f32⟩
  | .hbm, ⟨61, _⟩ => ⟨S8x256x1024, .f32⟩
  | .hbm, ⟨62, _⟩ => ⟨S8x256x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S1x1x1024, .f32⟩
  | .hbm, ⟨73, _⟩ => ⟨S8x256x1024, .f32⟩
  | .hbm, ⟨74, _⟩ => ⟨S8x256x1024, .f32⟩
  | .hbm, ⟨75, _⟩ => ⟨S8x2304x1024, .f32⟩
  | .hbm, ⟨76, _⟩ => ⟨S1x1024x2456, .f32⟩
  | .hbm, ⟨77, _⟩ => ⟨S1024x2456, .f32⟩
  | .hbm, ⟨78, _⟩ => ⟨S8x2304x2456, .f32⟩
  | .hbm, ⟨79, _⟩ => ⟨S8x2304x256, .f32⟩
  | .hbm, ⟨80, _⟩ => ⟨S8x2304x1152, .f32⟩
  | .hbm, ⟨81, _⟩ => ⟨S8x2304x384, .f32⟩
  | .hbm, ⟨82, _⟩ => ⟨S8x2304x24, .f32⟩
  | .hbm, ⟨83, _⟩ => ⟨S8x2304x384, .f32⟩
  | .hbm, ⟨84, _⟩ => ⟨S8x2304x128, .f32⟩
  | .hbm, ⟨85, _⟩ => ⟨S8x2304x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x256x1024 : Shape := ⟨3, ![8, 256, 1024]⟩
abbrev S8x2304x256 : Shape := ⟨3, ![8, 2304, 256]⟩
abbrev S8x2304x384 : Shape := ⟨3, ![8, 2304, 384]⟩
abbrev S2x1024x1024 : Shape := ⟨3, ![2, 1024, 1024]⟩
abbrev S2x8x6144 : Shape := ⟨3, ![2, 8, 6144]⟩
abbrev S2x6144 : Shape := ⟨2, ![2, 6144]⟩
abbrev S2x1024 : Shape := ⟨2, ![2, 1024]⟩
abbrev S8x2304x1024 : Shape := ⟨3, ![8, 2304, 1024]⟩
abbrev S1x1024x1024 : Shape := ⟨3, ![1, 1024, 1024]⟩
abbrev S1024x1024 : Shape := ⟨2, ![1024, 1024]⟩
abbrev S2x8x1x6x1024 : Shape := ⟨5, ![2, 8, 1, 6, 1024]⟩
abbrev S2x1x1x6x1024 : Shape := ⟨5, ![2, 1, 1, 6, 1024]⟩
abbrev S2x8x2x6x1024 : Shape := ⟨5, ![2, 8, 2, 6, 1024]⟩
abbrev S1x8x2x6x1024 : Shape := ⟨5, ![1, 8, 2, 6, 1024]⟩
abbrev S8x2x6x1024 : Shape := ⟨4, ![8, 2, 6, 1024]⟩
abbrev S1x1024 : Shape := ⟨2, ![1, 1024]⟩
abbrev S1024 : Shape := ⟨1, ![1024]⟩
abbrev S1x768x1024 : Shape := ⟨3, ![1, 768, 1024]⟩
abbrev S1x768x256 : Shape := ⟨3, ![1, 768, 256]⟩
abbrev S1x768x384 : Shape := ⟨3, ![1, 768, 384]⟩
abbrev S1x2x6x1024 : Shape := ⟨4, ![1, 2, 6, 1024]⟩
abbrev S768x256 : Shape := ⟨2, ![768, 256]⟩
abbrev S256x1024 : Shape := ⟨2, ![256, 1024]⟩
abbrev S768x1024 : Shape := ⟨2, ![768, 1024]⟩
abbrev S768x384 : Shape := ⟨2, ![768, 384]⟩
abbrev S384x1024 : Shape := ⟨2, ![384, 1024]⟩
abbrev S768x1 : Shape := ⟨2, ![768, 1]⟩
abbrev S1x1x1x1024 : Shape := ⟨4, ![1, 1, 1, 1024]⟩
abbrev S768 : Shape := ⟨1, ![768]⟩

abbrev nBuf : Space → Nat
  | .hbm => 24
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2304x256, .f32⟩
  | .hbm, ⟨3, _⟩ => ⟨S8x2304x384, .f32⟩
  | .hbm, ⟨4, _⟩ => ⟨S8x2304x384, .f32⟩
  | .hbm, ⟨5, _⟩ => ⟨S2x1024x1024, .f32⟩
  | .hbm, ⟨6, _⟩ => ⟨S2x8x6144, .f32⟩
  | .hbm, ⟨7, _⟩ => ⟨S2x6144, .f32⟩
  | .hbm, ⟨8, _⟩ => ⟨S2x1024, .f32⟩
  | .hbm, ⟨9, _⟩ => ⟨S8x2304x1024, .f32⟩
  | .hbm, ⟨10, _⟩ => ⟨S1x1024x1024, .f32⟩
  | .hbm, ⟨11, _⟩ => ⟨S1024x1024, .f32⟩
  | .hbm, ⟨12, _⟩ => ⟨S1024x1024, .bf16⟩
  | .hbm, ⟨13, _⟩ => ⟨S2x8x1x6x1024, .f32⟩
  | .hbm, ⟨14, _⟩ => ⟨S2x1x1x6x1024, .f32⟩
  | .hbm, ⟨15, _⟩ => ⟨S2x8x1x6x1024, .f32⟩
  | .hbm, ⟨16, _⟩ => ⟨S2x8x2x6x1024, .f32⟩
  | .hbm, ⟨17, _⟩ => ⟨S1x8x2x6x1024, .f32⟩
  | .hbm, ⟨18, _⟩ => ⟨S8x2x6x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8x2304x1024, .f32⟩
  | .hbm, ⟨23, _⟩ => ⟨S8x2304x1024, .bf16⟩
  | .local _ .vmem, ⟨0, _⟩ => ⟨S1x768x1024, .f32⟩
  | .local _ .vmem, ⟨1, _⟩ => ⟨S1x768x1024, .f32⟩
  | .local _ .vmem, ⟨2, _⟩ => ⟨S1x768x256, .f32⟩
  | .local _ .vmem, ⟨3, _⟩ => ⟨S1x768x256, .f32⟩
  | .local _ .vmem, ⟨4, _⟩ => ⟨S1x768x384, .f32⟩
  | .local _ .vmem, ⟨5, _⟩ => ⟨S1x768x384, .f32⟩
  | .local _ .vmem, ⟨6, _⟩ => ⟨S1x768x384, .f32⟩
  | .local _ .vmem, ⟨7, _⟩ => ⟨S1x768x384, .f32⟩
  | .local _ .vmem, ⟨8, _⟩ => ⟨S1024x1024, .bf16⟩
  | .local _ .vmem, ⟨9, _⟩ => ⟨S1x2x6x1024, .f32⟩
  | .local _ .vmem, ⟨10, _⟩ => ⟨S1x2x6x1024, .f32⟩
  | .local _ .vmem, ⟨11, _⟩ => ⟨S1x1024, .f32⟩
  | .local _ .vmem, ⟨12, _⟩ => ⟨S1x768x1024, .f32⟩
  | .local _ .vmem, ⟨13, _⟩ => ⟨S1x768x1024, .f32⟩
  | .local _ .vmem, ⟨14, _⟩ => ⟨S1x768x1024, .bf16⟩
  | .local _ .vmem, ⟨15, _⟩ => ⟨S1x768x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x2048x1024 : Shape := ⟨3, ![8, 2048, 1024]⟩
abbrev S8x256x1024 : Shape := ⟨3, ![8, 256, 1024]⟩
abbrev S8x2304x256 : Shape := ⟨3, ![8, 2304, 256]⟩
abbrev S8x2304x384 : Shape := ⟨3, ![8, 2304, 384]⟩
abbrev S2x1024x1024 : Shape := ⟨3, ![2, 1024, 1024]⟩
abbrev S2x8x6144 : Shape := ⟨3, ![2, 8, 6144]⟩
abbrev S2x6144 : Shape := ⟨2, ![2, 6144]⟩
abbrev S2x1024 : Shape := ⟨2, ![2, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x6144 : Shape := ⟨2, ![1, 6144]⟩
abbrev S6144 : Shape := ⟨1, ![6144]⟩
abbrev S1024 : Shape := ⟨1, ![1024]⟩
abbrev S8x2304x1024 : Shape := ⟨3, ![8, 2304, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2304x256, .f32⟩
  | .hbm, ⟨3, _⟩ => ⟨S8x2304x384, .f32⟩
  | .hbm, ⟨4, _⟩ => ⟨S8x2304x384, .f32⟩
  | .hbm, ⟨5, _⟩ => ⟨S2x1024x1024, .f32⟩
  | .hbm, ⟨6, _⟩ => ⟨S2x8x6144, .f32⟩
  | .hbm, ⟨7, _⟩ => ⟨S2x6144, .f32⟩
  | .hbm, ⟨8, _⟩ => ⟨S2x1024, .f32⟩
  | .hbm, ⟨9, _⟩ => ⟨S1x8x6144, .f32⟩
  | .hbm, ⟨10, _⟩ => ⟨S8x6144, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1x6144, .f32⟩
  | .hbm, ⟨19, _⟩ => ⟨S6144, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S8x2304x1024, .f32⟩
  | .hbm, ⟨27, _⟩ => ⟨S1x1024x1024, .f32⟩
  | .hbm, ⟨28, _⟩ => ⟨S1024x1024, .f32⟩
  | .hbm, ⟨29, _⟩ => ⟨S8x2304x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x256x1024, .f32⟩
  | .hbm, ⟨35, _⟩ => ⟨S1x1x1024, .f32⟩
  | .hbm, ⟨36, _⟩ => ⟨S8x256x1024, .f32⟩
  | .hbm, ⟨37, _⟩ => ⟨S8x256x1024, .f32⟩
  | .hbm, ⟨38, _⟩ => ⟨S8x256x1024, .f32⟩
  | .hbm, ⟨39, _⟩ => ⟨S1x1024, .f32⟩
  | .hbm, ⟨40, _⟩ => ⟨S1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S1x1024, .f32⟩
  | .hbm, ⟨65, _⟩ => ⟨S1024, .f32⟩
  | .hbm, ⟨66, _⟩ => ⟨S8x256x1024, .f32⟩
  | .hbm, ⟨67, _⟩ => ⟨S_, .f32⟩
  | .hbm, ⟨68, _⟩ => ⟨S8x256, .f32⟩
  | .hbm, ⟨69, _⟩ => ⟨S8x256x1, .f32⟩
  | .hbm, ⟨70, _⟩ => ⟨S_, .f32⟩
  | .hbm, ⟨71, _⟩ => ⟨S8x256x1, .f32⟩
  | .hbm, ⟨72, _⟩ => ⟨S8x256x1, .f32⟩
  | .hbm, ⟨73, _⟩ => ⟨S_, .f32⟩
  | .hbm, ⟨74, _⟩ => ⟨S8x256x1, .f32⟩
  | .hbm, ⟨75, _⟩ => ⟨S8x256x1, .f32⟩
  | .hbm, ⟨76, _⟩ => ⟨S8x256x1, .f32⟩
  | .hbm, ⟨77, _⟩ => ⟨S8x256x1024, .f32⟩
  | .hbm, ⟨78, _⟩ => ⟨S8x256x1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1x1x1024, .f32⟩
  | .hbm, ⟨86, _⟩ => ⟨S8x256x1024, .f32⟩
  | .hbm, ⟨87, _⟩ => ⟨S8x256x1024, .f32⟩
  | .hbm, ⟨88, _⟩ => ⟨S1x1x1024, .f32⟩
  | .hbm, ⟨89, _⟩ => ⟨S8x256x1024, .f32⟩
  | .hbm, ⟨90, _⟩ => ⟨S8x256x1024, .f32⟩
  | .hbm, ⟨91, _⟩ => ⟨S8x2304x1024, .f32⟩
  | .hbm, ⟨92, _⟩ => ⟨S8x2304x1024, .f32⟩
  | .hbm, ⟨93, _⟩ => ⟨S8x2304x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_v34 : Ref sig .tc := ⟨.hbm, 44, rfl⟩
abbrev main_cst_0 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x8x6144 : Shape := ⟨3, ![2, 8, 6144]⟩
abbrev S2x6144 : Shape := ⟨2, ![2, 6144]⟩
abbrev S1024 : Shape := ⟨1, ![1024]⟩
abbrev S2x8x1x6x1024 : Shape := ⟨5, ![2, 8, 1, 6, 1024]⟩
abbrev S2x1x1x6x1024 : Shape := ⟨5, ![2, 1, 1, 6, 1024]⟩
abbrev S2x8x2x6x1024 : Shape := ⟨5, ![2, 8, 2, 6, 1024]⟩
abbrev S1x8x2x6x1024 : Shape := ⟨5, ![1, 8, 2, 6, 1024]⟩
abbrev S8x2x6x1024 : Shape := ⟨4, ![8, 2, 6, 1024]⟩
abbrev S1x1024 : Shape := ⟨2, ![1, 1024]⟩
abbrev S1x256x1024 : Shape := ⟨3, ![1, 256, 1024]⟩
abbrev S1x1x6x1024 : Shape := ⟨4, ![1, 1, 6, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2x8x6144, .f32⟩
  | .hbm, ⟨3, _⟩ => ⟨S2x6144, .f32⟩
  | .hbm, ⟨4, _⟩ => ⟨S1024, .f32⟩
  | .hbm, ⟨5, _⟩ => ⟨S2x8x1x6x1024, .f32⟩
  | .hbm, ⟨6, _⟩ => ⟨S2x1x1x6x1024, .f32⟩
  | .hbm, ⟨7, _⟩ => ⟨S2x8x1x6x1024, .f32⟩
  | .hbm, ⟨8, _⟩ => ⟨S2x8x2x6x1024, .f32⟩
  | .hbm, ⟨9, _⟩ => ⟨S1x8x2x6x1024, .f32⟩
  | .hbm, ⟨10, _⟩ => ⟨S8x2x6x1024, .f32⟩
  | .hbm, ⟨11, _⟩ => ⟨S1x1024, .f32⟩
  | .hbm, ⟨12, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x2048x1024 : Shape := ⟨3, ![8, 2048, 1024]⟩
abbrev S2x8x6144 : Shape := ⟨3, ![2, 8, 6144]⟩
abbrev S2x6144 : Shape := ⟨2, ![2, 6144]⟩
abbrev S1024 : Shape := ⟨1, ![1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2x8x6144, .f32⟩
  | .hbm, ⟨3, _⟩ => ⟨S2x6144, .f32⟩
  | .hbm, ⟨4, _⟩ => ⟨S1024, .f32⟩
  | .hbm, ⟨5, _⟩ => ⟨S1x8x6144, .f32⟩
  | .hbm, ⟨6, _⟩ => ⟨S8x6144, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S8x2304x384 : Shape := ⟨3, ![8, 2304, 384]⟩
abbrev S8x2304x128 : Shape := ⟨3, ![8, 2304, 128]⟩
abbrev S2x6 : Shape := ⟨2, ![2, 6]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S16 : Shape := ⟨1, ![16]⟩
abbrev S2048x2x1 : Shape := ⟨3, ![2048, 2, 1]⟩
abbrev S1x1x16 : Shape := ⟨3, ![1, 1, 16]⟩
abbrev S2048x2x16 : Shape := ⟨3, ![2048, 2, 16]⟩
abbrev S2048x2x32 : Shape := ⟨3, ![2048, 2, 32]⟩
abbrev S2048x64 : Shape := ⟨2, ![2048, 64]⟩
abbrev S2048x128 : Shape := ⟨2, ![2048, 128]⟩
abbrev S1x6 : Shape := ⟨2, ![1, 6]⟩
abbrev S6 : Shape := ⟨1, ![6]⟩
abbrev S128 : Shape := ⟨1, ![128]⟩
abbrev S1x128 : Shape := ⟨2, ![1, 128]⟩
abbrev S8x2048x384 : Shape := ⟨3, ![8, 2048, 384]⟩
abbrev S1x256x384 : Shape := ⟨3, ![1, 256, 384]⟩
abbrev S1x128x128 : Shape := ⟨3, ![1, 128, 128]⟩
abbrev S1x256x128 : Shape := ⟨3, ![1, 256, 128]⟩
abbrev S128x128 : Shape := ⟨2, ![128, 128]⟩
abbrev S384x1 : Shape := ⟨2, ![384, 1]⟩
abbrev S1x640 : Shape := ⟨2, ![1, 640]⟩
abbrev S384x640 : Shape := ⟨2, ![384, 640]⟩
abbrev S1x128x384 : Shape := ⟨3, ![1, 128, 384]⟩
abbrev S128x384 : Shape := ⟨2, ![128, 384]⟩
abbrev S1x384 : Shape := ⟨2, ![1, 384]⟩
abbrev S256x128 : Shape := ⟨2, ![256, 128]⟩
abbrev S640x128 : Shape := ⟨2, ![640, 128]⟩
abbrev S128x64 : Shape := ⟨2, ![128, 64]⟩
abbrev S384x64 : Shape := ⟨2, ![384, 64]⟩
abbrev S1x1 : Shape := ⟨2, ![1, 1]⟩
abbrev S128x1 : Shape := ⟨2, ![128, 1]⟩
abbrev S640x64 : Shape := ⟨2, ![640, 64]⟩
abbrev S384 : Shape := ⟨1, ![384]⟩

abbrev nBuf : Space → Nat
  | .hbm => 79
  | .vmem => 41
  | .smem => 0
  | _ => 0

abbrev bufTy : (tb : Table) → Fin (tcTables nBuf tb) → BufTy
  | .hbm, ⟨0, _⟩ => ⟨S8x2304x384, .f32⟩
  | .hbm, ⟨1, _⟩ => ⟨S8x2304x128, .f32⟩
  | .hbm, ⟨2, _⟩ => ⟨S8x2304x128, .f32⟩
  | .hbm, ⟨3, _⟩ => ⟨S2x6, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048x1, .i32⟩
  | .hbm, ⟨47, _⟩ => ⟨S2048x2, .i32⟩
  | .hbm, ⟨48, _⟩ => ⟨S2048x2, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S2048x2x1, .f32⟩
  | .hbm, ⟨58, _⟩ => ⟨S1x1x16, .f32⟩
  | .hbm, ⟨59, _⟩ => ⟨S2048x2x16, .f32⟩
  | .hbm, ⟨60, _⟩ => ⟨S2048x2x16, .f32⟩
  | .hbm, ⟨61, _⟩ => ⟨S2048x2x16, .f32⟩
  | .hbm, ⟨62, _⟩ => ⟨S2048x2x16, .f32⟩
  | .hbm, ⟨63, _⟩ => ⟨S2048x2x32, .f32⟩
  | .hbm, ⟨64, _⟩ => ⟨S2048x64, .f32⟩
  | .hbm, ⟨65, _⟩ => ⟨S2048x2x16, .f32⟩
  | .hbm, ⟨66, _⟩ => ⟨S2048x2x16, .f32⟩
  | .hbm, ⟨67, _⟩ => ⟨S2048x2x16, .f32⟩
  | .hbm, ⟨68, _⟩ => ⟨S2048x2x32, .f32⟩
  | .hbm, ⟨69, _⟩ => ⟨S2048x64, .f32⟩
  | .hbm, ⟨70, _⟩ => ⟨S2048x128, .f32⟩
  | .hbm, ⟨71, _⟩ => ⟨S2048x128, .f32⟩
  | .hbm, ⟨72, _⟩ => ⟨S1x6, .f32⟩
  | .hbm, ⟨73, _⟩ => ⟨S6, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S8x2048x384, .f32⟩
  | .local _ .vmem, ⟨0, _⟩ => ⟨S1x256x384, .f32⟩
  | .local _ .vmem, ⟨1, _⟩ => ⟨S1x256x384, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S1x128, .f32⟩
  | .local _ .vmem, ⟨39, _⟩ => ⟨S1x256x384, .f32⟩
  | .local _ .vmem, ⟨40, _⟩ => ⟨S1x256x384, .f32⟩
  | _, _ => ⟨S8x2304x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_2 : Ref sig .tc := ⟨.hbm, 74, rfl⟩
abbrev main_call2_v0 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c2_i32_0 : BitVec 32 := 2#32
  let v5 : BitVec 32 := Scalar.addi v4 c2_i32_0
  let c0_i32_1 : BitVec 32 := 0#32
  let c0_i32_2 : BitVec 32 := 0#32
  ![arg0.toNat, v5.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c2_i32_1 : BitVec 32 := 2#32
  let v5 : BitVec 32 := Scalar.addi v4 c2_i32_1
  let c0_i32_2 : BitVec 32 := 0#32
  let c0_i32_3 : BitVec 32 := 0#32
  ![arg0.toNat, v5.toNat, c0_i32_2.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c2_i32_0 : BitVec 32 := 2#32
  let v5 : BitVec 32 := Scalar.addi v4 c2_i32_0
  let c0_i32_1 : BitVec 32 := 0#32
  let c0_i32_2 : BitVec 32 := 0#32
  ![arg0.toNat, v5.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c0_i32_1 : BitVec 32 := 0#32
  let c0_i32_2 : BitVec 32 := 0#32
  ![v4.toNat, c0_i32_1.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![v4.toNat, c0_i32_1.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![v4.toNat, c0_i32_1.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c15_i32 : BitVec 32 := 15#32
  let v3 : BitVec 32 := Scalar.maxsi c0_i32_0 v2
  let v4 : BitVec 32 := Scalar.minsi c15_i32 v3
  let c0_i32_1 : BitVec 32 := 0#32
  let c0_i32_2 : BitVec 32 := 0#32
  ![v4.toNat, c0_i32_1.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![v4.toNat, c0_i32_1.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_1 : BitVec 32 := 0#32
  let c0_i32_2 : BitVec 32 := 0#32
  ![v4.toNat, c0_i32_1.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c1_i32 : BitVec 32 := 1#32
  let v2 : BitVec 32 := Scalar.subi v1 c1_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S8x2304x384 : Shape := ⟨3, ![8, 2304, 384]⟩
abbrev S8x2304x128 : Shape := ⟨3, ![8, 2304, 128]⟩
abbrev S2x6 : Shape := ⟨2, ![2, 6]⟩
abbrev S32 : Shape := ⟨1, ![32]⟩
abbrev S64 : Shape := ⟨1, ![64]⟩
abbrev S32x64 : Shape := ⟨2, ![32, 64]⟩
abbrev S2048 : Shape := ⟨1, ![2048]⟩
abbrev S2048x1 : Shape := ⟨2, ![2048, 1]⟩
abbrev S2048x2 : Shape := ⟨2, ![2048, 2]⟩
abbrev S16 : Shape := ⟨1, ![16]⟩
abbrev S_ : Shape := ⟨0, ![]⟩
abbrev S2048x2x1 : Shape := ⟨3, ![2048, 2, 1]⟩
abbrev S1x1x16 : Shape := ⟨3, ![1, 1, 16]⟩
abbrev S2048x2x16 : Shape := ⟨3, ![2048, 2, 16]⟩
abbrev S8x2048x384 : Shape := ⟨3, ![8, 2048, 384]⟩
abbrev S8x2048x6x64 : Shape := ⟨4, ![8, 2048, 6, 64]⟩
abbrev S2048x1x2x16 : Shape := ⟨4, ![2048, 1, 2, 16]⟩
abbrev S2048x6x2x16 : Shape := ⟨4, ![2048, 6, 2, 16]⟩
abbrev S2048x12x16 : Shape := ⟨3, ![2048, 12, 16]⟩
abbrev S8x2048x12x2x16 : Shape := ⟨5, ![8, 2048, 12, 2, 16]⟩
abbrev S8x2048x12x1x16 : Shape := ⟨5, ![8, 2048, 12, 1, 16]⟩
abbrev S8x2048x12x16 : Shape := ⟨4, ![8, 2048, 12, 16]⟩
abbrev S1x2048x12x16 : Shape := ⟨4, ![1, 2048, 12, 16]⟩
abbrev S8x2048x128 : Shape := ⟨3, ![8, 2048, 128]⟩
abbrev S8x2048x2x64 : Shape := ⟨4, ![8, 2048, 2, 64]⟩
abbrev S2048x2x2x16 : Shape := ⟨4, ![2048, 2, 2, 16]⟩
abbrev S2048x4x16 : Shape := ⟨3, ![2048, 4, 16]⟩
abbrev S8x2048x4x2x16 : Shape := ⟨5, ![8, 2048, 4, 2, 16]⟩
abbrev S8x2048x4x1x16 : Shape := ⟨5, ![8, 2048, 4, 1, 16]⟩
abbrev S8x2048x4x16 : Shape := ⟨4, ![8, 2048, 4, 16]⟩
abbrev S1x2048x4x16 : Shape := ⟨4, ![1, 2048, 4, 16]⟩
abbrev S8x2048x2x1x64 : Shape := ⟨5, ![8, 2048, 2, 1, 64]⟩
abbrev S8x2048x2x3x64 : Shape := ⟨5, ![8, 2048, 2, 3, 64]⟩
abbrev S8x256x128 : Shape := ⟨3, ![8, 256, 128]⟩
abbrev S8x256x2x64 : Shape := ⟨4, ![8, 256, 2, 64]⟩
abbrev S8x256x2x1x64 : Shape := ⟨5, ![8, 256, 2, 1, 64]⟩
abbrev S8x256x2x3x64 : Shape := ⟨5, ![8, 256, 2, 3, 64]⟩
abbrev S8x256x6x64 : Shape := ⟨4, ![8, 256, 6, 64]⟩
abbrev S1x2048 : Shape := ⟨2, ![1, 2048]⟩
abbrev S2048x2048 : Shape := ⟨2, ![2048, 2048]⟩
abbrev S8x6x2048x2048 : Shape := ⟨4, ![8, 6, 2048, 2048]⟩
abbrev S8x6x2048x256 : Shape := ⟨4, ![8, 6, 2048, 256]⟩
abbrev S1x6 : Shape := ⟨2, ![1, 6]⟩
abbrev S6 : Shape := ⟨1, ![6]⟩
abbrev S6x1x1 : Shape := ⟨3, ![6, 1, 1]⟩
abbrev S8x6x2048x1 : Shape := ⟨4, ![8, 6, 2048, 1]⟩
abbrev S8x6x2048x2305 : Shape := ⟨4, ![8, 6, 2048, 2305]⟩
abbrev S8x6x2048 : Shape := ⟨3, ![8, 6, 2048]⟩
abbrev S8x6x64x2048 : Shape := ⟨4, ![8, 6, 64, 2048]⟩

abbrev nBuf : Space → Nat
  | .hbm => 159
  | .vmem => 0
  | .smem => 0
  | _ => 0

abbrev hbmTy0_0 (i : Nat) : BufTy := match i % 128 with
  | 0 => ⟨S8x2304x384, .f32⟩
  | 1 => ⟨S8x2304x128, .f32⟩
  | 2 => ⟨S8x2304x128, .f32⟩
  | 3 => ⟨S2x6, .f32⟩
  | 4 => ⟨S32, .i32⟩
  | 5 => ⟨S64, .i32⟩
  | 6 => ⟨S32x64, .i32⟩
  | 7 => ⟨S32x64, .i32⟩
  | 8 => ⟨S2048, .i32⟩
  | 9 => ⟨S2048, .i32⟩
  | 10 => ⟨S2048x1, .i32⟩
  | 11 => ⟨S2048x1, .i32⟩
  | 12 => ⟨S2048x2, .i32⟩
  | 13 => ⟨S2048x2, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x2x1, .f32⟩
  | 23 => ⟨S1x1x16, .f32⟩
  | 24 => ⟨S2048x2x16, .f32⟩
  | 25 => ⟨S2048x2x16, .f32⟩
  | 26 => ⟨S2048x2x16, .f32⟩
  | 27 => ⟨S2048x2x16, .f32⟩
  | 28 => ⟨S2048x2x16, .f32⟩
  | 29 => ⟨S8x2048x384, .f32⟩
  | 30 => ⟨S8x2048x6x64, .f32⟩
  | 31 => ⟨S2048x1x2x16, .f32⟩
  | 32 => ⟨S2048x6x2x16, .f32⟩
  | 33 => ⟨S2048x12x16, .f32⟩
  | 34 => ⟨S2048x1x2x16, .f32⟩
  | 35 => ⟨S2048x6x2x16, .f32⟩
  | 36 => ⟨S2048x12x16, .f32⟩
  | 37 => ⟨S8x2048x12x2x16, .f32⟩
  | 38 => ⟨S8x2048x12x1x16, .f32⟩
  | 39 => ⟨S8x2048x12x16, .f32⟩
  | 40 => ⟨S8x2048x12x1x16, .f32⟩
  | 41 => ⟨S8x2048x12x16, .f32⟩
  | 42 => ⟨S1x2048x12x16, .f32⟩
  | 43 => ⟨S8x2048x12x16, .f32⟩
  | 44 => ⟨S8x2048x12x16, .f32⟩
  | 45 => ⟨S1x2048x12x16, .f32⟩
  | 46 => ⟨S8x2048x12x16, .f32⟩
  | 47 => ⟨S8x2048x12x16, .f32⟩
  | 48 => ⟨S8x2048x12x16, .f32⟩
  | 49 => ⟨S1x2048x12x16, .f32⟩
  | 50 => ⟨S8x2048x12x16, .f32⟩
  | 51 => ⟨S8x2048x12x16, .f32⟩
  | 52 => ⟨S1x2048x12x16, .f32⟩
  | 53 => ⟨S8x2048x12x16, .f32⟩
  | 54 => ⟨S8x2048x12x16, .f32⟩
  | 55 => ⟨S8x2048x12x16, .f32⟩
  | 56 => ⟨S8x2048x12x1x16, .f32⟩
  | 57 => ⟨S8x2048x12x1x16, .f32⟩
  | 58 => ⟨S8x2048x12x2x16, .f32⟩
  | 59 => ⟨S8x2048x6x64, .f32⟩
  | 60 => ⟨S8x2048x128, .f32⟩
  | 61 => ⟨S8x2048x2x64, .f32⟩
  | 62 => ⟨S2048x1x2x16, .f32⟩
  | 63 => ⟨S2048x2x2x16, .f32⟩
  | 64 => ⟨S2048x4x16, .f32⟩
  | 65 => ⟨S2048x1x2x16, .f32⟩
  | 66 => ⟨S2048x2x2x16, .f32⟩
  | 67 => ⟨S2048x4x16, .f32⟩
  | 68 => ⟨S8x2048x4x2x16, .f32⟩
  | 69 => ⟨S8x2048x4x1x16, .f32⟩
  | 70 => ⟨S8x2048x4x16, .f32⟩
  | 71 => ⟨S8x2048x4x1x16, .f32⟩
  | 72 => ⟨S8x2048x4x16, .f32⟩
  | 73 => ⟨S1x2048x4x16, .f32⟩
  | 74 => ⟨S8x2048x4x16, .f32⟩
  | 75 => ⟨S8x2048x4x16, .f32⟩
  | 76 => ⟨S1x2048x4x16, .f32⟩
  | 77 => ⟨S8x2048x4x16, .f32⟩
  | 78 => ⟨S8x2048x4x16, .f32⟩
  | 79 => ⟨S8x2048x4x16, .f32⟩
  | 80 => ⟨S1x2048x4x16, .f32⟩
  | 81 => ⟨S8x2048x4x16, .f32⟩
  | 82 => ⟨S8x2048x4x16, .f32⟩
  | 83 => ⟨S1x2048x4x16, .f32⟩
  | 84 => ⟨S8x2048x4x16, .f32⟩
  | 85 => ⟨S8x2048x4x16, .f32⟩
  | 86 => ⟨S8x2048x4x16, .f32⟩
  | 87 => ⟨S8x2048x4x1x16, .f32⟩
  | 88 => ⟨S8x2048x4x1x16, .f32⟩
  | 89 => ⟨S8x2048x4x2x16, .f32⟩
  | 90 => ⟨S8x2048x2x64, .f32⟩
  | 91 => ⟨S8x2048x2x1x64, .f32⟩
  | 92 => ⟨S8x2048x2x3x64, .f32⟩
  | 93 => ⟨S8x2048x6x64, .f32⟩
  | 94 => ⟨S8x2048x128, .f32⟩
  | 95 => ⟨S8x2048x2x64, .f32⟩
  | 96 => ⟨S8x2048x2x1x64, .f32⟩
  | 97 => ⟨S8x2048x2x3x64, .f32⟩
  | 98 => ⟨S8x2048x6x64, .f32⟩
  | 99 => ⟨S8x256x128, .f32⟩
  | 100 => ⟨S8x256x2x64, .f32⟩
  | 101 => ⟨S8x256x2x1x64, .f32⟩
  | 102 => ⟨S8x256x2x3x64, .f32⟩
  | 103 => ⟨S8x256x6x64, .f32⟩
  | 104 => ⟨S8x256x128, .f32⟩
  | 105 => ⟨S8x256x2x64, .f32⟩
  | 106 => ⟨S8x256x2x1x64, .f32⟩
  | 107 => ⟨S8x256x2x3x64, .f32⟩
  | 108 => ⟨S8x256x6x64, .f32⟩
  | 109 => ⟨S2048, .i32⟩
  | 110 => ⟨S1x2048, .i32⟩
  | 111 => ⟨S2048x1, .i32⟩
  | 112 => ⟨S2048x2048, .i32⟩
  | 113 => ⟨S2048x2048, .i32⟩
  | 114 => ⟨S2048x2048, .i32⟩
  | 115 => ⟨S2048x2048, .i32⟩
  | 116 => ⟨S_, .i32⟩
  | 117 => ⟨S2048x2048, .i32⟩
  | 118 => ⟨S2048x2048, .i1⟩
  | 119 => ⟨S8x6x2048x2048, .f32⟩
  | 120 => ⟨S_, .f32⟩
  | 121 => ⟨S8x6x2048x2048, .f32⟩
  | 122 => ⟨S8x6x2048x2048, .f32⟩
  | 123 => ⟨S_, .f32⟩
  | 124 => ⟨S_, .f32⟩
  | 125 => ⟨S8x6x2048x2048, .i1⟩
  | 126 => ⟨S8x6x2048x2048, .f32⟩
  | 127 => ⟨S8x6x2048x2048, .f32⟩
  | _ => ⟨S8x2304x384, .f32⟩

abbrev hbmTy0_1 (i : Nat) : BufTy := match i % 128 with
  | 0 => ⟨S8x6x2048x256, .f32⟩
  | 1 => ⟨S_, .f32⟩
  | 2 => ⟨S8x6x2048x256, .f32⟩
  | 3 => ⟨S8x6x2048x256, .f32⟩
  | 4 => ⟨S1x6, .f32⟩
  | 5 => ⟨S6, .f32⟩
  | 6 => ⟨S6x1x1, .f32⟩
  | 7 => ⟨S8x6x2048x1, .f32⟩
  | 8 => ⟨S8x6x2048x2305, .f32⟩
  | 9 => ⟨S_, .f32⟩
  | 10 => ⟨S8x6x2048, .f32⟩
  | 11 => ⟨S_, .f32⟩
  | 12 => ⟨S8x6x2048, .f32⟩
  | 13 => ⟨S8x6x2048, .f32⟩
  | 14 => ⟨S8x6x2048x1, .f32⟩
  | 15 => ⟨S8x6x2048x2305, .f32⟩
  | 16 => ⟨S8x6x2048x2305, .f32⟩
  | 17 => ⟨S8x6x2048x2305, .f32⟩
  | 18 => ⟨S_, .f32⟩
  | 19 => ⟨S8x6x2048, .f32⟩
  | 20 => ⟨S8x6x2048x1, .f32⟩
  | 21 => ⟨S8x6x2048x2305, .f32⟩
  | 22 => ⟨S8x6x2048x2305, .f32⟩
  | 23 => ⟨S8x6x2048x2048, .f32⟩
  | 24 => ⟨S8x6x64x2048, .f32⟩
  | 25 => ⟨S8x2048x6x64, .f32⟩
  | 26 => ⟨S8x6x2048x256, .f32⟩
  | 27 => ⟨S8x6x64x2048, .f32⟩
  | 28 => ⟨S8x2048x6x64, .f32⟩
  | 29 => ⟨S8x2048x6x64, .f32⟩
  | 30 => ⟨S8x2048x384, .f32⟩
  | _ => ⟨S8x2304x384, .f32⟩

abbrev hbmTy (i : Nat) : BufTy := match i / 128 with
  | 0 => hbmTy0_0 i
  | 1 => hbmTy0_1 i
  | _ => ⟨S8x2304x384, .f32⟩

abbrev bufTy : (tb : Table) → Fin (tcTables nBuf tb) → BufTy
  | .hbm, ⟨i, _⟩ => hbmTy i
  | _, _ => ⟨S8x2304x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_c : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_cst_1 : Ref sig .tc := ⟨.hbm, 120, rfl⟩
abbrev main_v113 : Ref sig .tc := ⟨.hbm, 121, rfl⟩
abbrev main_v114 : Ref sig .tc := ⟨.hbm, 122, rfl⟩
abbrev main_cst_2 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v115 : Ref sig .tc := ⟨.hbm, 127, rfl⟩
abbrev main_v116 : Ref sig .tc := ⟨.hbm, 128, rfl⟩
abbrev main_cst_3 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_cst_4 : Ref sig .tc := ⟨.hbm, 137, rfl⟩
abbrev main_v124 : Ref sig .tc := ⟨.hbm, 138, rfl⟩
abbrev main_cst_5 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_cst_6 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩

abbrev nD : Nat := 1
abbrev τ : Topo := Topo.v7x

variable {F : FTy → Type} [FloatOps F]
-- ==== Kernel6.lean ====
abbrev S8x2304x384 : Shape := ⟨3, ![8, 2304, 384]⟩
abbrev S8x2304x128 : Shape := ⟨3, ![8, 2304, 128]⟩
abbrev S2x6 : Shape := ⟨2, ![2, 6]⟩
abbrev S1x6 : Shape := ⟨2, ![1, 6]⟩
abbrev S6 : Shape := ⟨1, ![6]⟩
abbrev S_ : Shape := ⟨0, ![]⟩
abbrev S128 : Shape := ⟨1, ![128]⟩
abbrev S1x128 : Shape := ⟨2, ![1, 128]⟩
abbrev S8x256x384 : Shape := ⟨3, ![8, 256, 384]⟩
abbrev S1x256x384 : Shape := ⟨3, ![1, 256, 384]⟩
abbrev S1x256x128 : Shape := ⟨3, ![1, 256, 128]⟩
abbrev S256x384 : Shape := ⟨2, ![256, 384]⟩
abbrev S256x128 : Shape := ⟨2, ![256, 128]⟩
abbrev S256x64 : Shape := ⟨2, ![256, 64]⟩
abbrev S768x64 : Shape := ⟨2, ![768, 64]⟩
abbrev S1x1 : Shape := ⟨2, ![1, 1]⟩
abbrev S256x1 : Shape := ⟨2, ![256, 1]⟩
abbrev S768x1 : Shape := ⟨2, ![768, 1]⟩
abbrev S768x256 : Shape := ⟨2, ![768, 256]⟩
abbrev S768 : Shape := ⟨1, ![768]⟩

abbrev nBuf : Space → Nat
  | .hbm => 11
  | .vmem => 9
  | .smem => 0
  | _ => 0

abbrev bufTy : (tb : Table) → Fin (tcTables nBuf tb) → BufTy
  | .hbm, ⟨0, _⟩ => ⟨S8x2304x384, .f32⟩
  | .hbm, ⟨1, _⟩ => ⟨S8x2304x128, .f32⟩
  | .hbm, ⟨2, _⟩ => ⟨S8x2304x128, .f32⟩
  | .hbm, ⟨3, _⟩ => ⟨S2x6, .f32⟩
  | .hbm, ⟨4, _⟩ => ⟨S1x6, .f32⟩
  | .hbm, ⟨5, _⟩ => ⟨S6, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S8x256x384, .f32⟩
  | .local _ .vmem, ⟨0, _⟩ => ⟨S1x256x384, .f32⟩
  | .local _ .vmem, ⟨1, _⟩ => ⟨S1x256x384, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x128, .f32⟩
  | .local _ .vmem, ⟨7, _⟩ => ⟨S1x256x384, .f32⟩
  | .local _ .vmem, ⟨8, _⟩ => ⟨S1x256x384, .f32⟩
  | _, _ => ⟨S8x2304x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8x2304x384 : Shape := ⟨3, ![8, 2304, 384]⟩
abbrev S8x2304x128 : Shape := ⟨3, ![8, 2304, 128]⟩
abbrev S2x6 : Shape := ⟨2, ![2, 6]⟩
abbrev S8x256x384 : Shape := ⟨3, ![8, 256, 384]⟩
abbrev S8x256x6x64 : Shape := ⟨4, ![8, 256, 6, 64]⟩
abbrev S8x256x128 : Shape := ⟨3, ![8, 256, 128]⟩
abbrev S8x256x2x64 : Shape := ⟨4, ![8, 256, 2, 64]⟩
abbrev S8x256x2x1x64 : Shape := ⟨5, ![8, 256, 2, 1, 64]⟩
abbrev S8x256x2x3x64 : Shape := ⟨5, ![8, 256, 2, 3, 64]⟩
abbrev S8x6x256x256 : Shape := ⟨4, ![8, 6, 256, 256]⟩
abbrev S_ : Shape := ⟨0, ![]⟩
abbrev S1x6 : Shape := ⟨2, ![1, 6]⟩
abbrev S6 : Shape := ⟨1, ![6]⟩
abbrev S6x1x1 : Shape := ⟨3, ![6, 1, 1]⟩
abbrev S8x6x256x1 : Shape := ⟨4, ![8, 6, 256, 1]⟩
abbrev S8x6x256x257 : Shape := ⟨4, ![8, 6, 256, 257]⟩
abbrev S8x6x256 : Shape := ⟨3, ![8, 6, 256]⟩
abbrev S8x6x64x256 : Shape := ⟨4, ![8, 6, 64, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x2304x384, .f32⟩
  | .hbm, ⟨1, _⟩ => ⟨S8x2304x128, .f32⟩
  | .hbm, ⟨2, _⟩ => ⟨S8x2304x128, .f32⟩
  | .hbm, ⟨3, _⟩ => ⟨S2x6, .f32⟩
  | .hbm, ⟨4, _⟩ => ⟨S8x256x384, .f32⟩
  | .hbm, ⟨5, _⟩ => ⟨S8x256x6x64, .f32⟩
  | .hbm, ⟨6, _⟩ => ⟨S8x256x128, .f32⟩
  | .hbm, ⟨7, _⟩ => ⟨S8x256x2x64, .f32⟩
  | .hbm, ⟨8, _⟩ => ⟨S8x256x2x1x64, .f32⟩
  | .hbm, ⟨9, _⟩ => ⟨S8x256x2x3x64, .f32⟩
  | .hbm, ⟨10, _⟩ => ⟨S8x256x6x64, .f32⟩
  | .hbm, ⟨11, _⟩ => ⟨S8x256x128, .f32⟩
  | .hbm, ⟨12, _⟩ => ⟨S8x256x2x64, .f32⟩
  | .hbm, ⟨13, _⟩ => ⟨S8x256x2x1x64, .f32⟩
  | .hbm, ⟨14, _⟩ => ⟨S8x256x2x3x64, .f32⟩
  | .hbm, ⟨15, _⟩ => ⟨S8x256x6x64, .f32⟩
  | .hbm, ⟨16, _⟩ => ⟨S8x6x256x256, .f32⟩
  | .hbm, ⟨17, _⟩ => ⟨S_, .f32⟩
  | .hbm, ⟨18, _⟩ => ⟨S8x6x256x256, .f32⟩
  | .hbm, ⟨19, _⟩ => ⟨S8x6x256x256, .f32⟩
  | .hbm, ⟨20, _⟩ => ⟨S1x6, .f32⟩
  | .hbm, ⟨21, _⟩ => ⟨S6, .f32⟩
  | .hbm, ⟨22, _⟩ => ⟨S6x1x1, .f32⟩
  | .hbm, ⟨23, _⟩ => ⟨S8x6x256x1, .f32⟩
  | .hbm, ⟨24, _⟩ => ⟨S8x6x256x257, .f32⟩
  | .hbm, ⟨25, _⟩ => ⟨S_, .f32⟩
  | .hbm, ⟨26, _⟩ => ⟨S8x6x256, .f32⟩
  | .hbm, ⟨27, _⟩ => ⟨S_, .f32⟩
  | .hbm, ⟨28, _⟩ => ⟨S8x6x256, .f32⟩
  | .hbm, ⟨29, _⟩ => ⟨S8x6x256, .f32⟩
  | .hbm, ⟨30, _⟩ => ⟨S8x6x256x1, .f32⟩
  | .hbm, ⟨31, _⟩ => ⟨S8x6x256x257, .f32⟩
  | .hbm, ⟨32, _⟩ => ⟨S8x6x256x257, .f32⟩
  | .hbm, ⟨33, _⟩ => ⟨S8x6x256x257, .f32⟩
  | .hbm, ⟨34, _⟩ => ⟨S_, .f32⟩
  | .hbm, ⟨35, _⟩ => ⟨S8x6x256, .f32⟩
  | .hbm, ⟨36, _⟩ => ⟨S8x6x256x1, .f32⟩
  | .hbm, ⟨37, _⟩ => ⟨S8x6x256x257, .f32⟩
  | .hbm, ⟨38, _⟩ => ⟨S8x6x256x257, .f32⟩
  | .hbm, ⟨39, _⟩ => ⟨S8x6x256x256, .f32⟩
  | .hbm, ⟨40, _⟩ => ⟨S8x6x64x256, .f32⟩
  | .hbm, ⟨41, _⟩ => ⟨S8x256x6x64, .f32⟩
  | .hbm, ⟨42, _⟩ => ⟨S8x256x384, .f32⟩
  | _, _ => ⟨S8x2304x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel7.lean ====
abbrev S8x2304x1024 : Shape := ⟨3, ![8, 2304, 1024]⟩
abbrev S2x8x6144 : Shape := ⟨3, ![2, 8, 6144]⟩
abbrev S2x6144 : Shape := ⟨2, ![2, 6144]⟩
abbrev S2x1024 : Shape := ⟨2, ![2, 1024]⟩
abbrev S2x1024x2456 : Shape := ⟨3, ![2, 1024, 2456]⟩
abbrev S1x1024x2456 : Shape := ⟨3, ![1, 1024, 2456]⟩
abbrev S1024x2456 : Shape := ⟨2, ![1024, 2456]⟩
abbrev S1024x1792 : Shape := ⟨2, ![1024, 1792]⟩
abbrev S1024x24 : Shape := ⟨2, ![1024, 24]⟩
abbrev S1024x4x3x2 : Shape := ⟨4, ![1024, 4, 3, 2]⟩
abbrev S1024x3x4x2 : Shape := ⟨4, ![1024, 3, 4, 2]⟩
abbrev S1024x3x8 : Shape := ⟨3, ![1024, 3, 8]⟩
abbrev S_ : Shape := ⟨0, ![]⟩
abbrev S1024x3x128 : Shape := ⟨3, ![1024, 3, 128]⟩
abbrev S1024x384 : Shape := ⟨2, ![1024, 384]⟩
abbrev S1024x640 : Shape := ⟨2, ![1024, 640]⟩
abbrev S1024x2816 : Shape := ⟨2, ![1024, 2816]⟩
abbrev S2x8x1x6x1024 : Shape := ⟨5, ![2, 8, 1, 6, 1024]⟩
abbrev S2x1x1x6x1024 : Shape := ⟨5, ![2, 1, 1, 6, 1024]⟩
abbrev S2x8x2x6x1024 : Shape := ⟨5, ![2, 8, 2, 6, 1024]⟩
abbrev S1x8x2x6x1024 : Shape := ⟨5, ![1, 8, 2, 6, 1024]⟩
abbrev S8x2x6x1024 : Shape := ⟨4, ![8, 2, 6, 1024]⟩
abbrev S1x1024 : Shape := ⟨2, ![1, 1024]⟩
abbrev S1024 : Shape := ⟨1, ![1024]⟩
abbrev S8x2304x256 : Shape := ⟨3, ![8, 2304, 256]⟩
abbrev S8x2304x1152 : Shape := ⟨3, ![8, 2304, 1152]⟩
abbrev S8x2304x384 : Shape := ⟨3, ![8, 2304, 384]⟩
abbrev S8x2304x128 : Shape := ⟨3, ![8, 2304, 128]⟩
abbrev S1x768x1024 : Shape := ⟨3, ![1, 768, 1024]⟩
abbrev S1x2x6x1024 : Shape := ⟨4, ![1, 2, 6, 1024]⟩
abbrev S1x768x256 : Shape := ⟨3, ![1, 768, 256]⟩
abbrev S1x768x1152 : Shape := ⟨3, ![1, 768, 1152]⟩
abbrev S1x768x384 : Shape := ⟨3, ![1, 768, 384]⟩
abbrev S1x768x128 : Shape := ⟨3, ![1, 768, 128]⟩
abbrev S768x1024 : Shape := ⟨2, ![768, 1024]⟩
abbrev S768x1 : Shape := ⟨2, ![768, 1]⟩
abbrev S1x1x1x1024 : Shape := ⟨4, ![1, 1, 1, 1024]⟩
abbrev S768 : Shape := ⟨1, ![768]⟩
abbrev S1024x256 : Shape := ⟨2, ![1024, 256]⟩
abbrev S768x256 : Shape := ⟨2, ![768, 256]⟩
abbrev S1024x1152 : Shape := ⟨2, ![1024, 1152]⟩
abbrev S768x1152 : Shape := ⟨2, ![768, 1152]⟩
abbrev S768x384 : Shape := ⟨2, ![768, 384]⟩
abbrev S1024x128 : Shape := ⟨2, ![1024, 128]⟩
abbrev S768x128 : Shape := ⟨2, ![768, 128]⟩

abbrev nBuf : Space → Nat
  | .hbm => 39
  | .vmem => 26
  | .smem => 0
  | _ => 0

abbrev bufTy : (tb : Table) → Fin (tcTables nBuf tb) → BufTy
  | .hbm, ⟨0, _⟩ => ⟨S8x2304x1024, .f32⟩
  | .hbm, ⟨1, _⟩ => ⟨S8x2304x1024, .f32⟩
  | .hbm, ⟨2, _⟩ => ⟨S2x8x6144, .f32⟩
  | .hbm, ⟨3, _⟩ => ⟨S2x6144, .f32⟩
  | .hbm, ⟨4, _⟩ => ⟨S2x1024, .f32⟩
  | .hbm, ⟨5, _⟩ => ⟨S2x1024x2456, .f32⟩
  | .hbm, ⟨6, _⟩ => ⟨S1x1024x2456, .f32⟩
  | .hbm, ⟨7, _⟩ => ⟨S1024x2456, .f32⟩
  | .hbm, ⟨8, _⟩ => ⟨S1024x1792, .f32⟩
  | .hbm, ⟨9, _⟩ => ⟨S1024x24, .f32⟩
  | .hbm, ⟨10, _⟩ => ⟨S1024x4x3x2, .f32⟩
  | .hbm, ⟨11, _⟩ => ⟨S1024x3x4x2, .f32⟩
  | .hbm, ⟨12, _⟩ => ⟨S1024x3x8, .f32⟩
  | .hbm, ⟨13, _⟩ => ⟨S_, .i32⟩
  | .hbm, ⟨14, _⟩ => ⟨S_, .f32⟩
  | .hbm, ⟨15, _⟩ => ⟨S1024x3x128, .f32⟩
  | .hbm, ⟨16, _⟩ => ⟨S1024x384, .f32⟩
  | .hbm, ⟨17, _⟩ => ⟨S1024x640, .f32⟩
  | .hbm, ⟨18, _⟩ => ⟨S1024x2816, .f32⟩
  | .hbm, ⟨19, _⟩ => ⟨S1024x2816, .bf16⟩
  | .hbm, ⟨20, _⟩ => ⟨S2x8x1x6x1024, .f32⟩
  | .hbm, ⟨21, _⟩ => ⟨S2x1x1x6x1024, .f32⟩
  | .hbm, ⟨22, _⟩ => ⟨S2x8x1x6x1024, .f32⟩
  | .hbm, ⟨23, _⟩ => ⟨S2x8x2x6x1024, .f32⟩
  | .hbm, ⟨24, _⟩ => ⟨S1x8x2x6x1024, .f32⟩
  | .hbm, ⟨25, _⟩ => ⟨S8x2x6x1024, .f32⟩
  | .hbm, ⟨26, _⟩ => ⟨S1x8x2x6x1024, .f32⟩
  | .hbm, ⟨27, _⟩ => ⟨S8x2x6x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8x2304x1024, .f32⟩
  | .hbm, ⟨32, _⟩ => ⟨S8x2304x256, .f32⟩
  | .hbm, ⟨33, _⟩ => ⟨S8x2304x1152, .f32⟩
  | .hbm, ⟨34, _⟩ => ⟨S8x2304x384, .f32⟩
  | .hbm, ⟨35, _⟩ => ⟨S8x2304x384, .f32⟩
  | .hbm, ⟨36, _⟩ => ⟨S8x2304x384, .f32⟩
  | .hbm, ⟨37, _⟩ => ⟨S8x2304x128, .f32⟩
  | .hbm, ⟨38, _⟩ => ⟨S8x2304x128, .f32⟩
  | .local _ .vmem, ⟨0, _⟩ => ⟨S1x768x1024, .f32⟩
  | .local _ .vmem, ⟨1, _⟩ => ⟨S1x768x1024, .f32⟩
  | .local _ .vmem, ⟨2, _⟩ => ⟨S1x768x1024, .f32⟩
  | .local _ .vmem, ⟨3, _⟩ => ⟨S1x768x1024, .f32⟩
  | .local _ .vmem, ⟨4, _⟩ => ⟨S1x2x6x1024, .f32⟩
  | .local _ .vmem, ⟨5, _⟩ => ⟨S1x2x6x1024, .f32⟩
  | .local _ .vmem, ⟨6, _⟩ => ⟨S1x2x6x1024, .f32⟩
  | .local _ .vmem, ⟨7, _⟩ => ⟨S1x2x6x1024, .f32⟩
  | .local _ .vmem, ⟨8, _⟩ => ⟨S1x1024, .f32⟩
  | .local _ .vmem, ⟨9, _⟩ => ⟨S1024x2816, .bf16⟩
  | .local _ .vmem, ⟨10, _⟩ => ⟨S1x768x1024, .f32⟩
  | .local _ .vmem, ⟨11, _⟩ => ⟨S1x768x1024, .f32⟩
  | .local _ .vmem, ⟨12, _⟩ => ⟨S1x768x256, .f32⟩
  | .local _ .vmem, ⟨13, _⟩ => ⟨S1x768x256, .f32⟩
  | .local _ .vmem, ⟨14, _⟩ => ⟨S1x768x1152, .f32⟩
  | .local _ .vmem, ⟨15, _⟩ => ⟨S1x768x1152, .f32⟩
  | .local _ .vmem, ⟨16, _⟩ => ⟨S1x768x384, .f32⟩
  | .local _ .vmem, ⟨17, _⟩ => ⟨S1x768x384, .f32⟩
  | .local _ .vmem, ⟨18, _⟩ => ⟨S1x768x384, .f32⟩
  | .local _ .vmem, ⟨19, _⟩ => ⟨S1x768x384, .f32⟩
  | .local _ .vmem, ⟨20, _⟩ => ⟨S1x768x384, .f32⟩
  | .local _ .vmem, ⟨21, _⟩ => ⟨S1x768x384, .f32⟩
  | .local _ .vmem, ⟨22, _⟩ => ⟨S1x768x128, .f32⟩
  | .local _ .vmem, ⟨23, _⟩ => ⟨S1x768x128, .f32⟩
  | .local _ .vmem, ⟨24, _⟩ => ⟨S1x768x128, .f32⟩
  | .local _ .vmem, ⟨25, _⟩ => ⟨S1x768x128, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v23_6 : Ref sig .tc := ⟨.hbm, 37, rfl⟩
abbrev main_v23_7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x768x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x768x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x768x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x768x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference7Ideal.lean ====
abbrev S8x2304x1024 : Shape := ⟨3, ![8, 2304, 1024]⟩
abbrev S2x8x6144 : Shape := ⟨3, ![2, 8, 6144]⟩
abbrev S2x6144 : Shape := ⟨2, ![2, 6144]⟩
abbrev S2x1024 : Shape := ⟨2, ![2, 1024]⟩
abbrev S2x1024x2456 : Shape := ⟨3, ![2, 1024, 2456]⟩
abbrev S1x8x1024 : Shape := ⟨3, ![1, 8, 1024]⟩
abbrev S8x1024 : Shape := ⟨2, ![8, 1024]⟩
abbrev S8x1x1024 : Shape := ⟨3, ![8, 1, 1024]⟩
abbrev S1x1024 : Shape := ⟨2, ![1, 1024]⟩
abbrev S1024 : Shape := ⟨1, ![1024]⟩
abbrev S8x2048x1024 : Shape := ⟨3, ![8, 2048, 1024]⟩
abbrev S8x256x1024 : Shape := ⟨3, ![8, 256, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩
abbrev S1x1024x2456 : Shape := ⟨3, ![1, 1024, 2456]⟩
abbrev S1024x2456 : Shape := ⟨2, ![1024, 2456]⟩
abbrev S8x2304x2456 : Shape := ⟨3, ![8, 2304, 2456]⟩
abbrev S8x2304x256 : Shape := ⟨3, ![8, 2304, 256]⟩
abbrev S8x2304x1152 : Shape := ⟨3, ![8, 2304, 1152]⟩
abbrev S8x2304x384 : Shape := ⟨3, ![8, 2304, 384]⟩
abbrev S8x2304x128 : Shape := ⟨3, ![8, 2304, 128]⟩

abbrev nBuf : Space → Nat
  | .hbm => 93
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2304x1024, .f32⟩
  | .hbm, ⟨2, _⟩ => ⟨S2x8x6144, .f32⟩
  | .hbm, ⟨3, _⟩ => ⟨S2x6144, .f32⟩
  | .hbm, ⟨4, _⟩ => ⟨S2x1024, .f32⟩
  | .hbm, ⟨5, _⟩ => ⟨S2x1024x2456, .f32⟩
  | .hbm, ⟨6, _⟩ => ⟨S1x8x1024, .f32⟩
  | .hbm, ⟨7, _⟩ => ⟨S8x1024, .f32⟩
  | .hbm, ⟨8, _⟩ => ⟨S8x1x1024, .f32⟩
  | .hbm, ⟨9, _⟩ => ⟨S1x1024, .f32⟩
  | .hbm, ⟨10, _⟩ => ⟨S1024, .f32⟩
  | .hbm, ⟨11, _⟩ => ⟨S1x8x1024, .f32⟩
  | .hbm, ⟨12, _⟩ => ⟨S8x1024, .f32⟩
  | .hbm, ⟨13, _⟩ => ⟨S8x1x1024, .f32⟩
  | .hbm, ⟨14, _⟩ => ⟨S1x8x1024, .f32⟩
  | .hbm, ⟨15, _⟩ => ⟨S8x1024, .f32⟩
  | .hbm, ⟨16, _⟩ => ⟨S8x1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x256x1024, .f32⟩
  | .hbm, ⟨29, _⟩ => ⟨S8x256x1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x256x1024, .f32⟩
  | .hbm, ⟨58, _⟩ => ⟨S_, .f32⟩
  | .hbm, ⟨59, _⟩ => ⟨S8x256, .f32⟩
  | .hbm, ⟨60, _⟩ => ⟨S8x256x1, .f32⟩
  | .hbm, ⟨61, _⟩ => ⟨S_, .f32⟩
  | .hbm, ⟨62, _⟩ => ⟨S8x256x1, .f32⟩
  | .hbm, ⟨63, _⟩ => ⟨S8x256x1, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S8x256x1, .f32⟩
  | .hbm, ⟨68, _⟩ => ⟨S8x256x1024, .f32⟩
  | .hbm, ⟨69, _⟩ => ⟨S8x256x1024, .f32⟩
  | .hbm, ⟨70, _⟩ => ⟨S1x1x1024, .f32⟩
  | .hbm, ⟨71, _⟩ => ⟨S8x256x1024, .f32⟩
  | .hbm, ⟨72, _⟩ => ⟨S8x256x1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1x1x1024, .f32⟩
  | .hbm, ⟨77, _⟩ => ⟨S8x256x1024, .f32⟩
  | .hbm, ⟨78, _⟩ => ⟨S8x256x1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S8x2304x1024, .f32⟩
  | .hbm, ⟨83, _⟩ => ⟨S1x1024x2456, .f32⟩
  | .hbm, ⟨84, _⟩ => ⟨S1024x2456, .f32⟩
  | .hbm, ⟨85, _⟩ => ⟨S8x2304x2456, .f32⟩
  | .hbm, ⟨86, _⟩ => ⟨S8x2304x256, .f32⟩
  | .hbm, ⟨87, _⟩ => ⟨S8x2304x1152, .f32⟩
  | .hbm, ⟨88, _⟩ => ⟨S8x2304x384, .f32⟩
  | .hbm, ⟨89, _⟩ => ⟨S8x2304x384, .f32⟩
  | .hbm, ⟨90, _⟩ => ⟨S8x2304x128, .f32⟩
  | .hbm, ⟨91, _⟩ => ⟨S8x2304x128, .f32⟩
  | .hbm, ⟨92, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩

abbrev nD : Nat := 1
abbrev τ : Topo := Topo.v7x

variable {F : FTy → Type} [FloatOps F]
-- ==== Kernel8.lean ====
abbrev S8x2304x1024 : Shape := ⟨3, ![8, 2304, 1024]⟩
abbrev S8x2304x256 : Shape := ⟨3, ![8, 2304, 256]⟩
abbrev S8x2304x384 : Shape := ⟨3, ![8, 2304, 384]⟩
abbrev S8x2048x384 : Shape := ⟨3, ![8, 2048, 384]⟩
abbrev S2x1024x1024 : Shape := ⟨3, ![2, 1024, 1024]⟩
abbrev S2x8x6144 : Shape := ⟨3, ![2, 8, 6144]⟩
abbrev S2x6144 : Shape := ⟨2, ![2, 6144]⟩
abbrev S2x1024 : Shape := ⟨2, ![2, 1024]⟩
abbrev S1x1024x1024 : Shape := ⟨3, ![1, 1024, 1024]⟩
abbrev S1024x1024 : Shape := ⟨2, ![1024, 1024]⟩
abbrev S2x8x1x6x1024 : Shape := ⟨5, ![2, 8, 1, 6, 1024]⟩
abbrev S2x1x1x6x1024 : Shape := ⟨5, ![2, 1, 1, 6, 1024]⟩
abbrev S2x8x2x6x1024 : Shape := ⟨5, ![2, 8, 2, 6, 1024]⟩
abbrev S1x8x2x6x1024 : Shape := ⟨5, ![1, 8, 2, 6, 1024]⟩
abbrev S8x2x6x1024 : Shape := ⟨4, ![8, 2, 6, 1024]⟩
abbrev S1x1024 : Shape := ⟨2, ![1, 1024]⟩
abbrev S1024 : Shape := ⟨1, ![1024]⟩
abbrev S8x2048x1024 : Shape := ⟨3, ![8, 2048, 1024]⟩
abbrev S1x256x1024 : Shape := ⟨3, ![1, 256, 1024]⟩
abbrev S1x256x256 : Shape := ⟨3, ![1, 256, 256]⟩
abbrev S1x256x384 : Shape := ⟨3, ![1, 256, 384]⟩
abbrev S1x2x6x1024 : Shape := ⟨4, ![1, 2, 6, 1024]⟩
abbrev S256x256 : Shape := ⟨2, ![256, 256]⟩
abbrev S256x1024 : Shape := ⟨2, ![256, 1024]⟩
abbrev S256x384 : Shape := ⟨2, ![256, 384]⟩
abbrev S384x1024 : Shape := ⟨2, ![384, 1024]⟩
abbrev S256x1 : Shape := ⟨2, ![256, 1]⟩
abbrev S1x1x1x1024 : Shape := ⟨4, ![1, 1, 1, 1024]⟩
abbrev S256 : Shape := ⟨1, ![256]⟩

abbrev nBuf : Space → Nat
  | .hbm => 22
  | .vmem => 16
  | .smem => 0
  | _ => 0

abbrev bufTy : (tb : Table) → Fin (tcTables nBuf tb) → BufTy
  | .hbm, ⟨0, _⟩ => ⟨S8x2304x1024, .f32⟩
  | .hbm, ⟨1, _⟩ => ⟨S8x2304x256, .f32⟩
  | .hbm, ⟨2, _⟩ => ⟨S8x2304x384, .f32⟩
  | .hbm, ⟨3, _⟩ => ⟨S8x2048x384, .f32⟩
  | .hbm, ⟨4, _⟩ => ⟨S2x1024x1024, .f32⟩
  | .hbm, ⟨5, _⟩ => ⟨S2x8x6144, .f32⟩
  | .hbm, ⟨6, _⟩ => ⟨S2x6144, .f32⟩
  | .hbm, ⟨7, _⟩ => ⟨S2x1024, .f32⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S2x8x1x6x1024, .f32⟩
  | .hbm, ⟨12, _⟩ => ⟨S2x1x1x6x1024, .f32⟩
  | .hbm, ⟨13, _⟩ => ⟨S2x8x1x6x1024, .f32⟩
  | .hbm, ⟨14, _⟩ => ⟨S2x8x2x6x1024, .f32⟩
  | .hbm, ⟨15, _⟩ => ⟨S1x8x2x6x1024, .f32⟩
  | .hbm, ⟨16, _⟩ => ⟨S8x2x6x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8x2048x1024, .f32⟩
  | .hbm, ⟨21, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1024x1024, .bf16⟩
  | .local _ .vmem, ⟨9, _⟩ => ⟨S1x2x6x1024, .f32⟩
  | .local _ .vmem, ⟨10, _⟩ => ⟨S1x2x6x1024, .f32⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S8x2304x1024 : Shape := ⟨3, ![8, 2304, 1024]⟩
abbrev S8x2304x256 : Shape := ⟨3, ![8, 2304, 256]⟩
abbrev S8x2304x384 : Shape := ⟨3, ![8, 2304, 384]⟩
abbrev S8x2048x384 : Shape := ⟨3, ![8, 2048, 384]⟩
abbrev S2x1024x1024 : Shape := ⟨3, ![2, 1024, 1024]⟩
abbrev S2x8x6144 : Shape := ⟨3, ![2, 8, 6144]⟩
abbrev S2x6144 : Shape := ⟨2, ![2, 6144]⟩
abbrev S2x1024 : Shape := ⟨2, ![2, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x2048x256 : Shape := ⟨3, ![8, 2048, 256]⟩
abbrev S8x2048x1024 : Shape := ⟨3, ![8, 2048, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2304x256, .f32⟩
  | .hbm, ⟨2, _⟩ => ⟨S8x2304x384, .f32⟩
  | .hbm, ⟨3, _⟩ => ⟨S8x2048x384, .f32⟩
  | .hbm, ⟨4, _⟩ => ⟨S2x1024x1024, .f32⟩
  | .hbm, ⟨5, _⟩ => ⟨S2x8x6144, .f32⟩
  | .hbm, ⟨6, _⟩ => ⟨S2x6144, .f32⟩
  | .hbm, ⟨7, _⟩ => ⟨S2x1024, .f32⟩
  | .hbm, ⟨8, _⟩ => ⟨S1x8x6144, .f32⟩
  | .hbm, ⟨9, _⟩ => ⟨S8x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x256, .f32⟩
  | .hbm, ⟨18, _⟩ => ⟨S8x2048x384, .f32⟩
  | .hbm, ⟨19, _⟩ => ⟨S8x2048x1024, .f32⟩
  | .hbm, ⟨20, _⟩ => ⟨S8x2048x1024, .f32⟩
  | .hbm, ⟨21, _⟩ => ⟨S1x1024x1024, .f32⟩
  | .hbm, ⟨22, _⟩ => ⟨S1024x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x1x1024, .f32⟩
  | .hbm, ⟨47, _⟩ => ⟨S8x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .bf16⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Kit.lean ====
/- What the kernel's run is stated over: the branch conditions in closed form over the grid points, the staging and
   scratch buffers at a point, and the literal places of the body's loads and stores. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

abbrev First (i : grid0.Coords) : Prop := k0_cond1 i = 1#1
abbrev Even (i : grid0.Coords) : Prop := k0_cond2 i = 1#1
abbrev Last (i : grid0.Coords) : Prop := k0_cond3 i = 1#1
abbrev Odd (i : grid0.Coords) : Prop := k0_cond4 i = 1#1
abbrev Never (i : grid0.Coords) : Prop := k0_cond5 i = 1#1

theorem first_iff : ∀ t : Fin cfg0.N, First (grid0.coords t) ↔ t.val % 17 = 0 :=
  (by decide +kernel : ∀ t : Fin grid0.N, First (grid0.coords t) ↔ t.val % 17 = 0)
theorem even_iff : ∀ t : Fin cfg0.N, Even (grid0.coords t) ↔ t.val % 17 % 2 = 0 ∧ t.val % 17 < 16 :=
  (by decide +kernel : ∀ t : Fin grid0.N, Even (grid0.coords t) ↔ t.val % 17 % 2 = 0 ∧ t.val % 17 < 16)
theorem last_iff : ∀ t : Fin cfg0.N, Last (grid0.coords t) ↔ t.val % 17 = 16 :=
  (by decide +kernel : ∀ t : Fin grid0.N, Last (grid0.coords t) ↔ t.val % 17 = 16)
theorem odd_iff : ∀ t : Fin cfg0.N, Odd (grid0.coords t) ↔ t.val % 17 % 2 = 1 :=
  (by decide +kernel : ∀ t : Fin grid0.N, Odd (grid0.coords t) ↔ t.val % 17 % 2 = 1)
theorem not_never : ∀ t : Fin cfg0.N, ¬Never (grid0.coords t) :=
  (by decide +kernel : ∀ t : Fin grid0.N, ¬Never (grid0.coords t))

/-- The result's window is stored into at every point. -/
theorem live_out : ∀ t : Fin cfg0.N, cfg0.idle 4 (grid0.coords t) = false :=
  (by decide +kernel : ∀ t : Fin grid0.N, idle0 4 (grid0.coords t) = false)

/-! ## The buffers at a point -/

abbrev st0 (t : Fin cfg0.N) : Memref sig .tc .vmem S1024x1024 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S8192x128 .i32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1024x1024 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S1x1024x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1024x1024 .f32 := win0_4.stage (cfg0.slots t 4)
abbrev hst4 (t : Fin cfg0.N) : (st4 t).IsWhole := hstage0_4 ((cfg0.slots t 4).cast nbuf0_4)
/-- The two scratch buffers the activations alternate between. -/
abbrev g0 : Memref sig .tc .vmem S1024x1024 .bf16 := Memref.whole cc0_scratch0
abbrev g1 : Memref sig .tc .vmem S1024x1024 .bf16 := Memref.whole cc0_scratch1

end Cert.Proof.Dense

end
-- ==== Proof.Tile.lean ====
/- The arithmetic of one step of the body, as functions of the blocks: the accumulated product, the activations, and
   the block of weighted activations which the eight 128-lane stores of a step put together. -/
module

public import proofs.«01_k».proof.Proof.Kit
public import Idealize.ShloMosaic.Lib.Pipeline.Value
public import Idealize.ShloMosaic.Lib.ValueIdxCore
public import Idealize.ShloMosaic.Lib.WritesUnit
public import Idealize.ShloMosaic.Lib.Pipeline.ValueKit.Geometry

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-! ## Whole loads and stores -/

section Whole
variable {sg : RefSig} {κ : Kind} {sp : Space} {s : Shape} {e : EltTy}

theorem load_whole (v : View sg κ sp s e) {off : Fin s.rank → ℕ} (h : off = fun _ => 0)
    (inb : ∀ a, off a + s.size a ≤ s.size a) (f : v.ty.Contents (Elt F)) :
    v.readAt (Elt F) (Rect.unit off s.size inb).toLoadRect f = v.read (Elt F) f :=
  View.ld_unit_zero h inb (v.read (Elt F) f)

theorem store_whole (v : View sg κ sp s e) {off : Fin s.rank → ℕ} (h : off = fun _ => 0)
    (inb : ∀ a, off a + s.size a ≤ s.size a) (f : v.ty.Contents (Elt F)) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ fun y => ⟨_, List.mem_cons_self, View.mem_set_unit_zero h inb y⟩,
    View.canon_cons_unit_zero h]

theorem reload_whole (v : View sg κ sp s e) {off off' : Fin s.rank → ℕ} (h : off = fun _ => 0) (h' : off' = fun _ => 0)
    (inb : ∀ a, off a + s.size a ≤ s.size a) (inb' : ∀ a, off' a + s.size a ≤ s.size a) (w : s.Idx → Elt F e) :
    v.readCov [(⟨Rect.unit off s.size inb, w⟩ : View.Piece (Elt F) s e)] (Rect.unit off' s.size inb').toLoadRect = w := by
  subst h; subst h'; exact View.readCov_unit_zero v rfl inb w

end Whole

/-! ## The step's arithmetic -/

/-- The word of expert column `y 1` for token `y 0`: eight word rows a token, 128 lanes a row. -/
def gateWord (w : Vec F S8192x128 .i32) : IVec S1024x1024 32 := fun y =>
  w (ix2 ⟨8 * (y 0).val + (y 1).val / 128, by
      have h0 : (y 0).val < 1024 := (y 0).isLt
      have h1 : (y 1).val < 1024 := (y 1).isLt
      omega⟩ ⟨(y 1).val % 128, Nat.mod_lt _ (by decide)⟩)

/-- The weighted activations of one step: half `half` of each gate word, times the activation. -/
def wact (half : Fin 2) (act : FVec F S1024x1024 .f32) (w : Vec F S8192x128 .i32) : Vec F S1024x1024 .bf16 :=
  truncf .bf16 (mulf (unpackElementwise half.val (gateWord w) half.isLt) act) bitsLt_bf16_f32

/-- One 128-lane tile of them, as the body computes it. -/
theorem tile_apply (half : Fin 2) (act : FVec F S1024x1024 .f32) (w : Vec F S8192x128 .i32) (j : ℕ) (hj : j < 8)
    {off : Fin 2 → ℕ} (hoff : off = ![0, 128 * j]) (inb : ∀ a, off a + S1024x128.size a ≤ S1024x1024.size a)
    {woff soff : Fin 2 → ℕ} (hw : woff = ![j, 0]) (hs : soff = ![0, 128 * j]) (winb) (sl : S1024x1024.Slices soff S1024x128) (x : S1024x128.Idx) :
    truncf .bf16 (mulf (unpackElementwise half.val (fun x => w ((⟨woff, S1024x128.size, ![8, 1], winb⟩ : LoadRect S8192x128).idx x)) half.isLt)
      (extractStridedSlice S1024x128 soff act sl)) bitsLt_bf16_f32 x
      = wact half act w ((Rect.unit (s := S1024x1024) off S1024x128.size inb).emb x) := by
  subst hoff; subst hw; subst hs
  have h1 : (x 1).val < 128 := (x 1).isLt
  have e0 : ((Rect.unit (s := S1024x1024) ![0, 128 * j] S1024x128.size inb).emb x 0 : ℕ) = (x 0).val := by
    rw [ValueKit.rect_emb_unit_val]; simp
  have e1 : ((Rect.unit (s := S1024x1024) ![0, 128 * j] S1024x128.size inb).emb x 1 : ℕ) = 128 * j + (x 1).val := by
    rw [ValueKit.rect_emb_unit_val]; simp
  have hword : w ((⟨![j, 0], S1024x128.size, ![8, 1], winb⟩ : LoadRect S8192x128).idx x)
      = gateWord w ((Rect.unit (s := S1024x1024) ![0, 128 * j] S1024x128.size inb).emb x) := by
    unfold gateWord
    congr 1
    funext a
    refine Fin.ext ?_
    match a with
    | ⟨0, _⟩ => show j + 8 * (x 0).val = 8 * _ + _ / 128; rw [e0, e1]; omega
    | ⟨1, _⟩ => show 0 + 1 * (x 1).val = _ % 128; rw [e1]; omega
  have hact : extractStridedSlice S1024x128 ![0, 128 * j] act sl x
      = act ((Rect.unit (s := S1024x1024) ![0, 128 * j] S1024x128.size inb).emb x) := by
    unfold extractStridedSlice
    congr 1
    funext a
    refine Fin.ext ?_
    match a with
    | ⟨0, _⟩ => show 0 + (x 0).val = _; rw [show (⟨0, by decide⟩ : Fin 2) = 0 from rfl, e0]; omega
    | ⟨1, _⟩ => show 128 * j + (x 1).val = _; rw [show (⟨1, by decide⟩ : Fin 2) = 1 from rfl, e1]
  unfold wact
  unfold unpackElementwise truncf mulf
  dsimp only
  rw [hword, hact]

/-- Eight tile stores side by side leave the function all of them are tiles of. -/
theorem read_tiles (v : View sig .tc .vmem S1024x1024 .bf16) (f : v.ty.Contents (Elt F)) (G : Vec F S1024x1024 .bf16)
    {o : Fin 8 → Fin 2 → ℕ} (ho : ∀ j, o j = ![0, 128 * j.val]) (inb : ∀ j a, o j a + S1024x128.size a ≤ S1024x1024.size a)
    (P : Fin 8 → S1024x128.Idx → Elt F .bf16)
    (hP : ∀ j x, P j x = G ((Rect.unit (s := S1024x1024) (o j) S1024x128.size (inb j)).emb x)) :
    v.read (Elt F) (v.writes (Elt F) f
      [⟨Rect.unit (o 7) S1024x128.size (inb 7), P 7⟩, ⟨Rect.unit (o 6) S1024x128.size (inb 6), P 6⟩,
       ⟨Rect.unit (o 5) S1024x128.size (inb 5), P 5⟩, ⟨Rect.unit (o 4) S1024x128.size (inb 4), P 4⟩,
       ⟨Rect.unit (o 3) S1024x128.size (inb 3), P 3⟩, ⟨Rect.unit (o 2) S1024x128.size (inb 2), P 2⟩,
       ⟨Rect.unit (o 1) S1024x128.size (inb 1), P 1⟩, ⟨Rect.unit (o 0) S1024x128.size (inb 0), P 0⟩]) = G := by
  have key : ∀ y : S1024x1024.Idx, v.read (Elt F) (v.writes (Elt F) f (View.tilePieces S1024x128.size o inb P 8 le_rfl)) y = G y := by
    intro y
    have h0 : (y 0).val < 1024 := (y 0).isLt
    have h1 : (y 1).val < 1024 := (y 1).isLt
    let j : Fin 8 := ⟨(y 1).val / 128, by omega⟩
    let x : S1024x128.Idx := ix2 (y 0) ⟨(y 1).val % 128, Nat.mod_lt _ (by decide)⟩
    have hx : ∀ a, (y a).val = o j a + (x a).val := by
      intro a; rw [ho]
      match a with
      | ⟨0, _⟩ => show (y 0).val = 0 + (y 0).val; omega
      | ⟨1, _⟩ => show (y 1).val = 128 * ((y 1).val / 128) + (y 1).val % 128; omega
    rw [View.read_tilePieces v f S1024x128.size o inb P 8 le_rfl y j j.isLt x hx 1 (fun i' hi' => by
      have hne : i'.val ≠ (y 1).val / 128 := fun h => hi' (Fin.ext h)
      rw [ho]
      show (y 1).val < 128 * i'.val ∨ 128 * i'.val + 128 ≤ (y 1).val
      omega), hP]
    congr 1
    funext a
    refine Fin.ext ?_
    rw [ValueKit.rect_emb_unit_val]; exact (hx a).symm
  exact funext key

/-- `read_tiles` with the eight tiles one by one. -/
theorem read_tiles8 (v : View sig .tc .vmem S1024x1024 .bf16) (f : v.ty.Contents (Elt F)) (G : Vec F S1024x1024 .bf16)
    {o0 o1 o2 o3 o4 o5 o6 o7 : Fin 2 → ℕ}
    (h0 : o0 = ![0, 128 * 0])
    (h1 : o1 = ![0, 128 * 1])
    (h2 : o2 = ![0, 128 * 2])
    (h3 : o3 = ![0, 128 * 3])
    (h4 : o4 = ![0, 128 * 4])
    (h5 : o5 = ![0, 128 * 5])
    (h6 : o6 = ![0, 128 * 6])
    (h7 : o7 = ![0, 128 * 7])
    (i0 : ∀ a, o0 a + S1024x128.size a ≤ S1024x1024.size a)
    (i1 : ∀ a, o1 a + S1024x128.size a ≤ S1024x1024.size a)
    (i2 : ∀ a, o2 a + S1024x128.size a ≤ S1024x1024.size a)
    (i3 : ∀ a, o3 a + S1024x128.size a ≤ S1024x1024.size a)
    (i4 : ∀ a, o4 a + S1024x128.size a ≤ S1024x1024.size a)
    (i5 : ∀ a, o5 a + S1024x128.size a ≤ S1024x1024.size a)
    (i6 : ∀ a, o6 a + S1024x128.size a ≤ S1024x1024.size a)
    (i7 : ∀ a, o7 a + S1024x128.size a ≤ S1024x1024.size a)
    (P0 P1 P2 P3 P4 P5 P6 P7 : S1024x128.Idx → Elt F .bf16)
    (e0 : ∀ x, P0 x = G ((Rect.unit (s := S1024x1024) o0 S1024x128.size i0).emb x))
    (e1 : ∀ x, P1 x = G ((Rect.unit (s := S1024x1024) o1 S1024x128.size i1).emb x))
    (e2 : ∀ x, P2 x = G ((Rect.unit (s := S1024x1024) o2 S1024x128.size i2).emb x))
    (e3 : ∀ x, P3 x = G ((Rect.unit (s := S1024x1024) o3 S1024x128.size i3).emb x))
    (e4 : ∀ x, P4 x = G ((Rect.unit (s := S1024x1024) o4 S1024x128.size i4).emb x))
    (e5 : ∀ x, P5 x = G ((Rect.unit (s := S1024x1024) o5 S1024x128.size i5).emb x))
    (e6 : ∀ x, P6 x = G ((Rect.unit (s := S1024x1024) o6 S1024x128.size i6).emb x))
    (e7 : ∀ x, P7 x = G ((Rect.unit (s := S1024x1024) o7 S1024x128.size i7).emb x))
    : v.read (Elt F) (v.writes (Elt F) f
      [⟨Rect.unit o7 S1024x128.size i7, P7⟩, ⟨Rect.unit o6 S1024x128.size i6, P6⟩, ⟨Rect.unit o5 S1024x128.size i5, P5⟩, ⟨Rect.unit o4 S1024x128.size i4, P4⟩, ⟨Rect.unit o3 S1024x128.size i3, P3⟩, ⟨Rect.unit o2 S1024x128.size i2, P2⟩, ⟨Rect.unit o1 S1024x128.size i1, P1⟩, ⟨Rect.unit o0 S1024x128.size i0, P0⟩]) = G := by
  subst h0 h1 h2 h3 h4 h5 h6 h7
  exact read_tiles v f G (o := fun j => ![0, 128 * j.val]) (fun _ => rfl)
    (fun | 0 => i0 | 1 => i1 | 2 => i2 | 3 => i3 | 4 => i4 | 5 => i5 | 6 => i6 | 7 => i7)
    (fun | 0 => P0 | 1 => P1 | 2 => P2 | 3 => P3 | 4 => P4 | 5 => P5 | 6 => P6 | 7 => P7)
    (fun | 0 => e0 | 1 => e1 | 2 => e2 | 3 => e3 | 4 => e4 | 5 => e5 | 6 => e6 | 7 => e7)

/-- `tile_apply` as the body spells a tile: read from the word buffer by a strided load, cast to its own shape on the way
    in and on the way out. -/
theorem tile_cast (half : Fin 2) {act act' : FVec F S1024x1024 .f32} (hact : act' = act)
    (v : View sig .tc .vmem S8192x128 .i32) {f : v.ty.Contents (Elt F)} {w : Vec F S8192x128 .i32} (hf : v.read (Elt F) f = w)
    {j : ℕ} (hj : j < 8) {off : Fin 2 → ℕ} (hoff : off = ![0, 128 * j])
    (inb : ∀ a, off a + S1024x128.size a ≤ S1024x1024.size a) {woff soff : Fin 2 → ℕ} (hw : woff = ![j, 0])
    (hs : soff = ![0, 128 * j]) (winb) (sl : S1024x1024.Slices soff S1024x128) (h1 h2 : S1024x128.ShapeCasts S1024x128)
    (x : S1024x128.Idx) :
    shapeCast S1024x128 (truncf .bf16 (mulf (unpackElementwise half.val (shapeCast S1024x128
        (v.readAt (Elt F) (⟨woff, S1024x128.size, ![8, 1], winb⟩ : LoadRect S8192x128) f) h1) half.isLt)
      (extractStridedSlice S1024x128 soff act' sl)) bitsLt_bf16_f32) h2 x
      = wact half act w ((Rect.unit (s := S1024x1024) off S1024x128.size inb).emb x) := by
  subst hact; subst hf
  rw [shapeCast_self, shapeCast_self]
  exact tile_apply half _ _ j hj hoff inb hw hs winb sl x

end Cert.Proof.Dense

end
-- ==== Proof.Places.lean ====
/- The literal places of the body's loads and stores. -/
module

public import proofs.«01_k».proof.Proof.Tile

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! The places of the body's loads and stores, as numbers. -/

theorem off1 : k0_off1 = fun _ => 0 := by decide +kernel
theorem off11 : k0_off11 = fun _ => 0 := by decide +kernel
theorem off12 : k0_off12 = fun _ => 0 := by decide +kernel
theorem zero2 : (![0, 0] : Fin 2 → ℕ) = fun _ => 0 := by decide
theorem zero3 : (![0, 0, 0] : Fin 3 → ℕ) = fun _ => 0 := by decide
theorem off2_0 : k0_off2 0#32 = ![0, 0] := by decide +kernel
theorem off2_1 : k0_off2 1#32 = ![1, 0] := by decide +kernel
theorem off2_2 : k0_off2 2#32 = ![2, 0] := by decide +kernel
theorem off2_3 : k0_off2 3#32 = ![3, 0] := by decide +kernel
theorem off2_4 : k0_off2 4#32 = ![4, 0] := by decide +kernel
theorem off2_5 : k0_off2 5#32 = ![5, 0] := by decide +kernel
theorem off2_6 : k0_off2 6#32 = ![6, 0] := by decide +kernel
theorem off2_7 : k0_off2 7#32 = ![7, 0] := by decide +kernel
theorem off13_0 : k0_off13 0#32 = ![0, 0] := by decide +kernel
theorem off13_1 : k0_off13 1#32 = ![1, 0] := by decide +kernel
theorem off13_2 : k0_off13 2#32 = ![2, 0] := by decide +kernel
theorem off13_3 : k0_off13 3#32 = ![3, 0] := by decide +kernel
theorem off13_4 : k0_off13 4#32 = ![4, 0] := by decide +kernel
theorem off13_5 : k0_off13 5#32 = ![5, 0] := by decide +kernel
theorem off13_6 : k0_off13 6#32 = ![6, 0] := by decide +kernel
theorem off13_7 : k0_off13 7#32 = ![7, 0] := by decide +kernel
theorem off3 : k0_off3 = ![0, 128 * 0] := by decide +kernel
theorem off4 : k0_off4 = ![0, 128 * 1] := by decide +kernel
theorem off5 : k0_off5 = ![0, 128 * 2] := by decide +kernel
theorem off6 : k0_off6 = ![0, 128 * 3] := by decide +kernel
theorem off7 : k0_off7 = ![0, 128 * 4] := by decide +kernel
theorem off8 : k0_off8 = ![0, 128 * 5] := by decide +kernel
theorem off9 : k0_off9 = ![0, 128 * 6] := by decide +kernel
theorem off10 : k0_off10 = ![0, 128 * 7] := by decide +kernel
theorem off14 : k0_off14 = ![0, 128 * 0] := by decide +kernel
theorem off15 : k0_off15 = ![0, 128 * 1] := by decide +kernel
theorem off16 : k0_off16 = ![0, 128 * 2] := by decide +kernel
theorem off17 : k0_off17 = ![0, 128 * 3] := by decide +kernel
theorem off18 : k0_off18 = ![0, 128 * 4] := by decide +kernel
theorem off19 : k0_off19 = ![0, 128 * 5] := by decide +kernel
theorem off20 : k0_off20 = ![0, 128 * 6] := by decide +kernel
theorem off21 : k0_off21 = ![0, 128 * 7] := by decide +kernel

end Cert.Proof.Dense

end
-- ==== Proof.RunFirst.lean ====
module

public import proofs.«01_k».proof.Proof.Places

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The first step of a block of tokens: the sum starts at the zeros just stored, the other scratch buffer being zero. -/
theorem run_first (c : Dev nD) (i : grid0.Coords) (arg2 : Memref sig .tc .vmem S1024x1024 .bf16) (harg2 : arg2.IsWhole) (arg3 : Memref sig .tc .vmem S8192x128 .i32) (harg3 : arg3.IsWhole) (arg4 : Memref sig .tc .vmem S1x1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : First i) (hc1 : Even i) (hc2 : ¬Last i) (hc3 : ¬Odd i) (hc4 : ¬Never i)
    (x0 : Vec F S1024x1024 .bf16) (x1 : Vec F S8192x128 .i32) (x2 : Vec F S1x1024x1024 .bf16) (x3 : Vec F S1x1024x1024 .f32) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay3 k0_pay25 k0_pay26 x3) ∗ owns (c : Thread nD τ) arg7 fullShare (wact 0 (k0_pay4 x0 x2) x1) ∗ (∃ d, owns (c : Thread nD τ) arg8 fullShare d)) -∗ K ⟨⟩))
      ⊢ wp frame (wpE (defs₀ (F := F)) Variants.none c none) E (cc0_peer_dense i arg2 harg2 arg3 harg3 arg4 harg4 arg5 harg5 arg6 harg6 arg7 harg7 arg8 harg8) K := by
  simp only [cc0_peer_dense_eq_skeleton]; unfold cc0_peer_dense_skel
  simp only [k0_part7_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (store_whole _ off1 _ _ _ _).trans ?_
    exact congr (congr (congrArg k0_pay3 (reload_whole _ zero2 off1 _ _ _)) (reload_whole _ zero2 off1 _ _ _)) ((load_whole _ zero3 _ _).trans (harg5.read_unread _))
  isplitl [H5]
  · iexists _; isplitr; swap; · iexact H5
    ipureintro
    refine read_tiles8 _ _ _ off3 off4 off5 off6 off7 off8 off9 off10 _ _ _ _ _ _ _ _ _ _ _ _ _ _ _ _ ?_ ?_ ?_ ?_ ?_ ?_ ?_ ?_
    all_goals intro x
    · exact tile_cast 0 (congr (congrArg (k0_pay4 (F := F)) ((load_whole _ off1 _ _).trans (harg2.read_unread _))) ((load_whole _ zero3 _ _).trans (harg4.read_unread _))) arg3.view (harg3.read_unread _) (by decide) off3 _ off2_0 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off4 _ off2_1 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off5 _ off2_2 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off6 _ off2_3 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off7 _ off2_4 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off8 _ off2_5 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off9 _ off2_6 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off10 _ off2_7 rfl _ _ _ _ x
  iexists _, _; isplitr; swap; · iexact H6
  ipureintro; rfl

end Cert.Proof.Dense

end
-- ==== Proof.RunEven.lean ====
module

public import proofs.«01_k».proof.Proof.RunFirst

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A later even step: the sum takes in what the step before left in the second scratch buffer, and the first is filled. -/
theorem run_even (c : Dev nD) (i : grid0.Coords) (arg2 : Memref sig .tc .vmem S1024x1024 .bf16) (harg2 : arg2.IsWhole) (arg3 : Memref sig .tc .vmem S8192x128 .i32) (harg3 : arg3.IsWhole) (arg4 : Memref sig .tc .vmem S1x1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬First i) (hc1 : Even i) (hc2 : ¬Last i) (hc3 : ¬Odd i) (hc4 : ¬Never i)
    (x0 : Vec F S1024x1024 .bf16) (x1 : Vec F S8192x128 .i32) (x2 : Vec F S1x1024x1024 .bf16) (x3 : Vec F S1x1024x1024 .f32) (a : Vec F S1024x1024 .f32) (g : Vec F S1024x1024 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (a) ∗ (∃ d, owns (c : Thread nD τ) arg7 fullShare d) ∗ owns (c : Thread nD τ) arg8 fullShare (g)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay3 a g x3) ∗ owns (c : Thread nD τ) arg7 fullShare (wact 0 (k0_pay4 x0 x2) x1) ∗ (∃ d, owns (c : Thread nD τ) arg8 fullShare d)) -∗ K ⟨⟩))
      ⊢ wp frame (wpE (defs₀ (F := F)) Variants.none c none) E (cc0_peer_dense i arg2 harg2 arg3 harg3 arg4 harg4 arg5 harg5 arg6 harg6 arg7 harg7 arg8 harg8) K := by
  simp only [cc0_peer_dense_eq_skeleton]; unfold cc0_peer_dense_skel
  simp only [k0_part7_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4
  obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (store_whole _ off1 _ _ _ _).trans ?_
    exact congr (congr (congrArg k0_pay3 ((load_whole _ off1 _ _).trans (harg6.read_unread _))) ((load_whole _ off1 _ _).trans (harg8.read_unread _))) ((load_whole _ zero3 _ _).trans (harg5.read_unread _))
  isplitl [H5]
  · iexists _; isplitr; swap; · iexact H5
    ipureintro
    refine read_tiles8 _ _ _ off3 off4 off5 off6 off7 off8 off9 off10 _ _ _ _ _ _ _ _ _ _ _ _ _ _ _ _ ?_ ?_ ?_ ?_ ?_ ?_ ?_ ?_
    all_goals intro x
    · exact tile_cast 0 (congr (congrArg (k0_pay4 (F := F)) ((load_whole _ off1 _ _).trans (harg2.read_unread _))) ((load_whole _ zero3 _ _).trans (harg4.read_unread _))) arg3.view (harg3.read_unread _) (by decide) off3 _ off2_0 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off4 _ off2_1 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off5 _ off2_2 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off6 _ off2_3 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off7 _ off2_4 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off8 _ off2_5 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off9 _ off2_6 rfl _ _ _ _ x
    · exact tile_cast 0 (congr (congrArg (k0_pay4 (F := F)) ((load_whole _ off1 _ _).trans (harg2.read_unread _))) ((load_whole _ zero3 _ _).trans (harg4.read_unread _))) arg3.view (harg3.read_unread _) (by decide) off10 _ off2_7 rfl _ _ _ _ x
  iexists _, _; isplitr; swap; · iexact H6
  ipureintro; rfl

end Cert.Proof.Dense

end
-- ==== Proof.RunOdd.lean ====
module

public import proofs.«01_k».proof.Proof.RunEven

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- An odd step: the sum takes in what the step before left in the first scratch buffer, and the second is filled. -/
theorem run_odd (c : Dev nD) (i : grid0.Coords) (arg2 : Memref sig .tc .vmem S1024x1024 .bf16) (harg2 : arg2.IsWhole) (arg3 : Memref sig .tc .vmem S8192x128 .i32) (harg3 : arg3.IsWhole) (arg4 : Memref sig .tc .vmem S1x1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬First i) (hc1 : ¬Even i) (hc2 : ¬Last i) (hc3 : Odd i) (hc4 : ¬Never i)
    (x0 : Vec F S1024x1024 .bf16) (x1 : Vec F S8192x128 .i32) (x2 : Vec F S1x1024x1024 .bf16) (x3 : Vec F S1x1024x1024 .f32) (a : Vec F S1024x1024 .f32) (g : Vec F S1024x1024 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (a) ∗ owns (c : Thread nD τ) arg7 fullShare (g) ∗ (∃ d, owns (c : Thread nD τ) arg8 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay3 a g x3) ∗ (∃ d, owns (c : Thread nD τ) arg7 fullShare d) ∗ owns (c : Thread nD τ) arg8 fullShare (wact 1 (k0_pay4 x0 x2) x1)) -∗ K ⟨⟩))
      ⊢ wp frame (wpE (defs₀ (F := F)) Variants.none c none) E (cc0_peer_dense i arg2 harg2 arg3 harg3 arg4 harg4 arg5 harg5 arg6 harg6 arg7 harg7 arg8 harg8) K := by
  simp only [cc0_peer_dense_eq_skeleton]; unfold cc0_peer_dense_skel
  simp only [k0_part7_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf3
  obtain rfl := harg6.eq_unread hf4
  obtain rfl := harg7.eq_unread hf5
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (store_whole _ off12 _ _ _ _).trans ?_
    exact congr (congr (congrArg k0_pay3 ((load_whole _ off12 _ _).trans (harg6.read_unread _))) ((load_whole _ off12 _ _).trans (harg7.read_unread _))) ((load_whole _ zero3 _ _).trans (harg5.read_unread _))
  isplitl [H5]
  · iexists _, _; isplitr; swap; · iexact H5
    ipureintro; rfl
  iexists _; isplitr; swap; · iexact H6
  ipureintro
  refine read_tiles8 _ _ _ off14 off15 off16 off17 off18 off19 off20 off21 _ _ _ _ _ _ _ _ _ _ _ _ _ _ _ _ ?_ ?_ ?_ ?_ ?_ ?_ ?_ ?_
  all_goals intro x
  · exact tile_cast 1 (congr (congrArg (k0_pay4 (F := F)) ((load_whole _ off12 _ _).trans (harg2.read_unread _))) ((load_whole _ zero3 _ _).trans (harg4.read_unread _))) arg3.view (harg3.read_unread _) (by decide) off14 _ off13_0 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off15 _ off13_1 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off16 _ off13_2 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off17 _ off13_3 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off18 _ off13_4 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off19 _ off13_5 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off20 _ off13_6 rfl _ _ _ _ x
  · exact tile_cast 1 (congr (congrArg (k0_pay4 (F := F)) ((load_whole _ off12 _ _).trans (harg2.read_unread _))) ((load_whole _ zero3 _ _).trans (harg4.read_unread _))) arg3.view (harg3.read_unread _) (by decide) off21 _ off13_7 rfl _ _ _ _ x

end Cert.Proof.Dense

end
-- ==== Proof.RunLast.lean ====
module

public import proofs.«01_k».proof.Proof.RunOdd

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The last step: the sum takes in what the step before left, and nothing is built. -/
theorem run_last (c : Dev nD) (i : grid0.Coords) (arg2 : Memref sig .tc .vmem S1024x1024 .bf16) (harg2 : arg2.IsWhole) (arg3 : Memref sig .tc .vmem S8192x128 .i32) (harg3 : arg3.IsWhole) (arg4 : Memref sig .tc .vmem S1x1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬First i) (hc1 : ¬Even i) (hc2 : Last i) (hc3 : ¬Odd i) (hc4 : ¬Never i)
    (x0 : Vec F S1024x1024 .bf16) (x1 : Vec F S8192x128 .i32) (x2 : Vec F S1x1024x1024 .bf16) (x3 : Vec F S1x1024x1024 .f32) (a : Vec F S1024x1024 .f32) (g : Vec F S1024x1024 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (a) ∗ (∃ d, owns (c : Thread nD τ) arg7 fullShare d) ∗ owns (c : Thread nD τ) arg8 fullShare (g)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay3 a g x3) ∗ (∃ d, owns (c : Thread nD τ) arg7 fullShare d) ∗ (∃ d, owns (c : Thread nD τ) arg8 fullShare d)) -∗ K ⟨⟩))
      ⊢ wp frame (wpE (defs₀ (F := F)) Variants.none c none) E (cc0_peer_dense i arg2 harg2 arg3 harg3 arg4 harg4 arg5 harg5 arg6 harg6 arg7 harg7 arg8 harg8) K := by
  simp only [cc0_peer_dense_eq_skeleton]; unfold cc0_peer_dense_skel
  simp only [k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4
  obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (store_whole _ off11 _ _ _ _).trans ?_
    exact congr (congr (congrArg k0_pay3 ((load_whole _ off11 _ _).trans (harg6.read_unread _))) ((load_whole _ off11 _ _).trans (harg8.read_unread _))) ((load_whole _ zero3 _ _).trans (harg5.read_unread _))
  isplitl [H5]
  · iexists _, _; isplitr; swap; · iexact H5
    ipureintro; rfl
  iexists _, _; isplitr; swap; · iexact H6
  ipureintro; rfl

end Cert.Proof.Dense

end
-- ==== Proof.Run.lean ====
/- The kernel's run at any values: what the result's block holds after every point, the scratch buffers tracked from
   point to point, the body at every point, and the launch. -/
module

public import proofs.«01_k».proof.Proof.RunLast
public import Idealize.ShloMosaic.Lib.Pipeline.TableIdle
public import Idealize.ShloMosaic.Lib.Claim

@[expose] public section

set_option maxRecDepth 16384

noncomputable section

namespace Cert.Proof.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The half of the gate words a point reads. -/
abbrev half (t : Fin cfg0.N) : Fin 2 := if t.val % 17 % 2 = 0 then 0 else 1

/-- The weighted activations built at point `t`. -/
def built (c : Dev nD) (t : Fin cfg0.N) : Vec F S1024x1024 .bf16 :=
  wact (half t) (k0_pay4 (iblk m c 0 t) (iblk m c 2 t)) (iblk m c 1 t)

/-- The result's block after point `n`: restarted from zero every 17 points. -/
def acc (c : Dev nD) : (n : ℕ) → n < cfg0.N → Vec F S1024x1024 .f32
  | 0, h => k0_pay3 k0_pay25 k0_pay26 (iblk m c 3 ⟨0, h⟩)
  | n + 1, h =>
    if (n + 1) % 17 = 0 then k0_pay3 k0_pay25 k0_pay26 (iblk m c 3 ⟨n + 1, h⟩)
    else k0_pay3 (acc c n (Nat.lt_of_succ_lt h)) (built m c ⟨n, Nat.lt_of_succ_lt h⟩) (iblk m c 3 ⟨n + 1, h⟩)

theorem acc_first (c : Dev nD) (t : Fin cfg0.N) (h : t.val % 17 = 0) :
    acc m c t.val t.isLt = k0_pay3 k0_pay25 k0_pay26 (iblk m c 3 t) := by
  obtain ⟨n, hn⟩ := t
  match n, hn, h with
  | 0, _, _ => rw [acc]
  | n + 1, _, h => rw [acc]; exact if_pos h

theorem acc_next (c : Dev nD) (t p : Fin cfg0.N) (hp : p.val + 1 = t.val) (h : t.val % 17 ≠ 0) :
    acc m c t.val t.isLt = k0_pay3 (acc m c p.val p.isLt) (built m c p) (iblk m c 3 t) := by
  obtain ⟨n, hn⟩ := t; obtain ⟨k, hk⟩ := p
  obtain rfl : k + 1 = n := hp
  rw [acc]; exact if_neg h

/-- The scratch buffers before point `p`: of the two, the one the point before filled holds what it built. -/
def Track (c : Dev nD) (p : ℕ) : sProp 𝕄 :=
  iprop(((∃ d, ⌜∀ t : Fin cfg0.N, t.val + 1 = p → t.val % 17 % 2 = 0 → t.val % 17 < 16 → d = built m c t⌝ ∗ owns (c : Thread nD τ) g0 fullShare d)
      ∗ (∃ d, ⌜∀ t : Fin cfg0.N, t.val + 1 = p → t.val % 17 % 2 = 1 → d = built m c t⌝ ∗ owns (c : Thread nD τ) g1 fullShare d))
    ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ p := Track m c p.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Within a block's 17 points the result's buffer still holds what the point before left. -/
theorem before_4 (c : Dev nD) (t p : Fin cfg0.N) (hp : p.val + 1 = t.val) (h : t.val % 17 ≠ 0) (d) :
    (dats m 0 c).before 4 t d = acc m c p.val p.isLt := by
  have hnf : (cfg0.win 4).flush p = false := by
    rw [Bool.eq_false_iff]; intro hf; have := (flush0_4 p).mp hf; omega
  have hpe : (⟨t.val - 1, by omega⟩ : Fin cfg0.N) = p := Fin.ext (by show t.val - 1 = p.val; omega)
  rw [(dats m 0 c).before_out_traj 4 rfl (fun _ _ => rfl)
    (fun t' _ hi _ => by rw [live_out t'] at hi; exact absurd hi Bool.false_ne_true) t.val t rfl d]
  have hfr : cfg0.fresh 4 t.val = false := by
    rw [← hp, cfg0.fresh_succ 4 p.val p.isLt, live_out p, hnf]; rfl
  rw [hfr, if_neg Bool.false_ne_true, hpe, after_4]

/-! ## The body at a point -/

theorem phi_eq (c : Dev nD) :
    (Pipeline.ΦA spec0 c : sProp 𝕄)
      = iprop(iprop((∃ d, owns (c : Thread nD τ) g0 fullShare d) ∗ (∃ d, owns (c : Thread nD τ) g1 fullShare d)) ∗ (∃ r, prngReg c r)) := by
  unfold Pipeline.ΦA; rw [scopedRest0_eq]; simp only [g0, g1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The postcondition with its parts spelled out. -/
theorem bodyPost_eq (c : Dev nD) (t : Fin cfg0.N) : bodyPost m c t
    = iprop(Track m c (t.val + 1) ∗ (dats m 0 c).owesAt () t.castSucc
      ∗ owns (c : Thread nD τ) (st0 t) fullShare (iblk m c 0 t)
      ∗ owns (c : Thread nD τ) (st1 t) fullShare (iblk m c 1 t)
      ∗ owns (c : Thread nD τ) (st2 t) fullShare (iblk m c 2 t)
      ∗ owns (c : Thread nD τ) (st3 t) fullShare (iblk m c 3 t)
      ∗ owns (c : Thread nD τ) (st4 t) fullShare (acc m c t.val t.isLt)) := by
  unfold bodyPost
  rw [← after_0 m c t, ← after_1 m c t, ← after_2 m c t, ← after_3 m c t, ← after_4 m c t,
    show (dats m 0 c).leavesExact 4 t = owns (c : Thread nD τ) (st4 t) fullShare ((dats m 0 c).after 4 t) from by
      unfold Dat.leavesExact; rw [live_out t]]
  rfl

set_option maxHeartbeats 1000000 in
/-- A block's first point. -/
theorem body_first (c : Dev nD) (t : Fin cfg0.N) (h : t.val % 17 = 0) :
    bodyPre m c t ⊢ wp frame (wpE (defs₀ (F := F)) Variants.none c none) Set.univ (bodyAt0 t) (fun _ => bodyPost m c t) := by
  have hodd : ¬(t.val % 17 % 2 = 0 ∧ t.val % 17 < 16) ∨ ¬(t.val % 17 % 2 = 1) := by omega
  rw [bodyPost_eq]
  unfold bodyPre bodyAt0
  rw [acc_first m c t h]
  simp only [before_0, before_1, before_2, before_3]
  rw [show (dats m 0 c).Φ t.castSucc = Track m c t.val from rfl]
  unfold Track
  iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
  iapply (run_first c (grid0.coords t) _ (hst0 t) _ (hst1 t) _ (hst2 t) _ (hst3 t) _ (hst4 t) _ (Memref.isWhole_whole _) _ (Memref.isWhole_whole _) ((first_iff t).mpr h) ((even_iff t).mpr (by omega)) (fun h => absurd ((last_iff t).mp h) (by omega)) (fun h => absurd ((odd_iff t).mp h) (by omega)) (not_never t) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexists _; iexact HS0
  isplitl [HS1]; · iexists _; iexact HS1
  iintro ⟨H0, H1, H2, H3, H4, HS0, ⟨%e1, HS1⟩⟩
  isplitl [HS0 HS1 Hg]
  · isplitl [HS0 HS1]
    · isplitl [HS0]
      · iexists _; isplitr; swap; · iexact HS0
        ipureintro; intro t' ht' h0 h1
        obtain rfl : t' = t := Fin.ext (by omega)
        unfold built; rw [show half t' = 0 from if_pos h0]
      iexists _; isplitr; swap; · iexact HS1
      ipureintro; intro t' ht' h0; exfalso; omega
    iexact Hg
  isplitl [Ho]; · iexact Ho
  isplitl [H0]; · iexact H0
  isplitl [H1]; · iexact H1
  isplitl [H2]; · iexact H2
  isplitl [H3]; · iexact H3
  iexact H4

set_option maxHeartbeats 1000000 in
/-- A later even point. -/
theorem body_even (c : Dev nD) (t : Fin cfg0.N) (h : t.val % 17 ≠ 0 ∧ t.val % 17 % 2 = 0 ∧ t.val % 17 < 16) :
    bodyPre m c t ⊢ wp frame (wpE (defs₀ (F := F)) Variants.none c none) Set.univ (bodyAt0 t) (fun _ => bodyPost m c t) := by
  have hodd : ¬(t.val % 17 % 2 = 0 ∧ t.val % 17 < 16) ∨ ¬(t.val % 17 % 2 = 1) := by omega
  obtain ⟨p, hp⟩ : ∃ p : Fin cfg0.N, p.val + 1 = t.val := ⟨⟨t.val - 1, by have := t.isLt; omega⟩, by show t.val - 1 + 1 = _; omega⟩
  rw [bodyPost_eq]
  unfold bodyPre bodyAt0
  rw [acc_next m c t p hp (by omega)]
  simp only [before_0, before_1, before_2, before_3]
  simp only [before_4 m c t p hp (by omega)]
  rw [show (dats m 0 c).Φ t.castSucc = Track m c t.val from rfl]
  unfold Track
  iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
  obtain rfl := hs1 p hp (by omega)
  iapply (run_even c (grid0.coords t) _ (hst0 t) _ (hst1 t) _ (hst2 t) _ (hst3 t) _ (hst4 t) _ (Memref.isWhole_whole _) _ (Memref.isWhole_whole _) (fun h => absurd ((first_iff t).mp h) (by omega)) ((even_iff t).mpr (by omega)) (fun h => absurd ((last_iff t).mp h) (by omega)) (fun h => absurd ((odd_iff t).mp h) (by omega)) (not_never t) (iblk m c 0 t) (iblk m c 1 t) (iblk m c 2 t) (iblk m c 3 t) (acc m c p.val p.isLt) (built m c p) Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, HS0, ⟨%e1, HS1⟩⟩
  isplitl [HS0 HS1 Hg]
  · isplitl [HS0 HS1]
    · isplitl [HS0]
      · iexists _; isplitr; swap; · iexact HS0
        ipureintro; intro t' ht' h0 h1
        obtain rfl : t' = t := Fin.ext (by omega)
        unfold built; rw [show half t' = 0 from if_pos h0]
      iexists _; isplitr; swap; · iexact HS1
      ipureintro; intro t' ht' h0; exfalso; omega
    iexact Hg
  isplitl [Ho]; · iexact Ho
  isplitl [H0]; · iexact H0
  isplitl [H1]; · iexact H1
  isplitl [H2]; · iexact H2
  isplitl [H3]; · iexact H3
  iexact H4

set_option maxHeartbeats 1000000 in
/-- An odd point. -/
theorem body_odd (c : Dev nD) (t : Fin cfg0.N) (h : t.val % 17 % 2 = 1) :
    bodyPre m c t ⊢ wp frame (wpE (defs₀ (F := F)) Variants.none c none) Set.univ (bodyAt0 t) (fun _ => bodyPost m c t) := by
  have hodd : ¬(t.val % 17 % 2 = 0 ∧ t.val % 17 < 16) ∨ ¬(t.val % 17 % 2 = 1) := by omega
  obtain ⟨p, hp⟩ : ∃ p : Fin cfg0.N, p.val + 1 = t.val := ⟨⟨t.val - 1, by have := t.isLt; omega⟩, by show t.val - 1 + 1 = _; omega⟩
  rw [bodyPost_eq]
  unfold bodyPre bodyAt0
  rw [acc_next m c t p hp (by omega)]
  simp only [before_0, before_1, before_2, before_3]
  simp only [before_4 m c t p hp (by omega)]
  rw [show (dats m 0 c).Φ t.castSucc = Track m c t.val from rfl]
  unfold Track
  iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
  obtain rfl := hs0 p hp (by omega) (by omega)
  iapply (run_odd c (grid0.coords t) _ (hst0 t) _ (hst1 t) _ (hst2 t) _ (hst3 t) _ (hst4 t) _ (Memref.isWhole_whole _) _ (Memref.isWhole_whole _) (fun h => absurd ((first_iff t).mp h) (by omega)) (fun h => absurd ((even_iff t).mp h) (by omega)) (fun h => absurd ((last_iff t).mp h) (by omega)) ((odd_iff t).mpr (by omega)) (not_never t) (iblk m c 0 t) (iblk m c 1 t) (iblk m c 2 t) (iblk m c 3 t) (acc m c p.val p.isLt) (built m c p) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexists _; iexact HS1
  iintro ⟨H0, H1, H2, H3, H4, ⟨%e0, HS0⟩, HS1⟩
  isplitl [HS0 HS1 Hg]
  · isplitl [HS0 HS1]
    · isplitl [HS0]
      · iexists _; isplitr; swap; · iexact HS0
        ipureintro; intro t' ht' h0 h1; exfalso; omega
      iexists _; isplitr; swap; · iexact HS1
      ipureintro; intro t' ht' h0
      obtain rfl : t' = t := Fin.ext (by omega)
      unfold built; rw [show half t' = 1 from if_neg (by omega)]
    iexact Hg
  isplitl [Ho]; · iexact Ho
  isplitl [H0]; · iexact H0
  isplitl [H1]; · iexact H1
  isplitl [H2]; · iexact H2
  isplitl [H3]; · iexact H3
  iexact H4

set_option maxHeartbeats 1000000 in
/-- A block's last point. -/
theorem body_last (c : Dev nD) (t : Fin cfg0.N) (h : t.val % 17 = 16) :
    bodyPre m c t ⊢ wp frame (wpE (defs₀ (F := F)) Variants.none c none) Set.univ (bodyAt0 t) (fun _ => bodyPost m c t) := by
  have hodd : ¬(t.val % 17 % 2 = 0 ∧ t.val % 17 < 16) ∨ ¬(t.val % 17 % 2 = 1) := by omega
  obtain ⟨p, hp⟩ : ∃ p : Fin cfg0.N, p.val + 1 = t.val := ⟨⟨t.val - 1, by have := t.isLt; omega⟩, by show t.val - 1 + 1 = _; omega⟩
  rw [bodyPost_eq]
  unfold bodyPre bodyAt0
  rw [acc_next m c t p hp (by omega)]
  simp only [before_0, before_1, before_2, before_3]
  simp only [before_4 m c t p hp (by omega)]
  rw [show (dats m 0 c).Φ t.castSucc = Track m c t.val from rfl]
  unfold Track
  iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩⟩
  obtain rfl := hs1 p hp (by omega)
  iapply (run_last c (grid0.coords t) _ (hst0 t) _ (hst1 t) _ (hst2 t) _ (hst3 t) _ (hst4 t) _ (Memref.isWhole_whole _) _ (Memref.isWhole_whole _) (fun h => absurd ((first_iff t).mp h) (by omega)) (fun h => absurd ((even_iff t).mp h) (by omega)) ((last_iff t).mpr (by omega)) (fun h => absurd ((odd_iff t).mp h) (by omega)) (not_never t) (iblk m c 0 t) (iblk m c 1 t) (iblk m c 2 t) (iblk m c 3 t) (acc m c p.val p.isLt) (built m c p) Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexact HS1
  iintro ⟨H0, H1, H2, H3, H4, ⟨%e0, HS0⟩, ⟨%e1, HS1⟩⟩
  isplitl [HS0 HS1 Hg]
  · isplitl [HS0 HS1]
    · isplitl [HS0]
      · iexists _; isplitr; swap; · iexact HS0
        ipureintro; intro t' ht' h0 h1; exfalso; omega
      iexists _; isplitr; swap; · iexact HS1
      ipureintro; intro t' ht' h0; exfalso; omega
    iexact Hg
  isplitl [Ho]; · iexact Ho
  isplitl [H0]; · iexact H0
  isplitl [H1]; · iexact H1
  isplitl [H2]; · iexact H2
  isplitl [H3]; · iexact H3
  iexact H4

theorem sound_body (c : Dev nD) (t : Fin cfg0.N) :
    bodyPre m c t ⊢ wp frame (wpE (defs₀ (F := F)) Variants.none c none) Set.univ (bodyAt0 t) (fun _ => bodyPost m c t) := by
  by_cases h0 : t.val % 17 = 0
  · exact body_first m c t h0
  by_cases h1 : t.val % 17 % 2 = 1
  · exact body_odd m c t h1
  by_cases h2 : t.val % 17 = 16
  · exact body_last m c t h2
  exact body_even m c t ⟨h0, by omega, by omega⟩

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- Before the first point the scratch buffers may hold anything. -/
theorem track_in (c : Dev nD) : (Pipeline.ΦA spec0 c : sProp 𝕄) ⊢ (dats m 0 c).Φ 0 := by
  rw [phi_eq, show (dats m 0 c).Φ 0 = Track m c 0 from rfl]
  unfold Track
  iintro ⟨⟨⟨%d0, H0⟩, ⟨%d1, H1⟩⟩, Hg⟩
  isplitl [H0 H1]
  · isplitl [H0]
    · iexists _; isplitr; swap; · iexact H0
      ipureintro; intro t ht; exact absurd ht (Nat.succ_ne_zero _)
    iexists _; isplitr; swap; · iexact H1
    ipureintro; intro t ht; exact absurd ht (Nat.succ_ne_zero _)
  iexact Hg

/-- After the last one what they hold is forgotten. -/
theorem track_out (c : Dev nD) : (dats m 0 c).Φ (Fin.last cfg0.N) ⊢ (Pipeline.ΦA spec0 c : sProp 𝕄) := by
  rw [phi_eq, show (dats m 0 c).Φ (Fin.last cfg0.N) = Track m c cfg0.N from rfl]
  unfold Track
  iintro ⟨⟨⟨%d0, -, H0⟩, ⟨%d1, -, H1⟩⟩, Hg⟩
  isplitl [H0 H1]
  · isplitl [H0]
    · iexists _; iexact H0
    iexists _; iexact H1
  iexact Hg

set_option backward.isDefEq.respectTransparency.types false in
/-- Every execution ends with the arrays as the proof data says and all counters at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := track_in m) (hout := track_out m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The result array ends as the proof data's. -/
theorem result : θ_run defs (onTc (τ := τ) (main (F := F))) ⟨m, fun _ => 0, ρ⟩ (fun r => ∀ c : Dev nD,
      r.2.mem ((c.tc : Thread nD τ).loc main_v6) = (dats m 0 c).arrAt 4 cfg0.N) :=
  (θ_run defs _ _).mono (fun _ h c => (h c).1 4) (run_main m ρ)

end Cert.Proof.Dense

end
-- ==== Proof.Spec.lean ====
/- The expert sum, in extended reals, over the four arrays: tokens, packed gate words, and the two expert tables. -/
module

public import Idealize.ShloMosaic.PureOps.Ideal
public import Idealize.ShloMosaic.Lib.ValueIdxCore

@[expose] public section

noncomputable section

namespace Cert.Proof.Dense

open Idealize.ShloMosaic Idealize.ShloMosaic.ValueIdx
open scoped BigOperators

variable (x : (⟨2, ![16384, 1024]⟩ : Shape).Idx → EReal) (w : (⟨4, ![8, 16384, 8, 128]⟩ : Shape).Idx → BitVec 32)
  (u v : (⟨3, ![2, 16384, 1024]⟩ : Shape).Idx → EReal)

/-- The exact `gelu`: `d/2 · (1 + erf (d/√2))`. -/
def gelu (d : EReal) : EReal :=
  (Ideal.ofBits .f32 0x3F000000#32 * d) * (Ideal.ofBits .f32 0x3F800000#32 + Ideal.erf (d * (((Real.sqrt 2)⁻¹ : ℝ) : EReal)))

/-- The gate of expert `E` for token `n`: sixteen bits of one word, read as a half-width float. -/
def gate (n E : Fin 16384) : EReal :=
  Ideal.ofBits .bf16 ((w (ix4 ⟨E.val / 2048, by omega⟩ n ⟨E.val / 128 % 8, by omega⟩ ⟨E.val % 128, by omega⟩)).extractLsb' (E.val / 1024 % 2 * 16) 16)

/-- Expert `E`'s score of token `n`. -/
def score (n E : Fin 16384) : EReal := ∑ q : Fin 1024, x (ix2 n q) * u (ix3 1 E q)

/-- Expert `E`'s weight in token `n`'s sum. -/
def weight (n E : Fin 16384) : EReal := gate w n E * gelu (score x u n E)

/-- The sum over all experts. -/
def expertSum (n : Fin 16384) (k : Fin 1024) : EReal := ∑ E : Fin 16384, weight x w u n E * v (ix3 1 E k)

/-- The same summand at a natural number, zero past the last expert. -/
def part (n : Fin 16384) (k : Fin 1024) (E : ℕ) : EReal :=
  if h : E < 16384 then weight x w u n ⟨E, h⟩ * v (ix3 1 ⟨E, h⟩ k) else 0

theorem sum_part (n : Fin 16384) (k : Fin 1024) : ∑ E ∈ Finset.range 16384, part x w u v n k E = expertSum x w u v n k := by
  rw [Finset.sum_range]
  exact Finset.sum_congr rfl fun E _ => dif_pos E.isLt

/-- One more block of 1024 experts. -/
theorem sum_part_block (n : Fin 16384) (k : Fin 1024) (e : ℕ) (he : e < 16) :
    ∑ E ∈ Finset.range (1024 * (e + 1)), part x w u v n k E
      = ∑ E ∈ Finset.range (1024 * e), part x w u v n k E
        + ∑ j : Fin 1024, weight x w u n ⟨1024 * e + j.val, by omega⟩ * v (ix3 1 ⟨1024 * e + j.val, by omega⟩ k) := by
  rw [Nat.mul_add, Nat.mul_one, Finset.sum_range_add]
  congr 1
  rw [Finset.sum_range]
  exact Finset.sum_congr rfl fun j _ => dif_pos (by omega)

end Cert.Proof.Dense

end
-- ==== Proof.Blocks.lean ====
/- What each window's block holds at a point, element by element, from the argument arrays. -/
module

public import proofs.«01_k».proof.Proof.Run
public import proofs.«01_k».proof.Proof.Spec
public import Idealize.ShloMosaic.Lib.Pipeline.Value
public import Idealize.ShloMosaic.Lib.StableHlo.Run

@[expose] public section

set_option maxRecDepth 16384

noncomputable section

namespace Cert.Proof.Dense

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

/-! ## The block indices -/

theorem at0 : ∀ t : Fin cfg0.N, win0_0.index t 0 = t.val / 17 ∧ win0_0.index t 1 = 0 :=
  (by decide +kernel : ∀ t : Fin grid0.N, win0_0.index t 0 = t.val / 17 ∧ win0_0.index t 1 = 0)
theorem at1 : ∀ t : Fin cfg0.N, win0_1.index t 0 = min (t.val % 17) 15 / 2 * 16 + t.val / 17 ∧ win0_1.index t 1 = 0 :=
  (by decide +kernel : ∀ t : Fin grid0.N, win0_1.index t 0 = min (t.val % 17) 15 / 2 * 16 + t.val / 17 ∧ win0_1.index t 1 = 0)
theorem at2 : ∀ t : Fin cfg0.N, win0_2.index t 0 = min (t.val % 17) 15 ∧ win0_2.index t 1 = 0 ∧ win0_2.index t 2 = 0 :=
  (by decide +kernel : ∀ t : Fin grid0.N, win0_2.index t 0 = min (t.val % 17) 15 ∧ win0_2.index t 1 = 0 ∧ win0_2.index t 2 = 0)
theorem at3 : ∀ t : Fin cfg0.N, win0_3.index t 0 = 1 ∧ win0_3.index t 1 = t.val % 17 - 1 ∧ win0_3.index t 2 = 0 :=
  (by decide +kernel : ∀ t : Fin grid0.N, win0_3.index t 0 = 1 ∧ win0_3.index t 1 = t.val % 17 - 1 ∧ win0_3.index t 2 = 0)
theorem at4 : ∀ t : Fin cfg0.N, win0_4.index t 0 = t.val / 17 ∧ win0_4.index t 1 = 0 :=
  (by decide +kernel : ∀ t : Fin grid0.N, win0_4.index t 0 = t.val / 17 ∧ win0_4.index t 1 = 0)

/-! ## The arrays the host prepares -/

theorem V_words (c : Dev nD) : V m c main_v0
    = shapeCast S1048576x128 (m ((c : Thread nD τ).loc main_arg1)) shapeCasts_S8x16384x8x128_S1048576x128 := by
  unfold V; after_results <;> rfl

theorem V_up (c : Dev nD) : V m c main_v5
    = truncf .bf16 (transpose S16x1024x1024 [0, 2, 1] (shapeCast S16x1024x1024 (shapeCast S16384x1024
        (extractStridedSlice S1x16384x1024 ![1, 0, 0] (m ((c : Thread nD τ).loc main_arg2)) slices_S2x16384x1024_S1x16384x1024_1_0_0)
        shapeCasts_S1x16384x1024_S16384x1024) shapeCasts_S16384x1024_S16x1024x1024) transposes_S16x1024x1024_S16x1024x1024_0_2_1) bitsLt_bf16_f32 := by
  unfold V; after_results <;> rfl

/-! ## The blocks -/

theorem read0 (c : Dev nD) (t : Fin cfg0.N) (r q : Fin 1024) (h : 1024 * (t.val / 17) + r.val < 16384) :
    (iblk m c 0 t : Vec F S1024x1024 .bf16) (ix2 r q)
      = (m ((c : Thread nD τ).loc main_arg0) : Vec F S16384x1024 .bf16) (ix2 ⟨1024 * (t.val / 17) + r.val, h⟩ q) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 17) + r.val; rw [(at0 t).1]; omega
  | ⟨1, _⟩ => show win0_0.index t 1 * 1024 + 1 * q.val = q.val; rw [(at0 t).2]; omega

theorem read1 (c : Dev nD) (t : Fin cfg0.N) (r : Fin 8192) (l : Fin 128) (h : 8192 * (min (t.val % 17) 15 / 2 * 16 + t.val / 17) + r.val < 1048576) :
    (iblk m c 1 t : Vec F S8192x128 .i32) (ix2 r l)
      = (V m c main_v0 : Vec F S1048576x128 .i32) (ix2 ⟨8192 * (min (t.val % 17) 15 / 2 * 16 + t.val / 17) + r.val, h⟩ l) := by
  unfold iblk
  rw [View.read_apply]
  show V m c main_v0 _ = _
  congr 1
  funext a
  apply Fin.ext
  match a with
  | ⟨0, _⟩ => show win0_1.index t 0 * 8192 + 1 * r.val = 8192 * (min (t.val % 17) 15 / 2 * 16 + t.val / 17) + r.val; rw [(at1 t).1]; omega
  | ⟨1, _⟩ => show win0_1.index t 1 * 128 + 1 * l.val = l.val; rw [(at1 t).2]; omega

theorem read2 (c : Dev nD) (t : Fin cfg0.N) (q j : Fin 1024) (h : min (t.val % 17) 15 < 16) :
    (iblk m c 2 t : Vec F S1x1024x1024 .bf16) (ix3 0 q j)
      = (V m c main_v5 : Vec F S16x1024x1024 .bf16) (ix3 ⟨min (t.val % 17) 15, h⟩ q j) := by
  unfold iblk
  rw [View.read_apply]
  show V m c main_v5 _ = _
  congr 1
  funext a
  apply Fin.ext
  match a with
  | ⟨0, _⟩ => show win0_2.index t 0 * 1 + 1 * 0 = min (t.val % 17) 15; rw [(at2 t).1]; omega
  | ⟨1, _⟩ => show win0_2.index t 1 * 1024 + 1 * q.val = q.val; rw [(at2 t).2.1]; omega
  | ⟨2, _⟩ => show win0_2.index t 2 * 1024 + 1 * j.val = j.val; rw [(at2 t).2.2]; omega

theorem read3 (c : Dev nD) (t : Fin cfg0.N) (j k : Fin 1024) (h : 1024 * (t.val % 17 - 1) + j.val < 16384) :
    (iblk m c 3 t : Vec F S1x1024x1024 .f32) (ix3 0 j k)
      = (m ((c : Thread nD τ).loc main_arg3) : Vec F S2x16384x1024 .f32) (ix3 1 ⟨1024 * (t.val % 17 - 1) + j.val, h⟩ k) := by
  unfold iblk
  rw [View.read_apply]
  show V m c main_arg3 _ = _
  rw [V_main_arg3]
  congr 1
  funext a
  apply Fin.ext
  match a with
  | ⟨0, _⟩ => show win0_3.index t 0 * 1 + 1 * 0 = 1; rw [(at3 t).1]
  | ⟨1, _⟩ => show win0_3.index t 1 * 1024 + 1 * j.val = 1024 * (t.val % 17 - 1) + j.val; rw [(at3 t).2.1]; omega
  | ⟨2, _⟩ => show win0_3.index t 2 * 1024 + 1 * k.val = k.val; rw [(at3 t).2.2]; omega

/-- A gate word of the reshaped array is the argument's. -/
theorem words_apply (c : Dev nD) (p : Fin 8) (n : Fin 16384) (s : Fin 8) (l : Fin 128) (h : 131072 * p.val + 8 * n.val + s.val < 1048576) :
    (V m c main_v0 : Vec F S1048576x128 .i32) (ix2 ⟨131072 * p.val + 8 * n.val + s.val, h⟩ l)
      = (m ((c : Thread nD τ).loc main_arg1) : Vec F S8x16384x8x128 .i32) (ix4 p n s l) := by
  rw [V_words]
  refine shapeCast_apply _ _ _ (ix4 p n s l) ?_
  rewrite [Shape.rowMajor_val_four, Shape.rowMajor_val_two]
  show ((p.val * 16384 + n.val) * 8 + s.val) * 128 + l.val = (131072 * p.val + 8 * n.val + s.val) * 128 + l.val
  omega

end Cert.Proof.Dense

end
-- ==== Proof.Value.lean ====
/- What the kernel leaves in its result, at the extended reals: the expert sum. -/
module

public import proofs.«01_k».proof.Proof.Blocks
public import Idealize.ShloMosaic.Lib.MatmulPlain
public import Idealize.ShloMosaic.Lib.Pipeline.ValueKit
public import Idealize.ShloMosaic.PureOps.Ideal.Laws

@[expose] public section

set_option maxRecDepth 16384

noncomputable section

namespace Cert.Proof.Dense

open Cert.KernelIdeal Cert.KernelIdeal.Gen
open Idealize.ShloMosaic hiding ix2 ix3 ix4 eq_ix2
open Idealize.ShloMosaic.TcCoe Idealize.ShloMosaic.ValueIdx
open scoped BigOperators

variable (m : (ℓ : Loc nD τ sig) → Buf (Elt Ideal) ℓ)

theorem up_apply (c : Dev nD) (e : Fin 16) (q j : Fin 1024) (h : 1024 * e.val + j.val < 16384) :
    (V m c main_v5 : Vec Ideal S16x1024x1024 .bf16) (ix3 e q j)
      = (m ((c : Thread nD τ).loc main_arg2) : Vec Ideal S2x16384x1024 .f32) (ix3 1 ⟨1024 * e.val + j.val, h⟩ q) := by
  rw [V_up]
  refine Eq.trans (b := transpose S16x1024x1024 [0, 2, 1] (shapeCast S16x1024x1024 (shapeCast S16384x1024
        (extractStridedSlice S1x16384x1024 ![1, 0, 0] (m ((c : Thread nD τ).loc main_arg2)) slices_S2x16384x1024_S1x16384x1024_1_0_0)
        shapeCasts_S1x16384x1024_S16384x1024) shapeCasts_S16384x1024_S16x1024x1024) transposes_S16x1024x1024_S16x1024x1024_0_2_1 (ix3 e q j)) rfl ?_
  rw [transpose_apply [0, 2, 1] _ transposes_S16x1024x1024_S16x1024x1024_0_2_1 (ix3 e q j) (ix3 e j q)
      (fun b => match b with | ⟨0, _⟩ => rfl | ⟨1, _⟩ => rfl | ⟨2, _⟩ => rfl),
    shapeCast_apply _ _ (ix3 e j q) (ix2 ⟨1024 * e.val + j.val, h⟩ q) (by
      rewrite [Shape.rowMajor_val_three, Shape.rowMajor_val_two]
      show (1024 * e.val + j.val) * 1024 + q.val = (e.val * 1024 + j.val) * 1024 + q.val
      omega),
    shapeCast_apply _ _ (ix2 ⟨1024 * e.val + j.val, h⟩ q) (ix3 0 ⟨1024 * e.val + j.val, h⟩ q) (by
      rewrite [Shape.rowMajor_val_three, Shape.rowMajor_val_two]
      show (0 * 16384 + (1024 * e.val + j.val)) * 1024 + q.val = (1024 * e.val + j.val) * 1024 + q.val
      omega)]
  exact extractStridedSlice_apply ![1, 0, 0] _ _ _ (ix3 1 ⟨1024 * e.val + j.val, h⟩ q) (fun a => match a with
    | ⟨0, _⟩ => rfl
    | ⟨1, _⟩ => by show 1024 * e.val + j.val = 0 + (1024 * e.val + j.val); omega
    | ⟨2, _⟩ => by show q.val = 0 + q.val; omega)

/-! ## The step's arithmetic, at one element -/

theorem zero_f32 : Ideal.ofBits .f32 0x00000000#32 = 0 := by simp [Ideal.ofBits, Ideal.ieee]
theorem zero_bf16 : Ideal.ofBits .bf16 0x0000#16 = 0 := by simp [Ideal.ofBits, Ideal.ieee]

theorem prod_apply (a b : FVec Ideal S1024x1024 .bf16) (r k : Fin 1024) :
    matmul dot_S1024x1024_S1024x1024_S1024x1024_1_0_0_1_n_n none a b (constant (F := Ideal) S1024x1024 .f32 0x00000000#32) (ix2 r k)
      = ∑ j : Fin 1024, a (ix2 r j) * b (ix2 j k) := by
  refine (Ideal.matmul_plain_apply (M := 1024) (K := 1024) (N := 1024) none a b _ r k).trans ?_
  show Ideal.ofBits .f32 0x00000000#32 + _ = _
  rw [zero_f32, zero_add]

theorem flat_apply {φ : EltTy} (v : Vec Ideal S1x1024x1024 φ) (h) (j k : Fin 1024) :
    shapeCast S1024x1024 v h (ix2 j k) = v (ix3 0 j k) :=
  shapeCast_apply v h _ _ (by
    rewrite [Shape.rowMajor_val_three, Shape.rowMajor_val_two]
    show (0 * 1024 + j.val) * 1024 + k.val = j.val * 1024 + k.val
    omega)

theorem step_apply (a : Vec Ideal S1024x1024 .f32) (b : Vec Ideal S1024x1024 .bf16) (v : Vec Ideal S1x1024x1024 .f32) (r k : Fin 1024) :
    k0_pay3 (F := Ideal) a b v (ix2 r k) = a (ix2 r k) + ∑ j : Fin 1024, b (ix2 r j) * v (ix3 0 j k) := by
  unfold k0_pay3
  simp only [shapeCast_self]
  show _ + matmul _ none _ _ _ _ = _
  rw [prod_apply]
  congr 1
  refine Finset.sum_congr rfl fun j _ => ?_
  congr 1
  exact flat_apply v _ j k

theorem act_apply (x : Vec Ideal S1024x1024 .bf16) (u : Vec Ideal S1x1024x1024 .bf16) (r j : Fin 1024) :
    k0_pay4 (F := Ideal) x u (ix2 r j) = gelu (∑ q : Fin 1024, x (ix2 r q) * u (ix3 0 q j)) := by
  have hd : matmul (φ₁ := .bf16) (φ₂ := .bf16) dot_S1024x1024_S1024x1024_S1024x1024_1_0_0_1_n_n none (x : FVec Ideal S1024x1024 .bf16) (shapeCast S1024x1024 u shapeCasts_S1x1024x1024_S1024x1024 : FVec Ideal S1024x1024 .bf16)
      (constant (F := Ideal) S1024x1024 .f32 0x00000000#32) (ix2 r j) = ∑ q : Fin 1024, x (ix2 r q) * u (ix3 0 q j) := by
    rw [prod_apply]
    exact Finset.sum_congr rfl fun q _ => by rw [flat_apply]
  rw [← hd]
  unfold k0_pay4 gelu
  have hk : Named.named (F := Ideal) (φ := .f32) κ "rsqrt_2" 0x3F3504F3#32 = (((Real.sqrt 2)⁻¹ : ℝ) : EReal) :=
    IdealRules.named_const.ideal_named_scalar _ _ _ _ rfl
  rw [← hk]
  rfl

theorem built_apply (c : Dev nD) (t : Fin cfg0.N) (i : ℕ) (e : ℕ) (he : e < 16) (ht : t.val = 17 * i + e) (hi : i < 16) (r j : Fin 1024) :
    built m c t (ix2 r j) = weight (m ((c : Thread nD τ).loc main_arg0)) (m ((c : Thread nD τ).loc main_arg1))
      (m ((c : Thread nD τ).loc main_arg2)) ⟨1024 * i + r.val, by omega⟩ ⟨1024 * e + j.val, by omega⟩ := by
  have hr := r.isLt; have hj := j.isLt
  have h17 : t.val / 17 = i := by omega
  have hm17 : t.val % 17 = e := by omega
  have hact : k0_pay4 (F := Ideal) (iblk m c 0 t) (iblk m c 2 t) (ix2 r j)
      = gelu (score (m ((c : Thread nD τ).loc main_arg0)) (m ((c : Thread nD τ).loc main_arg2)) ⟨1024 * i + r.val, by omega⟩ ⟨1024 * e + j.val, by omega⟩) := by
    rw [act_apply]
    unfold score
    congr 1
    refine Finset.sum_congr rfl fun q _ => ?_
    rw [read0 m c t r q (by omega), read2 m c t q j (by omega), up_apply m c _ q j (by show 1024 * min (t.val % 17) 15 + j.val < 16384; omega)]
    have e1 : (⟨1024 * (t.val / 17) + r.val, by omega⟩ : Fin 16384) = ⟨1024 * i + r.val, by omega⟩ := Fin.ext (by show 1024 * (t.val / 17) + r.val = 1024 * i + r.val; omega)
    have e2 : (⟨1024 * min (t.val % 17) 15 + j.val, by omega⟩ : Fin 16384) = ⟨1024 * e + j.val, by omega⟩ := Fin.ext (by show 1024 * min (t.val % 17) 15 + j.val = 1024 * e + j.val; omega)
    exact congrArg₂ (fun (a b : EReal) => a * b)
      (congrArg (fun z => (m ((c : Thread nD τ).loc main_arg0) : Vec Ideal S16384x1024 .bf16) (ix2 z q)) e1)
      (congrArg (fun z => (m ((c : Thread nD τ).loc main_arg2) : Vec Ideal S2x16384x1024 .f32) (ix3 1 z q)) e2)
  have hword : gateWord (F := Ideal) (iblk m c 1 t) (ix2 r j)
      = (m ((c : Thread nD τ).loc main_arg1) : Vec Ideal S8x16384x8x128 .i32)
        (ix4 ⟨(1024 * e + j.val) / 2048, by omega⟩ ⟨1024 * i + r.val, by omega⟩ ⟨(1024 * e + j.val) / 128 % 8, by omega⟩ ⟨(1024 * e + j.val) % 128, by omega⟩) := by
    unfold gateWord
    refine (read1 m c t ⟨8 * r.val + j.val / 128, by omega⟩ ⟨j.val % 128, by omega⟩ (by show 8192 * _ + (8 * r.val + j.val / 128) < _; omega)).trans ?_
    rw [← words_apply m c ⟨(1024 * e + j.val) / 2048, by omega⟩ ⟨1024 * i + r.val, by omega⟩ ⟨(1024 * e + j.val) / 128 % 8, by omega⟩ ⟨(1024 * e + j.val) % 128, by omega⟩
      (by show 131072 * ((1024 * e + j.val) / 2048) + 8 * (1024 * i + r.val) + (1024 * e + j.val) / 128 % 8 < 1048576; omega)]
    congr 1
    funext a
    apply Fin.ext
    match a with
    | ⟨0, _⟩ =>
      show 8192 * (min (t.val % 17) 15 / 2 * 16 + t.val / 17) + (8 * r.val + j.val / 128)
        = 131072 * ((1024 * e + j.val) / 2048) + 8 * (1024 * i + r.val) + (1024 * e + j.val) / 128 % 8
      omega
    | ⟨1, _⟩ => show j.val % 128 = (1024 * e + j.val) % 128; omega
  unfold built wact weight
  show Ideal.ofBits .bf16 ((gateWord (F := Ideal) (iblk m c 1 t) (ix2 r j)).extractLsb' ((half t).val * 16) 16) * k0_pay4 (F := Ideal) (iblk m c 0 t) (iblk m c 2 t) (ix2 r j) = _
  rw [hact, hword]
  unfold gate
  have hh : (half t).val = (1024 * e + j.val) / 1024 % 2 := by
    unfold half
    split
    · show 0 = _; omega
    · show 1 = _; omega
  rw [hh]

/-! ## The accumulated result -/

theorem acc_apply (c : Dev nD) (i : ℕ) (hi : i < 16) (s : ℕ) (hs : s ≤ 16) : ∀ (t : Fin cfg0.N) (ht : t.val = 17 * i + s) (r k : Fin 1024),
    acc m c t.val t.isLt (ix2 r k) = ∑ E ∈ Finset.range (1024 * s), part (m ((c : Thread nD τ).loc main_arg0)) (m ((c : Thread nD τ).loc main_arg1))
      (m ((c : Thread nD τ).loc main_arg2)) (m ((c : Thread nD τ).loc main_arg3)) ⟨1024 * i + r.val, by omega⟩ k E := by
  induction s with
  | zero =>
    intro t ht r k
    rw [acc_first m c t (by omega), step_apply]
    rw [Nat.mul_zero, Finset.range_zero, Finset.sum_empty]
    have h0 : k0_pay25 (F := Ideal) (ix2 r k) = 0 := zero_f32
    have h1 : ∀ j : Fin 1024, k0_pay26 (F := Ideal) (ix2 r j) = 0 := fun j => by
      unfold k0_pay26; rw [shapeCast_self]; exact zero_bf16
    rw [h0, zero_add]
    exact Finset.sum_eq_zero fun j _ => by rw [h1, zero_mul]
  | succ e ih =>
    intro t ht r k
    have hN : cfg0.N = 272 := rfl
    have htl := t.isLt
    rw [acc_next m c t ⟨17 * i + e, by omega⟩ (by show 17 * i + e + 1 = t.val; omega) (by omega), step_apply,
      ih (by omega) ⟨17 * i + e, by omega⟩ rfl r k, sum_part_block _ _ _ _ _ _ e (by omega)]
    congr 1
    refine Finset.sum_congr rfl fun j _ => ?_
    have hj := j.isLt
    rw [built_apply m c ⟨17 * i + e, by omega⟩ i e (by omega) rfl hi r j, read3 m c t j k (by omega)]
    congr 3
    apply Fin.ext
    show 1024 * (t.val % 17 - 1) + j.val = 1024 * e + j.val
    omega

/-- The result's array after the grid. -/
theorem result_apply (c : Dev nD) : (dats m 0 c).arrAt 4 cfg0.N = fun i : S16384x1024.Idx =>
    expertSum (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp
  rw [after_4]
  have hN : cfg0.N = 272 := rfl
  have htl : t.val < 272 := t.isLt
  have h16 := (flush0_4 t).mp hf
  have hy0 : (y 0).val < 1024 := (y 0).isLt
  have hy1 : (y 1).val < 1024 := (y 1).isLt
  have hy : y = ix2 (n0 := 1024) (n1 := 1024) (y 0) (y 1) := eq_ix2 (n0 := 1024) (n1 := 1024) y
  have ha := acc_apply m c (t.val / 17) (by omega) 16 (le_refl _) t (by omega) (y 0) (y 1)
  refine (congrArg _ hy).trans (ha.trans ((sum_part _ _ _ _ _ _).trans ?_))
  congr 1 <;> apply Fin.ext
  · show 1024 * (t.val / 17) + (y 0).val = win0_4.index t 0 * 1024 + 1 * (y 0).val
    rw [(at4 t).1]; omega
  · show (y 1).val = win0_4.index t 1 * 1024 + 1 * (y 1).val
    rw [(at4 t).2]; omega

end Cert.Proof.Dense

end
-- ==== Proof.RefValue.lean ====
/- The reference's result, element by element: the expert sum. -/
module

public import proofs.«01_k».proof.Proof.Spec
public import proofs.«01_k».proof.Proof.Gen.ReferenceIdeal.Read
public import Idealize.ShloMosaic.Lib.BitcastConvert

@[expose] public section

set_option maxRecDepth 16384

noncomputable section

namespace Cert.Proof.Ref

open Cert.ReferenceIdeal Cert.ReferenceIdeal.Gen Cert.ReferenceIdeal.Read Cert.Proof.Dense
open Idealize.ShloMosaic Idealize.ShloMosaic.TcCoe Idealize.ShloMosaic.ValueIdx
open scoped BigOperators

/-- Dividing by `√2` is multiplying by its inverse. -/
theorem div_root (d : EReal) : Ideal.div d (Ideal.sqrt (Ideal.ofBits .f32 0x40000000#32)) = d * (((Real.sqrt 2)⁻¹ : ℝ) : EReal) := by
  have h2 : Ideal.ofBits .f32 0x40000000#32 = ((2 : ℝ) : EReal) := by
    simp [Ideal.ofBits, Ideal.ieee, -EReal.coe_mul]; norm_num
  have hs : Ideal.sqrt ((2 : ℝ) : EReal) = ((Real.sqrt 2 : ℝ) : EReal) := by
    rw [Ideal.sqrt_coe, if_neg (by norm_num)]
  rw [h2, hs, Ideal.div_coe (by positivity), one_div]

variable (x0 : (⟨S16384x1024, .bf16⟩ : BufTy).Contents (Elt Ideal)) (x1 : (⟨S8x16384x8x128, .i32⟩ : BufTy).Contents (Elt Ideal))
  (x2 x3 : (⟨S2x16384x1024, .f32⟩ : BufTy).Contents (Elt Ideal))

theorem gate_apply (n E : Fin 16384) : val_main_v17 (F := Ideal) x1 (ix2 n E) = gate x1 n E := by
  rw [val_main_v17_apply, val_main_v2_apply, val_main_v1_apply]
  unfold gate val_main_v0
  have hn := n.isLt; have hE := E.isLt
  simp only [Ideal.extf_def]
  show Ideal.ofBits .bf16 (Host.bitcastConvertNarrow S8x16384x8x128x2 16 x1 splits_S8x16384x8x128_w32_S8x16384x8x128x2_w16 _) = _
  rw [Host.bitcastConvertNarrow_apply]
  have hi : ∀ i : S8x16384x8x128.Idx, i = ix4 ⟨E.val / 2048, by omega⟩ n ⟨E.val / 128 % 8, by omega⟩ ⟨E.val % 128, by omega⟩ →
      ∀ k : ℕ, k = E.val / 1024 % 2 → Ideal.ofBits .bf16 ((x1 i).extractLsb' (k * 16) 16)
        = Ideal.ofBits .bf16 ((x1 (ix4 ⟨E.val / 2048, by omega⟩ n ⟨E.val / 128 % 8, by omega⟩ ⟨E.val % 128, by omega⟩)).extractLsb' (E.val / 1024 % 2 * 16) 16) := by
    intro i hi k hk; rw [hi, hk]
  refine hi _ ?_ _ ?_
  · funext a
    apply Fin.ext
    match a with
    | ⟨0, _⟩ => show (n.val * 16384 + E.val) / 2048 % 8 = E.val / 2048; omega
    | ⟨1, _⟩ => show (n.val * 16384 + E.val) / 16384 = n.val; omega
    | ⟨2, _⟩ => show (n.val * 16384 + E.val) / 128 % 8 = E.val / 128 % 8; omega
    | ⟨3, _⟩ => show (n.val * 16384 + E.val) % 128 = E.val % 128; omega
  · show (n.val * 16384 + E.val) / 1024 % 2 = E.val / 1024 % 2; omega

theorem score_apply (n E : Fin 16384) : val_main_v7 (F := Ideal) x0 x2 (ix2 n E) = score x0 x2 n E := by
  rw [val_main_v7_apply]
  unfold score
  refine Finset.sum_congr rfl fun k _ => ?_
  rw [val_main_v3_apply, Ideal.extf_def, val_main_v6_apply, val_main_v5_apply, val_main_v4_apply]
  have hn := n.isLt; have hE := E.isLt; have hk := k.isLt
  congr 2
  · funext a; match a with
    | ⟨0, _⟩ => rfl
    | ⟨1, _⟩ => rfl
  · funext a
    apply Fin.ext
    match a with
    | ⟨0, _⟩ => rfl
    | ⟨1, _⟩ => show (E.val * 1024 + k.val) / 1024 % 16384 = E.val; omega
    | ⟨2, _⟩ => show (E.val * 1024 + k.val) % 1024 = k.val; omega

theorem weight_apply (n E : Fin 16384) : val_main_v18 (F := Ideal) x0 x1 x2 (ix2 n E) = weight x0 x1 x2 n E := by
  rw [val_main_v18_apply, gate_apply, val_main_v16_apply, val_main_v9_apply, val_main_v15_apply, val_main_v13_apply, val_main_v12_apply,
    score_apply, val_main_v8_apply, val_main_v14_apply, val_main_v11_apply, val_main_v10_apply,
    val_main_cst_apply, val_main_cst_0_apply, val_main_cst_1_apply]
  unfold weight gelu
  rw [← div_root]
  rfl

theorem table_apply (E : Fin 16384) (k : Fin 1024) : val_main_v20 (F := Ideal) x3 (ix2 E k) = x3 (ix3 1 E k) := by
  rw [val_main_v20_apply, val_main_v19_apply]
  have hE := E.isLt; have hk := k.isLt
  congr 1
  funext a
  apply Fin.ext
  match a with
  | ⟨0, _⟩ => rfl
  | ⟨1, _⟩ => show (E.val * 1024 + k.val) / 1024 % 16384 = E.val; omega
  | ⟨2, _⟩ => show (E.val * 1024 + k.val) % 1024 = k.val; omega

theorem sum_apply (n : Fin 16384) (k : Fin 1024) : val_main_v21 (F := Ideal) x0 x1 x2 x3 (ix2 n k) = expertSum x0 x1 x2 x3 n k := by
  rw [val_main_v21_apply]
  unfold expertSum
  refine Finset.sum_congr rfl fun E _ => ?_
  have el : lidx_main_v21 (ix2 n k) E = ix2 n E := funext fun a => by
    match a with
    | ⟨0, _⟩ => rfl
    | ⟨1, _⟩ => rfl
  have er : ridx_main_v21 (ix2 n k) E = ix2 E k := funext fun a => by
    match a with
    | ⟨0, _⟩ => rfl
    | ⟨1, _⟩ => rfl
  rw [el, er, weight_apply, table_apply]

/-- The reference computes the expert sum. -/
theorem result_apply : val_main_v21 (F := Ideal) x0 x1 x2 x3 = fun i : S16384x1024.Idx => expertSum x0 x1 x2 x3 (i 0) (i 1) :=
  funext fun i => (congrArg _ (eq_ix2 i)).trans (sum_apply x0 x1 x2 x3 (i 0) (i 1))

end Cert.Proof.Ref

end
-- ==== Proof.Sum.lean ====
/- The claims of the expert sum: the kernel of the dense expert layer, its idealization, and its reference. -/
module

public import proofs.«01_k».proof.Defs
public import proofs.«01_k».proof.Proof.Plain.Run
public import proofs.«01_k».proof.Proof.Value
public import proofs.«01_k».proof.Proof.RefValue
public import Idealize.ShloMosaic.Lib.Claim

@[expose] public section

set_option maxRecDepth 16384

noncomputable section

namespace Cert.Proof.Sum

open Idealize.ShloMosaic Idealize.ShloMosaic.TcCoe Idealize.SL.Sem

theorem kernel_frame : Cert.quiescent_Kernel (hKernel := Cert.Kernel.Gen.facts) :=
  fun m ρ _ => Cert.Proof.Plain.frame m ρ

theorem ideal_frame : Cert.quiescent_KernelIdeal (hKernelIdeal := Cert.KernelIdeal.Gen.facts) :=
  fun m ρ _ => Cert.Proof.Dense.frame m ρ

/-- The reference's run leaves its arguments; it has no semaphore. -/
theorem reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

theorem preserves : Cert.preserves_Kernel_KernelIdeal :=
  IdealRules.named_const.statement Cert.KernelIdeal.κ "rsqrt_2" .f32 0x3F3504F3#32 _ rfl

/-- Both compute the expert sum of the same four arrays. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => (Cert.Proof.Dense.dats m 0 c).arrAt 4 Cert.KernelIdeal.cfg0.N, ?_, ?_⟩
  · exact (θ_run _ _ _).mono (fun r h c => ⟨h.1 c, h.2.1 c⟩)
      (θ_run_and (Cert.Proof.Dense.result m ρ) (Cert.Proof.Dense.frame m ρ))
  · refine (θ_run _ _ _).mono (fun r h c => ⟨(h c).1.trans ?_, (h c).2⟩) (Cert.ReferenceIdeal.Value.run m' ρ')
    obtain ⟨h0, h1, h2, h3⟩ := hargs c
    refine Eq.trans ?_ (Cert.Proof.Dense.result_apply m c).symm
    refine (Cert.ReferenceIdeal.Read.val_main_v21_eq ..).trans ?_
    refine (Cert.Proof.Ref.result_apply _ _ _ _).trans ?_
    rw [h0, h1, h2, h3]

end Cert.Proof.Sum

end
-- ==== Proof.Norm.lean ====
/- The normalization of a row of 1024 numbers, its modulation by a table's rows, and layout operations read at an index. -/
module

public import proofs.«01_k».proof.Proof.Value

@[expose] public section

set_option maxRecDepth 16384

noncomputable section

namespace Cert.Proof.Norm

open Idealize.ShloMosaic hiding ix1 ix2 ix3 ix4 ix5 eq_ix1 eq_ix2 eq_ix3
open Idealize.ShloMosaic.ValueIdx
open scoped BigOperators

/-- A row over its root mean square. -/
def rms (x : Fin 1024 → EReal) (d : Fin 1024) : EReal :=
  x d * Ideal.rsqrt (Ideal.div (∑ k, x k * x k) (Ideal.ofBits .f32 0x44800000#32) + Ideal.ofBits .f32 0x358637BD#32)

/-- The normalized row under a gain, a scale and a shift. -/
def modnorm (x g sc sh : Fin 1024 → EReal) (d : Fin 1024) : EReal :=
  rms x d * g d * (Ideal.ofBits .f32 0x3F800000#32 + sc d) + sh d

/-- Row `j` of the modulation of layer `l` for sequence `b`: the context's, and the latents'. -/
def modCtx (C : (⟨2, ![2, 6144]⟩ : Shape).Idx → EReal) (l : Fin 2) (j : Fin 6) (d : Fin 1024) : EReal :=
  C (ix2 l ⟨1024 * j.val + d.val, by omega⟩)
def modLat (M : (⟨3, ![2, 8, 6144]⟩ : Shape).Idx → EReal) (l : Fin 2) (b : Fin 8) (j : Fin 6) (d : Fin 1024) : EReal :=
  M (ix3 l b ⟨1024 * j.val + d.val, by omega⟩)

/-- The rows of context and latents joined, and the modulation of the joined rows. -/
def joined (X : (⟨3, ![8, 2048, 1024]⟩ : Shape).Idx → EReal) (K : (⟨3, ![8, 256, 1024]⟩ : Shape).Idx → EReal)
    (b : Fin 8) (n : Fin 2304) (d : Fin 1024) : EReal :=
  if h : n.val < 256 then K (ix3 b ⟨n.val, h⟩ d) else X (ix3 b ⟨n.val - 256, by omega⟩ d)
def modRow (M : (⟨3, ![2, 8, 6144]⟩ : Shape).Idx → EReal) (C : (⟨2, ![2, 6144]⟩ : Shape).Idx → EReal) (l : Fin 2)
    (b : Fin 8) (n : Fin 2304) (j : Fin 6) (d : Fin 1024) : EReal :=
  if n.val < 256 then modCtx C l j d else modLat M l b j d

/-! ## Layout operations -/

variable {α : Type}

theorem flat3 {R C : ℕ} (v : (⟨3, ![1, R, C]⟩ : Shape).Idx → α) (h) (r : Fin R) (k : Fin C) :
    shapeCast (⟨2, ![R, C]⟩ : Shape) v h (ix2 r k) = v (ix3 0 r k) :=
  shapeCast_apply v h _ _ (by
    rewrite [Shape.rowMajor_val_three, Shape.rowMajor_val_two]
    show (0 * R + r.val) * C + k.val = r.val * C + k.val
    rw [Nat.zero_mul, Nat.zero_add])

theorem lift3 {R C : ℕ} (v : (⟨2, ![R, C]⟩ : Shape).Idx → α) (h) (r : Fin R) (k : Fin C) :
    shapeCast (⟨3, ![1, R, C]⟩ : Shape) v h (ix3 0 r k) = v (ix2 r k) :=
  shapeCast_apply v h _ _ (by
    rewrite [Shape.rowMajor_val_three, Shape.rowMajor_val_two]
    show r.val * C + k.val = (0 * R + r.val) * C + k.val
    rw [Nat.zero_mul, Nat.zero_add])

theorem flat4 {C : ℕ} (v : (⟨4, ![1, 1, 1, C]⟩ : Shape).Idx → α) (h) (k : Fin C) :
    shapeCast (⟨2, ![1, C]⟩ : Shape) v h (ix2 0 k) = v (ix4 0 0 0 k) :=
  shapeCast_apply v h _ _ (by
    rewrite [Shape.rowMajor_val_four, Shape.rowMajor_val_two]
    show ((0 * 1 + 0) * 1 + 0) * C + k.val = 0 * C + k.val
    simp)

theorem column {R : ℕ} (v : (⟨1, ![R]⟩ : Shape).Idx → α) (h) (r : Fin R) :
    shapeCast (⟨2, ![R, 1]⟩ : Shape) v h (ix2 r 0) = v (ix1 r) :=
  shapeCast_apply v h _ _ (by
    rewrite [Shape.rowMajor_val_one, Shape.rowMajor_val_two]
    show r.val = r.val * 1 + 0
    omega)

theorem spreadRow {R C : ℕ} (v : (⟨2, ![1, C]⟩ : Shape).Idx → α) (h) (r : Fin R) (k : Fin C) :
    broadcastTo (⟨2, ![R, C]⟩ : Shape) v h (ix2 r k) = v (ix2 0 k) :=
  broadcastTo_apply v h _ _ fun a => match a with
    | ⟨0, _⟩ => rfl
    | ⟨1, _⟩ => by
      show k.val = if C = 1 then 0 else k.val
      split <;> omega

theorem spreadColumn {R C : ℕ} (v : (⟨2, ![R, 1]⟩ : Shape).Idx → α) (h) (r : Fin R) (k : Fin C) :
    broadcastTo (⟨2, ![R, C]⟩ : Shape) v h (ix2 r k) = v (ix2 r 0) :=
  broadcastTo_apply v h _ _ fun a => match a with
    | ⟨0, _⟩ => by
      show r.val = if R = 1 then 0 else r.val
      split <;> omega
    | ⟨1, _⟩ => rfl

/-! ## A tile's rows -/

theorem rowSum {R : ℕ} (v : FVec Ideal (⟨2, ![R, 1024]⟩ : Shape) .f32) (acc) (h) (hφ) (hacc) (r : Fin R) :
    multiReduction .add [1] (⟨1, ![R]⟩ : Shape) v acc h hφ hacc (ix1 r) = ∑ k : Fin 1024, v (ix2 r k) := by
  refine (Ideal.multiReduction_add_single v acc h hφ hacc (ix1 r)).trans (Finset.sum_congr rfl fun k _ => congrArg v ?_)
  funext a
  match a with
  | ⟨0, _⟩ => rfl
  | ⟨1, _⟩ => rfl

/-- The factor a row is scaled by, spread over the row. -/
theorem scale_apply {R : ℕ} (s : FVec Ideal (⟨1, ![R]⟩ : Shape) .f32) (h₁) (h₂) (r : Fin R) (d : Fin 1024) :
    broadcastTo (⟨2, ![R, 1024]⟩ : Shape) (rsqrt (addf (divf (shapeCast (⟨2, ![R, 1]⟩ : Shape) s h₁)
        (broadcast (⟨2, ![R, 1]⟩ : Shape) (Scalar.ofBits (F := Ideal) .f32 0x44800000#32)))
        (broadcast (⟨2, ![R, 1]⟩ : Shape) (Scalar.ofBits (F := Ideal) .f32 0x358637BD#32)))) h₂ (ix2 r d)
      = Ideal.rsqrt (Ideal.div (s (ix1 r)) (Ideal.ofBits .f32 0x44800000#32) + Ideal.ofBits .f32 0x358637BD#32) := by
  rw [spreadColumn]
  show Ideal.rsqrt (Ideal.div (shapeCast (⟨2, ![R, 1]⟩ : Shape) s h₁ (ix2 r 0)) _ + _) = _
  rw [column]
  rfl

/-- A tile whose rows are scaled by their root mean square. -/
theorem rms_apply {R : ℕ} (v : FVec Ideal (⟨2, ![R, 1024]⟩ : Shape) .f32) (acc) (h) (hφ) (hacc) (h₁) (h₂) (r : Fin R) (d : Fin 1024) :
    mulf v (broadcastTo (⟨2, ![R, 1024]⟩ : Shape) (rsqrt (addf (divf (shapeCast (⟨2, ![R, 1]⟩ : Shape)
        (multiReduction .add [1] (⟨1, ![R]⟩ : Shape) (mulf v v) acc h hφ hacc) h₁)
        (broadcast (⟨2, ![R, 1]⟩ : Shape) (Scalar.ofBits (F := Ideal) .f32 0x44800000#32)))
        (broadcast (⟨2, ![R, 1]⟩ : Shape) (Scalar.ofBits (F := Ideal) .f32 0x358637BD#32)))) h₂) (ix2 r d)
      = rms (fun k => v (ix2 r k)) d := by
  refine (congrArg (v (ix2 r d) * ·) (scale_apply (multiReduction .add [1] (⟨1, ![R]⟩ : Shape) (mulf v v) acc h hφ hacc) h₁ h₂ r d)).trans ?_
  rw [rowSum]
  rfl

/-! ## Context rows and latent rows -/

/-- The comparison that tells the latents' rows, in tile `a` of 768 rows, from the context's. -/
theorem mask_apply : ∀ (a : Fin 3) (r : Fin 768),
    IntOp.cmpi .sge (BitVec.ofNat 32 a.val * 768#32 + BitVec.ofNat 32 (0 * 768 + r.val)) 256#32
      = BitVec.ofBool (decide (256 ≤ 768 * a.val + r.val)) := by
  decide +kernel

/-- A selection between two rows under that comparison, spread over a tile. -/
theorem pick_apply (u v : (⟨2, ![1, 1024]⟩ : Shape).Idx → EReal) (c : (⟨2, ![768, 1]⟩ : Shape).Idx → BitVec 1) (n : ℕ) (r : Fin 768)
    (hc : c (ix2 r 0) = BitVec.ofBool (decide (256 ≤ n))) (h₁) (h₂) (h₃) (k : Fin 1024) :
    select (broadcastTo (⟨2, ![768, 1024]⟩ : Shape) c h₁) (broadcastTo (⟨2, ![768, 1024]⟩ : Shape) u h₂)
      (broadcastTo (⟨2, ![768, 1024]⟩ : Shape) v h₃) (ix2 r k) = if n < 256 then v (ix2 0 k) else u (ix2 0 k) := by
  show Scalar.select (broadcastTo _ c h₁ (ix2 r k)) (broadcastTo _ u h₂ (ix2 r k)) (broadcastTo _ v h₃ (ix2 r k)) = _
  rw [spreadColumn, spreadRow, spreadRow, hc]
  by_cases h : n < 256
  · rw [if_pos h, decide_eq_false (by omega)]; rfl
  · rw [if_neg h, decide_eq_true (by omega)]; rfl

/-- The joined rows as the kernels concatenate them. -/
theorem joined_apply {C : ℕ} (K : (⟨3, ![8, 256, C]⟩ : Shape).Idx → EReal) (X : (⟨3, ![8, 2048, C]⟩ : Shape).Idx → EReal) (h)
    (b : Fin 8) (n : Fin 2304) (d : Fin C) :
    concatenate (⟨3, ![8, 2304, C]⟩ : Shape) 1 [⟨(⟨3, ![8, 256, C]⟩ : Shape), K⟩, ⟨(⟨3, ![8, 2048, C]⟩ : Shape), X⟩] h (ix3 b n d)
      = if h : n.val < 256 then K (ix3 b ⟨n.val, h⟩ d) else X (ix3 b ⟨n.val - 256, by omega⟩ d) := by
  by_cases h0 : n.val < 256
  · rw [dif_pos h0]
    exact concatenate_pair_apply_left 1 _ _ h (ix3 b n d) rfl (ix3 b ⟨n.val, h0⟩ d) (fun a => match a with
      | ⟨0, _⟩ => rfl | ⟨1, _⟩ => rfl | ⟨2, _⟩ => rfl)
  · rw [dif_neg h0]
    exact concatenate_pair_apply_right 1 _ _ h (ix3 b n d) rfl rfl (ix3 b ⟨n.val - 256, by omega⟩ d) (fun a => match a with
        | ⟨0, _⟩ => fun _ => rfl | ⟨1, _⟩ => fun h => absurd rfl h | ⟨2, _⟩ => fun _ => rfl)
      (by show n.val - 256 + 256 = n.val; omega)

/-! ## Products with some columns of a matrix -/

theorem prod_apply {R N : ℕ} (a : FVec Ideal (⟨2, ![R, 1024]⟩ : Shape) .bf16) (w : FVec Ideal (⟨2, ![1024, N]⟩ : Shape) .bf16) (h) (h') (r : Fin R) (j : Fin N) :
    shapeCast (⟨3, ![1, R, N]⟩ : Shape) (FloatOps.matmul (DotDims.plain R 1024 N) none a (shapeCast (⟨2, ![1024, N]⟩ : Shape) w h)
      (constant (F := Ideal) (⟨2, ![R, N]⟩ : Shape) .f32 0x00000000#32)) h' (ix3 0 r j) = ∑ k : Fin 1024, a (ix2 r k) * w (ix2 k j) := by
  rw [lift3, shapeCast_self]
  refine (Ideal.matmul_plain_apply none a w _ r j).trans ?_
  show Ideal.ofBits .f32 0x00000000#32 + _ = _
  rw [Dense.zero_f32, zero_add]

/-! ## The modulation table -/

/-- The table the kernels read: layer `l` of context and latents side by side, six rows each. -/
theorem table_apply (l : Fin 2) (M : (⟨3, ![2, 8, 6144]⟩ : Shape).Idx → EReal) (C : (⟨2, ![2, 6144]⟩ : Shape).Idx → EReal)
    (h₁) (h₂) (h₃) (h₄) (h₅) (h₆) (b : Fin 8) (s : Fin 2) (j : Fin 6) (d : Fin 1024) :
    shapeCast (⟨4, ![8, 2, 6, 1024]⟩ : Shape) (extractStridedSlice (s := (⟨5, ![2, 8, 2, 6, 1024]⟩ : Shape)) (⟨5, ![1, 8, 2, 6, 1024]⟩ : Shape) ![l.val, 0, 0, 0, 0]
      (concatenate (⟨5, ![2, 8, 2, 6, 1024]⟩ : Shape) 2
        [⟨(⟨5, ![2, 8, 1, 6, 1024]⟩ : Shape), broadcastInDim (⟨5, ![2, 8, 1, 6, 1024]⟩ : Shape) ![0, 1, 2, 3, 4] h₁
          (shapeCast (⟨5, ![2, 1, 1, 6, 1024]⟩ : Shape) C h₂)⟩,
         ⟨(⟨5, ![2, 8, 1, 6, 1024]⟩ : Shape), shapeCast (⟨5, ![2, 8, 1, 6, 1024]⟩ : Shape) M h₃⟩] h₄) h₅) h₆ (ix4 b s j d)
      = if s.val = 0 then modCtx C l j d else modLat M l b j d := by
  have hb := b.isLt; have hs := s.isLt; have hj := j.isLt; have hd := d.isLt; have hl := l.isLt
  rw [shapeCast_apply _ h₆ (ix4 b s j d) (ix5 0 b s j d) (by
      rewrite [Shape.rowMajor_val_four, Shape.rowMajor_val_five]
      show (((0 * 8 + b.val) * 2 + s.val) * 6 + j.val) * 1024 + d.val = ((b.val * 2 + s.val) * 6 + j.val) * 1024 + d.val
      omega),
    extractStridedSlice_apply ![l.val, 0, 0, 0, 0] _ h₅ (ix5 0 b s j d) (ix5 l b s j d) (fun a => match a with
      | ⟨0, _⟩ => rfl
      | ⟨1, _⟩ => by show b.val = 0 + b.val; omega
      | ⟨2, _⟩ => by show s.val = 0 + s.val; omega
      | ⟨3, _⟩ => by show j.val = 0 + j.val; omega
      | ⟨4, _⟩ => by show d.val = 0 + d.val; omega)]
  by_cases h0 : s.val = 0
  · rw [if_pos h0, concatenate_pair_apply_left 2 _ _ h₄ (ix5 l b s j d) rfl (ix5 l b 0 j d) (fun a => match a with
        | ⟨0, _⟩ => rfl | ⟨1, _⟩ => rfl | ⟨2, _⟩ => h0.symm | ⟨3, _⟩ => rfl | ⟨4, _⟩ => rfl),
      broadcastInDim_apply ![0, 1, 2, 3, 4] h₁ _ (ix5 l b 0 j d) (ix5 l 0 0 j d) (fun a => match a with
        | ⟨0, _⟩ => rfl | ⟨1, _⟩ => rfl | ⟨2, _⟩ => rfl | ⟨3, _⟩ => rfl | ⟨4, _⟩ => rfl)]
    exact shapeCast_apply C h₂ _ _ (by
      rewrite [Shape.rowMajor_val_two, Shape.rowMajor_val_five]
      show l.val * 6144 + (1024 * j.val + d.val) = (((l.val * 1 + 0) * 1 + 0) * 6 + j.val) * 1024 + d.val
      omega)
  · rw [if_neg h0, concatenate_pair_apply_right 2 _ _ h₄ (ix5 l b s j d) rfl rfl (ix5 l b 0 j d) (fun a => match a with
        | ⟨0, _⟩ => fun _ => rfl | ⟨1, _⟩ => fun _ => rfl | ⟨2, _⟩ => fun h => absurd rfl h | ⟨3, _⟩ => fun _ => rfl | ⟨4, _⟩ => fun _ => rfl)
      (by show 0 + 1 = s.val; omega)]
    exact shapeCast_apply M h₃ _ _ (by
      rewrite [Shape.rowMajor_val_three, Shape.rowMajor_val_five]
      show (l.val * 8 + b.val) * 6144 + (1024 * j.val + d.val) = (((l.val * 8 + b.val) * 1 + 0) * 6 + j.val) * 1024 + d.val
      omega)

end Cert.Proof.Norm

end
-- ==== Proof.In.lean ====
/- The first projection: the claims of `in_proj`. -/
module

public import proofs.«01_k».proof.Defs
public import proofs.«01_k».proof.Proof.Norm
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Proof.In

open Cert.Kernel2Ideal Cert.Kernel2Ideal.Gen Cert.Proof.Norm
open Idealize.ShloMosaic hiding ix1 ix2 ix3 ix4 ix5 eq_ix1 eq_ix2 eq_ix3
open Idealize.ShloMosaic.TcCoe Idealize.ShloMosaic.ValueIdx Idealize.SL.Sem
open scoped BigOperators

/-- A token's normalized and modulated row against a column of the first layer's weights. -/
def proj (X : (⟨3, ![8, 2048, 1024]⟩ : Shape).Idx → EReal) (K : (⟨3, ![8, 256, 1024]⟩ : Shape).Idx → EReal)
    (M : (⟨3, ![2, 8, 6144]⟩ : Shape).Idx → EReal) (C : (⟨2, ![2, 6144]⟩ : Shape).Idx → EReal)
    (G : (⟨2, ![2, 1024]⟩ : Shape).Idx → EReal) (W : (⟨3, ![2, 1024, 2456]⟩ : Shape).Idx → EReal)
    (b : Fin 8) (n : Fin 2304) (q : Fin 2456) : EReal :=
  ∑ k : Fin 1024, modnorm (joined X K b n) (fun d => G (ix2 0 d)) (modRow M C 0 b n 1) (modRow M C 0 b n 0) k * W (ix3 0 k q)

/-- `N` of the projection's columns, from column `o` on, as an array. -/
def cols (X : (⟨3, ![8, 2048, 1024]⟩ : Shape).Idx → EReal) (K : (⟨3, ![8, 256, 1024]⟩ : Shape).Idx → EReal)
    (M : (⟨3, ![2, 8, 6144]⟩ : Shape).Idx → EReal) (C : (⟨2, ![2, 6144]⟩ : Shape).Idx → EReal)
    (G : (⟨2, ![2, 1024]⟩ : Shape).Idx → EReal) (W : (⟨3, ![2, 1024, 2456]⟩ : Shape).Idx → EReal)
    (N o : ℕ) (h : o + N ≤ 2456) : (⟨3, ![8, 2304, N]⟩ : Shape).Idx → EReal := fun i =>
  proj X K M C G W (i 0) (i 1) ⟨o + (i 2).val, by have : (i 2).val < N := (i 2).isLt; omega⟩

/-! ## A tile -/

theorem pick (i : grid0.Coords) (u v : Vec Ideal S1x1x1x1024 .f32) (r : Fin 768) (k : Fin 1024) :
    k0_pay8 i u v (ix2 r k) = if 768 * (i 1).val + r.val < 256 then v (ix4 0 0 0 k) else u (ix4 0 0 0 k) := by
  unfold k0_pay8
  dsimp only
  rw [shapeCast_self, shapeCast_self, shapeCast_self]
  refine (pick_apply _ _ (k0_pay6 i) (768 * (i 1).val + r.val) r (mask_apply ⟨(i 1).val, (i 1).isLt⟩ r) _ _ _ k).trans ?_
  rw [flat4, flat4]

theorem tile_apply (i : grid0.Coords) (x : Vec Ideal S1x768x1024 .f32) (s : Vec Ideal S1x2x6x1024 .f32) (g : Vec Ideal S1x1024 .f32)
    (w : Vec Ideal S1024x2816 .bf16) (r : Fin 768) (d : Fin 1024) : k0_pay20 i x s g w (ix2 r d)
      = modnorm (fun k => x (ix3 0 r k)) (fun k => g (ix2 0 k))
        (fun k => if 768 * (i 1).val + r.val < 256 then s (ix4 0 0 1 k) else s (ix4 0 1 1 k))
        (fun k => if 768 * (i 1).val + r.val < 256 then s (ix4 0 0 0 k) else s (ix4 0 1 0 k)) d := by
  have hv : ∀ k : Fin 1024, k0_pay5 x (ix2 r k) = x (ix3 0 r k) := fun k => by unfold k0_pay5; exact flat3 _ _ r k
  have hg : k0_pay7 g = g := by unfold k0_pay7; exact shapeCast_self _ _
  have hl : ∀ (o p : ℕ) (inb) (ho : o < 2) (hp : p < 6) (k : Fin 1024), View.ld s (Rect.unit (s := S1x2x6x1024) ![0, o, p, 0] S1x1x1x1024.size inb) (ix4 0 0 0 k)
      = s (ix4 0 ⟨o, ho⟩ ⟨p, hp⟩ k) := fun o p inb ho hp k => by
    show s _ = _
    congr 1
    funext a
    apply Fin.ext
    match a with
    | ⟨0, _⟩ => rfl
    | ⟨1, _⟩ => rfl
    | ⟨2, _⟩ => rfl
    | ⟨3, _⟩ => show 0 + 1 * k.val = k.val; omega
  unfold k0_pay20 k0_pay15 k0_pay16 k0_pay17 k0_pay18 k0_pay19
  rw [View.ld_unit_zero (by decide), View.ld_unit_zero (by decide), hg]
  unfold k0_pay11 k0_pay10 modnorm
  refine congrArg₂ (fun (a b : EReal) => a + b) (congrArg₂ (fun (a b : EReal) => a * b) (congrArg₂ (fun (a b : EReal) => a * b)
    ((rms_apply (k0_pay5 x) _ _ _ _ _ _ r d).trans (congrArg (rms · d) (funext hv))) (spreadRow g _ r d))
    (congrArg (fun b : EReal => _ + b) ((pick i _ _ r d).trans ?_))) ((pick i _ _ r d).trans ?_)
  · rw [hl 0 1 _ (by decide) (by decide), hl 1 1 _ (by decide) (by decide)]; rfl
  · rw [hl 0 0 _ (by decide) (by decide), hl 1 0 _ (by decide) (by decide)]; rfl

/-! ## The blocks -/

variable (m : (ℓ : Loc nD τ sig) → Buf (Elt Ideal) ℓ)

theorem at0 : ∀ t : Fin cfg0.N, win0_0.index t 0 = t.val / 3 ∧ win0_0.index t 1 = t.val % 3 ∧ win0_0.index t 2 = 0 :=
  (by decide +kernel : ∀ t : Fin grid0.N, win0_0.index t 0 = t.val / 3 ∧ win0_0.index t 1 = t.val % 3 ∧ win0_0.index t 2 = 0)
theorem at1 : ∀ t : Fin cfg0.N, win0_1.index t 0 = t.val / 3 ∧ win0_1.index t 1 = 0 ∧ win0_1.index t 2 = 0 ∧ win0_1.index t 3 = 0 :=
  (by decide +kernel : ∀ t : Fin grid0.N, win0_1.index t 0 = t.val / 3 ∧ win0_1.index t 1 = 0 ∧ win0_1.index t 2 = 0 ∧ win0_1.index t 3 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem tile_of : ∀ t : Fin cfg0.N, ((grid0.coords t) 1).val = t.val % 3 :=
  (by decide +kernel : ∀ t : Fin grid0.N, ((grid0.coords t) 1).val = t.val % 3)

theorem V_rows (c : Dev nD) : V m c main_v0 = concatenate S8x2304x1024 1 [⟨S8x256x1024, m ((c : Thread nD τ).loc main_arg1)⟩,
    ⟨S8x2048x1024, m ((c : Thread nD τ).loc main_arg0)⟩] concatenates_S8x256x1024_S8x2048x1024_S8x2304x1024_d1 := by
  unfold V
  simp only [hostOps0, hostOps0_1, hostOps0_2, List.flatten_cons, List.flatten_nil, List.append_nil, List.cons_append, List.nil_append]
  after_results <;> rfl

theorem V_table (c : Dev nD) : V m c main_v18 = shapeCast S8x2x6x1024 (extractStridedSlice S1x8x2x6x1024 ![0, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg3)) shapeCasts_S2x6144_S2x1x1x6x1024)⟩,
       ⟨S2x8x1x6x1024, shapeCast S2x8x1x6x1024 (m ((c : Thread nD τ).loc main_arg2)) shapeCasts_S2x8x6144_S2x8x1x6x1024⟩]
      concatenates_S2x8x1x6x1024_S2x8x1x6x1024_S2x8x2x6x1024_d2) slices_S2x8x2x6x1024_S1x8x2x6x1024_0_0_0_0_0) shapeCasts_S1x8x2x6x1024_S8x2x6x1024 := by
  unfold V
  simp only [hostOps0, hostOps0_1, hostOps0_2, List.flatten_cons, List.flatten_nil, List.append_nil, List.cons_append, List.nil_append]
  after_results <;> rfl

theorem V_gain (c : Dev nD) : V m c main_v21 = broadcastInDim S1x1024 ![1] bcast_S1024_S1x1024_1 (shapeCast S1024
    (extractStridedSlice S1x1024 ![0, 0] (m ((c : Thread nD τ).loc main_arg4)) slices_S2x1024_S1x1024_0_0) shapeCasts_S1x1024_S1024) := by
  unfold V
  simp only [hostOps0, hostOps0_1, hostOps0_2, List.flatten_cons, List.flatten_nil, List.append_nil, List.cons_append, List.nil_append]
  after_results <;> rfl

/-- The first layer's weights as a matrix. -/
abbrev mat (c : Dev nD) : Vec Ideal S1024x2456 .f32 := shapeCast S1024x2456
  (extractStridedSlice S1x1024x2456 ![0, 0, 0] (m ((c : Thread nD τ).loc main_arg5)) slices_S2x1024x2456_S1x1024x2456_0_0_0) shapeCasts_S1x1024x2456_S1024x2456

/-- The matrix the kernel reads: the weights' columns around some padded ones. -/
theorem V_big (c : Dev nD) : ∃ P : Vec Ideal S1024x384 .f32, V m c main_v12 = (truncf (F := Ideal) .bf16 (concatenate S1024x2816 1
    [⟨S1024x1792, extractStridedSlice S1024x1792 ![0, 0] (mat m c) slices_S1024x2456_S1024x1792_0_0⟩, ⟨S1024x384, P⟩,
     ⟨S1024x640, extractStridedSlice S1024x640 ![0, 1816] (mat m c) slices_S1024x2456_S1024x640_0_1816⟩]
    concatenates_S1024x1792_S1024x384_S1024x640_S1024x2816_d1) bitsLt_bf16_f32 : Vec Ideal S1024x2816 .bf16) := by
  refine ⟨?_, ?_⟩
  rotate_left
  · unfold V
    simp only [hostOps0, hostOps0_1, hostOps0_2, List.flatten_cons, List.flatten_nil, List.append_nil, List.cons_append, List.nil_append]
    after_results <;> rfl

theorem mat_apply (c : Dev nD) (k : Fin 1024) (q : Fin 2456) :
    mat m c (ix2 k q) = (m ((c : Thread nD τ).loc main_arg5) : Vec Ideal S2x1024x2456 .f32) (ix3 0 k q) := by
  refine (flat3 (R := 1024) (C := 2456) _ _ k q).trans ?_
  exact extractStridedSlice_apply ![0, 0, 0] _ _ (ix3 (0 : Fin 1) k q) (ix3 (0 : Fin 2) k q) (fun a => match a with
    | ⟨0, _⟩ => rfl
    | ⟨1, _⟩ => by show k.val = 0 + k.val; omega
    | ⟨2, _⟩ => by show q.val = 0 + q.val; omega)

theorem pieces_apply (A : Vec Ideal S1024x2456 .f32) (P : Vec Ideal S1024x384 .f32) (k : Fin 1024) (q : Fin 2816) (q' : Fin 2456)
    (hq : q.val < 1792 ∧ q'.val = q.val ∨ 2176 ≤ q.val ∧ q'.val + 360 = q.val) : concatenate S1024x2816 1
      [⟨S1024x1792, extractStridedSlice S1024x1792 ![0, 0] A slices_S1024x2456_S1024x1792_0_0⟩, ⟨S1024x384, P⟩,
       ⟨S1024x640, extractStridedSlice S1024x640 ![0, 1816] A slices_S1024x2456_S1024x640_0_1816⟩]
      concatenates_S1024x1792_S1024x384_S1024x640_S1024x2816_d1 (ix2 k q) = A (ix2 k q') := by
  rcases hq with ⟨h, e⟩ | ⟨h, e⟩
  · refine (concatenate_apply_piece 1 _ _ (ix2 k q) 0 (by simp) S1024x1792 (extractStridedSlice S1024x1792 ![0, 0] A slices_S1024x2456_S1024x1792_0_0) rfl rfl 0 rfl (ix2 k ⟨q.val, h⟩) (fun a => match a with
      | ⟨0, _⟩ => fun _ => rfl | ⟨1, _⟩ => fun h => absurd rfl h) (by show 0 + q.val = q.val; omega)).trans ?_
    exact extractStridedSlice_apply ![0, 0] _ _ _ (ix2 k q') (fun a => match a with
      | ⟨0, _⟩ => by show k.val = 0 + k.val; omega
      | ⟨1, _⟩ => by show q'.val = 0 + q.val; omega)
  · have := q.isLt
    refine (concatenate_apply_piece 1 _ _ (ix2 k q) 2 (by simp) S1024x640 (extractStridedSlice S1024x640 ![0, 1816] A slices_S1024x2456_S1024x640_0_1816) rfl rfl 2176 rfl (ix2 k ⟨q.val - 2176, by omega⟩) (fun a => match a with
      | ⟨0, _⟩ => fun _ => rfl | ⟨1, _⟩ => fun h => absurd rfl h) (by show 2176 + (q.val - 2176) = q.val; omega)).trans ?_
    exact extractStridedSlice_apply ![0, 1816] _ _ _ (ix2 k q') (fun a => match a with
      | ⟨0, _⟩ => by show k.val = 0 + k.val; omega
      | ⟨1, _⟩ => by show q'.val = 1816 + (q.val - 2176); omega)

theorem big_apply (c : Dev nD) (k : Fin 1024) (q : Fin 2816) (q' : Fin 2456)
    (hq : q.val < 1792 ∧ q'.val = q.val ∨ 2176 ≤ q.val ∧ q'.val + 360 = q.val) :
    (V m c main_v12 : Vec Ideal S1024x2816 .bf16) (ix2 k q) = (m ((c : Thread nD τ).loc main_arg5) : Vec Ideal S2x1024x2456 .f32) (ix3 0 k q') := by
  obtain ⟨P, hP⟩ := V_big m c
  rw [hP, ← mat_apply m c k q']
  exact pieces_apply (mat m c) P k q q' hq

theorem read0 (c : Dev nD) (t : Fin cfg0.N) (r : Fin 768) (k : Fin 1024) (hb : t.val / 3 < 8) (hn : 768 * (t.val % 3) + r.val < 2304) :
    (iblk m c 0 t : Vec Ideal S1x768x1024 .f32) (ix3 0 r k)
      = joined (m ((c : Thread nD τ).loc main_arg0)) (m ((c : Thread nD τ).loc main_arg1)) ⟨t.val / 3, hb⟩ ⟨768 * (t.val % 3) + r.val, hn⟩ k := by
  have h : (iblk m c 0 t : Vec Ideal S1x768x1024 .f32) (ix3 0 r k)
      = (V m c main_v0 : Vec Ideal S8x2304x1024 .f32) (ix3 ⟨t.val / 3, hb⟩ ⟨768 * (t.val % 3) + r.val, hn⟩ k) := by
    unfold iblk
    rw [View.read_apply]
    show V m c main_v0 _ = _
    congr 1
    funext a
    apply Fin.ext
    match a with
    | ⟨0, _⟩ => show win0_0.index t 0 * 1 + 1 * 0 = t.val / 3; rw [(at0 t).1]; omega
    | ⟨1, _⟩ => show win0_0.index t 1 * 768 + 1 * r.val = 768 * (t.val % 3) + r.val; rw [(at0 t).2.1]; omega
    | ⟨2, _⟩ => show win0_0.index t 2 * 1024 + 1 * k.val = k.val; rw [(at0 t).2.2]; omega
  rw [h, V_rows]
  exact joined_apply _ _ _ _ _ _

theorem read1 (c : Dev nD) (t : Fin cfg0.N) (s : Fin 2) (j : Fin 6) (k : Fin 1024) (hb : t.val / 3 < 8) :
    (iblk m c 1 t : Vec Ideal S1x2x6x1024 .f32) (ix4 0 s j k)
      = if s.val = 0 then modCtx (m ((c : Thread nD τ).loc main_arg3)) 0 j k
        else modLat (m ((c : Thread nD τ).loc main_arg2)) 0 ⟨t.val / 3, hb⟩ j k := by
  have h : (iblk m c 1 t : Vec Ideal S1x2x6x1024 .f32) (ix4 0 s j k) = (V m c main_v18 : Vec Ideal S8x2x6x1024 .f32) (ix4 ⟨t.val / 3, hb⟩ s j k) := by
    unfold iblk
    rw [View.read_apply]
    show V m c main_v18 _ = _
    congr 1
    funext a
    apply Fin.ext
    match a with
    | ⟨0, _⟩ => show win0_1.index t 0 * 1 + 1 * 0 = t.val / 3; rw [(at1 t).1]; omega
    | ⟨1, _⟩ => show win0_1.index t 1 * 2 + 1 * s.val = s.val; rw [(at1 t).2.1]; omega
    | ⟨2, _⟩ => show win0_1.index t 2 * 6 + 1 * j.val = j.val; rw [(at1 t).2.2.1]; omega
    | ⟨3, _⟩ => show win0_1.index t 3 * 1024 + 1 * k.val = k.val; rw [(at1 t).2.2.2]; omega
  rw [h, V_table]
  exact table_apply 0 (m ((c : Thread nD τ).loc main_arg2)) (m ((c : Thread nD τ).loc main_arg3)) _ _ _ _ _ _ ⟨t.val / 3, hb⟩ s j k

theorem read2 (c : Dev nD) (t : Fin cfg0.N) (k : Fin 1024) :
    (iblk m c 2 t : Vec Ideal S1x1024 .f32) (ix2 0 k) = (m ((c : Thread nD τ).loc main_arg4) : Vec Ideal S2x1024 .f32) (ix2 0 k) := by
  have h : (iblk m c 2 t : Vec Ideal S1x1024 .f32) (ix2 0 k) = (V m c main_v21 : Vec Ideal S1x1024 .f32) (ix2 0 k) := by
    unfold iblk
    rw [View.read_apply]
    show V m c main_v21 _ = _
    congr 1
    funext a
    apply Fin.ext
    match a with
    | ⟨0, _⟩ => show win0_2.index t 0 * 1 + 1 * 0 = 0; rw [(at2 t).1]
    | ⟨1, _⟩ => show win0_2.index t 1 * 1024 + 1 * k.val = k.val; rw [(at2 t).2]; omega
  rw [h, V_gain]
  refine (broadcastInDim_apply ![1] _ _ (ix2 0 k) (ix1 k) (fun a => match a with | ⟨0, _⟩ => rfl)).trans ?_
  refine (shapeCast_apply _ _ (ix1 k) (ix2 0 k) (by
    rewrite [Shape.rowMajor_val_one, Shape.rowMajor_val_two]
    show 0 * 1024 + k.val = k.val
    omega)).trans ?_
  exact extractStridedSlice_apply ![0, 0] _ _ (ix2 (0 : Fin 1) k) (ix2 (0 : Fin 2) k) (fun a => match a with
    | ⟨0, _⟩ => rfl
    | ⟨1, _⟩ => by show k.val = 0 + k.val; omega)

theorem read3 (c : Dev nD) (t : Fin cfg0.N) (k : Fin 1024) (q : Fin 2816) :
    (iblk m c 3 t : Vec Ideal S1024x2816 .bf16) (ix2 k q) = (V m c main_v12 : Vec Ideal S1024x2816 .bf16) (ix2 k q) := by
  unfold iblk
  rw [View.read_apply]
  show V m c main_v12 _ = _
  congr 1
  funext a
  apply Fin.ext
  match a with
  | ⟨0, _⟩ => show win0_3.index t 0 * 1024 + 1 * k.val = k.val; rw [(at3 t).1]; omega
  | ⟨1, _⟩ => show win0_3.index t 1 * 2816 + 1 * q.val = q.val; rw [(at3 t).2]; omega

/-! ## The results -/

/-- The array of `N` of the projection's columns, from column `o` on, of the arguments in memory. -/
abbrev res (c : Dev nD) (N o : ℕ) (h : o + N ≤ 2456) : (⟨3, ![8, 2304, N]⟩ : Shape).Idx → EReal :=
  cols (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) N o h

/-- A block of a result: the tile's product with the columns from `p` on of the matrix read, which are the weights' from `o` on. -/
theorem point_apply {N : ℕ} (c : Dev nD) (t : Fin cfg0.N) (p o : ℕ) (ho : o + N ≤ 2456)
    (inb : ∀ a, (![0, p] : Fin 2 → Nat) a + (⟨2, ![1024, N]⟩ : Shape).size a ≤ S1024x2816.size a)
    (h : (⟨2, ![1024, N]⟩ : Shape).ShapeCasts ⟨2, ![1024, N]⟩) (h' : (⟨2, ![768, N]⟩ : Shape).ShapeCasts ⟨3, ![1, 768, N]⟩)
    (hp : p + N ≤ 1792 ∧ o = p ∨ 2176 ≤ p ∧ o + 360 = p) (r : Fin 768) (q : Fin N) (b : Fin 8) (n : Fin 2304) (q' : Fin 2456)
    (hb : b.val = t.val / 3) (hn : n.val = 768 * (t.val % 3) + r.val) (hq : q'.val = o + q.val) :
    shapeCast (⟨3, ![1, 768, N]⟩ : Shape) (FloatOps.matmul (φ₁ := .bf16) (φ₂ := .bf16) (DotDims.plain 768 1024 N) none
      (k0_pay20 (F := Ideal) (grid0.coords t) (iblk m c 0 t) (iblk m c 1 t) (iblk m c 2 t) (iblk m c 3 t) : FVec Ideal ⟨2, ![768, 1024]⟩ .bf16)
      (shapeCast (⟨2, ![1024, N]⟩ : Shape) (α := Ideal .bf16) (View.ld (iblk m c 3 t : Vec Ideal S1024x2816 .bf16)
        (Rect.unit (s := S1024x2816) ![0, p] (⟨2, ![1024, N]⟩ : Shape).size inb)) h)
      (constant (F := Ideal) (⟨2, ![768, N]⟩ : Shape) .f32 0x00000000#32)) h' (ix3 0 r q)
      = proj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b n q' := by
  have htl : t.val < 24 := t.isLt
  have hinb : p + N ≤ 2816 := inb 1
  have hql := q.isLt
  rcases b with ⟨b, hbl⟩
  rcases n with ⟨n, hnl⟩
  obtain rfl : b = t.val / 3 := hb
  obtain rfl : n = 768 * (t.val % 3) + r.val := hn
  refine (prod_apply (R := 768) (N := N) _ _ h h' r q).trans ?_
  unfold proj
  refine Finset.sum_congr rfl fun k _ => congrArg₂ (fun (a b : EReal) => a * b) ?_ ?_
  · have hm : ∀ j : Fin 6, (fun d => if 768 * (t.val % 3) + r.val < 256 then (iblk m c 1 t : Vec Ideal S1x2x6x1024 .f32) (ix4 0 0 j d)
        else (iblk m c 1 t : Vec Ideal S1x2x6x1024 .f32) (ix4 0 1 j d))
        = modRow (m ((c : Thread nD τ).loc main_arg2)) (m ((c : Thread nD τ).loc main_arg3)) 0 ⟨t.val / 3, by omega⟩
          ⟨768 * (t.val % 3) + r.val, by omega⟩ j := fun j => funext fun d => by
      rw [read1 m c t 0 j d (by omega), read1 m c t 1 j d (by omega)]
      rfl
    refine (tile_apply _ _ _ _ _ r k).trans ?_
    rw [tile_of t, hm 1, hm 0, funext fun d => read0 m c t r d (by omega) (by omega), funext fun d => read2 m c t d]
  · refine Eq.trans (b := (iblk m c 3 t : Vec Ideal S1024x2816 .bf16) (ix2 k ⟨p + q.val, by omega⟩)) ?_ ?_
    · show (iblk m c 3 t : Vec Ideal S1024x2816 .bf16) _ = _
      congr 1
      funext a
      apply Fin.ext
      match a with
      | ⟨0, _⟩ => show 0 + 1 * k.val = k.val; omega
      | ⟨1, _⟩ => show p + 1 * q.val = p + q.val; omega
    · rw [read3]
      refine big_apply m c k _ _ ?_
      show p + q.val < 1792 ∧ q'.val = p + q.val ∨ 2176 ≤ p + q.val ∧ q'.val + 360 = p + q.val
      omega

/-- The same at any index of the block and the place of the array it lies over. -/
theorem block_apply {N : ℕ} (c : Dev nD) (t : Fin cfg0.N) (p o : ℕ) (ho : o + N ≤ 2456)
    (inb : ∀ a, (![0, p] : Fin 2 → Nat) a + (⟨2, ![1024, N]⟩ : Shape).size a ≤ S1024x2816.size a)
    (h : (⟨2, ![1024, N]⟩ : Shape).ShapeCasts ⟨2, ![1024, N]⟩) (h' : (⟨2, ![768, N]⟩ : Shape).ShapeCasts ⟨3, ![1, 768, N]⟩)
    (hp : p + N ≤ 1792 ∧ o = p ∨ 2176 ≤ p ∧ o + 360 = p) (y : (⟨3, ![1, 768, N]⟩ : Shape).Idx) (i : (⟨3, ![8, 2304, N]⟩ : Shape).Idx)
    (h0 : (i 0).val = t.val / 3) (h1 : (i 1).val = 768 * (t.val % 3) + (y 1).val) (h2 : (i 2).val = (y 2).val) :
    shapeCast (⟨3, ![1, 768, N]⟩ : Shape) (FloatOps.matmul (φ₁ := .bf16) (φ₂ := .bf16) (DotDims.plain 768 1024 N) none
      (k0_pay20 (F := Ideal) (grid0.coords t) (iblk m c 0 t) (iblk m c 1 t) (iblk m c 2 t) (iblk m c 3 t) : FVec Ideal ⟨2, ![768, 1024]⟩ .bf16)
      (shapeCast (⟨2, ![1024, N]⟩ : Shape) (α := Ideal .bf16) (View.ld (iblk m c 3 t : Vec Ideal S1024x2816 .bf16)
        (Rect.unit (s := S1024x2816) ![0, p] (⟨2, ![1024, N]⟩ : Shape).size inb)) h)
      (constant (F := Ideal) (⟨2, ![768, N]⟩ : Shape) .f32 0x00000000#32)) h' y = res m c N o ho i := by
  have hy0 : (y 0).val < 1 := (y 0).isLt
  have hy : y = ix3 (n0 := 1) (n1 := 768) (n2 := N) 0 (y 1) (y 2) := funext fun a => match a with
    | ⟨0, _⟩ => Fin.ext (by show (y 0).val = 0; omega)
    | ⟨1, _⟩ => rfl
    | ⟨2, _⟩ => rfl
  exact (congrArg _ hy).trans (point_apply m c t p o ho inb h h' hp (y 1) (y 2) (i 0) (i 1) _ h0 h1 (congrArg (o + ·) h2))

theorem at4 : ∀ t : Fin cfg0.N, win0_4.index t 0 = t.val / 3 ∧ win0_4.index t 1 = t.val % 3 ∧ win0_4.index t 2 = 0 :=
  (by decide +kernel : ∀ t : Fin grid0.N, win0_4.index t 0 = t.val / 3 ∧ win0_4.index t 1 = t.val % 3 ∧ win0_4.index t 2 = 0)

/-- An element of a block and the element of the array it lies over. -/
theorem place {N : ℕ} (t : Fin cfg0.N) (w : Fin 3 → ℕ) (hw : w 0 = t.val / 3 ∧ w 1 = t.val % 3 ∧ w 2 = 0)
    (y : (⟨3, ![1, 768, N]⟩ : Shape).Idx) : w 0 * 1 + 1 * (y 0).val = t.val / 3
      ∧ w 1 * 768 + 1 * (y 1).val = 768 * (t.val % 3) + (y 1).val ∧ w 2 * N + 1 * (y 2).val = (y 2).val := by
  have hy0 : (y 0).val < 1 := (y 0).isLt
  rw [hw.1, hw.2.1, hw.2.2]
  exact ⟨by omega, by omega, by omega⟩

theorem result4 (c : Dev nD) : (dats m 0 c).arrAt 4 cfg0.N = res m c 256 0 (by decide) := by
  refine (dats m 0 c).arrAt_eq_of_covers 4 _ (by decide +kernel) fun t hf y => ?_
  blk_simp
  rw [after0_4]
  unfold out0_4
  rw [View.canon_unit_zero (by decide)]
  obtain ⟨h0, h1, h2⟩ := place (N := 256) t (win0_4.index t) (at4 t) y
  exact block_apply m c t 0 0 _ _ _ _ (by decide) y _ h0 h1 h2

theorem result5 (c : Dev nD) : (dats m 0 c).arrAt 5 cfg0.N = res m c 1152 256 (by decide) := by
  refine (dats m 0 c).arrAt_eq_of_covers 5 _ (by decide +kernel) fun t hf y => ?_
  blk_simp
  rw [after0_5]
  unfold out0_5
  rw [View.canon_unit_zero (by decide)]
  obtain ⟨h0, h1, h2⟩ := place (N := 1152) t (win0_5.index t) (at4 t) y
  exact block_apply m c t 256 256 _ _ _ _ (by decide) y _ h0 h1 h2

theorem result6 (c : Dev nD) : (dats m 0 c).arrAt 6 cfg0.N = res m c 384 1408 (by decide) := by
  refine (dats m 0 c).arrAt_eq_of_covers 6 _ (by decide +kernel) fun t hf y => ?_
  blk_simp
  rw [after0_6]
  unfold out0_6
  rw [View.canon_unit_zero (by decide)]
  obtain ⟨h0, h1, h2⟩ := place (N := 384) t (win0_6.index t) (at4 t) y
  exact block_apply m c t 1408 1408 _ _ _ _ (by decide) y _ h0 h1 h2

theorem result8 (c : Dev nD) : (dats m 0 c).arrAt 8 cfg0.N = res m c 384 1816 (by decide) := by
  refine (dats m 0 c).arrAt_eq_of_covers 8 _ (by decide +kernel) fun t hf y => ?_
  blk_simp
  rw [after0_8]
  unfold out0_8
  rw [View.canon_unit_zero (by decide)]
  obtain ⟨h0, h1, h2⟩ := place (N := 384) t (win0_8.index t) (at4 t) y
  exact block_apply m c t 2176 1816 _ _ _ _ (by decide) y _ h0 h1 h2

theorem result9 (c : Dev nD) : (dats m 0 c).arrAt 9 cfg0.N = res m c 128 2200 (by decide) := by
  refine (dats m 0 c).arrAt_eq_of_covers 9 _ (by decide +kernel) fun t hf y => ?_
  blk_simp
  rw [after0_9]
  unfold out0_9
  rw [View.canon_unit_zero (by decide)]
  obtain ⟨h0, h1, h2⟩ := place (N := 128) t (win0_9.index t) (at4 t) y
  exact block_apply m c t 2560 2200 _ _ _ _ (by decide) y _ h0 h1 h2

theorem result10 (c : Dev nD) : (dats m 0 c).arrAt 10 cfg0.N = res m c 128 2328 (by decide) := by
  refine (dats m 0 c).arrAt_eq_of_covers 10 _ (by decide +kernel) fun t hf y => ?_
  blk_simp
  rw [after0_10]
  unfold out0_10
  rw [View.canon_unit_zero (by decide)]
  obtain ⟨h0, h1, h2⟩ := place (N := 128) t (win0_10.index t) (at4 t) y
  exact block_apply m c t 2688 2328 _ _ _ _ (by decide) y _ h0 h1 h2

/-! ## The reference -/

section Reference
open Cert.Reference2Ideal.Read

variable (x0 : (⟨S8x2048x1024, .f32⟩ : BufTy).Contents (Elt Ideal)) (x1 : (⟨S8x256x1024, .f32⟩ : BufTy).Contents (Elt Ideal))
  (x2 : (⟨S2x8x6144, .f32⟩ : BufTy).Contents (Elt Ideal)) (x3 : (⟨S2x6144, .f32⟩ : BufTy).Contents (Elt Ideal))
  (x4 : (⟨S2x1024, .f32⟩ : BufTy).Contents (Elt Ideal)) (x5 : (⟨S2x1024x2456, .f32⟩ : BufTy).Contents (Elt Ideal))

/-- A row of the latents' modulation, `o` the first of its columns. -/
theorem ref_lat (b : Fin 8) (k : Fin 1024) (o : Fin 6) (q : Fin 6144) (hq : q.val = 1024 * o.val + k.val) :
    val_main_v2 (F := Ideal) x2 (ix3 b 0 q) = modLat x2 0 b o k := by
  rw [val_main_v2_apply, val_main_v1_apply, val_main_v0_apply]
  unfold modLat
  have hb := b.isLt; have hk := q.isLt
  show x2 _ = x2 _
  congr 1
  funext a
  apply Fin.ext
  match a with
  | ⟨0, _⟩ => rfl
  | ⟨1, _⟩ => show (b.val * 6144 + q.val) / 6144 % 8 = b.val; omega
  | ⟨2, _⟩ => show (b.val * 6144 + q.val) % 6144 = 1024 * o.val + k.val; omega

/-- A row of the context's modulation. -/
theorem ref_ctx (k : Fin 1024) (o : Fin 6) (q : Fin 6144) (hq : q.val = 1024 * o.val + k.val) :
    val_main_v10 (F := Ideal) x3 (ix1 q) = modCtx x3 0 o k := by
  rw [val_main_v10_apply, val_main_v9_apply]
  unfold modCtx
  have hk := q.isLt
  show x3 _ = x3 _
  congr 1
  funext a
  apply Fin.ext
  match a with
  | ⟨0, _⟩ => rfl
  | ⟨1, _⟩ => show q.val % 6144 = 1024 * o.val + k.val; omega

theorem ref_latents (b : Fin 8) (n : Fin 2048) (d : Fin 1024) : val_main_v37 (F := Ideal) x0 x2 x4 (ix3 b n d)
    = modnorm (fun k => x0 (ix3 b n k)) (fun k => x4 (ix2 0 k)) (modLat x2 0 b 1) (modLat x2 0 b 0) d := by
  rw [val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v18_apply, val_main_v17_apply, val_main_v4_apply, val_main_v3_apply,
    val_main_cst_apply, val_main_cst_0_apply, val_main_cst_1_apply, val_main_cst_2_apply]
  have hd := d.isLt
  have hs : ∀ k : Fin 1024, val_main_v19 (F := Ideal) x0 (idx_main_v20 (idx_main_v21 (idx_main_v27 (ix3 b n d))) k)
      = x0 (ix3 b n k) * x0 (ix3 b n k) := fun k => by
    have e : idx_main_v20 (idx_main_v21 (idx_main_v27 (ix3 b n d))) k = ix3 b n k := funext fun a => match a with
      | ⟨0, _⟩ => rfl | ⟨1, _⟩ => rfl | ⟨2, _⟩ => rfl
    rw [e, val_main_v19_apply]
    rfl
  rw [Finset.sum_congr rfl fun k _ => hs k]
  have hg : x4 (idx_main_v17 (idx_main_v18 (idx_main_v29 (idx_main_v30 (ix3 b n d))))) = x4 (ix2 0 d) := congrArg x4 (funext fun a => match a with
    | ⟨0, _⟩ => rfl
    | ⟨1, _⟩ => Fin.ext (by show d.val % 1024 = d.val; omega))
  have hsc : val_main_v2 (F := Ideal) x2 (idx_main_v4 (idx_main_v34 (ix3 b n d))) = modLat x2 0 b 1 d := by
    rw [← ref_lat x2 b d 1 ⟨1024 + d.val, by omega⟩ rfl]
    exact congrArg _ (funext fun a => match a with | ⟨0, _⟩ => rfl | ⟨1, _⟩ => rfl | ⟨2, _⟩ => rfl)
  have hsh : val_main_v2 (F := Ideal) x2 (idx_main_v3 (idx_main_v36 (ix3 b n d))) = modLat x2 0 b 0 d := by
    rw [← ref_lat x2 b d 0 ⟨d.val, by omega⟩ (by show d.val = 1024 * 0 + d.val; omega)]
    exact congrArg _ (funext fun a => match a with | ⟨0, _⟩ => rfl | ⟨1, _⟩ => rfl | ⟨2, _⟩ => rfl)
  rw [hg, hsc, hsh]
  show (_ * Ideal.rsqrt (Ideal.div (Ideal.ofBits .f32 0x00000000#32 + _) _ + _)) * _ * _ + _ = _
  rw [Dense.zero_f32, zero_add]
  rfl

theorem ref_context (b : Fin 8) (n : Fin 256) (d : Fin 1024) : val_main_v60 (F := Ideal) x1 x3 x4 (ix3 b n d)
    = modnorm (fun k => x1 (ix3 b n k)) (fun k => x4 (ix2 0 k)) (modCtx x3 0 1) (modCtx x3 0 0) d := by
  rw [val_main_v60_apply, val_main_v59_apply, val_main_v58_apply, val_main_v57_apply, val_main_v56_apply, val_main_v55_apply,
    val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v39_apply, val_main_v38_apply, val_main_v12_apply, val_main_v11_apply,
    val_main_cst_3_apply, val_main_cst_4_apply, val_main_cst_5_apply, val_main_cst_6_apply]
  have hd := d.isLt
  have hs : ∀ k : Fin 1024, val_main_v40 (F := Ideal) x1 (idx_main_v41 (idx_main_v42 (idx_main_v48 (ix3 b n d))) k)
      = x1 (ix3 b n k) * x1 (ix3 b n k) := fun k => by
    have e : idx_main_v41 (idx_main_v42 (idx_main_v48 (ix3 b n d))) k = ix3 b n k := funext fun a => match a with
      | ⟨0, _⟩ => rfl | ⟨1, _⟩ => rfl | ⟨2, _⟩ => rfl
    rw [e, val_main_v40_apply]
    rfl
  rw [Finset.sum_congr rfl fun k _ => hs k]
  have hg : x4 (idx_main_v38 (idx_main_v39 (idx_main_v50 (idx_main_v51 (ix3 b n d))))) = x4 (ix2 0 d) := congrArg x4 (funext fun a => match a with
    | ⟨0, _⟩ => rfl
    | ⟨1, _⟩ => Fin.ext (by show d.val % 1024 = d.val; omega))
  have hsc : val_main_v10 (F := Ideal) x3 (idx_main_v12 (idx_main_v55 (idx_main_v56 (ix3 b n d)))) = modCtx x3 0 1 d := by
    rw [← ref_ctx x3 d 1 ⟨1024 + d.val, by omega⟩ rfl]
    exact congrArg _ (funext fun a => match a with | ⟨0, _⟩ => rfl)
  have hsh : val_main_v10 (F := Ideal) x3 (idx_main_v11 (idx_main_v58 (idx_main_v59 (ix3 b n d)))) = modCtx x3 0 0 d := by
    rw [← ref_ctx x3 d 0 ⟨d.val, by omega⟩ (by show d.val = 1024 * 0 + d.val; omega)]
    exact congrArg _ (funext fun a => match a with | ⟨0, _⟩ => rfl)
  rw [hg, hsc, hsh]
  show (_ * Ideal.rsqrt (Ideal.div (Ideal.ofBits .f32 0x00000000#32 + _) _ + _)) * _ * _ + _ = _
  rw [Dense.zero_f32, zero_add]
  rfl

/-- The normalized rows, context first, are those of the joined stream. -/
theorem ref_rows (b : Fin 8) (n : Fin 2304) (d : Fin 1024) : val_main_v61 (F := Ideal) x0 x1 x2 x3 x4 (ix3 b n d)
    = modnorm (joined x0 x1 b n) (fun k => x4 (ix2 0 k)) (modRow x2 x3 0 b n 1) (modRow x2 x3 0 b n 0) d := by
  unfold val_main_v61
  refine (joined_apply _ _ _ b n d).trans ?_
  unfold joined modRow
  by_cases hn : n.val < 256
  · simp only [hn, dite_true, if_true]
    exact ref_context x1 x3 x4 b ⟨n.val, hn⟩ d
  · simp only [hn, dite_false, if_false]
    exact ref_latents x0 x2 x4 b ⟨n.val - 256, by omega⟩ d

theorem ref_proj (b : Fin 8) (n : Fin 2304) (q : Fin 2456) : val_main_v64 (F := Ideal) x0 x1 x2 x3 x4 x5 (ix3 b n q)
    = proj x0 x1 x2 x3 x4 x5 b n q := by
  rw [val_main_v64_apply]
  unfold proj
  refine Finset.sum_congr rfl fun k _ => congrArg₂ (fun (a b : EReal) => a * b) ?_ ?_
  · rw [← ref_rows]
    exact congrArg _ (funext fun a => match a with | ⟨0, _⟩ => rfl | ⟨1, _⟩ => rfl | ⟨2, _⟩ => rfl)
  · rw [val_main_v63_apply, val_main_v62_apply]
    have hk := k.isLt; have hq := q.isLt
    refine congrArg x5 (funext fun a => match a with
      | ⟨0, _⟩ => rfl
      | ⟨1, _⟩ => Fin.ext ?_
      | ⟨2, _⟩ => Fin.ext ?_)
    · show (k.val * 2456 + q.val) / 2456 % 1024 = k.val; omega
    · show (k.val * 2456 + q.val) % 2456 = q.val; omega

/-- Some of the reference's columns, wherever it reads them. -/
theorem ref_cols {N : ℕ} (o : ℕ) (ho : o + N ≤ 2456) (v : (⟨3, ![8, 2304, N]⟩ : Shape).Idx → EReal)
    (e : (⟨3, ![8, 2304, N]⟩ : Shape).Idx → (⟨3, ![8, 2304, 2456]⟩ : Shape).Idx) (hv : ∀ i, v i = val_main_v64 (F := Ideal) x0 x1 x2 x3 x4 x5 (e i))
    (he : ∀ i, (e i 0).val = (i 0).val ∧ (e i 1).val = (i 1).val ∧ (e i 2).val = o + (i 2).val) :
    v = cols x0 x1 x2 x3 x4 x5 N o ho := by
  funext i
  refine (hv i).trans (Eq.trans ?_ (ref_proj x0 x1 x2 x3 x4 x5 (i 0) (i 1) _))
  exact congrArg _ (funext fun a => match a with
    | ⟨0, _⟩ => Fin.ext (he i).1 | ⟨1, _⟩ => Fin.ext (he i).2.1 | ⟨2, _⟩ => Fin.ext (he i).2.2)

end Reference

/-! ## The claims -/

theorem kernel_frame : Cert.quiescent_Kernel2 (hKernel2 := Cert.Kernel2.Gen.facts) :=
  fun m ρ _ => Cert.Kernel2.Gen.frame m ρ

theorem ideal_frame : Cert.quiescent_Kernel2Ideal (hKernel2Ideal := Cert.Kernel2Ideal.Gen.facts) :=
  fun m ρ _ => Cert.Kernel2Ideal.Gen.frame m ρ

theorem reference_frame : Cert.quiescent_Reference2Ideal (hReference2Ideal := Cert.Reference2Ideal.Gen.facts) :=
  fun m ρ _ => (θ_run _ _ _).mono (fun r h => ⟨fun c => (h c).2.2.2.2.2.2, sem_eq_zero_of_no_sems (by decide) r.2⟩)
    (Cert.Reference2Ideal.Value.run m ρ)

theorem preserves : Cert.preserves_Kernel2_Kernel2Ideal := trivial

open Cert.Reference2Ideal.Read in
/-- Both compute the same columns. -/
theorem algebraic : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => (dats m 0 c).arrAt 4 cfg0.N, fun c => (dats m 0 c).arrAt 5 cfg0.N, fun c => (dats m 0 c).arrAt 6 cfg0.N,
    fun c => (dats m 0 c).arrAt 8 cfg0.N, fun c => (dats m 0 c).arrAt 9 cfg0.N, fun c => (dats m 0 c).arrAt 10 cfg0.N, ?_, ?_⟩
  · exact (θ_run _ _ _).mono (fun r h c => ⟨(h c).1, (h c).2.1, (h c).2.2.1, (h c).2.2.2.2.1, (h c).2.2.2.2.2.1, (h c).2.2.2.2.2.2⟩)
      (Cert.Kernel2Ideal.Value.run_blocks m ρ)
  · refine (θ_run _ _ _).mono (fun r h c => ?_) (Cert.Reference2Ideal.Value.run m' ρ')
    obtain ⟨h0, h1, h2, h3, h4, h5⟩ := hargs c
    obtain ⟨r0, r1, r2, r3, r4, r5, hr⟩ := h c
    have key : ∀ (N o : ℕ) (ho : o + N ≤ 2456), cols _ _ _ _ _ _ N o ho = res m c N o ho := fun N o ho => by
      unfold res
      rw [← h0, ← h1, ← h2, ← h3, ← h4, ← h5]
    refine ⟨r0.trans ?_, r1.trans ?_, r2.trans ?_, r3.trans ?_, r4.trans ?_, r5.trans ?_, hr⟩
    · exact ((val_main_v65_eq ..).trans (ref_cols _ _ _ _ _ _ 0 (by decide) _ idx_main_v65 (val_main_v65_apply _ _ _ _ _ _)
        fun i => ⟨rfl, rfl, (Nat.zero_add _).symm⟩)).trans ((key 256 0 (by decide)).trans (result4 m c).symm)
    · exact ((val_main_v66_eq ..).trans (ref_cols _ _ _ _ _ _ 256 (by decide) _ idx_main_v66 (val_main_v66_apply _ _ _ _ _ _)
        fun i => ⟨rfl, rfl, rfl⟩)).trans ((key 1152 256 (by decide)).trans (result5 m c).symm)
    · exact ((val_main_v67_eq ..).trans (ref_cols _ _ _ _ _ _ 1408 (by decide) _ idx_main_v67 (val_main_v67_apply _ _ _ _ _ _)
        fun i => ⟨rfl, rfl, rfl⟩)).trans ((key 384 1408 (by decide)).trans (result6 m c).symm)
    · exact ((val_main_v69_eq ..).trans (ref_cols _ _ _ _ _ _ 1816 (by decide) _ idx_main_v69 (val_main_v69_apply _ _ _ _ _ _)
        fun i => ⟨rfl, rfl, rfl⟩)).trans ((key 384 1816 (by decide)).trans (result8 m c).symm)
    · exact ((val_main_v70_eq ..).trans (ref_cols _ _ _ _ _ _ 2200 (by decide) _ idx_main_v70 (val_main_v70_apply _ _ _ _ _ _)
        fun i => ⟨rfl, rfl, rfl⟩)).trans ((key 128 2200 (by decide)).trans (result9 m c).symm)
    · exact ((val_main_v71_eq ..).trans (ref_cols _ _ _ _ _ _ 2328 (by decide) _ idx_main_v71 (val_main_v71_apply _ _ _ _ _ _)
        fun i => ⟨rfl, rfl, rfl⟩)).trans ((key 128 2328 (by decide)).trans (result10 m c).symm)

end Cert.Proof.In

end
-- ==== Proof.Out.lean ====
/- The output projection, its residual and the norm after it: the claims of `out_proj`. -/
module

public import proofs.«01_k».proof.Defs
public import proofs.«01_k».proof.Proof.Norm
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Proof.Out

open Cert.Kernel3Ideal Cert.Kernel3Ideal.Gen Cert.Proof.Norm
open Idealize.ShloMosaic hiding ix1 ix2 ix3 ix4 ix5 eq_ix1 eq_ix2 eq_ix3
open Idealize.ShloMosaic.TcCoe Idealize.ShloMosaic.ValueIdx Idealize.SL.Sem
open scoped BigOperators

/-- The three mixers' outputs of a token, side by side. -/
def mixed (Ya : (⟨3, ![8, 2304, 256]⟩ : Shape).Idx → EReal) (Yb Yc : (⟨3, ![8, 2304, 384]⟩ : Shape).Idx → EReal)
    (b : Fin 8) (n : Fin 2304) (k : Fin 1024) : EReal :=
  if h : k.val < 256 then Ya (ix3 b n ⟨k.val, h⟩)
  else if h' : k.val < 640 then Yb (ix3 b n ⟨k.val - 256, by omega⟩) else Yc (ix3 b n ⟨k.val - 640, by omega⟩)

/-- The residual stream after the projection. -/
def stream (X : (⟨3, ![8, 2048, 1024]⟩ : Shape).Idx → EReal) (K : (⟨3, ![8, 256, 1024]⟩ : Shape).Idx → EReal)
    (Ya : (⟨3, ![8, 2304, 256]⟩ : Shape).Idx → EReal) (Yb Yc : (⟨3, ![8, 2304, 384]⟩ : Shape).Idx → EReal)
    (W : (⟨3, ![2, 1024, 1024]⟩ : Shape).Idx → EReal) (M : (⟨3, ![2, 8, 6144]⟩ : Shape).Idx → EReal) (C : (⟨2, ![2, 6144]⟩ : Shape).Idx → EReal)
    (b : Fin 8) (n : Fin 2304) (d : Fin 1024) : EReal :=
  joined X K b n d + modRow M C 0 b n 2 d * ∑ k : Fin 1024, mixed Ya Yb Yc b n k * W (ix3 0 k d)

/-- The stream normalized and modulated. -/
def normed (X : (⟨3, ![8, 2048, 1024]⟩ : Shape).Idx → EReal) (K : (⟨3, ![8, 256, 1024]⟩ : Shape).Idx → EReal)
    (Ya : (⟨3, ![8, 2304, 256]⟩ : Shape).Idx → EReal) (Yb Yc : (⟨3, ![8, 2304, 384]⟩ : Shape).Idx → EReal)
    (W : (⟨3, ![2, 1024, 1024]⟩ : Shape).Idx → EReal) (M : (⟨3, ![2, 8, 6144]⟩ : Shape).Idx → EReal) (C : (⟨2, ![2, 6144]⟩ : Shape).Idx → EReal)
    (G : (⟨2, ![2, 1024]⟩ : Shape).Idx → EReal) (b : Fin 8) (n : Fin 2304) (d : Fin 1024) : EReal :=
  modnorm (stream X K Ya Yb Yc W M C b n) (fun k => G (ix2 0 k)) (modRow M C 0 b n 4) (modRow M C 0 b n 3) d

/-! ## A tile -/

/-- A sum over the mixers' columns, mixer by mixer. -/
theorem sum_parts (f : Fin 1024 → EReal) : (∑ k : Fin 256, f ⟨k.val, by omega⟩) + (∑ k : Fin 384, f ⟨256 + k.val, by omega⟩)
    + (∑ k : Fin 384, f ⟨640 + k.val, by omega⟩) = ∑ k : Fin 1024, f k := by
  have h : ∑ k : Fin 1024, f k = _ := Fin.sum_univ_add (a := 640) (b := 384) f
  have h' := Fin.sum_univ_add (a := 256) (b := 384) (fun k : Fin 640 => f (Fin.castAdd 384 k))
  rw [h]
  exact congrArg (· + _) h'.symm

/-- A mixer's output against its rows of the weights. -/
theorem part_apply {N : ℕ} (y : Vec Ideal (⟨3, ![1, 768, N]⟩ : Shape) .f32) (w : FVec Ideal (⟨2, ![N, 1024]⟩ : Shape) .bf16) (h) (h')
    (hb : FTy.bits .bf16 < FTy.bits .f32) (r : Fin 768) (d : Fin 1024) :
    FloatOps.matmul (DotDims.plain 768 N 1024) none (truncf .bf16 (shapeCast (⟨2, ![768, N]⟩ : Shape) y h : FVec Ideal (⟨2, ![768, N]⟩ : Shape) .f32) hb)
      (shapeCast (⟨2, ![N, 1024]⟩ : Shape) w h') (constant (F := Ideal) (⟨2, ![768, 1024]⟩ : Shape) .f32 0x00000000#32) (ix2 r d)
      = ∑ k : Fin N, y (ix3 0 r k) * w (ix2 k d) := by
  rw [shapeCast_self]
  refine (Ideal.matmul_plain_apply none _ w _ r d).trans ?_
  show Ideal.ofBits .f32 0x00000000#32 + _ = _
  rw [Dense.zero_f32, zero_add]
  exact Finset.sum_congr rfl fun k _ => congrArg (fun a : EReal => a * w (ix2 k d)) (flat3 y h r k)

theorem mask (i : grid0.Coords) (r : Fin 768) : k0_pay3 i (ix2 r 0) = BitVec.ofBool (decide (256 ≤ 768 * (i 1).val + r.val)) := by
  show IntOp.cmpi .sge ((0#32 + BitVec.ofNat 32 (i 1).val * 768#32) + BitVec.ofNat 32 (0 * 768 + r.val)) 256#32 = _
  rw [BitVec.zero_add]
  exact mask_apply ⟨(i 1).val, (i 1).isLt⟩ r

theorem pick (i : grid0.Coords) (u v : Vec Ideal S1x1x1x1024 .f32) (r : Fin 768) (k : Fin 1024) (h0) (h1) (h2) (h3) (h4) (h5) :
    select (broadcastTo S768x1024 (shapeCast S768x1 (k0_pay3 i) h0) h1)
      (broadcastTo S768x1024 (shapeCast S1x1024 (shapeCast S1x1024 u h2) h3) h4)
      (broadcastTo S768x1024 (shapeCast S1x1024 (shapeCast S1x1024 v h2) h3) h5) (ix2 r k)
      = if 768 * (i 1).val + r.val < 256 then v (ix4 0 0 0 k) else u (ix4 0 0 0 k) := by
  rw [shapeCast_self, shapeCast_self, shapeCast_self]
  refine (pick_apply _ _ (k0_pay3 i) (768 * (i 1).val + r.val) r (mask i r) _ _ _ k).trans ?_
  rw [flat4, flat4]

theorem table_row (s : Vec Ideal S1x2x6x1024 .f32) (o p : ℕ) (inb) (ho : o < 2) (hp : p < 6) (k : Fin 1024) :
    View.ld s (Rect.unit (s := S1x2x6x1024) ![0, o, p, 0] S1x1x1x1024.size inb) (ix4 0 0 0 k) = s (ix4 0 ⟨o, ho⟩ ⟨p, hp⟩ k) := by
  show s _ = _
  congr 1
  funext a
  apply Fin.ext
  match a with
  | ⟨0, _⟩ => rfl
  | ⟨1, _⟩ => rfl
  | ⟨2, _⟩ => rfl
  | ⟨3, _⟩ => show 0 + 1 * k.val = k.val; omega

theorem weight_rows {N : ℕ} (w : Vec Ideal S1024x1024 .bf16) (p : ℕ) (inb) (hp : p + N ≤ 1024) (k : Fin N) (d : Fin 1024) :
    View.ld w (Rect.unit (s := S1024x1024) ![p, 0] (⟨2, ![N, 1024]⟩ : Shape).size inb) (ix2 k d) = w (ix2 ⟨p + k.val, by omega⟩ d) := by
  show w _ = _
  congr 1
  funext a
  apply Fin.ext
  match a with
  | ⟨0, _⟩ => show p + 1 * k.val = p + k.val; omega
  | ⟨1, _⟩ => show 0 + 1 * d.val = d.val; omega

variable (i : grid0.Coords) (x0 : Vec Ideal S1x768x1024 .f32) (x1 : Vec Ideal S1x768x256 .f32) (x2 x3 : Vec Ideal S1x768x384 .f32)
  (x4 : Vec Ideal S1024x1024 .bf16) (x5 : Vec Ideal S1x2x6x1024 .f32) (x6 : Vec Ideal S1x1024 .f32) (r : Fin 768) (d : Fin 1024)

theorem product_apply : k0_pay12 i x0 x1 x2 x3 x4 x5 x6 (ix2 r d)
    = (∑ k : Fin 256, x1 (ix3 0 r k) * x4 (ix2 ⟨0 + k.val, by omega⟩ d)) + (∑ k : Fin 384, x2 (ix3 0 r k) * x4 (ix2 ⟨256 + k.val, by omega⟩ d))
      + (∑ k : Fin 384, x3 (ix3 0 r k) * x4 (ix2 ⟨640 + k.val, by omega⟩ d)) := by
  unfold k0_pay12 k0_pay2
  rw [View.ld_unit_zero (by decide), View.ld_unit_zero (by decide), View.ld_unit_zero (by decide)]
  refine congrArg₂ (fun (a b : EReal) => a + b) (congrArg₂ (fun (a b : EReal) => a + b) ((part_apply x1 _ _ _ _ r d).trans ?_)
    ((part_apply x2 _ _ _ _ r d).trans ?_)) ((part_apply x3 _ _ _ _ r d).trans ?_)
  · exact Finset.sum_congr rfl fun k _ => congrArg (x1 (ix3 0 r k) * ·) (weight_rows x4 0 _ (by decide) k d)
  · exact Finset.sum_congr rfl fun k _ => congrArg (x2 (ix3 0 r k) * ·) (weight_rows x4 256 _ (by decide) k d)
  · exact Finset.sum_congr rfl fun k _ => congrArg (x3 (ix3 0 r k) * ·) (weight_rows x4 640 _ (by decide) k d)

/-- The stream a tile leaves, from the product. -/
abbrev resid : FVec Ideal S768x1024 .f32 := k0_pay5 (k0_pay12 i x0 x1 x2 x3 x4 x5 x6) (k0_pay13 i x0 x1 x2 x3 x4 x5 x6)
  (k0_pay14 i x0 x1 x2 x3 x4 x5 x6) (View.ld x5 r0_6) (View.ld x5 r0_7)

theorem resid_apply : resid i x0 x1 x2 x3 x4 x5 x6 (ix2 r d) = x0 (ix3 0 r d)
    + (if 768 * (i 1).val + r.val < 256 then x5 (ix4 0 0 2 d) else x5 (ix4 0 1 2 d)) * k0_pay12 i x0 x1 x2 x3 x4 x5 x6 (ix2 r d) := by
  unfold resid k0_pay5 k0_pay13 k0_pay14 k0_pay4
  rw [View.ld_unit_zero (by decide)]
  refine congrArg₂ (fun (a b : EReal) => a + b) (flat3 x0 _ r d) (congrArg (fun a : EReal => a * _) ((pick i _ _ r d _ _ _ _ _ _).trans ?_))
  rw [table_row x5 0 2 _ (by decide) (by decide), table_row x5 1 2 _ (by decide) (by decide)]
  rfl

theorem first_apply : out0_7 i x0 x1 x2 x3 x4 x5 x6 (ix3 0 r d) = resid i x0 x1 x2 x3 x4 x5 x6 (ix2 r d) := by
  unfold out0_7
  rw [View.canon_unit_zero (by decide)]
  unfold k0_pay6
  exact lift3 _ _ r d

theorem second_apply : out0_8 i x0 x1 x2 x3 x4 x5 x6 (ix3 0 r d)
    = modnorm (fun k => resid i x0 x1 x2 x3 x4 x5 x6 (ix2 r k)) (fun k => x6 (ix2 0 k))
        (fun k => if 768 * (i 1).val + r.val < 256 then x5 (ix4 0 0 4 k) else x5 (ix4 0 1 4 k))
        (fun k => if 768 * (i 1).val + r.val < 256 then x5 (ix4 0 0 3 k) else x5 (ix4 0 1 3 k)) d := by
  have hg : k0_pay7 x6 = x6 := by unfold k0_pay7; exact shapeCast_self _ _
  unfold out0_8
  rw [View.canon_unit_zero (by decide)]
  rw [View.ld_unit_zero (S := S1x1024) (by decide), hg]
  unfold k0_pay1
  refine (lift3 _ _ r d).trans ?_
  unfold modnorm k0_pay8 k0_pay9 k0_pay10 k0_pay11 k0_pay13
  refine congrArg₂ (fun (a b : EReal) => a + b) (congrArg₂ (fun (a b : EReal) => a * b) (congrArg₂ (fun (a b : EReal) => a * b)
    (rms_apply (resid i x0 x1 x2 x3 x4 x5 x6) _ _ _ _ _ _ r d) (spreadRow x6 _ r d))
    (congrArg (fun b : EReal => _ + b) ((pick i _ _ r d _ _ _ _ _ _).trans ?_))) ((pick i _ _ r d _ _ _ _ _ _).trans ?_)
  · rw [table_row x5 0 4 _ (by decide) (by decide), table_row x5 1 4 _ (by decide) (by decide)]; rfl
  · rw [table_row x5 0 3 _ (by decide) (by decide), table_row x5 1 3 _ (by decide) (by decide)]; rfl

/-! ## The blocks -/

variable (m : (ℓ : Loc nD τ sig) → Buf (Elt Ideal) ℓ)

theorem at0 : ∀ t : Fin cfg0.N, win0_0.index t 0 = t.val / 3 ∧ win0_0.index t 1 = t.val % 3 ∧ win0_0.index t 2 = 0 :=
  (by decide +kernel : ∀ t : Fin grid0.N, win0_0.index t 0 = t.val / 3 ∧ win0_0.index t 1 = t.val % 3 ∧ win0_0.index t 2 = 0)
theorem at3 : ∀ t : Fin cfg0.N, win0_3.index t 0 = t.val / 3 ∧ win0_3.index t 1 = t.val % 3 ∧ win0_3.index t 2 = 0 :=
  (by decide +kernel : ∀ t : Fin grid0.N, win0_3.index t 0 = t.val / 3 ∧ win0_3.index t 1 = t.val % 3 ∧ win0_3.index t 2 = 0)
theorem at7 : ∀ t : Fin cfg0.N, win0_7.index t 0 = t.val / 3 ∧ win0_7.index t 1 = t.val % 3 ∧ win0_7.index t 2 = 0 :=
  (by decide +kernel : ∀ t : Fin grid0.N, win0_7.index t 0 = t.val / 3 ∧ win0_7.index t 1 = t.val % 3 ∧ win0_7.index t 2 = 0)
theorem at8 : ∀ t : Fin cfg0.N, win0_8.index t 0 = t.val / 3 ∧ win0_8.index t 1 = t.val % 3 ∧ win0_8.index t 2 = 0 :=
  (by decide +kernel : ∀ t : Fin grid0.N, win0_8.index t 0 = t.val / 3 ∧ win0_8.index t 1 = t.val % 3 ∧ win0_8.index t 2 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val / 3 ∧ win0_5.index t 1 = 0 ∧ win0_5.index t 2 = 0 ∧ win0_5.index t 3 = 0 :=
  (by decide +kernel : ∀ t : Fin grid0.N, win0_5.index t 0 = t.val / 3 ∧ win0_5.index t 1 = 0 ∧ win0_5.index t 2 = 0 ∧ win0_5.index t 3 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem tile_of : ∀ t : Fin cfg0.N, ((grid0.coords t) 1).val = t.val % 3 :=
  (by decide +kernel : ∀ t : Fin grid0.N, ((grid0.coords t) 1).val = t.val % 3)

theorem V_rows (c : Dev nD) : V m c main_v0 = concatenate S8x2304x1024 1 [⟨S8x256x1024, m ((c : Thread nD τ).loc main_arg1)⟩,
    ⟨S8x2048x1024, m ((c : Thread nD τ).loc main_arg0)⟩] concatenates_S8x256x1024_S8x2048x1024_S8x2304x1024_d1 := by
  unfold V; after_results <;> rfl

theorem V_weights (c : Dev nD) : V m c main_v3 = (truncf (F := Ideal) .bf16 (shapeCast S1024x1024
    (extractStridedSlice S1x1024x1024 ![0, 0, 0] (m ((c : Thread nD τ).loc main_arg5)) slices_S2x1024x1024_S1x1024x1024_0_0_0)
    shapeCasts_S1x1024x1024_S1024x1024 : FVec Ideal S1024x1024 .f32) bitsLt_bf16_f32 : Vec Ideal S1024x1024 .bf16) := by
  unfold V; after_results <;> rfl

theorem V_table (c : Dev nD) : V m c main_v9 = shapeCast S8x2x6x1024 (extractStridedSlice S1x8x2x6x1024 ![0, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg7)) shapeCasts_S2x6144_S2x1x1x6x1024)⟩,
       ⟨S2x8x1x6x1024, shapeCast S2x8x1x6x1024 (m ((c : Thread nD τ).loc main_arg6)) shapeCasts_S2x8x6144_S2x8x1x6x1024⟩]
      concatenates_S2x8x1x6x1024_S2x8x1x6x1024_S2x8x2x6x1024_d2) slices_S2x8x2x6x1024_S1x8x2x6x1024_0_0_0_0_0) shapeCasts_S1x8x2x6x1024_S8x2x6x1024 := by
  unfold V; after_results <;> rfl

theorem V_gain (c : Dev nD) : V m c main_v12 = broadcastInDim S1x1024 ![1] bcast_S1024_S1x1024_1 (shapeCast S1024
    (extractStridedSlice S1x1024 ![0, 0] (m ((c : Thread nD τ).loc main_arg8)) slices_S2x1024_S1x1024_0_0) shapeCasts_S1x1024_S1024) := by
  unfold V; after_results <;> rfl

/-- A row of a block of 768 rows lies in the array at its tile's place. -/
theorem row_read {N : ℕ} (t : Fin cfg0.N) (w : Fin 3 → ℕ) (hw : w 0 = t.val / 3 ∧ w 1 = t.val % 3 ∧ w 2 = 0) (r : Fin 768) (k : Fin N)
    (b : Fin 8) (n : Fin 2304) (hb : b.val = t.val / 3) (hn : n.val = 768 * (t.val % 3) + r.val) (i : (⟨3, ![8, 2304, N]⟩ : Shape).Idx)
    (h0 : (i 0).val = w 0 * 1 + 1 * 0) (h1 : (i 1).val = w 1 * 768 + 1 * r.val) (h2 : (i 2).val = w 2 * N + 1 * k.val) : i = ix3 b n k := by
  rw [hw.1] at h0
  rw [hw.2.1] at h1
  rw [hw.2.2] at h2
  funext a
  apply Fin.ext
  match a with
  | ⟨0, _⟩ => show (i 0).val = b.val; omega
  | ⟨1, _⟩ => show (i 1).val = n.val; omega
  | ⟨2, _⟩ => show (i 2).val = k.val; omega

section Reads
variable (c : Dev nD) (t : Fin cfg0.N) (b : Fin 8) (n : Fin 2304) (hb : b.val = t.val / 3) (hn : n.val = 768 * (t.val % 3) + r.val)
include hb hn

theorem read0 (k : Fin 1024) : (iblk m c 0 t : Vec Ideal S1x768x1024 .f32) (ix3 0 r k)
    = joined (m ((c : Thread nD τ).loc main_arg0)) (m ((c : Thread nD τ).loc main_arg1)) b n k := by
  have h : (iblk m c 0 t : Vec Ideal S1x768x1024 .f32) (ix3 0 r k) = (V m c main_v0 : Vec Ideal S8x2304x1024 .f32) (ix3 b n k) := by
    unfold iblk
    rw [View.read_apply]
    show V m c main_v0 _ = _
    exact congrArg _ (row_read t (win0_0.index t) (at0 t) r k b n hb hn _ rfl rfl rfl)
  rw [h, V_rows]
  exact joined_apply _ _ _ _ _ _

theorem read1 (k : Fin 256) : (iblk m c 1 t : Vec Ideal S1x768x256 .f32) (ix3 0 r k)
    = (m ((c : Thread nD τ).loc main_arg2) : Vec Ideal S8x2304x256 .f32) (ix3 b n k) := by
  unfold iblk
  rw [View.read_apply]
  show V m c main_arg2 _ = _
  rw [V_main_arg2]
  exact congrArg _ (row_read t (win0_1.index t) (at0 t) r k b n hb hn _ rfl rfl rfl)

theorem read2 (k : Fin 384) : (iblk m c 2 t : Vec Ideal S1x768x384 .f32) (ix3 0 r k)
    = (m ((c : Thread nD τ).loc main_arg3) : Vec Ideal S8x2304x384 .f32) (ix3 b n k) := by
  unfold iblk
  rw [View.read_apply]
  show V m c main_arg3 _ = _
  rw [V_main_arg3]
  exact congrArg _ (row_read t (win0_2.index t) (at0 t) r k b n hb hn _ rfl rfl rfl)

theorem read3 (k : Fin 384) : (iblk m c 3 t : Vec Ideal S1x768x384 .f32) (ix3 0 r k)
    = (m ((c : Thread nD τ).loc main_arg4) : Vec Ideal S8x2304x384 .f32) (ix3 b n k) := by
  unfold iblk
  rw [View.read_apply]
  show V m c main_arg4 _ = _
  rw [V_main_arg4]
  exact congrArg _ (row_read t (win0_3.index t) (at3 t) r k b n hb hn _ rfl rfl rfl)

end Reads

theorem read4 (c : Dev nD) (t : Fin cfg0.N) (k d : Fin 1024) : (iblk m c 4 t : Vec Ideal S1024x1024 .bf16) (ix2 k d)
    = (m ((c : Thread nD τ).loc main_arg5) : Vec Ideal S2x1024x1024 .f32) (ix3 0 k d) := by
  have h : (iblk m c 4 t : Vec Ideal S1024x1024 .bf16) (ix2 k d) = (V m c main_v3 : Vec Ideal S1024x1024 .bf16) (ix2 k d) := by
    unfold iblk
    rw [View.read_apply]
    show V m c main_v3 _ = _
    congr 1
    funext a
    apply Fin.ext
    match a with
    | ⟨0, _⟩ => show win0_4.index t 0 * 1024 + 1 * k.val = k.val; rw [(at4 t).1]; omega
    | ⟨1, _⟩ => show win0_4.index t 1 * 1024 + 1 * d.val = d.val; rw [(at4 t).2]; omega
  rw [h, V_weights]
  refine (flat3 (R := 1024) (C := 1024) (extractStridedSlice S1x1024x1024 ![0, 0, 0] (m ((c : Thread nD τ).loc main_arg5))
    slices_S2x1024x1024_S1x1024x1024_0_0_0) _ k d).trans ?_
  exact extractStridedSlice_apply ![0, 0, 0] _ _ (ix3 (0 : Fin 1) k d) (ix3 (0 : Fin 2) k d) (fun a => match a with
    | ⟨0, _⟩ => rfl
    | ⟨1, _⟩ => by show k.val = 0 + k.val; omega
    | ⟨2, _⟩ => by show d.val = 0 + d.val; omega)

theorem read5 (c : Dev nD) (t : Fin cfg0.N) (s : Fin 2) (j : Fin 6) (k : Fin 1024) (b : Fin 8) (hb : b.val = t.val / 3) :
    (iblk m c 5 t : Vec Ideal S1x2x6x1024 .f32) (ix4 0 s j k)
      = if s.val = 0 then modCtx (m ((c : Thread nD τ).loc main_arg7)) 0 j k else modLat (m ((c : Thread nD τ).loc main_arg6)) 0 b j k := by
  have h : (iblk m c 5 t : Vec Ideal S1x2x6x1024 .f32) (ix4 0 s j k) = (V m c main_v9 : Vec Ideal S8x2x6x1024 .f32) (ix4 b s j k) := by
    unfold iblk
    rw [View.read_apply]
    show V m c main_v9 _ = _
    congr 1
    funext a
    apply Fin.ext
    match a with
    | ⟨0, _⟩ => show win0_5.index t 0 * 1 + 1 * 0 = b.val; rw [(at5 t).1]; omega
    | ⟨1, _⟩ => show win0_5.index t 1 * 2 + 1 * s.val = s.val; rw [(at5 t).2.1]; omega
    | ⟨2, _⟩ => show win0_5.index t 2 * 6 + 1 * j.val = j.val; rw [(at5 t).2.2.1]; omega
    | ⟨3, _⟩ => show win0_5.index t 3 * 1024 + 1 * k.val = k.val; rw [(at5 t).2.2.2]; omega
  rw [h, V_table]
  exact table_apply 0 (m ((c : Thread nD τ).loc main_arg6)) (m ((c : Thread nD τ).loc main_arg7)) _ _ _ _ _ _ b s j k

theorem read6 (c : Dev nD) (t : Fin cfg0.N) (k : Fin 1024) :
    (iblk m c 6 t : Vec Ideal S1x1024 .f32) (ix2 0 k) = (m ((c : Thread nD τ).loc main_arg8) : Vec Ideal S2x1024 .f32) (ix2 0 k) := by
  have h : (iblk m c 6 t : Vec Ideal S1x1024 .f32) (ix2 0 k) = (V m c main_v12 : Vec Ideal S1x1024 .f32) (ix2 0 k) := by
    unfold iblk
    rw [View.read_apply]
    show V m c main_v12 _ = _
    congr 1
    funext a
    apply Fin.ext
    match a with
    | ⟨0, _⟩ => show win0_6.index t 0 * 1 + 1 * 0 = 0; rw [(at6 t).1]
    | ⟨1, _⟩ => show win0_6.index t 1 * 1024 + 1 * k.val = k.val; rw [(at6 t).2]; omega
  rw [h, V_gain]
  refine (broadcastInDim_apply ![1] _ _ (ix2 0 k) (ix1 k) (fun a => match a with | ⟨0, _⟩ => rfl)).trans ?_
  refine (shapeCast_apply _ _ (ix1 k) (ix2 0 k) (by
    rewrite [Shape.rowMajor_val_one, Shape.rowMajor_val_two]
    show 0 * 1024 + k.val = k.val
    omega)).trans ?_
  exact extractStridedSlice_apply ![0, 0] _ _ (ix2 (0 : Fin 1) k) (ix2 (0 : Fin 2) k) (fun a => match a with
    | ⟨0, _⟩ => rfl
    | ⟨1, _⟩ => by show k.val = 0 + k.val; omega)

/-! ## The results -/

/-- The stream and the normed tokens, of the arguments in memory. -/
abbrev streamOf (c : Dev nD) : Fin 8 → Fin 2304 → Fin 1024 → EReal :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
abbrev normedOf (c : Dev nD) : Fin 8 → Fin 2304 → Fin 1024 → EReal :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

section Blocks
variable (c : Dev nD) (t : Fin cfg0.N) (b : Fin 8) (n : Fin 2304) (hb : b.val = t.val / 3) (hn : n.val = 768 * (t.val % 3) + r.val)
include hb hn

/-- The row of the table a tile's row picks. -/
theorem row_apply (j : Fin 6) (k : Fin 1024) :
    (if 768 * ((grid0.coords t) 1).val + r.val < 256 then (iblk m c 5 t : Vec Ideal S1x2x6x1024 .f32) (ix4 0 0 j k)
      else (iblk m c 5 t : Vec Ideal S1x2x6x1024 .f32) (ix4 0 1 j k))
      = modRow (m ((c : Thread nD τ).loc main_arg6)) (m ((c : Thread nD τ).loc main_arg7)) 0 b n j k := by
  rw [read5 m c t 0 j k b hb, read5 m c t 1 j k b hb, tile_of t, ← hn]
  rfl

theorem resid_block : resid (grid0.coords t) (iblk m c 0 t) (iblk m c 1 t) (iblk m c 2 t) (iblk m c 3 t) (iblk m c 4 t) (iblk m c 5 t)
    (iblk m c 6 t) (ix2 r d) = streamOf m c b n d := by
  refine (resid_apply _ _ _ _ _ _ _ _ r d).trans ?_
  rw [row_apply r m c t b n hb hn 2 d, product_apply, read0 r m c t b n hb hn d]
  unfold streamOf stream
  rw [← sum_parts]
  refine congrArg (fun a : EReal => _ + _ * a) (congrArg₂ (fun (a b : EReal) => a + b) (congrArg₂ (fun (a b : EReal) => a + b) ?_ ?_) ?_)
  · refine Finset.sum_congr rfl fun k _ => ?_
    rw [read1 r m c t b n hb hn k, read4]
    have hk := k.isLt
    unfold mixed
    rw [dif_pos hk]
    simp only [Nat.zero_add]
  · refine Finset.sum_congr rfl fun k _ => ?_
    rw [read2 r m c t b n hb hn k, read4]
    have hk := k.isLt
    unfold mixed
    rw [dif_neg (by show ¬ 256 + k.val < 256; omega), dif_pos (by show 256 + k.val < 640; omega)]
    congr 3
    exact Fin.ext (by show k.val = 256 + k.val - 256; omega)
  · refine Finset.sum_congr rfl fun k _ => ?_
    rw [read3 r m c t b n hb hn k, read4]
    have hk := k.isLt
    unfold mixed
    rw [dif_neg (by show ¬ 640 + k.val < 256; omega), dif_neg (by show ¬ 640 + k.val < 640; omega)]
    congr 3
    exact Fin.ext (by show k.val = 640 + k.val - 640; omega)

theorem first_block : out0_7 (grid0.coords t) (iblk m c 0 t) (iblk m c 1 t) (iblk m c 2 t) (iblk m c 3 t) (iblk m c 4 t) (iblk m c 5 t)
    (iblk m c 6 t) (ix3 0 r d) = streamOf m c b n d :=
  (first_apply _ _ _ _ _ _ _ _ r d).trans (resid_block r d m c t b n hb hn)

theorem second_block : out0_8 (grid0.coords t) (iblk m c 0 t) (iblk m c 1 t) (iblk m c 2 t) (iblk m c 3 t) (iblk m c 4 t) (iblk m c 5 t)
    (iblk m c 6 t) (ix3 0 r d) = normedOf m c b n d := by
  refine (second_apply _ _ _ _ _ _ _ _ r d).trans ?_
  rw [funext fun k => resid_block r k m c t b n hb hn, funext fun k => read6 m c t k, funext fun k => row_apply r m c t b n hb hn 4 k,
    funext fun k => row_apply r m c t b n hb hn 3 k]
  rfl

end Blocks

/-- An array is known from its blocks of 768 rows, row by row. -/
theorem of_rows (f : Fin 8 → Fin 2304 → Fin 1024 → EReal) (t : Fin cfg0.N) (w : Fin 3 → ℕ)
    (hw : w 0 = t.val / 3 ∧ w 1 = t.val % 3 ∧ w 2 = 0) (v : (⟨3, ![1, 768, 1024]⟩ : Shape).Idx → EReal)
    (hv : ∀ (r : Fin 768) (d : Fin 1024) (b : Fin 8) (n : Fin 2304), b.val = t.val / 3 → n.val = 768 * (t.val % 3) + r.val → v (ix3 0 r d) = f b n d)
    (y : (⟨3, ![1, 768, 1024]⟩ : Shape).Idx) (i : (⟨3, ![8, 2304, 1024]⟩ : Shape).Idx)
    (h0 : (i 0).val = w 0 * 1 + 1 * (y 0).val) (h1 : (i 1).val = w 1 * 768 + 1 * (y 1).val) (h2 : (i 2).val = w 2 * 1024 + 1 * (y 2).val) :
    v y = f (i 0) (i 1) (i 2) := by
  have hy0 : (y 0).val < 1 := (y 0).isLt
  rw [hw.1] at h0
  rw [hw.2.1] at h1
  rw [hw.2.2] at h2
  have hy : y = ix3 (n0 := 1) (n1 := 768) (n2 := 1024) 0 (y 1) (y 2) := funext fun a => match a with
    | ⟨0, _⟩ => Fin.ext (by show (y 0).val = 0; omega)
    | ⟨1, _⟩ => rfl
    | ⟨2, _⟩ => rfl
  refine (congrArg v hy).trans ((hv (y 1) (y 2) (i 0) (i 1) (by omega) (by omega)).trans (congrArg (f (i 0) (i 1)) (Fin.ext ?_)))
  show (y 2).val = (i 2).val
  omega

theorem result7 (c : Dev nD) : (dats m 0 c).arrAt 7 cfg0.N = fun i : S8x2304x1024.Idx => streamOf m c (i 0) (i 1) (i 2) := by
  refine (dats m 0 c).arrAt_eq_of_covers 7 _ (by decide +kernel) fun t hf y => ?_
  blk_simp
  rw [after0_7]
  exact of_rows (streamOf m c) t (win0_7.index t) (at7 t) _ (fun r d b n hb hn => first_block r d m c t b n hb hn) y _ rfl rfl rfl

theorem result8 (c : Dev nD) : (dats m 0 c).arrAt 8 cfg0.N = fun i : S8x2304x1024.Idx => normedOf m c (i 0) (i 1) (i 2) := by
  refine (dats m 0 c).arrAt_eq_of_covers 8 _ (by decide +kernel) fun t hf y => ?_
  blk_simp
  rw [after0_8]
  exact of_rows (normedOf m c) t (win0_8.index t) (at8 t) _ (fun r d b n hb hn => second_block r d m c t b n hb hn) y _ rfl rfl rfl

/-! ## The reference -/

section Reference
open Cert.Reference3Ideal.Read

variable (a0 : (⟨S8x2048x1024, .f32⟩ : BufTy).Contents (Elt Ideal)) (a1 : (⟨S8x256x1024, .f32⟩ : BufTy).Contents (Elt Ideal))
  (a2 : (⟨S8x2304x256, .f32⟩ : BufTy).Contents (Elt Ideal)) (a3 a4 : (⟨S8x2304x384, .f32⟩ : BufTy).Contents (Elt Ideal))
  (a5 : (⟨S2x1024x1024, .f32⟩ : BufTy).Contents (Elt Ideal))
  (a6 : (⟨S2x8x6144, .f32⟩ : BufTy).Contents (Elt Ideal)) (a7 : (⟨S2x6144, .f32⟩ : BufTy).Contents (Elt Ideal))
  (a8 : (⟨S2x1024, .f32⟩ : BufTy).Contents (Elt Ideal))

/-- A row of the latents' modulation, `o` the first of its columns. -/
theorem ref_lat (b : Fin 8) (k : Fin 1024) (o : Fin 6) (q : Fin 6144) (hq : q.val = 1024 * o.val + k.val) :
    val_main_v2 (F := Ideal) a6 (ix3 b 0 q) = modLat a6 0 b o k := by
  rw [val_main_v2_apply, val_main_v1_apply, val_main_v0_apply]
  unfold modLat
  have hb := b.isLt; have hk := q.isLt
  show a6 _ = a6 _
  congr 1
  funext a
  apply Fin.ext
  match a with
  | ⟨0, _⟩ => rfl
  | ⟨1, _⟩ => show (b.val * 6144 + q.val) / 6144 % 8 = b.val; omega
  | ⟨2, _⟩ => show (b.val * 6144 + q.val) % 6144 = 1024 * o.val + k.val; omega

/-- A row of the context's modulation. -/
theorem ref_ctx (k : Fin 1024) (o : Fin 6) (q : Fin 6144) (hq : q.val = 1024 * o.val + k.val) :
    val_main_v10 (F := Ideal) a7 (ix1 q) = modCtx a7 0 o k := by
  rw [val_main_v10_apply, val_main_v9_apply]
  unfold modCtx
  have hk := q.isLt
  show a7 _ = a7 _
  congr 1
  funext a
  apply Fin.ext
  match a with
  | ⟨0, _⟩ => rfl
  | ⟨1, _⟩ => show q.val % 6144 = 1024 * o.val + k.val; omega

theorem ref_mixed (b : Fin 8) (n : Fin 2304) (k : Fin 1024) : val_main_v17 (F := Ideal) a2 a3 a4 (ix3 b n k) = mixed a2 a3 a4 b n k := by
  unfold val_main_v17 mixed
  have hk := k.isLt
  by_cases h0 : k.val < 256
  · rw [dif_pos h0]
    exact concatenate_apply_piece 2 _ _ (ix3 b n k) 0 (by simp) S8x2304x256 a2 rfl rfl 0 rfl (ix3 b n ⟨k.val, h0⟩) (fun a => match a with
      | ⟨0, _⟩ => fun _ => rfl | ⟨1, _⟩ => fun _ => rfl | ⟨2, _⟩ => fun h => absurd rfl h) (by show 0 + k.val = k.val; omega)
  · rw [dif_neg h0]
    by_cases h1 : k.val < 640
    · rw [dif_pos h1]
      exact concatenate_apply_piece 2 _ _ (ix3 b n k) 1 (by simp) S8x2304x384 a3 rfl rfl 256 rfl (ix3 b n ⟨k.val - 256, by omega⟩) (fun a => match a with
        | ⟨0, _⟩ => fun _ => rfl | ⟨1, _⟩ => fun _ => rfl | ⟨2, _⟩ => fun h => absurd rfl h) (by show 256 + (k.val - 256) = k.val; omega)
    · rw [dif_neg h1]
      exact concatenate_apply_piece 2 _ _ (ix3 b n k) 2 (by simp) S8x2304x384 a4 rfl rfl 640 rfl (ix3 b n ⟨k.val - 640, by omega⟩) (fun a => match a with
        | ⟨0, _⟩ => fun _ => rfl | ⟨1, _⟩ => fun _ => rfl | ⟨2, _⟩ => fun h => absurd rfl h) (by show 640 + (k.val - 640) = k.val; omega)

theorem ref_product (b : Fin 8) (n : Fin 2304) (d : Fin 1024) : val_main_v20 (F := Ideal) a2 a3 a4 a5 (ix3 b n d)
    = ∑ k : Fin 1024, mixed a2 a3 a4 b n k * a5 (ix3 0 k d) := by
  rw [val_main_v20_apply]
  refine Finset.sum_congr rfl fun k _ => congrArg₂ (fun (a b : EReal) => a * b) ?_ ?_
  · rw [← ref_mixed]
    exact congrArg _ (funext fun a => match a with | ⟨0, _⟩ => rfl | ⟨1, _⟩ => rfl | ⟨2, _⟩ => rfl)
  · rw [val_main_v19_apply, val_main_v18_apply]
    have hk := k.isLt; have hd := d.isLt
    refine congrArg a5 (funext fun a => match a with
      | ⟨0, _⟩ => rfl
      | ⟨1, _⟩ => Fin.ext ?_
      | ⟨2, _⟩ => Fin.ext ?_)
    · show (k.val * 1024 + d.val) / 1024 % 1024 = k.val; omega
    · show (k.val * 1024 + d.val) % 1024 = d.val; omega

/-- The latents' stream. -/
theorem ref_lat_stream (b : Fin 8) (n : Fin 2048) (d : Fin 1024) : val_main_v24 (F := Ideal) a0 a2 a3 a4 a5 a6 (ix3 b n d)
    = a0 (ix3 b n d) + modLat a6 0 b 2 d * ∑ k : Fin 1024, mixed a2 a3 a4 b ⟨256 + n.val, by omega⟩ k * a5 (ix3 0 k d) := by
  rw [val_main_v24_apply, val_main_v23_apply, val_main_v22_apply, val_main_v21_apply, val_main_v5_apply]
  rw [← ref_product, ← ref_lat a6 b d 2 ⟨2048 + d.val, by omega⟩ rfl]
  refine congrArg₂ (fun (u v : EReal) => a0 (ix3 b n d) + u * v) (congrArg _ ?_) (congrArg _ ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The context's stream. -/
theorem ref_ctx_stream (b : Fin 8) (n : Fin 256) (d : Fin 1024) : val_main_v29 (F := Ideal) a1 a2 a3 a4 a5 a7 (ix3 b n d)
    = a1 (ix3 b n d) + modCtx a7 0 2 d * ∑ k : Fin 1024, mixed a2 a3 a4 b ⟨n.val, by omega⟩ k * a5 (ix3 0 k d) := by
  rw [val_main_v29_apply, val_main_v28_apply, val_main_v27_apply, val_main_v26_apply, val_main_v25_apply, val_main_v13_apply]
  rw [← ref_product, ← ref_ctx a7 d 2 ⟨2048 + d.val, by omega⟩ rfl]
  refine congrArg₂ (fun (u v : EReal) => a1 (ix3 b n d) + u * v) (congrArg _ ?_) (congrArg _ ?_)
  · exact funext fun a => match a with | ⟨0, _⟩ => rfl
  · exact funext fun a => match a with | ⟨0, _⟩ => rfl | ⟨1, _⟩ => rfl | ⟨2, _⟩ => rfl

theorem ref_stream (b : Fin 8) (n : Fin 2304) (d : Fin 1024) : val_main_v74 (F := Ideal) a0 a1 a2 a3 a4 a5 a6 a7 (ix3 b n d)
    = stream a0 a1 a2 a3 a4 a5 a6 a7 b n d := by
  unfold val_main_v74
  refine (joined_apply _ _ _ b n d).trans ?_
  unfold stream joined modRow
  by_cases hn : n.val < 256
  · simp only [hn, dite_true, if_true]
    exact ref_ctx_stream a1 a2 a3 a4 a5 a7 b ⟨n.val, hn⟩ d
  · simp only [hn, dite_false, if_false]
    refine (ref_lat_stream a0 a2 a3 a4 a5 a6 b ⟨n.val - 256, by omega⟩ d).trans ?_
    have e : (⟨256 + (n.val - 256), by omega⟩ : Fin 2304) = n := Fin.ext (by show 256 + (n.val - 256) = n.val; omega)
    simp only [e]

theorem ref_latents (b : Fin 8) (n : Fin 2048) (d : Fin 1024) : val_main_v50 (F := Ideal) a0 a2 a3 a4 a5 a6 a8 (ix3 b n d)
    = modnorm (fun k => val_main_v24 (F := Ideal) a0 a2 a3 a4 a5 a6 (ix3 b n k)) (fun k => a8 (ix2 0 k)) (modLat a6 0 b 4) (modLat a6 0 b 3) d := by
  rw [val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v31_apply, val_main_v30_apply, val_main_v7_apply, val_main_v6_apply, val_main_cst_apply, val_main_cst_0_apply, val_main_cst_1_apply, val_main_cst_2_apply]
  have hd := d.isLt
  have hs : ∀ k : Fin 1024, val_main_v32 (F := Ideal) a0 a2 a3 a4 a5 a6 (idx_main_v33 (idx_main_v34 (idx_main_v40 (ix3 b n d))) k)
      = val_main_v24 (F := Ideal) a0 a2 a3 a4 a5 a6 (ix3 b n k) * val_main_v24 (F := Ideal) a0 a2 a3 a4 a5 a6 (ix3 b n k) := fun k => by
    have e : idx_main_v33 (idx_main_v34 (idx_main_v40 (ix3 b n d))) k = ix3 b n k := funext fun a => match a with
      | ⟨0, _⟩ => rfl | ⟨1, _⟩ => rfl | ⟨2, _⟩ => rfl
    rw [e, val_main_v32_apply]
    rfl
  rw [Finset.sum_congr rfl fun k _ => hs k]
  have hg : a8 (idx_main_v30 (idx_main_v31 (idx_main_v42 (idx_main_v43 (ix3 b n d))))) = a8 (ix2 0 d) := congrArg a8 (funext fun a => match a with
    | ⟨0, _⟩ => rfl
    | ⟨1, _⟩ => Fin.ext (by show d.val % 1024 = d.val; omega))
  have hsc : val_main_v2 (F := Ideal) a6 (idx_main_v7 (idx_main_v47 (ix3 b n d))) = modLat a6 0 b 4 d := by
    rw [← ref_lat a6 b d 4 ⟨4096 + d.val, by omega⟩ rfl]
    exact congrArg _ (funext fun a => match a with | ⟨0, _⟩ => rfl | ⟨1, _⟩ => rfl | ⟨2, _⟩ => rfl)
  have hsh : val_main_v2 (F := Ideal) a6 (idx_main_v6 (idx_main_v49 (ix3 b n d))) = modLat a6 0 b 3 d := by
    rw [← ref_lat a6 b d 3 ⟨3072 + d.val, by omega⟩ rfl]
    exact congrArg _ (funext fun a => match a with | ⟨0, _⟩ => rfl | ⟨1, _⟩ => rfl | ⟨2, _⟩ => rfl)
  rw [hg, hsc, hsh]
  show (_ * Ideal.rsqrt (Ideal.div (Ideal.ofBits .f32 0x00000000#32 + _) _ + _)) * _ * _ + _ = _
  rw [Dense.zero_f32, zero_add]
  rfl

theorem ref_context (b : Fin 8) (n : Fin 256) (d : Fin 1024) : val_main_v73 (F := Ideal) a1 a2 a3 a4 a5 a7 a8 (ix3 b n d)
    = modnorm (fun k => val_main_v29 (F := Ideal) a1 a2 a3 a4 a5 a7 (ix3 b n k)) (fun k => a8 (ix2 0 k)) (modCtx a7 0 4) (modCtx a7 0 3) d := by
  rw [val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v52_apply, val_main_v51_apply, val_main_v15_apply, val_main_v14_apply, val_main_cst_3_apply, val_main_cst_4_apply, val_main_cst_5_apply, val_main_cst_6_apply]
  have hd := d.isLt
  have hs : ∀ k : Fin 1024, val_main_v53 (F := Ideal) a1 a2 a3 a4 a5 a7 (idx_main_v54 (idx_main_v55 (idx_main_v61 (ix3 b n d))) k)
      = val_main_v29 (F := Ideal) a1 a2 a3 a4 a5 a7 (ix3 b n k) * val_main_v29 (F := Ideal) a1 a2 a3 a4 a5 a7 (ix3 b n k) := fun k => by
    have e : idx_main_v54 (idx_main_v55 (idx_main_v61 (ix3 b n d))) k = ix3 b n k := funext fun a => match a with
      | ⟨0, _⟩ => rfl | ⟨1, _⟩ => rfl | ⟨2, _⟩ => rfl
    rw [e, val_main_v53_apply]
    rfl
  rw [Finset.sum_congr rfl fun k _ => hs k]
  have hg : a8 (idx_main_v51 (idx_main_v52 (idx_main_v63 (idx_main_v64 (ix3 b n d))))) = a8 (ix2 0 d) := congrArg a8 (funext fun a => match a with
    | ⟨0, _⟩ => rfl
    | ⟨1, _⟩ => Fin.ext (by show d.val % 1024 = d.val; omega))
  have hsc : val_main_v10 (F := Ideal) a7 (idx_main_v15 (idx_main_v68 (idx_main_v69 (ix3 b n d)))) = modCtx a7 0 4 d := by
    rw [← ref_ctx a7 d 4 ⟨4096 + d.val, by omega⟩ rfl]
    exact congrArg _ (funext fun a => match a with | ⟨0, _⟩ => rfl)
  have hsh : val_main_v10 (F := Ideal) a7 (idx_main_v14 (idx_main_v71 (idx_main_v72 (ix3 b n d)))) = modCtx a7 0 3 d := by
    rw [← ref_ctx a7 d 3 ⟨3072 + d.val, by omega⟩ rfl]
    exact congrArg _ (funext fun a => match a with | ⟨0, _⟩ => rfl)
  rw [hg, hsc, hsh]
  show (_ * Ideal.rsqrt (Ideal.div (Ideal.ofBits .f32 0x00000000#32 + _) _ + _)) * _ * _ + _ = _
  rw [Dense.zero_f32, zero_add]
  rfl

theorem ref_normed (b : Fin 8) (n : Fin 2304) (d : Fin 1024) : val_main_v76 (F := Ideal) a0 a1 a2 a3 a4 a5 a6 a7 a8 (ix3 b n d)
    = normed a0 a1 a2 a3 a4 a5 a6 a7 a8 b n d := by
  rw [val_main_v76_apply]
  unfold val_main_v75
  refine (joined_apply _ _ _ b n d).trans ?_
  unfold normed
  rw [← funext fun k => ref_stream a0 a1 a2 a3 a4 a5 a6 a7 b n k]
  unfold modRow val_main_v74
  rw [funext fun k => joined_apply _ _ _ b n k]
  by_cases hn : n.val < 256
  · simp only [hn, dite_true, if_true]
    exact ref_context a1 a2 a3 a4 a5 a7 a8 b ⟨n.val, hn⟩ d
  · simp only [hn, dite_false, if_false]
    exact ref_latents a0 a2 a3 a4 a5 a6 a8 b ⟨n.val - 256, by omega⟩ d

end Reference

/-! ## The claims -/

theorem kernel_frame : Cert.quiescent_Kernel3 (hKernel3 := Cert.Kernel3.Gen.facts) :=
  fun m ρ _ => Cert.Kernel3.Gen.frame m ρ

theorem ideal_frame : Cert.quiescent_Kernel3Ideal (hKernel3Ideal := Cert.Kernel3Ideal.Gen.facts) :=
  fun m ρ _ => Cert.Kernel3Ideal.Gen.frame m ρ

theorem reference_frame : Cert.quiescent_Reference3Ideal (hReference3Ideal := Cert.Reference3Ideal.Gen.facts) :=
  fun m ρ _ => (θ_run _ _ _).mono (fun r h => ⟨fun c => (h c).2.2, sem_eq_zero_of_no_sems (by decide) r.2⟩)
    (Cert.Reference3Ideal.Value.run m ρ)

theorem preserves : Cert.preserves_Kernel3_Kernel3Ideal := trivial

open Cert.Reference3Ideal.Read in
/-- Both compute the same stream, and the same normed tokens. -/
theorem algebraic : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => (dats m 0 c).arrAt 7 cfg0.N, fun c => (dats m 0 c).arrAt 8 cfg0.N, Cert.Kernel3Ideal.Value.run_blocks m ρ, ?_⟩
  refine (θ_run _ _ _).mono (fun r h c => ?_) (Cert.Reference3Ideal.Value.run m' ρ')
  obtain ⟨h0, h1, h2, h3, h4, h5, h6, h7, h8⟩ := hargs c
  obtain ⟨r0, r1, hr⟩ := h c
  refine ⟨r0.trans ((val_main_v74_eq ..).trans (Eq.trans ?_ (result7 m c).symm)),
    r1.trans ((val_main_v76_eq m' c).trans (Eq.trans ?_ (result8 m c).symm)), hr⟩
  · funext i
    refine ((congrArg _ (eq_ix3 i)).trans (ref_stream _ _ _ _ _ _ _ _ (i 0) (i 1) (i 2))).trans ?_
    unfold streamOf
    rw [← h0, ← h1, ← h2, ← h3, ← h4, ← h5, ← h6, ← h7]
  · funext i
    refine ((congrArg _ (eq_ix3 i)).trans (ref_normed _ _ _ _ _ _ _ _ _ (i 0) (i 1) (i 2))).trans ?_
    unfold normedOf
    rw [← h0, ← h1, ← h2, ← h3, ← h4, ← h5, ← h6, ← h7, ← h8]

end Cert.Proof.Out

end
-- ==== Proof.Final.lean ====
/- The last residual and its normalization: the claims of `final_norm`. -/
module

public import proofs.«01_k».proof.Defs
public import proofs.«01_k».proof.Proof.Norm
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Proof.Final

open Cert.Kernel4Ideal Cert.Kernel4Ideal.Gen Cert.Proof.Norm
open Idealize.ShloMosaic hiding ix1 ix2 ix3 ix4 ix5 eq_ix1 eq_ix2 eq_ix3
open Idealize.ShloMosaic.TcCoe Idealize.ShloMosaic.ValueIdx Idealize.SL.Sem
open scoped BigOperators

/-- The residual stream with the gated expert sum, normalized under the final gain. -/
def final (x f : (⟨3, ![8, 2048, 1024]⟩ : Shape).Idx → EReal) (M : (⟨3, ![2, 8, 6144]⟩ : Shape).Idx → EReal)
    (g : (⟨1, ![1024]⟩ : Shape).Idx → EReal) (b : Fin 8) (n : Fin 2048) (d : Fin 1024) : EReal :=
  rms (fun k => x (ix3 b n k) + modLat M 1 b 5 k * f (ix3 b n k)) d * g (ix1 d)

/-! ## The kernel -/

theorem tile_apply (x : Vec Ideal S1x256x1024 .f32) (s : Vec Ideal S1x1x1x1024 .f32) (f : Vec Ideal S1x256x1024 .f32) (g : Vec Ideal S1x1024 .f32)
    (r : Fin 256) (d : Fin 1024) : k0_pay1 x s f g (ix3 0 r d)
      = rms (fun k => x (ix3 0 r k) + s (ix4 0 0 0 k) * f (ix3 0 r k)) d * g (ix2 0 d) := by
  unfold k0_pay1
  have hv : ∀ k : Fin 1024, addf (F := Ideal) (φ := .f32) (shapeCast S256x1024 x shapeCasts_S1x256x1024_S256x1024)
      (mulf (broadcastTo S256x1024 (shapeCast S1x1024 s shapeCasts_S1x1x1x1024_S1x1024) broadcasts_S1x1024_S256x1024)
        (shapeCast S256x1024 f shapeCasts_S1x256x1024_S256x1024)) (ix2 r k) = x (ix3 0 r k) + s (ix4 0 0 0 k) * f (ix3 0 r k) := fun k => by
    show shapeCast S256x1024 x _ (ix2 r k) + broadcastTo S256x1024 _ _ (ix2 r k) * shapeCast S256x1024 f _ (ix2 r k) = _
    rw [flat3, flat3, spreadRow, flat4]
  dsimp only
  rw [lift3]
  refine congrArg₂ (fun (a b : EReal) => a * b) ((rms_apply _ _ _ _ _ _ _ r d).trans (congrArg (rms · d) (funext hv))) ?_
  rw [spreadRow, shapeCast_self]

variable (m : (ℓ : Loc nD τ sig) → Buf (Elt Ideal) ℓ)

theorem at0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem at1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem at2 : ∀ t : Fin cfg0.N, win0_2.index t 0 = t.val / 8 ∧ win0_2.index t 1 = 1 ∧ win0_2.index t 2 = 0 ∧ win0_2.index t 3 = 0 :=
  (by decide +kernel : ∀ t : Fin grid0.N, win0_2.index t 0 = t.val / 8 ∧ win0_2.index t 1 = 1 ∧ win0_2.index t 2 = 0 ∧ win0_2.index t 3 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem V_table (c : Dev nD) : V m c main_v5 = shapeCast S8x2x6x1024 (extractStridedSlice S1x8x2x6x1024 ![1, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg3)) shapeCasts_S2x6144_S2x1x1x6x1024)⟩,
       ⟨S2x8x1x6x1024, shapeCast S2x8x1x6x1024 (m ((c : Thread nD τ).loc main_arg2)) shapeCasts_S2x8x6144_S2x8x1x6x1024⟩]
      concatenates_S2x8x1x6x1024_S2x8x1x6x1024_S2x8x2x6x1024_d2) slices_S2x8x2x6x1024_S1x8x2x6x1024_1_0_0_0_0) shapeCasts_S1x8x2x6x1024_S8x2x6x1024 := by
  unfold V; after_results <;> rfl

theorem V_gain (c : Dev nD) : V m c main_v6 = broadcastInDim S1x1024 ![1] bcast_S1024_S1x1024_1 (m ((c : Thread nD τ).loc main_arg4)) := by
  unfold V; after_results <;> rfl

theorem read0 (c : Dev nD) (t : Fin cfg0.N) (r : Fin 256) (k : Fin 1024) (hb : t.val / 8 < 8) (hn : 256 * (t.val % 8) + r.val < 2048) :
    (iblk m c 0 t : Vec Ideal S1x256x1024 .f32) (ix3 0 r k)
      = (m ((c : Thread nD τ).loc main_arg0) : Vec Ideal S8x2048x1024 .f32) (ix3 ⟨t.val / 8, hb⟩ ⟨256 * (t.val % 8) + r.val, hn⟩ k) := by
  unfold iblk
  rw [View.read_apply]
  show V m c main_arg0 _ = _
  rw [V_main_arg0]
  congr 1
  funext a
  apply Fin.ext
  match a with
  | ⟨0, _⟩ => show win0_0.index t 0 * 1 + 1 * 0 = t.val / 8; rw [(at0 t).1]; omega
  | ⟨1, _⟩ => show win0_0.index t 1 * 256 + 1 * r.val = 256 * (t.val % 8) + r.val; rw [(at0 t).2.1]; omega
  | ⟨2, _⟩ => show win0_0.index t 2 * 1024 + 1 * k.val = k.val; rw [(at0 t).2.2]; omega

theorem read1 (c : Dev nD) (t : Fin cfg0.N) (r : Fin 256) (k : Fin 1024) (hb : t.val / 8 < 8) (hn : 256 * (t.val % 8) + r.val < 2048) :
    (iblk m c 1 t : Vec Ideal S1x256x1024 .f32) (ix3 0 r k)
      = (m ((c : Thread nD τ).loc main_arg1) : Vec Ideal S8x2048x1024 .f32) (ix3 ⟨t.val / 8, hb⟩ ⟨256 * (t.val % 8) + r.val, hn⟩ k) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(at1 t).1]; omega
  | ⟨1, _⟩ => show win0_1.index t 1 * 256 + 1 * r.val = 256 * (t.val % 8) + r.val; rw [(at1 t).2.1]; omega
  | ⟨2, _⟩ => show win0_1.index t 2 * 1024 + 1 * k.val = k.val; rw [(at1 t).2.2]; omega

theorem read2 (c : Dev nD) (t : Fin cfg0.N) (j : Fin 6) (k : Fin 1024) (hb : t.val / 8 < 8) :
    (iblk m c 2 t : Vec Ideal S1x1x6x1024 .f32) (ix4 0 0 j k)
      = modLat (m ((c : Thread nD τ).loc main_arg2)) 1 ⟨t.val / 8, hb⟩ j k := by
  have h : (iblk m c 2 t : Vec Ideal S1x1x6x1024 .f32) (ix4 0 0 j k) = (V m c main_v5 : Vec Ideal S8x2x6x1024 .f32) (ix4 ⟨t.val / 8, hb⟩ 1 j k) := by
    unfold iblk
    rw [View.read_apply]
    show V m c main_v5 _ = _
    congr 1
    funext a
    apply Fin.ext
    match a with
    | ⟨0, _⟩ => show win0_2.index t 0 * 1 + 1 * 0 = t.val / 8; rw [(at2 t).1]; omega
    | ⟨1, _⟩ => show win0_2.index t 1 * 1 + 1 * 0 = 1; rw [(at2 t).2.1]
    | ⟨2, _⟩ => show win0_2.index t 2 * 6 + 1 * j.val = j.val; rw [(at2 t).2.2.1]; omega
    | ⟨3, _⟩ => show win0_2.index t 3 * 1024 + 1 * k.val = k.val; rw [(at2 t).2.2.2]; omega
  rw [h, V_table]
  exact (table_apply 1 (m ((c : Thread nD τ).loc main_arg2)) (m ((c : Thread nD τ).loc main_arg3)) _ _ _ _ _ _ ⟨t.val / 8, hb⟩ 1 j k).trans (if_neg (by decide))

theorem read3 (c : Dev nD) (t : Fin cfg0.N) (k : Fin 1024) :
    (iblk m c 3 t : Vec Ideal S1x1024 .f32) (ix2 0 k) = (m ((c : Thread nD τ).loc main_arg4) : Vec Ideal S1024 .f32) (ix1 k) := by
  have h : (iblk m c 3 t : Vec Ideal S1x1024 .f32) (ix2 0 k) = (V m c main_v6 : Vec Ideal S1x1024 .f32) (ix2 0 k) := by
    unfold iblk
    rw [View.read_apply]
    show V m c main_v6 _ = _
    congr 1
    funext a
    apply Fin.ext
    match a with
    | ⟨0, _⟩ => show win0_3.index t 0 * 1 + 1 * 0 = 0; rw [(at3 t).1]
    | ⟨1, _⟩ => show win0_3.index t 1 * 1024 + 1 * k.val = k.val; rw [(at3 t).2]; omega
  rw [h, V_gain]
  exact broadcastInDim_apply ![1] _ _ (ix2 0 k) (ix1 k) (fun a => match a with | ⟨0, _⟩ => rfl)

/-- The block a point writes. -/
theorem block_apply (c : Dev nD) (t : Fin cfg0.N) (r : Fin 256) (d : Fin 1024) (hb : t.val / 8 < 8) (hn : 256 * (t.val % 8) + r.val < 2048) :
    out0_4 (iblk m c 0 t) (iblk m c 1 t) (iblk m c 2 t) (iblk m c 3 t) (ix3 0 r d)
      = final (m ((c : Thread nD τ).loc main_arg0)) (m ((c : Thread nD τ).loc main_arg1)) (m ((c : Thread nD τ).loc main_arg2))
        (m ((c : Thread nD τ).loc main_arg4)) ⟨t.val / 8, hb⟩ ⟨256 * (t.val % 8) + r.val, hn⟩ d := by
  unfold out0_4
  rw [View.canon_unit_zero (by decide)]
  refine (tile_apply _ _ _ _ r d).trans ?_
  rw [View.ld_unit_zero (by decide), View.ld_unit_zero (by decide), View.ld_unit_zero (by decide)]
  unfold final
  rw [read3 m c t d]
  have hs : ∀ k : Fin 1024, View.ld (iblk m c 2 t) r0_1 (ix4 0 0 0 k) = modLat (m ((c : Thread nD τ).loc main_arg2)) 1 ⟨t.val / 8, hb⟩ 5 k := fun k => by
    rw [← read2 m c t 5 k hb]
    show (iblk m c 2 t : Vec Ideal S1x1x6x1024 .f32) _ = _
    congr 1
    funext a
    apply Fin.ext
    match a with
    | ⟨0, _⟩ => rfl
    | ⟨1, _⟩ => rfl
    | ⟨2, _⟩ => rfl
    | ⟨3, _⟩ => show 0 + 1 * k.val = k.val; omega
  refine congrArg (rms · d * _) (funext fun k => ?_)
  rw [hs k, read0 m c t r k hb hn, read1 m c t r k hb hn]

/-- What the kernel leaves in its result. -/
theorem result_apply (c : Dev nD) : (dats m 0 c).arrAt 4 cfg0.N = fun i : S8x2048x1024.Idx =>
    final (m ((c : Thread nD τ).loc main_arg0)) (m ((c : Thread nD τ).loc main_arg1)) (m ((c : Thread nD τ).loc main_arg2))
      (m ((c : Thread nD τ).loc main_arg4)) (i 0) (i 1) (i 2) := by
  refine (dats m 0 c).arrAt_eq_of_covers 4 _ (by decide +kernel) fun t hf y => ?_
  blk_simp
  rw [after0_4]
  have hN : cfg0.N = 64 := rfl
  have htl : t.val < 64 := t.isLt
  have hy0 : (y 0).val < 1 := (y 0).isLt
  have hy1 : (y 1).val < 256 := (y 1).isLt
  have hy2 : (y 2).val < 1024 := (y 2).isLt
  have hy : y = ix3 (n0 := 1) (n1 := 256) (n2 := 1024) 0 (y 1) (y 2) := funext fun a => match a with
    | ⟨0, _⟩ => Fin.ext (by show (y 0).val = 0; omega)
    | ⟨1, _⟩ => rfl
    | ⟨2, _⟩ => rfl
  refine (congrArg _ hy).trans ((block_apply m c t (y 1) (y 2) (by omega) (by omega)).trans ?_)
  congr 1 <;> apply Fin.ext
  · show t.val / 8 = win0_4.index t 0 * 1 + 1 * (y 0).val
    rw [(at4 t).1]; omega
  · show 256 * (t.val % 8) + (y 1).val = win0_4.index t 1 * 256 + 1 * (y 1).val
    rw [(at4 t).2.1]; omega
  · show (y 2).val = win0_4.index t 2 * 1024 + 1 * (y 2).val
    rw [(at4 t).2.2]; omega

/-! ## The reference -/

section Reference
open Cert.Reference4Ideal.Read

variable (x0 x1 : (⟨S8x2048x1024, .f32⟩ : BufTy).Contents (Elt Ideal)) (x2 : (⟨S2x8x6144, .f32⟩ : BufTy).Contents (Elt Ideal))
  (x4 : (⟨S1024, .f32⟩ : BufTy).Contents (Elt Ideal))

theorem ref_stream (b : Fin 8) (n : Fin 2048) (k : Fin 1024) : val_main_v11 (F := Ideal) x0 x1 x2 (ix3 b n k)
    = x0 (ix3 b n k) + modLat x2 1 b 5 k * x1 (ix3 b n k) := by
  rw [val_main_v11_apply, val_main_v10_apply, val_main_v9_apply, val_main_v8_apply, val_main_v2_apply, val_main_v1_apply, val_main_v0_apply]
  unfold modLat
  have hb := b.isLt; have hk := k.isLt
  show x0 _ + x2 _ * x1 _ = _
  congr 3
  funext a
  apply Fin.ext
  match a with
  | ⟨0, _⟩ => rfl
  | ⟨1, _⟩ => show (b.val * 6144 + (5120 + k.val)) / 6144 % 8 = b.val; omega
  | ⟨2, _⟩ => show (b.val * 6144 + (5120 + k.val)) % 6144 = 1024 * 5 + k.val; omega

theorem ref_apply (b : Fin 8) (n : Fin 2048) (d : Fin 1024) : val_main_v24 (F := Ideal) x0 x1 x2 x4 (ix3 b n d) = final x0 x1 x2 x4 b n d := by
  rw [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_cst_apply, val_main_cst_0_apply, val_main_cst_1_apply, ref_stream]
  have hs : ∀ k : Fin 1024, val_main_v12 (F := Ideal) x0 x1 x2 (idx_main_v13 (idx_main_v14 (idx_main_v20 (ix3 b n d))) k)
      = (x0 (ix3 b n k) + modLat x2 1 b 5 k * x1 (ix3 b n k)) * (x0 (ix3 b n k) + modLat x2 1 b 5 k * x1 (ix3 b n k)) := fun k => by
    have e : idx_main_v13 (idx_main_v14 (idx_main_v20 (ix3 b n d))) k = ix3 b n k := funext fun a => match a with
      | ⟨0, _⟩ => rfl | ⟨1, _⟩ => rfl | ⟨2, _⟩ => rfl
    rw [e, val_main_v12_apply, ref_stream]
    rfl
  rw [Finset.sum_congr rfl fun k _ => hs k]
  have hx4 : x4 (idx_main_v22 (idx_main_v23 (ix3 b n d))) = x4 (ix1 d) := congrArg x4 (funext fun a => match a with | ⟨0, _⟩ => rfl)
  rw [hx4]
  show (_ * Ideal.rsqrt (Ideal.div (Ideal.ofBits .f32 0x00000000#32 + _) _ + _)) * _ = _
  rw [Dense.zero_f32, zero_add]
  rfl

end Reference

/-! ## The claims -/

theorem kernel_frame : Cert.quiescent_Kernel4 (hKernel4 := Cert.Kernel4.Gen.facts) :=
  fun m ρ _ => Cert.Kernel4.Gen.frame m ρ

theorem ideal_frame : Cert.quiescent_Kernel4Ideal (hKernel4Ideal := Cert.Kernel4Ideal.Gen.facts) :=
  fun m ρ _ => Cert.Kernel4Ideal.Gen.frame m ρ

theorem reference_frame : Cert.quiescent_Reference4Ideal (hReference4Ideal := Cert.Reference4Ideal.Gen.facts) :=
  fun m ρ _ => (θ_run _ _ _).mono (fun r h => ⟨fun c => (h c).2, sem_eq_zero_of_no_sems (by decide) r.2⟩)
    (Cert.Reference4Ideal.Value.run m ρ)

theorem preserves : Cert.preserves_Kernel4_Kernel4Ideal := trivial

/-- Both compute the same normalized stream. -/
theorem algebraic : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => (dats m 0 c).arrAt 4 cfg0.N, ?_, ?_⟩
  · exact Cert.Kernel4Ideal.Value.run_blocks m ρ
  · refine (θ_run _ _ _).mono (fun r h c => ⟨(h c).1.trans ?_, (h c).2⟩) (Cert.Reference4Ideal.Value.run m' ρ')
    obtain ⟨h0, h1, h2, h3, h4⟩ := hargs c
    refine Eq.trans ?_ (result_apply m c).symm
    refine (Cert.Reference4Ideal.Read.val_main_v24_eq ..).trans ?_
    refine Eq.trans (b := fun i : S8x2048x1024.Idx => final _ _ _ _ (i 0) (i 1) (i 2))
      (funext fun i => (congrArg _ (eq_ix3 i)).trans (ref_apply _ _ _ _ (i 0) (i 1) (i 2))) ?_
    rw [h0, h1, h2, h4]

end Cert.Proof.Final

end
-- ==== Proof.Attend.lean ====
/- Attention of one query with a sink: the weighted mean of the values, its two ways of being computed, and a tile of rows of it. -/
module

public import proofs.«01_k».proof.Proof.Norm
public import Idealize.ShloMosaic.Lib.KernelVsHost

@[expose] public section

set_option maxRecDepth 16384

noncomputable section

namespace Cert.Proof.Attend

open Cert.Proof.Norm
open Idealize.ShloMosaic hiding ix1 ix2 ix3 ix4 ix5 eq_ix1 eq_ix2 eq_ix3
open Idealize.ShloMosaic.ValueIdx
open scoped BigOperators

variable {ι κ : Type} [Fintype ι] [Fintype κ]

/-- The greatest of the scores and the sink. -/
def top (s : ι → EReal) (k : EReal) : EReal := max (Finset.univ.sup s) k

/-- The values' mean under the exponentials of the scores, whose sum counts the sink's as well. -/
def attend (s : ι → EReal) (k : EReal) (v : ι → EReal) : EReal :=
  Ideal.div (∑ j, Ideal.exp (s j - top s k) * v j) ((∑ j, Ideal.exp (s j - top s k)) + Ideal.exp (k - top s k))

theorem exp_coe (r : ℝ) : Ideal.exp (r : EReal) = (Real.exp r : EReal) := rfl
theorem exp_bot : Ideal.exp ⊥ = 0 := rfl

theorem sum_mul_real (f : ι → EReal) (c : EReal) (h0 : 0 ≤ c) (ht : c ≠ ⊤) : (∑ j, f j) * c = ∑ j, f j * c := by
  classical
  induction (Finset.univ : Finset ι) using Finset.induction_on with
  | empty => simp
  | insert a s ha ih => rw [Finset.sum_insert ha, Finset.sum_insert ha, EReal.right_distrib_of_nonneg_of_ne_top h0 ht, ih]

theorem exp_sub_real (x : EReal) (r : ℝ) (hx : x ≠ ⊤) : ∃ e : ℝ, 0 ≤ e ∧ Ideal.exp (x - r) = e := by
  induction x with
  | bot => exact ⟨0, le_refl _, by rw [EReal.bot_sub]; rfl⟩
  | top => exact absurd rfl hx
  | coe y => exact ⟨Real.exp (y - r), (Real.exp_pos _).le, by rw [← EReal.coe_sub]; rfl⟩

theorem top_real (s : ι → EReal) (k : EReal) (hk : ∃ r : ℝ, k = r) (hs : ∀ j, s j ≠ ⊤) : ∃ r : ℝ, top s k = r := by
  obtain ⟨r, rfl⟩ := hk
  have h1 : top s (r : EReal) ≠ ⊤ := by
    refine ne_of_lt (max_lt ?_ (EReal.coe_lt_top r))
    exact (Finset.sup_lt_iff (bot_lt_top)).2 fun j _ => lt_top_iff_ne_top.2 (hs j)
  have h2 : top s (r : EReal) ≠ ⊥ := ne_of_gt (lt_of_lt_of_le (EReal.bot_lt_coe r) (le_max_right _ _))
  exact ⟨(top s (r : EReal)).toReal, (EReal.coe_toReal h1 h2).symm⟩

/-- Weights normalized one by one give the same mean as one division of their sum. -/
theorem attend_mean (s : ι → EReal) (k : EReal) (v : ι → EReal) (hk : ∃ r : ℝ, k = r) (hs : ∀ j, s j ≠ ⊤) :
    ∑ j, v j * Ideal.div (Ideal.exp (s j - top s k)) ((∑ j, Ideal.exp (s j - top s k)) + Ideal.exp (k - top s k)) = attend s k v := by
  unfold attend
  obtain ⟨M, hM⟩ := top_real s k hk hs
  rw [hM]
  choose e he0 he using fun j => exp_sub_real (s j) M (hs j)
  have hd : ∃ d : ℝ, 0 < d ∧ (∑ j, Ideal.exp (s j - M)) + Ideal.exp (k - M) = d := by
    obtain ⟨r, rfl⟩ := hk
    refine ⟨(∑ j, e j) + Real.exp (r - M), add_pos_of_nonneg_of_pos (Finset.sum_nonneg fun j _ => he0 j) (Real.exp_pos _), ?_⟩
    rw [EReal.coe_add, ← EReal.coe_sub, exp_coe]
    congr 1
    rw [Finset.sum_congr rfl fun j _ => he j]
    exact (map_sum (⟨⟨fun x : ℝ => (x : EReal), EReal.coe_zero⟩, EReal.coe_add⟩ : ℝ →+ EReal) e Finset.univ).symm
  obtain ⟨d, hd0, hd⟩ := hd
  rw [hd]
  have hz : (d : EReal) ≠ 0 := fun h => hd0.ne' (EReal.coe_eq_zero.1 h)
  unfold Ideal.div
  simp only [if_neg hz]
  rw [← EReal.coe_inv, sum_mul_real _ _ (EReal.coe_nonneg.2 (inv_nonneg.2 hd0.le)) (EReal.coe_ne_top _)]
  refine Finset.sum_congr rfl fun j _ => ?_
  rw [mul_comm (v j), mul_right_comm]

/-- Positions whose score is the least count for nothing: the mean over `κ` is the mean over the positions of `ι` its own stand for. -/
theorem attend_image (s : ι → EReal) (v : ι → EReal) (s' : κ → EReal) (v' : κ → EReal) (k : EReal) (P : κ → Prop) (f : κ → ι)
    (hf : ∀ i j, P i → P j → f i = f j → i = j) (hs : ∀ j, P j → s' j = s (f j)) (hv : ∀ j, P j → v' j = v (f j))
    (hn : ∀ j, ¬ P j → s' j = ⊥) (ho : ∀ i, (∀ j, P j → f j ≠ i) → s i = ⊥) : attend s' k v' = attend s k v := by
  classical
  have ht : top s' k = top s k := by
    unfold top
    congr 1
    refine le_antisymm (Finset.sup_le fun j _ => ?_) (Finset.sup_le fun i _ => ?_)
    · by_cases h : P j
      · rw [hs j h]; exact Finset.le_sup (Finset.mem_univ _)
      · rw [hn j h]; exact bot_le
    · by_cases h : ∃ j, P j ∧ f j = i
      · obtain ⟨j, hp, rfl⟩ := h
        rw [← hs j hp]; exact Finset.le_sup (Finset.mem_univ _)
      · rw [ho i fun j hp he => h ⟨j, hp, he⟩]; exact bot_le
  have hsum : ∀ (g' : κ → EReal) (g : ι → EReal), (∀ j, P j → g' j = g (f j)) → (∀ j, s' j = ⊥ → g' j = 0) → (∀ i, s i = ⊥ → g i = 0) →
      ∑ j, g' j = ∑ i, g i := fun g' g h1 h2 h3 => by
    rw [← Finset.sum_subset (Finset.subset_univ (Finset.univ.filter P)) fun j _ hj => h2 j (hn j fun hp => hj (Finset.mem_filter.2 ⟨Finset.mem_univ _, hp⟩))]
    refine Finset.sum_of_injOn f (fun i hi j hj he => hf i j (Finset.mem_filter.1 hi).2 (Finset.mem_filter.1 hj).2 he) (fun _ _ => Finset.mem_coe.2 (Finset.mem_univ _))
      (fun i _ hi => h3 i (ho i fun j hp he => hi ⟨j, Finset.mem_coe.2 (Finset.mem_filter.2 ⟨Finset.mem_univ _, hp⟩), he⟩))
      fun j hj => h1 j (Finset.mem_filter.1 hj).2
  unfold attend
  rw [ht]
  congr 1
  · refine hsum _ _ (fun j hp => by rw [hs j hp, hv j hp]) (fun j h => ?_) fun i h => ?_
    · rw [h, EReal.bot_sub, exp_bot, zero_mul]
    · rw [h, EReal.bot_sub, exp_bot, zero_mul]
  · refine congrArg (· + _) (hsum _ _ (fun j hp => by rw [hs j hp]) (fun j h => ?_) fun i h => ?_)
    · rw [h, EReal.bot_sub, exp_bot]
    · rw [h, EReal.bot_sub, exp_bot]

/-- A factor taken out of a score. -/
theorem score_scale (q k : ι → EReal) (c : EReal) (h0 : 0 ≤ c) (ht : c ≠ ⊤) : ∑ e, q e * c * k e = (∑ e, q e * k e) * c := by
  rw [sum_mul_real _ _ h0 ht]
  exact Finset.sum_congr rfl fun e _ => mul_right_comm _ _ _

theorem fold_max (f : ι → EReal) : Finset.univ.fold max (Ideal.ofBits .f32 0xFF800000#32) f = Finset.univ.sup f := by
  have : Ideal.ofBits .f32 0xFF800000#32 = ⊥ := by simp [Ideal.ofBits, Ideal.ieee]
  rw [this]; rfl

/-- A row that ends in the sink: its greatest entry and its sums. -/
theorem row_top (e : ι ⊕ Unit ≃ κ) (x : κ → EReal) (s : ι → EReal) (k : EReal) (hs : ∀ j, x (e (.inl j)) = s j) (hk : x (e (.inr ())) = k) :
    Finset.univ.sup x = top s k := by
  refine le_antisymm (Finset.sup_le fun i _ => ?_) (max_le (Finset.sup_le fun j _ => ?_) ?_)
  · obtain ⟨j, rfl⟩ := e.surjective i
    match j with
    | .inl j => rw [hs]; exact (Finset.le_sup (f := s) (Finset.mem_univ j)).trans (le_max_left _ _)
    | .inr () => rw [hk]; exact le_max_right _ _
  · rw [← hs]; exact Finset.le_sup (Finset.mem_univ _)
  · rw [← hk]; exact Finset.le_sup (Finset.mem_univ _)

theorem row_sum (e : ι ⊕ Unit ≃ κ) (x : κ → EReal) : ∑ i, x i = (∑ j, x (e (.inl j))) + x (e (.inr ())) := by
  rw [← Equiv.sum_comp e, Fintype.sum_sum_type]
  simp

/-! ## A tile of rows -/

variable {R N D : ℕ}

theorem rowAdd (v : FVec Ideal (⟨2, ![R, N]⟩ : Shape) .f32) (acc) (h) (hφ) (hacc) (r : Fin R) :
    multiReduction .add [1] (⟨1, ![R]⟩ : Shape) v acc h hφ hacc (ix1 r) = ∑ k : Fin N, v (ix2 r k) := by
  refine (Ideal.multiReduction_add_single v acc h hφ hacc (ix1 r)).trans (Finset.sum_congr rfl fun k _ => congrArg v ?_)
  funext a
  match a with
  | ⟨0, _⟩ => rfl
  | ⟨1, _⟩ => rfl

theorem rowMax (v : FVec Ideal (⟨2, ![R, N]⟩ : Shape) .f32) (h) (hφ) (hacc) (r : Fin R) :
    multiReduction .maximumf [1] (⟨1, ![R]⟩ : Shape) v 0xFF800000#32 h hφ hacc (ix1 r) = Finset.univ.sup fun k : Fin N => v (ix2 r k) := by
  refine (Ideal.multiReduction_maximumf_single v _ h hφ hacc (ix1 r)).trans ((fold_max _).trans (Finset.sup_congr rfl fun k _ => congrArg v ?_))
  funext a
  match a with
  | ⟨0, _⟩ => rfl
  | ⟨1, _⟩ => rfl

/-- The greatest entry of each row and the sink, as a column. -/
def tops (s : FVec Ideal (⟨2, ![R, N]⟩ : Shape) .f32) (sk : FVec Ideal (⟨2, ![R, 1]⟩ : Shape) .f32)
    (h₁ : (⟨2, ![R, N]⟩ : Shape).Reduces [1] (⟨1, ![R]⟩ : Shape)) (hφ : FKind.Formats .f32) (hacc : (0xFF800000#32 : BitVec 32) = FKind.maximumf.neutral .f32 hφ) (h₂ : (⟨1, ![R]⟩ : Shape).ShapeCasts (⟨2, ![R, 1]⟩ : Shape)) : FVec Ideal (⟨2, ![R, 1]⟩ : Shape) .f32 :=
  maximumf (shapeCast (⟨2, ![R, 1]⟩ : Shape) (multiReduction .maximumf [1] (⟨1, ![R]⟩ : Shape) s 0xFF800000#32 h₁ hφ hacc) h₂) sk

theorem tops_apply (s : FVec Ideal (⟨2, ![R, N]⟩ : Shape) .f32) (sk : FVec Ideal (⟨2, ![R, 1]⟩ : Shape) .f32) (h₁ hφ hacc h₂) (r : Fin R) :
    tops s sk h₁ hφ hacc h₂ (ix2 r 0) = top (fun j => s (ix2 r j)) (sk (ix2 r 0)) := by
  show max (shapeCast _ _ h₂ (ix2 r 0)) _ = _
  rw [column, rowMax]
  rfl

/-- The exponentials of a tile of scores. -/
def weights (s : FVec Ideal (⟨2, ![R, N]⟩ : Shape) .f32) (t : FVec Ideal (⟨2, ![R, 1]⟩ : Shape) .f32)
    (h : (⟨2, ![R, 1]⟩ : Shape).Broadcasts (⟨2, ![R, N]⟩ : Shape)) : FVec Ideal (⟨2, ![R, N]⟩ : Shape) .f32 :=
  exp (subf s (broadcastTo (⟨2, ![R, N]⟩ : Shape) t h))

theorem weights_apply (s : FVec Ideal (⟨2, ![R, N]⟩ : Shape) .f32) (t : FVec Ideal (⟨2, ![R, 1]⟩ : Shape) .f32) (h) (r : Fin R) (j : Fin N) :
    weights s t h (ix2 r j) = Ideal.exp (s (ix2 r j) - t (ix2 r 0)) := by
  show Ideal.exp (s _ - broadcastTo _ t h (ix2 r j)) = _
  rw [spreadColumn]

/-- A tile of rows of attention, from its scores, its sinks and the values. -/
def rows (s : FVec Ideal (⟨2, ![R, N]⟩ : Shape) .f32) (sk : FVec Ideal (⟨2, ![R, 1]⟩ : Shape) .f32) (v : FVec Ideal (⟨2, ![N, D]⟩ : Shape) .f32)
    (h₁ : (⟨2, ![R, N]⟩ : Shape).Reduces [1] (⟨1, ![R]⟩ : Shape)) (hφ : FKind.Formats .f32) (hacc : (0xFF800000#32 : BitVec 32) = FKind.maximumf.neutral .f32 hφ) (h₂ : (⟨1, ![R]⟩ : Shape).ShapeCasts (⟨2, ![R, 1]⟩ : Shape))
    (h₃ : (⟨2, ![R, 1]⟩ : Shape).Broadcasts (⟨2, ![R, N]⟩ : Shape)) (h₅ : (⟨2, ![R, 1]⟩ : Shape).Broadcasts (⟨2, ![R, D]⟩ : Shape))
    (hacc' : (0x00000000#32 : BitVec 32) = FKind.add.neutral .f32 hφ) (hb : FTy.bits .bf16 < FTy.bits .f32) : FVec Ideal (⟨2, ![R, D]⟩ : Shape) .f32 :=
  divf (FloatOps.matmul (DotDims.plain R N D) none (truncf .bf16 (weights s (tops s sk h₁ hφ hacc h₂) h₃) hb) (truncf .bf16 v hb)
      (constant (F := Ideal) (⟨2, ![R, D]⟩ : Shape) .f32 0x00000000#32))
    (broadcastTo (⟨2, ![R, D]⟩ : Shape) (addf (shapeCast (⟨2, ![R, 1]⟩ : Shape)
      (multiReduction .add [1] (⟨1, ![R]⟩ : Shape) (weights s (tops s sk h₁ hφ hacc h₂) h₃) 0x00000000#32 h₁ hφ hacc') h₂)
      (exp (subf sk (tops s sk h₁ hφ hacc h₂)))) h₅)

theorem rows_apply (s : FVec Ideal (⟨2, ![R, N]⟩ : Shape) .f32) (sk : FVec Ideal (⟨2, ![R, 1]⟩ : Shape) .f32) (v : FVec Ideal (⟨2, ![N, D]⟩ : Shape) .f32)
    (h₁ hφ hacc h₂ h₃ h₅ hacc' hb) (r : Fin R) (d : Fin D) : rows s sk v h₁ hφ hacc h₂ h₃ h₅ hacc' hb (ix2 r d)
      = attend (fun j => s (ix2 r j)) (sk (ix2 r 0)) (fun j => v (ix2 j d)) := by
  unfold rows
  refine (congrArg₂ Ideal.div (Ideal.matmul_plain_apply none _ _ _ r d) (spreadColumn _ h₅ r d)).trans ?_
  show Ideal.div (Ideal.ofBits .f32 0x00000000#32 + ∑ j, weights s _ h₃ (ix2 r j) * v (ix2 j d))
    (shapeCast _ _ h₂ (ix2 r 0) + Ideal.exp (sk (ix2 r 0) - tops s sk h₁ hφ hacc h₂ (ix2 r 0))) = _
  rw [Dense.zero_f32, zero_add, column, rowAdd]
  simp only [weights_apply, tops_apply]
  rfl

/-- The scores of a tile of queries against keys. -/
theorem scores_apply (q : FVec Ideal (⟨2, ![R, D]⟩ : Shape) .f32) (k : FVec Ideal (⟨2, ![N, D]⟩ : Shape) .f32) (hb) (r : Fin R) (j : Fin N) :
    FloatOps.matmul (DotDims.transposedRhs R D N) none (truncf .bf16 q hb) (truncf .bf16 k hb)
      (constant (F := Ideal) (⟨2, ![R, N]⟩ : Shape) .f32 0x00000000#32) (ix2 r j) = ∑ e : Fin D, q (ix2 r e) * k (ix2 j e) := by
  refine (Ideal.matmul_transposedRhs_apply none _ _ _ r j).trans ?_
  show Ideal.ofBits .f32 0x00000000#32 + _ = _
  rw [Dense.zero_f32, zero_add]
  rfl

/-! ## Pieces side by side -/

variable {α : Type}

/-- Three pieces one below the other. -/
theorem stack3 {M C : ℕ} (x : Fin 3 → (⟨2, ![R, C]⟩ : Shape).Idx → α) (h) (g : Fin 3) (r : Fin R) (k : Fin C) (n : Fin M) (hn : n.val = R * g.val + r.val) :
    concatenate (⟨2, ![M, C]⟩ : Shape) 0 [⟨(⟨2, ![R, C]⟩ : Shape), x 0⟩, ⟨(⟨2, ![R, C]⟩ : Shape), x 1⟩, ⟨(⟨2, ![R, C]⟩ : Shape), x 2⟩] h (ix2 n k) = x g (ix2 r k) := by
  have hi : ∀ b : Fin 2, b.cast rfl ≠ (0 : Fin 2) → (ix2 (n0 := R) (n1 := C) r k b).val = (ix2 (n0 := M) (n1 := C) n k (b.cast rfl)).val :=
    fun b hb => match b with | ⟨0, _⟩ => absurd rfl hb | ⟨1, _⟩ => rfl
  match g with
  | ⟨0, _⟩ => exact concatenate_apply_piece 0 _ h _ 0 (Nat.succ_pos _) _ (x 0) rfl rfl 0 rfl (ix2 r k) hi (by show 0 + r.val = n.val; simp at hn; omega)
  | ⟨1, _⟩ => exact concatenate_apply_piece 0 _ h _ 1 (Nat.succ_lt_succ (Nat.succ_pos _)) _ (x 1) rfl rfl R (by simp) (ix2 r k) hi (by show R + r.val = n.val; simp at hn; omega)
  | ⟨2, _⟩ => exact concatenate_apply_piece 0 _ h _ 2 (Nat.succ_lt_succ (Nat.succ_lt_succ (Nat.succ_pos _))) _ (x 2) rfl rfl (R + R) (by simp) (ix2 r k) hi (by show R + R + r.val = n.val; simp at hn; omega)

/-- Six pieces of 64 lanes side by side. -/
theorem lanes6 (x : Fin 6 → (⟨2, ![R, 64]⟩ : Shape).Idx → α) (h) (g : Fin 6) (r : Fin R) (e : Fin 64) (n : Fin 384) (hn : n.val = 64 * g.val + e.val) :
    concatenate (⟨2, ![R, 384]⟩ : Shape) 1 [⟨(⟨2, ![R, 64]⟩ : Shape), x 0⟩, ⟨(⟨2, ![R, 64]⟩ : Shape), x 1⟩, ⟨(⟨2, ![R, 64]⟩ : Shape), x 2⟩,
      ⟨(⟨2, ![R, 64]⟩ : Shape), x 3⟩, ⟨(⟨2, ![R, 64]⟩ : Shape), x 4⟩, ⟨(⟨2, ![R, 64]⟩ : Shape), x 5⟩] h (ix2 r n) = x g (ix2 r e) := by
  have key : ∀ (k : ℕ) (hk : k < 6), k = g.val → ∀ x₁, _ := fun k hk he x₁ =>
    concatenate_apply_piece (α := α) 1 [⟨(⟨2, ![R, 64]⟩ : Shape), x 0⟩, ⟨(⟨2, ![R, 64]⟩ : Shape), x 1⟩, ⟨(⟨2, ![R, 64]⟩ : Shape), x 2⟩,
      ⟨(⟨2, ![R, 64]⟩ : Shape), x 3⟩, ⟨(⟨2, ![R, 64]⟩ : Shape), x 4⟩, ⟨(⟨2, ![R, 64]⟩ : Shape), x 5⟩] h (ix2 r n) k hk (⟨2, ![R, 64]⟩ : Shape) x₁
  have hi : ∀ b : Fin 2, b.cast rfl ≠ (1 : Fin 2) → (ix2 (n0 := R) (n1 := 64) r e b).val = (ix2 (n0 := R) (n1 := 384) r n (b.cast rfl)).val :=
    fun b hb => match b with | ⟨0, _⟩ => rfl | ⟨1, _⟩ => absurd rfl hb
  match g with
  | ⟨0, _⟩ => exact key 0 (by decide) rfl (x 0) rfl rfl 0 rfl (ix2 r e) hi (by show 0 + e.val = n.val; simp at hn; omega)
  | ⟨1, _⟩ => exact key 1 (by decide) rfl (x 1) rfl rfl 64 rfl (ix2 r e) hi (by show 64 + e.val = n.val; simp at hn; omega)
  | ⟨2, _⟩ => exact key 2 (by decide) rfl (x 2) rfl rfl 128 rfl (ix2 r e) hi (by show 128 + e.val = n.val; simp at hn; omega)
  | ⟨3, _⟩ => exact key 3 (by decide) rfl (x 3) rfl rfl 192 rfl (ix2 r e) hi (by show 192 + e.val = n.val; simp at hn; omega)
  | ⟨4, _⟩ => exact key 4 (by decide) rfl (x 4) rfl rfl 256 rfl (ix2 r e) hi (by show 256 + e.val = n.val; simp at hn; omega)
  | ⟨5, _⟩ => exact key 5 (by decide) rfl (x 5) rfl rfl 320 rfl (ix2 r e) hi (by show 320 + e.val = n.val; simp at hn; omega)

/-- A sink's number, one to a row, and a slice of lanes. -/
theorem spread_one (x : (⟨2, ![1, 1]⟩ : Shape).Idx → α) (h) (r : Fin R) :
    broadcastTo (⟨2, ![R, 1]⟩ : Shape) x h (ix2 r 0) = x (ix2 0 0) := spreadRow x h r 0

theorem lanes_apply {C L : ℕ} (o : ℕ) (v : (⟨2, ![R, C]⟩ : Shape).Idx → α) (h) (r : Fin R) (e : Fin L) (n : Fin C) (hn : n.val = o + e.val) :
    extractStridedSlice (⟨2, ![R, L]⟩ : Shape) ![0, o] v h (ix2 r e) = v (ix2 r n) :=
  extractStridedSlice_apply ![0, o] v h _ _ fun a => match a with
    | ⟨0, _⟩ => by show r.val = 0 + r.val; omega
    | ⟨1, _⟩ => hn

theorem rows_slice {M C : ℕ} (o : ℕ) (v : (⟨2, ![M, C]⟩ : Shape).Idx → α) (h) (r : Fin R) (e : Fin C) (n : Fin M) (hn : n.val = o + r.val) :
    extractStridedSlice (⟨2, ![R, C]⟩ : Shape) ![o, 0] v h (ix2 r e) = v (ix2 n e) :=
  extractStridedSlice_apply ![o, 0] v h _ _ fun a => match a with
    | ⟨0, _⟩ => hn
    | ⟨1, _⟩ => by show e.val = 0 + e.val; omega

/-! ## Heads -/

/-- Three heads' queries one below the other. -/
def stack {M : ℕ} (q : Fin 3 → FVec Ideal (⟨2, ![R, 64]⟩ : Shape) .f32)
    (h : Shape.Concatenates [(⟨2, ![R, 64]⟩ : Shape), (⟨2, ![R, 64]⟩ : Shape), (⟨2, ![R, 64]⟩ : Shape)] (⟨2, ![M, 64]⟩ : Shape) 0) :
    FVec Ideal (⟨2, ![M, 64]⟩ : Shape) .f32 :=
  concatenate (⟨2, ![M, 64]⟩ : Shape) 0 [⟨(⟨2, ![R, 64]⟩ : Shape), q 0⟩, ⟨(⟨2, ![R, 64]⟩ : Shape), q 1⟩, ⟨(⟨2, ![R, 64]⟩ : Shape), q 2⟩] h

/-- Their sinks, one to a row. -/
def sinks {M : ℕ} (a : Fin 3 → FVec Ideal (⟨2, ![1, 1]⟩ : Shape) .f32) (h₁ : (⟨2, ![1, 1]⟩ : Shape).ShapeCasts (⟨2, ![1, 1]⟩ : Shape))
    (h₂ : (⟨2, ![1, 1]⟩ : Shape).Broadcasts (⟨2, ![R, 1]⟩ : Shape))
    (h : Shape.Concatenates [(⟨2, ![R, 1]⟩ : Shape), (⟨2, ![R, 1]⟩ : Shape), (⟨2, ![R, 1]⟩ : Shape)] (⟨2, ![M, 1]⟩ : Shape) 0) :
    FVec Ideal (⟨2, ![M, 1]⟩ : Shape) .f32 :=
  concatenate (⟨2, ![M, 1]⟩ : Shape) 0
    [⟨(⟨2, ![R, 1]⟩ : Shape), broadcastTo (⟨2, ![R, 1]⟩ : Shape) (shapeCast (⟨2, ![1, 1]⟩ : Shape) (shapeCast (⟨2, ![1, 1]⟩ : Shape) (a 0) h₁) h₁) h₂⟩,
     ⟨(⟨2, ![R, 1]⟩ : Shape), broadcastTo (⟨2, ![R, 1]⟩ : Shape) (shapeCast (⟨2, ![1, 1]⟩ : Shape) (shapeCast (⟨2, ![1, 1]⟩ : Shape) (a 1) h₁) h₁) h₂⟩,
     ⟨(⟨2, ![R, 1]⟩ : Shape), broadcastTo (⟨2, ![R, 1]⟩ : Shape) (shapeCast (⟨2, ![1, 1]⟩ : Shape) (shapeCast (⟨2, ![1, 1]⟩ : Shape) (a 2) h₁) h₁) h₂⟩] h

theorem stack_apply {M : ℕ} (q : Fin 3 → FVec Ideal (⟨2, ![R, 64]⟩ : Shape) .f32) (h) (g : Fin 3) (r : Fin R) (e : Fin 64) (n : Fin M)
    (hn : n.val = R * g.val + r.val) : stack q h (ix2 n e) = q g (ix2 r e) :=
  stack3 q h g r e n hn

theorem sinks_apply {M : ℕ} (a : Fin 3 → FVec Ideal (⟨2, ![1, 1]⟩ : Shape) .f32) (h₁) (h₂ : (⟨2, ![1, 1]⟩ : Shape).Broadcasts (⟨2, ![R, 1]⟩ : Shape))
    (h) (g : Fin 3) (r : Fin R) (n : Fin M) (hn : n.val = R * g.val + r.val) : sinks a h₁ h₂ h (ix2 n 0) = a g (ix2 0 0) := by
  refine (stack3 (fun g => broadcastTo (⟨2, ![R, 1]⟩ : Shape) (shapeCast (⟨2, ![1, 1]⟩ : Shape) (shapeCast (⟨2, ![1, 1]⟩ : Shape) (a g) h₁) h₁) h₂) h g r 0 n hn).trans ?_
  show broadcastTo _ _ h₂ (ix2 r 0) = _
  rw [spread_one, shapeCast_self, shapeCast_self]

/-- The six heads' rows side by side, from the two groups' stacks. -/
def six {M : ℕ} (G : Fin 2 → FVec Ideal (⟨2, ![M, 64]⟩ : Shape) .f32) (o₁ o₂ : ℕ)
    (h₀ : (⟨2, ![M, 64]⟩ : Shape).Slices ![0, 0] (⟨2, ![R, 64]⟩ : Shape)) (h₁ : (⟨2, ![M, 64]⟩ : Shape).Slices ![o₁, 0] (⟨2, ![R, 64]⟩ : Shape))
    (h₂ : (⟨2, ![M, 64]⟩ : Shape).Slices ![o₂, 0] (⟨2, ![R, 64]⟩ : Shape))
    (h : Shape.Concatenates [(⟨2, ![R, 64]⟩ : Shape), (⟨2, ![R, 64]⟩ : Shape), (⟨2, ![R, 64]⟩ : Shape), (⟨2, ![R, 64]⟩ : Shape), (⟨2, ![R, 64]⟩ : Shape),
      (⟨2, ![R, 64]⟩ : Shape)] (⟨2, ![R, 384]⟩ : Shape) 1) (h' : (⟨2, ![R, 384]⟩ : Shape).ShapeCasts (⟨3, ![1, R, 384]⟩ : Shape)) :
    FVec Ideal (⟨3, ![1, R, 384]⟩ : Shape) .f32 :=
  shapeCast (⟨3, ![1, R, 384]⟩ : Shape) (concatenate (⟨2, ![R, 384]⟩ : Shape) 1
    [⟨(⟨2, ![R, 64]⟩ : Shape), extractStridedSlice (⟨2, ![R, 64]⟩ : Shape) ![0, 0] (G 0) h₀⟩,
     ⟨(⟨2, ![R, 64]⟩ : Shape), extractStridedSlice (⟨2, ![R, 64]⟩ : Shape) ![o₁, 0] (G 0) h₁⟩,
     ⟨(⟨2, ![R, 64]⟩ : Shape), extractStridedSlice (⟨2, ![R, 64]⟩ : Shape) ![o₂, 0] (G 0) h₂⟩,
     ⟨(⟨2, ![R, 64]⟩ : Shape), extractStridedSlice (⟨2, ![R, 64]⟩ : Shape) ![0, 0] (G 1) h₀⟩,
     ⟨(⟨2, ![R, 64]⟩ : Shape), extractStridedSlice (⟨2, ![R, 64]⟩ : Shape) ![o₁, 0] (G 1) h₁⟩,
     ⟨(⟨2, ![R, 64]⟩ : Shape), extractStridedSlice (⟨2, ![R, 64]⟩ : Shape) ![o₂, 0] (G 1) h₂⟩] h) h'

theorem six_apply {M : ℕ} (G : Fin 2 → FVec Ideal (⟨2, ![M, 64]⟩ : Shape) .f32) (o₁ o₂ : ℕ) (h₀) (h₁) (h₂) (h) (h') (ho₁ : o₁ = R) (ho₂ : o₂ = 2 * R)
    (kv : Fin 2) (g : Fin 3) (r : Fin R) (d : Fin 64) (n : Fin 384) (hn : n.val = 192 * kv.val + 64 * g.val + d.val) (p : Fin M) (hp : p.val = R * g.val + r.val) :
    six (R := R) G o₁ o₂ h₀ h₁ h₂ h h' (ix3 0 r n) = G kv (ix2 p d) := by
  unfold six
  rw [lift3]
  refine (lanes6 (![extractStridedSlice (⟨2, ![R, 64]⟩ : Shape) ![0, 0] (G 0) h₀, extractStridedSlice (⟨2, ![R, 64]⟩ : Shape) ![o₁, 0] (G 0) h₁,
    extractStridedSlice (⟨2, ![R, 64]⟩ : Shape) ![o₂, 0] (G 0) h₂, extractStridedSlice (⟨2, ![R, 64]⟩ : Shape) ![0, 0] (G 1) h₀,
    extractStridedSlice (⟨2, ![R, 64]⟩ : Shape) ![o₁, 0] (G 1) h₁, extractStridedSlice (⟨2, ![R, 64]⟩ : Shape) ![o₂, 0] (G 1) h₂])
    h ⟨3 * kv.val + g.val, by omega⟩ r d n (by show _ = 64 * (3 * kv.val + g.val) + _; omega)).trans ?_
  have hs : ∀ kv : Fin 2, ∀ x : Fin 3 → (⟨2, ![R, 64]⟩ : Shape).Idx → EReal, x = ![extractStridedSlice (⟨2, ![R, 64]⟩ : Shape) ![0, 0] (G kv) h₀,
      extractStridedSlice (⟨2, ![R, 64]⟩ : Shape) ![o₁, 0] (G kv) h₁, extractStridedSlice (⟨2, ![R, 64]⟩ : Shape) ![o₂, 0] (G kv) h₂] → x g (ix2 r d) = G kv (ix2 p d) :=
    fun kv x hx => by
      subst hx
      match g with
      | ⟨0, _⟩ => exact rows_slice 0 (G kv) h₀ r d p (by simp at hp; omega)
      | ⟨1, _⟩ => exact rows_slice o₁ (G kv) h₁ r d p (by simp at hp; omega)
      | ⟨2, _⟩ => exact rows_slice o₂ (G kv) h₂ r d p (by simp at hp; omega)
  match kv with
  | ⟨0, _⟩ => exact hs 0 (fun g => (![_, _, _, _, _, _] : Fin 6 → (⟨2, ![R, 64]⟩ : Shape).Idx → EReal) ⟨3 * 0 + g.val, by omega⟩) (funext fun g => match g with
    | ⟨0, _⟩ => rfl | ⟨1, _⟩ => rfl | ⟨2, _⟩ => rfl)
  | ⟨1, _⟩ => exact hs 1 (fun g => (![_, _, _, _, _, _] : Fin 6 → (⟨2, ![R, 64]⟩ : Shape).Idx → EReal) ⟨3 * 1 + g.val, by omega⟩) (funext fun g => match g with
    | ⟨0, _⟩ => rfl | ⟨1, _⟩ => rfl | ⟨2, _⟩ => rfl)

/-- One layer's sinks, on the first lanes of a row. -/
theorem sinkRow_apply (x : (⟨2, ![2, 6]⟩ : Shape).Idx → α) {u : Shape} (z : u.Idx → α) (h₁) (h₂) (h₃) (hu) (h₄) (p : Fin 128) (h : Fin 6) (hp : p.val = h.val) :
    broadcastInDim (⟨2, ![1, 128]⟩ : Shape) ![1] h₄ (pad (⟨1, ![128]⟩ : Shape) ![0] ![122] ![0] (shapeCast (⟨1, ![6]⟩ : Shape)
      (extractStridedSlice (⟨2, ![1, 6]⟩ : Shape) ![0, 0] x h₁) h₂) z h₃ hu) (ix2 0 p) = x (ix2 0 h) := by
  rw [broadcastInDim_apply ![1] h₄ _ (ix2 0 p) (ix1 p) (fun a => match a with | ⟨0, _⟩ => rfl),
    pad_apply_of_inside _ _ _ _ _ h₃ hu (ix1 p) (ix1 h) (fun a => match a with | ⟨0, _⟩ => by show p.val = 0 + h.val * (0 + 1); omega),
    shapeCast_apply _ h₂ (ix1 h) (ix2 0 h) (by
      rewrite [Shape.rowMajor_val_one, Shape.rowMajor_val_two]
      show 0 * 6 + h.val = h.val
      omega)]
  exact extractStridedSlice_apply ![0, 0] x h₁ _ _ fun a => match a with
    | ⟨0, _⟩ => rfl
    | ⟨1, _⟩ => by show h.val = 0 + h.val; omega

/-! ## The scale -/

theorem eighth : Ideal.ofBits .f32 0x3E000000#32 = ((1 / 8 : ℝ) : EReal) := by
  simp [Ideal.ofBits, Ideal.ieee]
  norm_num
  rw [← EReal.coe_mul]
  norm_num

/-- A scaled product of real rows is real. -/
theorem score_real (q k : ι → EReal) (hq : ∀ e, ∃ r : ℝ, q e = r) (hk : ∀ e, ∃ r : ℝ, k e = r) :
    ∃ r : ℝ, (∑ e, q e * k e) * Ideal.ofBits .f32 0x3E000000#32 = r := by
  choose a ha using hq
  choose b hb using hk
  refine ⟨(∑ e, a e * b e) * (1 / 8), ?_⟩
  rw [eighth, EReal.coe_mul]
  congr 1
  have : ∀ t : Finset ι, ∑ e ∈ t, q e * k e = ((∑ e ∈ t, a e * b e : ℝ) : EReal) := by
    classical
    intro t
    induction t using Finset.induction_on with
    | empty => simp
    | insert i t hi ih => rw [Finset.sum_insert hi, Finset.sum_insert hi, ih, ha, hb, EReal.coe_add, EReal.coe_mul]
  exact this _

/-! ## The rows of the references -/

/-- The greatest entry of each row, as the host takes it. -/
theorem hostTop {S N : ℕ} (x : (⟨4, ![8, 6, S, N]⟩ : Shape).Idx → EReal) {u : Shape} (z : u.Idx → EReal) (h' : (⟨4, ![8, 6, S, N]⟩ : Shape).ReducesTo [3] (⟨3, ![8, 6, S]⟩ : Shape))
    (h : (⟨4, ![8, 6, S, N]⟩ : Shape).Reduces [3] (⟨3, ![8, 6, S]⟩ : Shape)) (hu : 0 < u.numel) (hz : z (Shape.Idx.first hu) = Ideal.ofBits .f32 0xFF800000#32)
    (b : Fin 8) (a : Fin 6) (n : Fin S) :
    Host.reduce (max : EReal → EReal → EReal) x z h' hu (ix3 b a n) = Finset.univ.sup fun j : Fin N => x (ix4 b a n j) := by
  rw [Host.reduce_eq_fold_single max x z h' h hu, hz, fold_max]
  exact congrArg (Finset.univ (α := Fin N)).sup (funext fun j => congrArg x (funext fun a => Fin.ext (match a with
    | ⟨0, _⟩ => rfl
    | ⟨1, _⟩ => rfl
    | ⟨2, _⟩ => rfl
    | ⟨3, _⟩ => rfl)))

end Cert.Proof.Attend

end
-- ==== Proof.Turn.lean ====
/- The rotary tables of `attn_x`: what the host leaves in them. -/
module

public import proofs.«01_k».proof.Proof.Attend
public import proofs.«01_k».proof.Proof.Gen.Kernel5Ideal.Value

@[expose] public section

set_option maxRecDepth 16384

noncomputable section

namespace Cert.Proof.Turn

open Cert.Kernel5Ideal Cert.Kernel5Ideal.Gen Cert.Proof.Norm Cert.Proof.Attend
open Idealize.ShloMosaic hiding ix1 ix2 ix3 ix4 ix5 eq_ix1 eq_ix2 eq_ix3
open Idealize.ShloMosaic.TcCoe Idealize.ShloMosaic.ValueIdx Idealize.SL.Sem
open scoped BigOperators

/-! ## The kernel's tables -/

def every (w : BitVec 32) : IVec S2048 32 := broadcastInDim S2048 ![] bcast_S_S2048 (constantI S_ 32 w)

/-- The row of each position in its grid, by floor division. -/
def rowOf : IVec S2048 32 :=
  select (andi (cmpi .ne (signi (iotaInDim S2048 32 0)) (broadcastInDim S2048 ![] bcast_S_S2048 (signi (constantI S_ 32 64#32))))
      (cmpi .ne (Host.remsi (iotaInDim S2048 32 0) (every 64#32)) (every 0#32)))
    (subi (Host.divsi (iotaInDim S2048 32 0) (every 64#32)) (every 1#32)) (Host.divsi (iotaInDim S2048 32 0) (every 64#32))

def modulus : IVec S_ 32 := select (cmpi .eq (constantI S_ 32 64#32) (constantI S_ 32 0#32)) (constantI S_ 32 1#32) (constantI S_ 32 64#32)

/-- Its column, by remainder. -/
def colOf : IVec S2048 32 :=
  select (andi (cmpi .ne (cmpi .slt (Host.remsi (iotaInDim S2048 32 0) (broadcastInDim S2048 ![] bcast_S_S2048 modulus)) (every 0#32))
        (broadcastInDim S2048 ![] bcast_S_S2048 (cmpi .slt modulus (constantI S_ 32 0#32))))
      (cmpi .ne (Host.remsi (iotaInDim S2048 32 0) (broadcastInDim S2048 ![] bcast_S_S2048 modulus)) (every 0#32)))
    (addi (Host.remsi (iotaInDim S2048 32 0) (broadcastInDim S2048 ![] bcast_S_S2048 modulus)) (broadcastInDim S2048 ![] bcast_S_S2048 modulus))
    (Host.remsi (iotaInDim S2048 32 0) (broadcastInDim S2048 ![] bcast_S_S2048 modulus))

def freq : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

def angles : FVec Ideal S2048x2x16 .f32 :=
  mulf (broadcastInDim S2048x2x16 ![0, 1, 2] bcast_S2048x2x1_S2048x2x16_0_1_2 (broadcastInDim S2048x2x1 ![0, 1] bcast_S2048x2_S2048x2x1_0_1
      (sitofp .f32 (concatenate S2048x2 1 [⟨S2048x1, broadcastInDim S2048x1 ![0] bcast_S2048_S2048x1_0 rowOf⟩,
        ⟨S2048x1, broadcastInDim S2048x1 ![0] bcast_S2048_S2048x1_0 colOf⟩] concatenates_S2048x1_S2048x1_S2048x2_d1))))
    (broadcastInDim S2048x2x16 ![0, 1, 2] bcast_S1x1x16_S2048x2x16_0_1_2 (broadcastInDim S1x1x16 ![2] bcast_S16_S1x1x16_2 freq))

/-- Two tables side by side for the halves of each axis, and again for the two heads of a row. -/
def table (a b : FVec Ideal S2048x2x16 .f32) : FVec Ideal S2048x128 .f32 :=
  concatenate S2048x128 1 [⟨S2048x64, shapeCast S2048x64 (concatenate S2048x2x32 2 [⟨S2048x2x16, a⟩, ⟨S2048x2x16, b⟩] concatenates_S2048x2x16_S2048x2x16_S2048x2x32_d2) shapeCasts_S2048x2x32_S2048x64⟩,
    ⟨S2048x64, shapeCast S2048x64 (concatenate S2048x2x32 2 [⟨S2048x2x16, a⟩, ⟨S2048x2x16, b⟩] concatenates_S2048x2x16_S2048x2x16_S2048x2x32_d2) shapeCasts_S2048x2x32_S2048x64⟩]
    concatenates_S2048x64_S2048x64_S2048x128_d1

variable (m : (ℓ : Loc nD τ sig) → Buf (Elt Ideal) ℓ)

theorem V_cos (c : Dev nD) : V m c main_v26 = table (Host.cos angles) (Host.cos angles) := by
  unfold V
  simp only [hostOps0, hostOps0_1, hostOps0_2, hostOps0_3, hostOps0_4, hostOps0_5, hostOps0_6, List.flatten_cons, List.flatten_nil, List.append_nil,
    List.cons_append, List.nil_append]
  after_results <;> rfl

theorem V_sin (c : Dev nD) : V m c main_v27 = table (Host.negf (Host.sin angles)) (Host.sin angles) := by
  unfold V
  simp only [hostOps0, hostOps0_1, hostOps0_2, hostOps0_3, hostOps0_4, hostOps0_5, hostOps0_6, List.flatten_cons, List.flatten_nil, List.append_nil,
    List.cons_append, List.nil_append]
  after_results <;> rfl

theorem V_row (c : Dev nD) : V m c main_v31 = broadcastInDim S1x128 ![1] bcast_S128_S1x128_1 (pad S128 ![0] ![122] ![0] (shapeCast S6
    (extractStridedSlice S1x6 ![0, 0] (m ((c : Thread nD τ).loc main_arg3)) slices_S2x6_S1x6_0_0) shapeCasts_S1x6_S6)
    (sitofp (F := Ideal) .f32 (constantI S_ 32 0#32)) pads_S6_S128_01220 h_S_) := by
  unfold V
  simp only [hostOps0, hostOps0_1, hostOps0_2, hostOps0_3, hostOps0_4, hostOps0_5, hostOps0_6, List.flatten_cons, List.flatten_nil, List.append_nil,
    List.cons_append, List.nil_append]
  after_results <;> rfl

theorem rowOf_apply : ∀ n : Fin 2048, rowOf (ix1 n) = BitVec.ofNat 32 (n.val / 64) := by decide +kernel
theorem colOf_apply : ∀ n : Fin 2048, colOf (ix1 n) = BitVec.ofNat 32 (n.val % 64) := by decide +kernel

/-- The angle of position `n` along axis `a` at frequency `f`. -/
def ang (n : Fin 2048) (a : Fin 2) (f : Fin 16) : EReal :=
  ((((BitVec.ofNat 32 (if a.val = 0 then n.val / 64 else n.val % 64)).toInt : ℝ)) : EReal) * freq (ix1 f)

/-- A head's entry `e` at position `n`: each axis has 32 entries, whose first 16 are paired with the last 16. -/
def turned (x : Fin 64 → EReal) (n : Fin 2048) (e : Fin 64) : EReal :=
  if h : e.val % 32 < 16 then
    x e * Ideal.cos (ang n ⟨e.val / 32, by omega⟩ ⟨e.val % 16, by omega⟩) - x ⟨e.val + 16, by omega⟩ * Ideal.sin (ang n ⟨e.val / 32, by omega⟩ ⟨e.val % 16, by omega⟩)
  else
    x e * Ideal.cos (ang n ⟨e.val / 32, by omega⟩ ⟨e.val % 16, by omega⟩) + x ⟨e.val - 16, by omega⟩ * Ideal.sin (ang n ⟨e.val / 32, by omega⟩ ⟨e.val % 16, by omega⟩)

theorem ten_thousand : Ideal.ofBits .f32 0x461C4000#32 = ((10000 : ℝ) : EReal) := by
  simp [Ideal.ofBits, Ideal.ieee]
  norm_num
  rw [← EReal.coe_mul]
  norm_num

theorem sixteen : Ideal.ofBits .f32 0x41800000#32 = ((16 : ℝ) : EReal) := by
  simp [Ideal.ofBits, Ideal.ieee]
  norm_num
  rw [← EReal.coe_mul]
  norm_num

theorem freq_real (f : Fin 16) : ∃ r : ℝ, freq (ix1 f) = r := by
  refine ⟨Real.rpow 10000 (-((BitVec.ofNat 32 f.val).toInt : ℝ) * (16 : ℝ)⁻¹), ?_⟩
  show Ideal.pow (Ideal.ofBits .f32 0x461C4000#32) (Ideal.div (-((((BitVec.ofNat 32 f.val).toInt : ℝ)) : EReal)) (Ideal.ofBits .f32 0x41800000#32)) = _
  rw [ten_thousand, sixteen]
  unfold Ideal.div
  rw [if_neg (by exact_mod_cast (by norm_num : (16 : ℝ) ≠ 0)), ← EReal.coe_inv, ← EReal.coe_neg, ← EReal.coe_mul]
  rfl

theorem ang_real (n : Fin 2048) (a : Fin 2) (f : Fin 16) : ∃ r : ℝ, ang n a f = r := by
  obtain ⟨r, hr⟩ := freq_real f
  unfold ang
  rw [hr, ← EReal.coe_mul]
  exact ⟨_, rfl⟩

theorem turned_real (x : Fin 64 → EReal) (hx : ∀ e, ∃ r : ℝ, x e = r) (n : Fin 2048) (e : Fin 64) : ∃ r : ℝ, turned x n e = r := by
  unfold turned
  obtain ⟨t, ht⟩ := ang_real n ⟨e.val / 32, by omega⟩ ⟨e.val % 16, by omega⟩
  obtain ⟨u, hu⟩ := hx e
  have hc : Ideal.cos (t : EReal) = (Real.cos t : EReal) := rfl
  have hs : Ideal.sin (t : EReal) = (Real.sin t : EReal) := rfl
  split
  · next h =>
    obtain ⟨w, hw⟩ := hx ⟨e.val + 16, by omega⟩
    exact ⟨u * Real.cos t - w * Real.sin t, by rw [ht, hu, hw, hc, hs, EReal.coe_sub, EReal.coe_mul, EReal.coe_mul]⟩
  · next h =>
    obtain ⟨w, hw⟩ := hx ⟨e.val - 16, by omega⟩
    exact ⟨u * Real.cos t + w * Real.sin t, by rw [ht, hu, hw, hc, hs, EReal.coe_add, EReal.coe_mul, EReal.coe_mul]⟩

theorem angles_apply (n : Fin 2048) (a : Fin 2) (f : Fin 16) : angles (ix3 n a f) = ang n a f := by
  unfold angles
  refine (congrArg₂ (fun y z : EReal => y * z) (?_ : _ = (((BitVec.ofNat 32 (if a.val = 0 then n.val / 64 else n.val % 64)).toInt : ℝ) : EReal)) ?_)
  rotate_left
  · rw [broadcastInDim_apply ![0, 1, 2] bcast_S1x1x16_S2048x2x16_0_1_2 _ (ix3 n a f) (ix3 0 0 f) (fun b => match b with | ⟨0, _⟩ => rfl | ⟨1, _⟩ => rfl | ⟨2, _⟩ => rfl)]
    exact broadcastInDim_apply ![2] bcast_S16_S1x1x16_2 _ (ix3 0 0 f) (ix1 f) (fun b => match b with | ⟨0, _⟩ => rfl)
  rw [broadcastInDim_apply ![0, 1, 2] bcast_S2048x2x1_S2048x2x16_0_1_2 _ (ix3 n a f) (ix3 n a 0) (fun b => match b with | ⟨0, _⟩ => rfl | ⟨1, _⟩ => rfl | ⟨2, _⟩ => rfl),
    broadcastInDim_apply ![0, 1] bcast_S2048x2_S2048x2x1_0_1 _ (ix3 n a 0) (ix2 n a) (fun b => match b with | ⟨0, _⟩ => rfl | ⟨1, _⟩ => rfl)]
  refine congrArg (fun z : BitVec 32 => ((z.toInt : ℝ) : EReal)) ?_
  match a with
  | ⟨0, _⟩ =>
    refine (concatenate_pair_apply_left 1 _ _ concatenates_S2048x1_S2048x1_S2048x2_d1 (ix2 n ⟨0, by omega⟩) rfl (ix2 n 0)
      (fun b => match b with | ⟨0, _⟩ => rfl | ⟨1, _⟩ => rfl)).trans ?_
    exact (broadcastInDim_apply ![0] bcast_S2048_S2048x1_0 rowOf (ix2 n 0) (ix1 n) (fun b => match b with | ⟨0, _⟩ => rfl)).trans (rowOf_apply n)
  | ⟨1, _⟩ =>
    refine (concatenate_pair_apply_right 1 _ _ concatenates_S2048x1_S2048x1_S2048x2_d1 (ix2 n ⟨1, by omega⟩) rfl rfl (ix2 n 0)
      (fun b hb => match b with | ⟨0, _⟩ => rfl | ⟨1, _⟩ => absurd rfl hb) rfl).trans ?_
    exact (broadcastInDim_apply ![0] bcast_S2048_S2048x1_0 colOf (ix2 n 0) (ix1 n) (fun b => match b with | ⟨0, _⟩ => rfl)).trans (colOf_apply n)

theorem table_apply (a b : FVec Ideal S2048x2x16 .f32) (n : Fin 2048) (l : Fin 128) (e : Fin 64) (he : e.val = l.val % 64) : table a b (ix2 n l)
    = if e.val % 32 < 16 then a (ix3 n ⟨e.val / 32, by omega⟩ ⟨e.val % 16, by omega⟩) else b (ix3 n ⟨e.val / 32, by omega⟩ ⟨e.val % 16, by omega⟩) := by
  have hw : (shapeCast S2048x64 (concatenate S2048x2x32 2 [⟨S2048x2x16, a⟩, ⟨S2048x2x16, b⟩] concatenates_S2048x2x16_S2048x2x16_S2048x2x32_d2) shapeCasts_S2048x2x32_S2048x64 :
      FVec Ideal S2048x64 .f32) (ix2 n e)
      = if e.val % 32 < 16 then a (ix3 n ⟨e.val / 32, by omega⟩ ⟨e.val % 16, by omega⟩) else b (ix3 n ⟨e.val / 32, by omega⟩ ⟨e.val % 16, by omega⟩) := by
    rw [shapeCast_apply _ shapeCasts_S2048x2x32_S2048x64 (ix2 n e) (ix3 n ⟨e.val / 32, by omega⟩ ⟨e.val % 32, by omega⟩) (by
      rewrite [Shape.rowMajor_val_two, Shape.rowMajor_val_three]
      show (n.val * 2 + e.val / 32) * 32 + e.val % 32 = n.val * 64 + e.val
      omega)]
    by_cases h : e.val % 32 < 16
    · rw [if_pos h]
      exact concatenate_pair_apply_left 2 a b concatenates_S2048x2x16_S2048x2x16_S2048x2x32_d2 _ rfl
        (ix3 n ⟨e.val / 32, by omega⟩ ⟨e.val % 16, by omega⟩) (fun b => match b with | ⟨0, _⟩ => rfl | ⟨1, _⟩ => rfl | ⟨2, _⟩ => by show e.val % 16 = e.val % 32; omega)
    · rw [if_neg h]
      exact concatenate_pair_apply_right 2 a b concatenates_S2048x2x16_S2048x2x16_S2048x2x32_d2 _ rfl rfl
        (ix3 n ⟨e.val / 32, by omega⟩ ⟨e.val % 16, by omega⟩) (fun b hb => match b with | ⟨0, _⟩ => rfl | ⟨1, _⟩ => rfl | ⟨2, _⟩ => absurd rfl hb)
        (by show e.val % 16 + 16 = e.val % 32; omega)
  refine Eq.trans ?_ hw
  unfold table
  by_cases h : l.val < 64
  · exact concatenate_pair_apply_left 1 _ _ concatenates_S2048x64_S2048x64_S2048x128_d1 (ix2 n l) rfl (ix2 n e)
      (fun b => match b with | ⟨0, _⟩ => rfl | ⟨1, _⟩ => by show e.val = l.val; omega)
  · exact concatenate_pair_apply_right 1 _ _ concatenates_S2048x64_S2048x64_S2048x128_d1 (ix2 n l) rfl rfl (ix2 n e)
      (fun b hb => match b with | ⟨0, _⟩ => rfl | ⟨1, _⟩ => absurd rfl hb) (by show e.val + 64 = l.val; omega)

/-- The tables turn a head's entries. -/
theorem turn_table (x y : Fin 64 → EReal) (n : Fin 2048) (l : Fin 128) (e : Fin 64) (he : e.val = l.val % 64)
    (hy : y e = if h : e.val % 32 < 16 then x ⟨e.val + 16, by omega⟩ else x ⟨e.val - 16, by omega⟩) :
    x e * table (Host.cos angles) (Host.cos angles) (ix2 n l) + y e * table (Host.negf (Host.sin angles)) (Host.sin angles) (ix2 n l) = turned x n e := by
  rw [table_apply _ _ n l e he, table_apply _ _ n l e he, hy]
  unfold turned
  have hc : Host.cos angles (ix3 n ⟨e.val / 32, by omega⟩ ⟨e.val % 16, by omega⟩) = Ideal.cos (ang n ⟨e.val / 32, by omega⟩ ⟨e.val % 16, by omega⟩) := congrArg Ideal.cos (angles_apply _ _ _)
  have hs : Host.sin angles (ix3 n ⟨e.val / 32, by omega⟩ ⟨e.val % 16, by omega⟩) = Ideal.sin (ang n ⟨e.val / 32, by omega⟩ ⟨e.val % 16, by omega⟩) := congrArg Ideal.sin (angles_apply _ _ _)
  have hn : Host.negf (Host.sin angles) (ix3 n ⟨e.val / 32, by omega⟩ ⟨e.val % 16, by omega⟩) = -Ideal.sin (ang n ⟨e.val / 32, by omega⟩ ⟨e.val % 16, by omega⟩) := congrArg (- ·) hs
  by_cases h : e.val % 32 < 16
  · rw [if_pos h, if_pos h, dif_pos h, dif_pos h, hc, hn, mul_neg, sub_eq_add_neg]
  · rw [if_neg h, if_neg h, dif_neg h, dif_neg h, hc, hs]

end Cert.Proof.Turn

end
-- ==== Proof.Window.lean ====
/- Attention of the latents in a window and to the context: the kernel `attn_x`. -/
module

public import proofs.«01_k».proof.Proof.Turn

@[expose] public section

set_option maxRecDepth 16384

noncomputable section

namespace Cert.Proof.Window

open Cert.Kernel5Ideal Cert.Kernel5Ideal.Gen Cert.Proof.Norm Cert.Proof.Attend Cert.Proof.Turn
open Idealize.ShloMosaic hiding ix1 ix2 ix3 ix4 ix5 eq_ix1 eq_ix2 eq_ix3
open Idealize.ShloMosaic.TcCoe Idealize.ShloMosaic.ValueIdx Idealize.SL.Sem
open scoped BigOperators

/-! ## Turning a tile -/

/-- The lanes of the first half of each axis: their place among 32 is below 16. -/
def firstHalf {W : ℕ} (i : IVec (⟨2, ![1, W]⟩ : Shape) 32) (h : (⟨2, ![1, W]⟩ : Shape).Broadcasts (⟨2, ![1, W]⟩ : Shape)) : IVec (⟨2, ![1, W]⟩ : Shape) 1 :=
  let n : BitVec 32 := Scalar.select (Scalar.cmpi .eq 32#32 0#32) 1#32 32#32
  let x := remsi i (broadcast _ n)
  cmpi .slt (select (andi (xori (cmpi .slt x (broadcast _ 0#32)) (broadcastTo _ (broadcast (⟨2, ![1, W]⟩ : Shape) (Scalar.cmpi .slt n 0#32)) h)) (cmpi .ne x (broadcast _ 0#32)))
    (addi x (broadcast _ n)) x) (broadcast _ 16#32)

theorem firstHalf_128 : ∀ j : Fin 128, firstHalf (iota .tc S1x128 32 [1] iota_S1x128_d1_w32) broadcasts_S1x128_S1x128 (ix2 0 j) = BitVec.ofBool (decide (j.val % 32 < 16)) := by
  decide +kernel
theorem firstHalf_384 : ∀ j : Fin 384, firstHalf (iota .tc S1x384 32 [1] iota_S1x384_d1_w32) broadcasts_S1x384_S1x384 (ix2 0 j) = BitVec.ofBool (decide (j.val % 32 < 16)) := by
  decide +kernel

/-- A tile times a table, plus its other halves times another. -/
def turn {W : ℕ} (x C S : FVec Ideal (⟨2, ![128, W]⟩ : Shape) .f32) (u : BitVec 32) (k : IVec (⟨2, ![1, W]⟩ : Shape) 1)
    (h : (⟨2, ![128, W]⟩ : Shape).Rotates 1 none) (h₁ : (⟨2, ![1, W]⟩ : Shape).ShapeCasts (⟨2, ![1, W]⟩ : Shape))
    (h₂ : (⟨2, ![1, W]⟩ : Shape).Broadcasts (⟨2, ![128, W]⟩ : Shape)) : FVec Ideal (⟨2, ![128, W]⟩ : Shape) .f32 :=
  addf (mulf x C) (mulf (select (broadcastTo (⟨2, ![128, W]⟩ : Shape) (shapeCast (⟨2, ![1, W]⟩ : Shape) k h₁) h₂) (dynamicRotate 1 u none x h) (dynamicRotate 1 16#32 none x h)) S)

theorem turn_apply {W : ℕ} (x C S : FVec Ideal (⟨2, ![128, W]⟩ : Shape) .f32) (u : BitVec 32) (k : IVec (⟨2, ![1, W]⟩ : Shape) 1) (h) (h₁) (h₂)
    (hu : u.toNat + 16 = W) (hW : 16 < W) (hk : ∀ j : Fin W, k (ix2 0 j) = BitVec.ofBool (decide (j.val % 32 < 16))) (r : Fin 128) (j : Fin W) :
    turn x C S u k h h₁ h₂ (ix2 r j) = x (ix2 r j) * C (ix2 r j)
      + (if j.val % 32 < 16 then x (ix2 r ⟨(j.val + 16) % W, Nat.mod_lt _ (by omega)⟩) else x (ix2 r ⟨(j.val + (W - 16)) % W, Nat.mod_lt _ (by omega)⟩)) * S (ix2 r j) := by
  have hr : ∀ (v : BitVec 32) (n : ℕ) (hn : n < W), n = (j.val + W - v.toNat % W) % W → dynamicRotate 1 v none x h (ix2 r j) = x (ix2 r ⟨n, hn⟩) :=
    fun v n hn e => dynamicRotate_apply 1 v x h _ _ fun b => match b with
      | ⟨0, _⟩ => rfl
      | ⟨1, _⟩ => e
  show x _ * C _ + Scalar.select (broadcastTo _ (shapeCast _ k h₁) h₂ (ix2 r j)) (dynamicRotate 1 u none x h (ix2 r j)) (dynamicRotate 1 16#32 none x h (ix2 r j)) * S _ = _
  rw [spreadRow, shapeCast_self, hk, hr u ((j.val + 16) % W) (Nat.mod_lt _ (by omega)) (by rw [Nat.mod_eq_of_lt (show u.toNat < W by omega)]; congr 1; omega),
    hr 16#32 ((j.val + (W - 16)) % W) (Nat.mod_lt _ (by omega)) (by rw [show (16#32).toNat = 16 from rfl, Nat.mod_eq_of_lt hW]; congr 1; omega)]
  by_cases hj : j.val % 32 < 16
  · rw [if_pos hj, decide_eq_true hj]; rfl
  · rw [if_neg hj, decide_eq_false hj]; rfl

/-! ## Which keys a query sees -/

theorem place : ∀ p : Fin 384, (let n : BitVec 32 := Scalar.select (Scalar.cmpi .eq 128#32 0#32) 1#32 128#32
    let x := remsi (iota .tc S384x1 32 [0] iota_S384x1_d0_w32) (broadcast _ n)
    select (andi (xori (cmpi .slt x (broadcast _ 0#32)) (broadcastTo S384x1 (broadcast S384x1 (Scalar.cmpi .slt n 0#32)) broadcasts_S384x1_S384x1)) (cmpi .ne x (broadcast _ 0#32)))
      (addi x (broadcast _ n)) x : IVec S384x1 32) (ix2 p 0) = BitVec.ofNat 32 (p.val % 128) := by
  decide +kernel

theorem close : ∀ d : Fin 768, IntOp.cmpi .sle (IntOp.absi (BitVec.ofNat 32 d.val - 256#32)) 128#32 = BitVec.ofBool (decide (128 ≤ d.val ∧ d.val ≤ 384)) := by
  decide +kernel

theorem inside : ∀ y : Fin 2688, IntOp.andi (IntOp.cmpi .sge (BitVec.ofNat 32 y.val - 128#32) 0#32) (IntOp.cmpi .slt (BitVec.ofNat 32 y.val - 128#32) 2048#32)
    = BitVec.ofBool (decide (128 ≤ y.val ∧ y.val < 2176)) := by
  decide +kernel

theorem beyond : ∀ j : Fin 640, IntOp.cmpi .sge (BitVec.ofNat 32 j.val) 384#32 = BitVec.ofBool (decide (384 ≤ j.val)) := by
  decide +kernel

theorem near_apply (p : Fin 384) (j : Fin 640) (r : ℕ) (hr : p.val % 128 = r) :
    k0_pay19 (ix2 p j) = BitVec.ofBool (decide (r ≤ j.val ∧ j.val ≤ r + 256)) := by
  show IntOp.cmpi .sle (IntOp.absi (IntOp.subi (broadcastTo S384x640 _ broadcasts_S1x640_S384x640 (ix2 p j)) (broadcastTo S384x640 _ broadcasts_S384x1_S384x640 (ix2 p j)))) 128#32 = _
  rw [spreadRow, spreadColumn]
  refine (congrArg (fun z => IntOp.cmpi .sle (IntOp.absi (IntOp.subi _ z)) 128#32) (place p)).trans ?_
  have hd : BitVec.ofNat 32 (j.val + 128 - r) - 256#32 = IntOp.subi (IntOp.subi (BitVec.ofNat 32 j.val) 128#32) (BitVec.ofNat 32 (p.val % 128)) := by
    show _ = BitVec.ofNat 32 j.val - 128#32 - BitVec.ofNat 32 (p.val % 128)
    rw [hr, show j.val + 128 - r = j.val + 128 - r from rfl]
    apply BitVec.eq_of_toNat_eq
    simp only [BitVec.toNat_sub, BitVec.toNat_ofNat]
    omega
  show IntOp.cmpi .sle (IntOp.absi (IntOp.subi (IntOp.subi (BitVec.ofNat 32 (0 * 640 + j.val)) 128#32) (BitVec.ofNat 32 (p.val % 128)))) 128#32 = _
  rw [zero_mul, zero_add, ← hd]
  refine (close ⟨j.val + 128 - r, by omega⟩).trans (congrArg BitVec.ofBool (decide_eq_decide.2 ?_))
  show 128 ≤ j.val + 128 - r ∧ j.val + 128 - r ≤ 384 ↔ _
  omega

/-- The keys that count for a row of block `w`: those in the array and at most 128 away, and the context's. -/
def seen (w r j : ℕ) : Prop := (128 ≤ 128 * w + j ∧ 128 * w + j < 2176 ∧ r ≤ j ∧ j ≤ r + 256) ∨ 384 ≤ j
instance (w r j : ℕ) : Decidable (seen w r j) := inferInstanceAs (Decidable (_ ∨ _))

theorem valid_apply (w : ℕ) (hw : w < 16) (z : BitVec 32) (hz : z = BitVec.ofNat 32 w) (p : Fin 384) (j : Fin 640) (r : ℕ) (hr : p.val % 128 = r) :
    k0_pay23 (iota .tc S1x640 32 [1] iota_S1x640_d1_w32) k0_pay19 z (ix2 p j) = BitVec.ofBool (decide (seen w r j.val)) := by
  have hy : BitVec.ofNat 32 (128 * w + j.val) - 128#32 = IntOp.addi (Scalar.muli (Scalar.subi z 1#32) 128#32) (BitVec.ofNat 32 j.val) := by
    rw [hz]
    show _ = (BitVec.ofNat 32 w - 1#32) * 128#32 + BitVec.ofNat 32 j.val
    apply BitVec.eq_of_toNat_eq
    simp only [BitVec.toNat_sub, BitVec.toNat_ofNat, BitVec.toNat_mul, BitVec.toNat_add]
    omega
  show IntOp.ori (IntOp.andi (IntOp.andi (k0_pay19 (ix2 p j)) (broadcastTo S384x640 _ broadcasts_S1x640_S384x640 (ix2 p j)))
    (broadcastTo S384x640 _ broadcasts_S1x640_S384x640 (ix2 p j))) (broadcastTo S384x640 _ broadcasts_S1x640_S384x640 (ix2 p j)) = _
  rw [spreadRow, spreadRow, spreadRow, near_apply p j r hr]
  show IntOp.ori (IntOp.andi (IntOp.andi _ (IntOp.cmpi .sge (IntOp.addi (Scalar.muli (Scalar.subi z 1#32) 128#32) (BitVec.ofNat 32 (0 * 640 + j.val))) 0#32))
    (IntOp.cmpi .slt (IntOp.addi (Scalar.muli (Scalar.subi z 1#32) 128#32) (BitVec.ofNat 32 (0 * 640 + j.val))) 2048#32)) (IntOp.cmpi .sge (BitVec.ofNat 32 (0 * 640 + j.val)) 384#32) = _
  rw [zero_mul, zero_add, ← hy, beyond]
  have hi := inside ⟨128 * w + j.val, by omega⟩
  show (_ &&& _ &&& _) ||| _ = _
  rw [BitVec.and_assoc]
  refine (congrArg (fun z => (_ &&& z) ||| _) hi).trans ?_
  rw [BitVec.ofBool_and_ofBool, BitVec.ofBool_or_ofBool, ← Bool.decide_and, ← Bool.decide_or]
  refine congrArg BitVec.ofBool (decide_eq_decide.2 ?_)
  unfold seen
  tauto

/-! ## The tiles -/

theorem keyTile_apply (k : Vec Ideal S1x128x128 .f32) (C S : Vec Ideal S128x128 .f32) (r j : Fin 128) : k0_pay2 k C S (ix2 r j)
    = k (ix3 0 r j) * C (ix2 r j) + (if j.val % 32 < 16 then k (ix3 0 r ⟨(j.val + 16) % 128, Nat.mod_lt _ (by omega)⟩)
        else k (ix3 0 r ⟨(j.val + 112) % 128, Nat.mod_lt _ (by omega)⟩)) * S (ix2 r j) := by
  refine (turn_apply (shapeCast S128x128 k shapeCasts_S1x128x128_S128x128) (shapeCast S128x128 C shapeCasts_S128x128_S128x128)
    (shapeCast S128x128 S shapeCasts_S128x128_S128x128) 112#32 _ rotates_S128x128_d1 shapeCasts_S1x128_S1x128 broadcasts_S1x128_S128x128 rfl (by omega) firstHalf_128 r j).trans ?_
  rw [shapeCast_self, shapeCast_self, flat3, flat3, flat3]

/-- A table three times side by side. -/
theorem thrice (C : FVec Ideal S128x128 .f32) (r : Fin 128) (n : Fin 384) (l : Fin 128) (hl : l.val = n.val % 128) :
    concatenate S128x384 1 [⟨S128x128, C⟩, ⟨S128x128, C⟩, ⟨S128x128, C⟩] concatenates_S128x128_S128x128_S128x128_S128x384_d1 (ix2 r n) = C (ix2 r l) := by
  have hi : ∀ b : Fin 2, b.cast rfl ≠ (1 : Fin 2) → (ix2 (n0 := 128) (n1 := 128) r l b).val = (ix2 (n0 := 128) (n1 := 384) r n (b.cast rfl)).val :=
    fun b hb => match b with | ⟨0, _⟩ => rfl | ⟨1, _⟩ => absurd rfl hb
  have key : ∀ (k : ℕ) (hk : k < 3), ∀ x₁, _ := fun k hk x₁ => concatenate_apply_piece 1 [⟨S128x128, C⟩, ⟨S128x128, C⟩, ⟨S128x128, C⟩]
    concatenates_S128x128_S128x128_S128x128_S128x384_d1 (ix2 r n) k hk S128x128 x₁
  obtain h | h | h : n.val = l.val ∨ n.val = 128 + l.val ∨ n.val = 256 + l.val := by omega
  · exact key 0 (by decide) C rfl rfl 0 rfl (ix2 r l) hi (by show 0 + l.val = n.val; omega)
  · exact key 1 (by decide) C rfl rfl 128 rfl (ix2 r l) hi (by show 128 + l.val = n.val; omega)
  · exact key 2 (by decide) C rfl rfl 256 rfl (ix2 r l) hi (by show 256 + l.val = n.val; omega)

theorem queryTile_apply (q : Vec Ideal S1x128x384 .f32) (C S : Vec Ideal S128x128 .f32) (r : Fin 128) (j : Fin 384) (l : Fin 128) (hl : l.val = j.val % 128) :
    k0_pay20 q C S (ix2 r j)
    = (q (ix3 0 r j) * C (ix2 r l) + (if j.val % 32 < 16 then q (ix3 0 r ⟨(j.val + 16) % 384, Nat.mod_lt _ (by omega)⟩)
        else q (ix3 0 r ⟨(j.val + 368) % 384, Nat.mod_lt _ (by omega)⟩)) * S (ix2 r l)) * Ideal.ofBits .f32 0x3E000000#32 := by
  refine (congrArg (· * Ideal.ofBits .f32 0x3E000000#32) (turn_apply (shapeCast S128x384 q shapeCasts_S1x128x384_S128x384)
    (concatenate S128x384 1 [⟨S128x128, shapeCast S128x128 C shapeCasts_S128x128_S128x128⟩, ⟨S128x128, shapeCast S128x128 C shapeCasts_S128x128_S128x128⟩,
      ⟨S128x128, shapeCast S128x128 C shapeCasts_S128x128_S128x128⟩] concatenates_S128x128_S128x128_S128x128_S128x384_d1)
    (concatenate S128x384 1 [⟨S128x128, shapeCast S128x128 S shapeCasts_S128x128_S128x128⟩, ⟨S128x128, shapeCast S128x128 S shapeCasts_S128x128_S128x128⟩,
      ⟨S128x128, shapeCast S128x128 S shapeCasts_S128x128_S128x128⟩] concatenates_S128x128_S128x128_S128x128_S128x384_d1)
    368#32 _ rotates_S128x384_d1 shapeCasts_S1x384_S1x384 broadcasts_S1x384_S128x384 rfl (by omega) firstHalf_384 r j)).trans ?_
  rw [thrice _ r j l hl, thrice _ r j l hl, shapeCast_self, shapeCast_self, flat3, flat3, flat3]

/-- Three tiles and the context's rows, one below the other. -/
def column4 (a : Fin 3 → FVec Ideal S128x128 .f32) (c : FVec Ideal S256x128 .f32) : FVec Ideal S640x128 .f32 :=
  concatenate S640x128 0 [⟨S128x128, a 0⟩, ⟨S128x128, a 1⟩, ⟨S128x128, a 2⟩, ⟨S256x128, c⟩] concatenates_S128x128_S128x128_S128x128_S256x128_S640x128_d0

theorem column4_tile (a : Fin 3 → FVec Ideal S128x128 .f32) (c : FVec Ideal S256x128 .f32) (g : Fin 3) (r k : Fin 128) (n : Fin 640) (hn : n.val = 128 * g.val + r.val) :
    column4 a c (ix2 n k) = a g (ix2 r k) := by
  have hi : ∀ b : Fin 2, b.cast rfl ≠ (0 : Fin 2) → (ix2 (n0 := 128) (n1 := 128) r k b).val = (ix2 (n0 := 640) (n1 := 128) n k (b.cast rfl)).val :=
    fun b hb => match b with | ⟨0, _⟩ => absurd rfl hb | ⟨1, _⟩ => rfl
  have key : ∀ (i : ℕ) (hk : i < 4), ∀ x₁, _ := fun i hk x₁ => concatenate_apply_piece 0 [⟨S128x128, a 0⟩, ⟨S128x128, a 1⟩, ⟨S128x128, a 2⟩, ⟨S256x128, c⟩]
    concatenates_S128x128_S128x128_S128x128_S256x128_S640x128_d0 (ix2 n k) i hk S128x128 x₁
  match g with
  | ⟨0, _⟩ => exact key 0 (by decide) (a 0) rfl rfl 0 rfl (ix2 r k) hi (by show 0 + r.val = n.val; simp at hn; omega)
  | ⟨1, _⟩ => exact key 1 (by decide) (a 1) rfl rfl 128 rfl (ix2 r k) hi (by show 128 + r.val = n.val; simp at hn; omega)
  | ⟨2, _⟩ => exact key 2 (by decide) (a 2) rfl rfl 256 rfl (ix2 r k) hi (by show 256 + r.val = n.val; simp at hn; omega)

theorem column4_rest (a : Fin 3 → FVec Ideal S128x128 .f32) (c : FVec Ideal S256x128 .f32) (r : Fin 256) (k : Fin 128) (n : Fin 640) (hn : n.val = 384 + r.val) :
    column4 a c (ix2 n k) = c (ix2 r k) :=
  concatenate_apply_piece 0 [⟨S128x128, a 0⟩, ⟨S128x128, a 1⟩, ⟨S128x128, a 2⟩, ⟨S256x128, c⟩]
    concatenates_S128x128_S128x128_S128x128_S256x128_S640x128_d0 (ix2 n k) 3 (by show 3 < 4; decide) S256x128 c rfl rfl 384 rfl (ix2 r k)
    (fun b hb => match b with | ⟨0, _⟩ => absurd rfl hb | ⟨1, _⟩ => rfl) (by show 384 + r.val = n.val; omega)

/-! ## A block of 128 queries -/

def qs (Q : FVec Ideal S128x384 .f32) : Fin 2 → Fin 3 → FVec Ideal S128x64 .f32 :=
  ![![extractStridedSlice S128x64 ![0, 0] Q slices_S128x384_o0_0_S128x64, extractStridedSlice S128x64 ![0, 64] Q slices_S128x384_o0_64_S128x64,
      extractStridedSlice S128x64 ![0, 128] Q slices_S128x384_o0_128_S128x64],
    ![extractStridedSlice S128x64 ![0, 192] Q slices_S128x384_o0_192_S128x64, extractStridedSlice S128x64 ![0, 256] Q slices_S128x384_o0_256_S128x64,
      extractStridedSlice S128x64 ![0, 320] Q slices_S128x384_o0_320_S128x64]]
def ks (K : FVec Ideal S640x128 .f32) : Fin 2 → FVec Ideal S640x64 .f32 :=
  ![extractStridedSlice S640x64 ![0, 0] K slices_S640x128_o0_0_S640x64, extractStridedSlice S640x64 ![0, 64] K slices_S640x128_o0_64_S640x64]
def ss (x : Vec Ideal S1x128 .f32) : Fin 2 → Fin 3 → FVec Ideal S1x1 .f32 :=
  ![![View.ld x r0_4, View.ld x r0_5, View.ld x r0_6], ![View.ld x r0_7, View.ld x r0_8, View.ld x r0_9]]

theorem qs_apply (Q : FVec Ideal S128x384 .f32) (kv : Fin 2) (g : Fin 3) (r : Fin 128) (e : Fin 64) :
    qs Q kv g (ix2 r e) = Q (ix2 r ⟨192 * kv.val + 64 * g.val + e.val, by omega⟩) := by
  match kv, g with
  | ⟨0, _⟩, ⟨0, _⟩ => exact lanes_apply 0 Q slices_S128x384_o0_0_S128x64 r e _ (by simp)
  | ⟨0, _⟩, ⟨1, _⟩ => exact lanes_apply 64 Q slices_S128x384_o0_64_S128x64 r e _ (by simp)
  | ⟨0, _⟩, ⟨2, _⟩ => exact lanes_apply 128 Q slices_S128x384_o0_128_S128x64 r e _ (by simp)
  | ⟨1, _⟩, ⟨0, _⟩ => exact lanes_apply 192 Q slices_S128x384_o0_192_S128x64 r e _ (by simp)
  | ⟨1, _⟩, ⟨1, _⟩ => exact lanes_apply 256 Q slices_S128x384_o0_256_S128x64 r e _ (by simp)
  | ⟨1, _⟩, ⟨2, _⟩ => exact lanes_apply 320 Q slices_S128x384_o0_320_S128x64 r e _ (by simp)

theorem ks_apply (K : FVec Ideal S640x128 .f32) (kv : Fin 2) (r : Fin 640) (e : Fin 64) : ks K kv (ix2 r e) = K (ix2 r ⟨64 * kv.val + e.val, by omega⟩) := by
  match kv with
  | ⟨0, _⟩ => exact lanes_apply 0 K slices_S640x128_o0_0_S640x64 r e _ (by simp)
  | ⟨1, _⟩ => exact lanes_apply 64 K slices_S640x128_o0_64_S640x64 r e _ (by simp)

theorem ld_one (x : Vec Ideal S1x128 .f32) (o : ℕ) (h) (p : Fin 128) (hp : p.val = o) :
    View.ld x (Rect.unit (s := S1x128) ![0, o] S1x1.size h) (ix2 0 0) = x (ix2 0 p) := by
  show x _ = _
  congr 1
  funext a
  apply Fin.ext
  match a with
  | ⟨0, _⟩ => rfl
  | ⟨1, _⟩ => show o + 1 * 0 = p.val; omega

theorem ss_apply (x : Vec Ideal S1x128 .f32) (kv : Fin 2) (g : Fin 3) : ss x kv g (ix2 0 0) = x (ix2 0 ⟨3 * kv.val + g.val, by omega⟩) := by
  match kv, g with
  | ⟨0, _⟩, ⟨0, _⟩ => exact ld_one x 0 _ _ rfl
  | ⟨0, _⟩, ⟨1, _⟩ => exact ld_one x 1 _ _ rfl
  | ⟨0, _⟩, ⟨2, _⟩ => exact ld_one x 2 _ _ rfl
  | ⟨1, _⟩, ⟨0, _⟩ => exact ld_one x 3 _ _ rfl
  | ⟨1, _⟩, ⟨1, _⟩ => exact ld_one x 4 _ _ rfl
  | ⟨1, _⟩, ⟨2, _⟩ => exact ld_one x 5 _ _ rfl

/-- One group's three heads: the scores, those of unseen keys replaced, and the rows of attention. -/
def grp (c : IVec S384x640 1) (q : Fin 3 → FVec Ideal S128x64 .f32) (k v : FVec Ideal S640x64 .f32) (a : Fin 3 → FVec Ideal S1x1 .f32) : FVec Ideal S384x64 .f32 :=
  rows (select c (matmul dot_S384x64_S640x64_S384x640_1_1_0_0_n_n none
      (truncf .bf16 (stack q concatenates_S128x64_S128x64_S128x64_S384x64_d0) bitsLt_bf16_f32) (truncf .bf16 k bitsLt_bf16_f32)
      (constant (F := Ideal) S384x640 .f32 0x00000000#32)) (broadcast S384x640 (Named.named κ "mask" 0xF149F2CA#32)))
    (sinks a shapeCasts_S1x1_S1x1 broadcasts_S1x1_S128x1 concatenates_S128x1_S128x1_S128x1_S384x1_d0) v
    reduces_S384x640_S384 (.inl rfl) rfl shapeCasts_S384_S384x1 broadcasts_S384x1_S384x640 broadcasts_S384x1_S384x64 rfl bitsLt_bf16_f32

/-- The rows of one block, from the roped queries, the keys, the values and the keys seen. -/
def half (c : IVec S384x640 1) (Q : FVec Ideal S128x384 .f32) (K V : FVec Ideal S640x128 .f32) (x : Vec Ideal S1x128 .f32) : FVec Ideal S1x128x384 .f32 :=
  six (R := 128) (M := 384) (fun kv => grp c (qs Q kv) (ks K kv) (ks V kv) (ss x kv)) 128 256 slices_S384x64_o0_0_S128x64 slices_S384x64_o128_0_S128x64
    slices_S384x64_o256_0_S128x64 concatenates_S128x64_S128x64_S128x64_S128x64_S128x64_S128x64_S128x384_d1 shapeCasts_S128x384_S1x128x384

def flat (v : Vec Ideal S1x128x128 .f32) : FVec Ideal S128x128 .f32 := shapeCast S128x128 v shapeCasts_S1x128x128_S128x128
def flat' (v : Vec Ideal S1x256x128 .f32) : FVec Ideal S256x128 .f32 := shapeCast S256x128 v shapeCasts_S1x256x128_S256x128

theorem mask_value : (Named.named κ "mask" 0xF149F2CA#32 : Ideal .f32) = (⊥ : EReal) := IdealRules.named_const.ideal_named_scalar _ _ _ _ rfl

theorem half_apply (c : IVec S384x640 1) (Q : FVec Ideal S128x384 .f32) (K V : FVec Ideal S640x128 .f32) (x : Vec Ideal S1x128 .f32) (w : ℕ)
    (hc : ∀ (p : Fin 384) (j : Fin 640), c (ix2 p j) = BitVec.ofBool (decide (seen w (p.val % 128) j.val))) (r : Fin 128) (kv : Fin 2) (g : Fin 3) (d : Fin 64)
    (n : Fin 384) (hn : n.val = 192 * kv.val + 64 * g.val + d.val) : half c Q K V x (ix3 0 r n)
      = attend (fun j : Fin 640 => if seen w r.val j.val then ∑ e : Fin 64, Q (ix2 r ⟨192 * kv.val + 64 * g.val + e.val, by omega⟩) * K (ix2 j ⟨64 * kv.val + e.val, by omega⟩) else ⊥)
          (x (ix2 0 ⟨3 * kv.val + g.val, by omega⟩)) (fun j => V (ix2 j ⟨64 * kv.val + d.val, by omega⟩)) := by
  unfold half
  refine (six_apply _ 128 256 _ _ _ _ _ rfl rfl kv g r d n hn ⟨128 * g.val + r.val, by omega⟩ rfl).trans ?_
  unfold grp
  refine (rows_apply _ _ _ _ _ _ _ _ _ _ _ _ d).trans ?_
  rw [sinks_apply (ss x kv) _ _ _ g r _ rfl, ss_apply]
  refine congrArg₂ (attend · _ ·) (funext fun j => ?_) (funext fun j => ks_apply V kv j d)
  show Scalar.select (c (ix2 _ j)) (matmul _ _ _ _ _ (ix2 _ j)) (Named.named κ "mask" 0xF149F2CA#32) = _
  rw [hc, mask_value]
  have hs := (scores_apply (stack (qs Q kv) concatenates_S128x64_S128x64_S128x64_S384x64_d0) (ks K kv) bitsLt_bf16_f32 (⟨128 * g.val + r.val, by omega⟩ : Fin 384) j).trans
    (Finset.sum_congr rfl fun e _ => by rw [stack_apply (qs Q kv) _ g r e _ rfl, qs_apply, ks_apply])
  refine (congrArg (Scalar.select _ · _) hs).trans ?_
  have hr : (128 * g.val + r.val) % 128 = r.val := by omega
  show Scalar.select (BitVec.ofBool (decide (seen w ((128 * g.val + r.val) % 128) j.val))) _ _ = _
  rw [hr]
  by_cases h : seen w r.val j.val
  · rw [if_pos h, decide_eq_true h]; rfl
  · rw [if_neg h, decide_eq_false h]; rfl

/-- The block `2 tt + a` of the queries, among those of a grid point. -/
def word (i : grid0.Coords) (a : BitVec 32) : BitVec 32 := Scalar.addi (Scalar.muli (BitVec.ofNat 32 (i 1).val) 2#32) a

theorem out_eq (i : grid0.Coords) (x0 : Vec Ideal S1x256x384 .f32) (x1 x2 x3 x4 x5 x6 x7 x8 : Vec Ideal S1x128x128 .f32) (x9 x10 : Vec Ideal S1x256x128 .f32)
    (x11 x12 x13 x14 x15 x16 x17 x18 : Vec Ideal S128x128 .f32) (x19 : Vec Ideal S1x128 .f32) :
    out0_20 i x0 x1 x2 x3 x4 x5 x6 x7 x8 x9 x10 x11 x12 x13 x14 x15 x16 x17 x18 x19
    = View.canon [⟨r0_10, half (k0_pay23 (iota .tc S1x640 32 [1] iota_S1x640_d1_w32) k0_pay19 (word i 1#32))
          (k0_pay20 (View.ld x0 r0_10) (View.ld x13 r0_1) (View.ld x17 r0_1))
          (column4 ![k0_pay2 (View.ld x2 r0_0) (View.ld x12 r0_1) (View.ld x16 r0_1), k0_pay2 (View.ld x3 r0_0) (View.ld x13 r0_1) (View.ld x17 r0_1),
            k0_pay2 (View.ld x4 r0_0) (View.ld x14 r0_1) (View.ld x18 r0_1)] (flat' (View.ld x9 r0_3)))
          (column4 ![flat (View.ld x6 r0_0), flat (View.ld x7 r0_0), flat (View.ld x8 r0_0)] (flat' (View.ld x10 r0_3))) x19⟩,
        ⟨r0_2, half (k0_pay23 (iota .tc S1x640 32 [1] iota_S1x640_d1_w32) k0_pay19 (word i 0#32))
          (k0_pay20 (View.ld x0 r0_2) (View.ld x12 r0_1) (View.ld x16 r0_1))
          (column4 ![k0_pay2 (View.ld x1 r0_0) (View.ld x11 r0_1) (View.ld x15 r0_1), k0_pay2 (View.ld x2 r0_0) (View.ld x12 r0_1) (View.ld x16 r0_1),
            k0_pay2 (View.ld x3 r0_0) (View.ld x13 r0_1) (View.ld x17 r0_1)] (flat' (View.ld x9 r0_3)))
          (column4 ![flat (View.ld x5 r0_0), flat (View.ld x6 r0_0), flat (View.ld x7 r0_0)] (flat' (View.ld x10 r0_3))) x19⟩] := rfl

end Cert.Proof.Window

end
-- ==== Proof.Block.lean ====
/- What `attn_x` leaves: each block of its result, and the whole of it. -/
module

public import proofs.«01_k».proof.Proof.Window

@[expose] public section

set_option maxRecDepth 16384

noncomputable section

namespace Cert.Proof.Window

open Cert.Kernel5Ideal Cert.Kernel5Ideal.Gen Cert.Proof.Norm Cert.Proof.Attend Cert.Proof.Turn
open Idealize.ShloMosaic hiding ix1 ix2 ix3 ix4 ix5 eq_ix1 eq_ix2 eq_ix3
open Idealize.ShloMosaic.TcCoe Idealize.ShloMosaic.ValueIdx Idealize.SL.Sem
open scoped BigOperators

/-! ## The mathematics -/

/-- The entries of head `3 kv + g` of latent `n`, and of a latent's key or value. -/
def query (q : (⟨3, ![8, 2304, 384]⟩ : Shape).Idx → EReal) (b : Fin 8) (n : Fin 2048) (kv : Fin 2) (g : Fin 3) (e : Fin 64) : EReal :=
  q (ix3 b ⟨256 + n.val, by omega⟩ ⟨192 * kv.val + 64 * g.val + e.val, by omega⟩)
def latent (k : (⟨3, ![8, 2304, 128]⟩ : Shape).Idx → EReal) (b : Fin 8) (n : Fin 2048) (kv : Fin 2) (e : Fin 64) : EReal :=
  k (ix3 b ⟨256 + n.val, by omega⟩ ⟨64 * kv.val + e.val, by omega⟩)
/-- The entries of a context row's key or value. -/
def context (k : (⟨3, ![8, 2304, 128]⟩ : Shape).Idx → EReal) (b : Fin 8) (n : Fin 256) (kv : Fin 2) (e : Fin 64) : EReal :=
  k (ix3 b ⟨n.val, by omega⟩ ⟨64 * kv.val + e.val, by omega⟩)

/-- The score of a latent, if it is at most 128 away, or of a context row. -/
def score (q : (⟨3, ![8, 2304, 384]⟩ : Shape).Idx → EReal) (k : (⟨3, ![8, 2304, 128]⟩ : Shape).Idx → EReal) (b : Fin 8) (n : Fin 2048)
    (kv : Fin 2) (g : Fin 3) : Fin 2048 ⊕ Fin 256 → EReal
  | .inl j => if n.val ≤ j.val + 128 ∧ j.val ≤ n.val + 128 then
      (∑ e : Fin 64, turned (query q b n kv g) n e * turned (latent k b j kv) j e) * Ideal.ofBits .f32 0x3E000000#32 else ⊥
  | .inr j => (∑ e : Fin 64, turned (query q b n kv g) n e * context k b j kv e) * Ideal.ofBits .f32 0x3E000000#32

def value (v : (⟨3, ![8, 2304, 128]⟩ : Shape).Idx → EReal) (b : Fin 8) (kv : Fin 2) (d : Fin 64) : Fin 2048 ⊕ Fin 256 → EReal
  | .inl j => latent v b j kv d
  | .inr j => context v b j kv d

/-- Head `3 kv + g` of latent `n`. -/
def lat (q : (⟨3, ![8, 2304, 384]⟩ : Shape).Idx → EReal) (k v : (⟨3, ![8, 2304, 128]⟩ : Shape).Idx → EReal)
    (s : (⟨2, ![2, 6]⟩ : Shape).Idx → EReal) (b : Fin 8) (n : Fin 2048) (kv : Fin 2) (g : Fin 3) (d : Fin 64) : EReal :=
  attend (score q k b n kv g) (s (ix2 0 ⟨3 * kv.val + g.val, by omega⟩)) (value v b kv d)

/-! ## A block's rows -/

theorem keys_turn (k : Vec Ideal S1x128x128 .f32) (C S : Vec Ideal S128x128 .f32) (r : Fin 128) (n : Fin 2048) (kv : Fin 2) (x : Fin 64 → EReal)
    (hk : ∀ e : Fin 64, k (ix3 0 r ⟨64 * kv.val + e.val, by omega⟩) = x e)
    (hC : ∀ l : Fin 128, C (ix2 r l) = table (Host.cos angles) (Host.cos angles) (ix2 n l))
    (hS : ∀ l : Fin 128, S (ix2 r l) = table (Host.negf (Host.sin angles)) (Host.sin angles) (ix2 n l)) (e : Fin 64) :
    k0_pay2 k C S (ix2 r ⟨64 * kv.val + e.val, by omega⟩) = turned x n e := by
  rw [keyTile_apply, hC, hS, hk]
  refine turn_table x (fun e => if (64 * kv.val + e.val) % 32 < 16 then k (ix3 0 r ⟨(64 * kv.val + e.val + 16) % 128, Nat.mod_lt _ (by omega)⟩)
    else k (ix3 0 r ⟨(64 * kv.val + e.val + 112) % 128, Nat.mod_lt _ (by omega)⟩)) n _ e (by show e.val = (64 * kv.val + e.val) % 64; omega) ?_
  by_cases h : e.val % 32 < 16
  · rw [dif_pos h, if_pos (by omega), ← hk]
    exact congrArg (fun l => k (ix3 0 r l)) (Fin.ext (by show (64 * kv.val + e.val + 16) % 128 = 64 * kv.val + (e.val + 16); omega))
  · rw [dif_neg h, if_neg (by omega), ← hk]
    exact congrArg (fun l => k (ix3 0 r l)) (Fin.ext (by show (64 * kv.val + e.val + 112) % 128 = 64 * kv.val + (e.val - 16); omega))

theorem queries_turn (q : Vec Ideal S1x128x384 .f32) (C S : Vec Ideal S128x128 .f32) (r : Fin 128) (n : Fin 2048) (kv : Fin 2) (g : Fin 3) (x : Fin 64 → EReal)
    (hq : ∀ e : Fin 64, q (ix3 0 r ⟨192 * kv.val + 64 * g.val + e.val, by omega⟩) = x e)
    (hC : ∀ l : Fin 128, C (ix2 r l) = table (Host.cos angles) (Host.cos angles) (ix2 n l))
    (hS : ∀ l : Fin 128, S (ix2 r l) = table (Host.negf (Host.sin angles)) (Host.sin angles) (ix2 n l)) (e : Fin 64) :
    k0_pay20 q C S (ix2 r ⟨192 * kv.val + 64 * g.val + e.val, by omega⟩) = turned x n e * Ideal.ofBits .f32 0x3E000000#32 := by
  rw [queryTile_apply q C S r _ ⟨(192 * kv.val + 64 * g.val + e.val) % 128, Nat.mod_lt _ (by omega)⟩ rfl, hC, hS, hq]
  refine congrArg (· * Ideal.ofBits .f32 0x3E000000#32) (turn_table x (fun e => if (192 * kv.val + 64 * g.val + e.val) % 32 < 16
      then q (ix3 0 r ⟨(192 * kv.val + 64 * g.val + e.val + 16) % 384, Nat.mod_lt _ (by omega)⟩)
      else q (ix3 0 r ⟨(192 * kv.val + 64 * g.val + e.val + 368) % 384, Nat.mod_lt _ (by omega)⟩)) n _ e
    (by show e.val = (192 * kv.val + 64 * g.val + e.val) % 128 % 64; omega) ?_)
  by_cases h : e.val % 32 < 16
  · rw [dif_pos h, if_pos (by omega), ← hq]
    exact congrArg (fun l => q (ix3 0 r l)) (Fin.ext (by show (192 * kv.val + 64 * g.val + e.val + 16) % 384 = 192 * kv.val + 64 * g.val + (e.val + 16); omega))
  · rw [dif_neg h, if_neg (by omega), ← hq]
    exact congrArg (fun l => q (ix3 0 r l)) (Fin.ext (by show (192 * kv.val + 64 * g.val + e.val + 368) % 384 = 192 * kv.val + 64 * g.val + (e.val - 16); omega))

/-- The latent that key `j` of block `w` stands for: off the ends, the nearest block is read. -/
def spot (w j : ℕ) : ℕ := 128 * min (w + j / 128 - 1) 15 + j % 128

theorem spot_lt (w j : ℕ) : spot w j < 2048 := by unfold spot; omega

/-- A row of a block is the head's row of latents and context: unseen keys count for nothing. -/
theorem half_lat (q : (⟨3, ![8, 2304, 384]⟩ : Shape).Idx → EReal) (k v : (⟨3, ![8, 2304, 128]⟩ : Shape).Idx → EReal)
    (s : (⟨2, ![2, 6]⟩ : Shape).Idx → EReal) (b : Fin 8) (n : Fin 2048) (kv : Fin 2) (g : Fin 3) (d : Fin 64)
    (c : IVec S384x640 1) (Q : FVec Ideal S128x384 .f32) (K V : FVec Ideal S640x128 .f32) (x : Vec Ideal S1x128 .f32) (w : ℕ) (hw : w < 16) (r : Fin 128)
    (hn : n.val = 128 * w + r.val)
    (hc : ∀ (p : Fin 384) (j : Fin 640), c (ix2 p j) = BitVec.ofBool (decide (seen w (p.val % 128) j.val)))
    (hQ : ∀ e : Fin 64, Q (ix2 r ⟨192 * kv.val + 64 * g.val + e.val, by omega⟩) = turned (query q b n kv g) n e * Ideal.ofBits .f32 0x3E000000#32)
    (hK : ∀ (j : Fin 640) (e : Fin 64), j.val < 384 → K (ix2 j ⟨64 * kv.val + e.val, by omega⟩) = turned (latent k b ⟨spot w j.val, spot_lt w j.val⟩ kv) ⟨spot w j.val, spot_lt w j.val⟩ e)
    (hK' : ∀ (j : Fin 640) (i : Fin 256) (e : Fin 64), j.val = 384 + i.val → K (ix2 j ⟨64 * kv.val + e.val, by omega⟩) = context k b i kv e)
    (hV : ∀ j : Fin 640, j.val < 384 → V (ix2 j ⟨64 * kv.val + d.val, by omega⟩) = latent v b ⟨spot w j.val, spot_lt w j.val⟩ kv d)
    (hV' : ∀ (j : Fin 640) (i : Fin 256), j.val = 384 + i.val → V (ix2 j ⟨64 * kv.val + d.val, by omega⟩) = context v b i kv d)
    (hx : x (ix2 0 ⟨3 * kv.val + g.val, by omega⟩) = s (ix2 0 ⟨3 * kv.val + g.val, by omega⟩))
    (l : Fin 384) (hl : l.val = 192 * kv.val + 64 * g.val + d.val) : half c Q K V x (ix3 0 r l) = lat q k v s b n kv g d := by
  rw [half_apply c Q K V x w hc r kv g d l hl, hx]
  have h0 : 0 ≤ Ideal.ofBits .f32 0x3E000000#32 := by rw [eighth]; exact EReal.coe_nonneg.2 (by norm_num)
  have ht : Ideal.ofBits .f32 0x3E000000#32 ≠ ⊤ := by rw [eighth]; exact EReal.coe_ne_top _
  unfold lat
  refine attend_image _ _ _ _ _ (fun j : Fin 640 => seen w r.val j.val)
    (fun j => if h : j.val < 384 then .inl ⟨spot w j.val, spot_lt w j.val⟩ else .inr ⟨j.val - 384, by omega⟩) ?_ ?_ ?_ ?_ ?_
  · intro i j hi hj he
    unfold seen at hi hj
    by_cases h : i.val < 384 <;> by_cases h' : j.val < 384
    · rw [dif_pos h, dif_pos h'] at he
      have := congrArg Fin.val (Sum.inl.inj he)
      change spot w i.val = spot w j.val at this
      unfold spot at this
      apply Fin.ext
      omega
    · rw [dif_pos h, dif_neg h'] at he; nomatch he
    · rw [dif_neg h, dif_pos h'] at he; nomatch he
    · rw [dif_neg h, dif_neg h'] at he
      have := congrArg Fin.val (Sum.inr.inj he)
      change i.val - 384 = j.val - 384 at this
      apply Fin.ext
      omega
  · intro j hj
    rw [if_pos hj]
    unfold seen at hj
    by_cases h : j.val < 384
    · rw [dif_pos h]
      have hp : spot w j.val + 128 = 128 * w + j.val := by unfold spot; omega
      show _ = if n.val ≤ spot w j.val + 128 ∧ spot w j.val ≤ n.val + 128 then _ else ⊥
      rw [if_pos (by omega), ← score_scale _ _ _ h0 ht]
      exact Finset.sum_congr rfl fun e _ => congrArg₂ (· * ·) (hQ e) (hK j e h)
    · rw [dif_neg h]
      show _ = (∑ e : Fin 64, turned (query q b n kv g) n e * context k b ⟨j.val - 384, _⟩ kv e) * Ideal.ofBits .f32 0x3E000000#32
      rw [← score_scale _ _ _ h0 ht]
      exact Finset.sum_congr rfl fun e _ => congrArg₂ (· * ·) (hQ e) (hK' j ⟨j.val - 384, by omega⟩ e (by show j.val = 384 + (j.val - 384); omega))
  · intro j hj
    by_cases h : j.val < 384
    · rw [dif_pos h]; exact hV j h
    · rw [dif_neg h]; exact hV' j ⟨j.val - 384, by omega⟩ (by show j.val = 384 + (j.val - 384); omega)
  · intro j hj
    exact if_neg hj
  · intro i hi
    match i with
    | .inl i =>
      refine if_neg fun h => ?_
      have hj : i.val + 128 - 128 * w < 384 := by omega
      refine hi ⟨i.val + 128 - 128 * w, by omega⟩ (by unfold seen; left; show 128 ≤ 128 * w + (i.val + 128 - 128 * w) ∧ 128 * w + (i.val + 128 - 128 * w) < 2176 ∧ r.val ≤ i.val + 128 - 128 * w ∧ i.val + 128 - 128 * w ≤ r.val + 256; omega) ?_
      rw [dif_pos hj]
      refine congrArg Sum.inl (Fin.ext ?_)
      show spot w (i.val + 128 - 128 * w) = i.val
      unfold spot
      omega
    | .inr i =>
      refine absurd ?_ (hi ⟨384 + i.val, by omega⟩ (.inr (by show 384 ≤ 384 + i.val; omega)))
      rw [dif_neg (by show ¬ 384 + i.val < 384; omega)]
      exact congrArg Sum.inr (Fin.ext (by show 384 + i.val - 384 = i.val; omega))

/-! ## The windows -/

variable (m : (ℓ : Loc nD τ sig) → Buf (Elt Ideal) ℓ)

theorem mk3 {A B C : ℕ} (i : (⟨3, ![A, B, C]⟩ : Shape).Idx) (x : Fin A) (y : Fin B) (z : Fin C) (h0 : (i 0).val = x.val) (h1 : (i 1).val = y.val) (h2 : (i 2).val = z.val) :
    i = ix3 x y z := funext fun a => match a with
  | ⟨0, _⟩ => Fin.ext h0
  | ⟨1, _⟩ => Fin.ext h1
  | ⟨2, _⟩ => Fin.ext h2

theorem mk2 {A B : ℕ} (i : (⟨2, ![A, B]⟩ : Shape).Idx) (x : Fin A) (y : Fin B) (h0 : (i 0).val = x.val) (h1 : (i 1).val = y.val) :
    i = ix2 x y := funext fun a => match a with
  | ⟨0, _⟩ => Fin.ext h0
  | ⟨1, _⟩ => Fin.ext h1

/-- The block of 128 latents that tile `j` of a point's is read from. -/
def near (t j : ℕ) : ℕ := min (2 * (t % 8) + j - 1) 15

theorem at0 : ∀ t : Fin cfg0.N, win0_0.index t 0 = t.val / 8 ∧ win0_0.index t 1 = t.val % 8 + 1 ∧ win0_0.index t 2 = 0 :=
  (by decide +kernel : ∀ t : Fin grid0.N, win0_0.index t 0 = t.val / 8 ∧ win0_0.index t 1 = t.val % 8 + 1 ∧ win0_0.index t 2 = 0)
theorem at1 : ∀ t : Fin cfg0.N, win0_1.index t 0 = t.val / 8 ∧ win0_1.index t 1 = near t.val 0 + 2 ∧ win0_1.index t 2 = 0 :=
  (by decide +kernel : ∀ t : Fin grid0.N, win0_1.index t 0 = t.val / 8 ∧ win0_1.index t 1 = near t.val 0 + 2 ∧ win0_1.index t 2 = 0)
theorem at5 : ∀ t : Fin cfg0.N, win0_5.index t 0 = t.val / 8 ∧ win0_5.index t 1 = near t.val 0 + 2 ∧ win0_5.index t 2 = 0 :=
  (by decide +kernel : ∀ t : Fin grid0.N, win0_5.index t 0 = t.val / 8 ∧ win0_5.index t 1 = near t.val 0 + 2 ∧ win0_5.index t 2 = 0)
theorem at11 : ∀ t : Fin cfg0.N, win0_11.index t 0 = near t.val 0 ∧ win0_11.index t 1 = 0 :=
  (by decide +kernel : ∀ t : Fin grid0.N, win0_11.index t 0 = near t.val 0 ∧ win0_11.index t 1 = 0)
theorem at15 : ∀ t : Fin cfg0.N, win0_15.index t 0 = near t.val 0 ∧ win0_15.index t 1 = 0 :=
  (by decide +kernel : ∀ t : Fin grid0.N, win0_15.index t 0 = near t.val 0 ∧ win0_15.index t 1 = 0)
theorem at2 : ∀ t : Fin cfg0.N, win0_2.index t 0 = t.val / 8 ∧ win0_2.index t 1 = near t.val 1 + 2 ∧ win0_2.index t 2 = 0 :=
  (by decide +kernel : ∀ t : Fin grid0.N, win0_2.index t 0 = t.val / 8 ∧ win0_2.index t 1 = near t.val 1 + 2 ∧ win0_2.index t 2 = 0)
theorem at6 : ∀ t : Fin cfg0.N, win0_6.index t 0 = t.val / 8 ∧ win0_6.index t 1 = near t.val 1 + 2 ∧ win0_6.index t 2 = 0 :=
  (by decide +kernel : ∀ t : Fin grid0.N, win0_6.index t 0 = t.val / 8 ∧ win0_6.index t 1 = near t.val 1 + 2 ∧ win0_6.index t 2 = 0)
theorem at12 : ∀ t : Fin cfg0.N, win0_12.index t 0 = near t.val 1 ∧ win0_12.index t 1 = 0 :=
  (by decide +kernel : ∀ t : Fin grid0.N, win0_12.index t 0 = near t.val 1 ∧ win0_12.index t 1 = 0)
theorem at16 : ∀ t : Fin cfg0.N, win0_16.index t 0 = near t.val 1 ∧ win0_16.index t 1 = 0 :=
  (by decide +kernel : ∀ t : Fin grid0.N, win0_16.index t 0 = near t.val 1 ∧ win0_16.index t 1 = 0)
theorem at3 : ∀ t : Fin cfg0.N, win0_3.index t 0 = t.val / 8 ∧ win0_3.index t 1 = near t.val 2 + 2 ∧ win0_3.index t 2 = 0 :=
  (by decide +kernel : ∀ t : Fin grid0.N, win0_3.index t 0 = t.val / 8 ∧ win0_3.index t 1 = near t.val 2 + 2 ∧ win0_3.index t 2 = 0)
theorem at7 : ∀ t : Fin cfg0.N, win0_7.index t 0 = t.val / 8 ∧ win0_7.index t 1 = near t.val 2 + 2 ∧ win0_7.index t 2 = 0 :=
  (by decide +kernel : ∀ t : Fin grid0.N, win0_7.index t 0 = t.val / 8 ∧ win0_7.index t 1 = near t.val 2 + 2 ∧ win0_7.index t 2 = 0)
theorem at13 : ∀ t : Fin cfg0.N, win0_13.index t 0 = near t.val 2 ∧ win0_13.index t 1 = 0 :=
  (by decide +kernel : ∀ t : Fin grid0.N, win0_13.index t 0 = near t.val 2 ∧ win0_13.index t 1 = 0)
theorem at17 : ∀ t : Fin cfg0.N, win0_17.index t 0 = near t.val 2 ∧ win0_17.index t 1 = 0 :=
  (by decide +kernel : ∀ t : Fin grid0.N, win0_17.index t 0 = near t.val 2 ∧ win0_17.index t 1 = 0)
theorem at4 : ∀ t : Fin cfg0.N, win0_4.index t 0 = t.val / 8 ∧ win0_4.index t 1 = near t.val 3 + 2 ∧ win0_4.index t 2 = 0 :=
  (by decide +kernel : ∀ t : Fin grid0.N, win0_4.index t 0 = t.val / 8 ∧ win0_4.index t 1 = near t.val 3 + 2 ∧ win0_4.index t 2 = 0)
theorem at8 : ∀ t : Fin cfg0.N, win0_8.index t 0 = t.val / 8 ∧ win0_8.index t 1 = near t.val 3 + 2 ∧ win0_8.index t 2 = 0 :=
  (by decide +kernel : ∀ t : Fin grid0.N, win0_8.index t 0 = t.val / 8 ∧ win0_8.index t 1 = near t.val 3 + 2 ∧ win0_8.index t 2 = 0)
theorem at14 : ∀ t : Fin cfg0.N, win0_14.index t 0 = near t.val 3 ∧ win0_14.index t 1 = 0 :=
  (by decide +kernel : ∀ t : Fin grid0.N, win0_14.index t 0 = near t.val 3 ∧ win0_14.index t 1 = 0)
theorem at18 : ∀ t : Fin cfg0.N, win0_18.index t 0 = near t.val 3 ∧ win0_18.index t 1 = 0 :=
  (by decide +kernel : ∀ t : Fin grid0.N, win0_18.index t 0 = near t.val 3 ∧ win0_18.index t 1 = 0)
theorem at9 : ∀ t : Fin cfg0.N, win0_9.index t 0 = t.val / 8 ∧ win0_9.index t 1 = 0 ∧ win0_9.index t 2 = 0 :=
  (by decide +kernel : ∀ t : Fin grid0.N, win0_9.index t 0 = t.val / 8 ∧ win0_9.index t 1 = 0 ∧ win0_9.index t 2 = 0)
theorem at10 : ∀ t : Fin cfg0.N, win0_10.index t 0 = t.val / 8 ∧ win0_10.index t 1 = 0 ∧ win0_10.index t 2 = 0 :=
  (by decide +kernel : ∀ t : Fin grid0.N, win0_10.index t 0 = t.val / 8 ∧ win0_10.index t 1 = 0 ∧ win0_10.index t 2 = 0)
theorem at19 : ∀ t : Fin cfg0.N, win0_19.index t 0 = 0 ∧ win0_19.index t 1 = 0 :=
  (by decide +kernel : ∀ t : Fin grid0.N, win0_19.index t 0 = 0 ∧ win0_19.index t 1 = 0)
theorem at20 : ∀ t : Fin cfg0.N, win0_20.index t 0 = t.val / 8 ∧ win0_20.index t 1 = t.val % 8 ∧ win0_20.index t 2 = 0 :=
  (by decide +kernel : ∀ t : Fin grid0.N, win0_20.index t 0 = t.val / 8 ∧ win0_20.index t 1 = t.val % 8 ∧ win0_20.index t 2 = 0)

theorem read0 (c : Dev nD) (t : Fin cfg0.N) (r : Fin 256) (k : Fin 384) (b : Fin 8) (n : Fin 2304) (hb : b.val = t.val / 8) (hn : n.val = 256 + 256 * (t.val % 8) + r.val) :
    (iblk m c 0 t : Vec Ideal S1x256x384 .f32) (ix3 0 r k) = (m ((c : Thread nD τ).loc main_arg0) : Vec Ideal S8x2304x384 .f32) (ix3 b n k) := by
  unfold iblk
  rw [View.read_apply]
  show V m c main_arg0 _ = _
  rw [V_main_arg0]
  exact congrArg _ (mk3 _ b n k (by show win0_0.index t 0 * 1 + 1 * 0 = b.val; rw [(at0 t).1]; omega)
    (by show win0_0.index t 1 * 256 + 1 * r.val = n.val; rw [(at0 t).2.1]; omega) (by show win0_0.index t 2 * 384 + 1 * k.val = k.val; rw [(at0 t).2.2]; omega))

theorem read1 (c : Dev nD) (t : Fin cfg0.N) (r : Fin 128) (k : Fin 128) (b : Fin 8) (n : Fin 2304) (hb : b.val = t.val / 8) (hn : n.val = 256 + 128 * near t.val 0 + r.val) :
    (iblk m c 1 t : Vec Ideal S1x128x128 .f32) (ix3 0 r k) = (m ((c : Thread nD τ).loc main_arg1) : Vec Ideal S8x2304x128 .f32) (ix3 b n k) := by
  unfold iblk
  rw [View.read_apply]
  show V m c main_arg1 _ = _
  rw [V_main_arg1]
  exact congrArg _ (mk3 _ b n k (by show win0_1.index t 0 * 1 + 1 * 0 = b.val; rw [(at1 t).1]; omega)
    (by show win0_1.index t 1 * 128 + 1 * r.val = n.val; rw [(at1 t).2.1]; omega) (by show win0_1.index t 2 * 128 + 1 * k.val = k.val; rw [(at1 t).2.2]; omega))

theorem read5 (c : Dev nD) (t : Fin cfg0.N) (r : Fin 128) (k : Fin 128) (b : Fin 8) (n : Fin 2304) (hb : b.val = t.val / 8) (hn : n.val = 256 + 128 * near t.val 0 + r.val) :
    (iblk m c 5 t : Vec Ideal S1x128x128 .f32) (ix3 0 r k) = (m ((c : Thread nD τ).loc main_arg2) : Vec Ideal S8x2304x128 .f32) (ix3 b n k) := by
  unfold iblk
  rw [View.read_apply]
  show V m c main_arg2 _ = _
  rw [V_main_arg2]
  exact congrArg _ (mk3 _ b n k (by show win0_5.index t 0 * 1 + 1 * 0 = b.val; rw [(at5 t).1]; omega)
    (by show win0_5.index t 1 * 128 + 1 * r.val = n.val; rw [(at5 t).2.1]; omega) (by show win0_5.index t 2 * 128 + 1 * k.val = k.val; rw [(at5 t).2.2]; omega))

theorem read2 (c : Dev nD) (t : Fin cfg0.N) (r : Fin 128) (k : Fin 128) (b : Fin 8) (n : Fin 2304) (hb : b.val = t.val / 8) (hn : n.val = 256 + 128 * near t.val 1 + r.val) :
    (iblk m c 2 t : Vec Ideal S1x128x128 .f32) (ix3 0 r k) = (m ((c : Thread nD τ).loc main_arg1) : Vec Ideal S8x2304x128 .f32) (ix3 b n k) := by
  unfold iblk
  rw [View.read_apply]
  show V m c main_arg1 _ = _
  rw [V_main_arg1]
  exact congrArg _ (mk3 _ b n k (by show win0_2.index t 0 * 1 + 1 * 0 = b.val; rw [(at2 t).1]; omega)
    (by show win0_2.index t 1 * 128 + 1 * r.val = n.val; rw [(at2 t).2.1]; omega) (by show win0_2.index t 2 * 128 + 1 * k.val = k.val; rw [(at2 t).2.2]; omega))

theorem read6 (c : Dev nD) (t : Fin cfg0.N) (r : Fin 128) (k : Fin 128) (b : Fin 8) (n : Fin 2304) (hb : b.val = t.val / 8) (hn : n.val = 256 + 128 * near t.val 1 + r.val) :
    (iblk m c 6 t : Vec Ideal S1x128x128 .f32) (ix3 0 r k) = (m ((c : Thread nD τ).loc main_arg2) : Vec Ideal S8x2304x128 .f32) (ix3 b n k) := by
  unfold iblk
  rw [View.read_apply]
  show V m c main_arg2 _ = _
  rw [V_main_arg2]
  exact congrArg _ (mk3 _ b n k (by show win0_6.index t 0 * 1 + 1 * 0 = b.val; rw [(at6 t).1]; omega)
    (by show win0_6.index t 1 * 128 + 1 * r.val = n.val; rw [(at6 t).2.1]; omega) (by show win0_6.index t 2 * 128 + 1 * k.val = k.val; rw [(at6 t).2.2]; omega))

theorem read3 (c : Dev nD) (t : Fin cfg0.N) (r : Fin 128) (k : Fin 128) (b : Fin 8) (n : Fin 2304) (hb : b.val = t.val / 8) (hn : n.val = 256 + 128 * near t.val 2 + r.val) :
    (iblk m c 3 t : Vec Ideal S1x128x128 .f32) (ix3 0 r k) = (m ((c : Thread nD τ).loc main_arg1) : Vec Ideal S8x2304x128 .f32) (ix3 b n k) := by
  unfold iblk
  rw [View.read_apply]
  show V m c main_arg1 _ = _
  rw [V_main_arg1]
  exact congrArg _ (mk3 _ b n k (by show win0_3.index t 0 * 1 + 1 * 0 = b.val; rw [(at3 t).1]; omega)
    (by show win0_3.index t 1 * 128 + 1 * r.val = n.val; rw [(at3 t).2.1]; omega) (by show win0_3.index t 2 * 128 + 1 * k.val = k.val; rw [(at3 t).2.2]; omega))

theorem read7 (c : Dev nD) (t : Fin cfg0.N) (r : Fin 128) (k : Fin 128) (b : Fin 8) (n : Fin 2304) (hb : b.val = t.val / 8) (hn : n.val = 256 + 128 * near t.val 2 + r.val) :
    (iblk m c 7 t : Vec Ideal S1x128x128 .f32) (ix3 0 r k) = (m ((c : Thread nD τ).loc main_arg2) : Vec Ideal S8x2304x128 .f32) (ix3 b n k) := by
  unfold iblk
  rw [View.read_apply]
  show V m c main_arg2 _ = _
  rw [V_main_arg2]
  exact congrArg _ (mk3 _ b n k (by show win0_7.index t 0 * 1 + 1 * 0 = b.val; rw [(at7 t).1]; omega)
    (by show win0_7.index t 1 * 128 + 1 * r.val = n.val; rw [(at7 t).2.1]; omega) (by show win0_7.index t 2 * 128 + 1 * k.val = k.val; rw [(at7 t).2.2]; omega))

theorem read4 (c : Dev nD) (t : Fin cfg0.N) (r : Fin 128) (k : Fin 128) (b : Fin 8) (n : Fin 2304) (hb : b.val = t.val / 8) (hn : n.val = 256 + 128 * near t.val 3 + r.val) :
    (iblk m c 4 t : Vec Ideal S1x128x128 .f32) (ix3 0 r k) = (m ((c : Thread nD τ).loc main_arg1) : Vec Ideal S8x2304x128 .f32) (ix3 b n k) := by
  unfold iblk
  rw [View.read_apply]
  show V m c main_arg1 _ = _
  rw [V_main_arg1]
  exact congrArg _ (mk3 _ b n k (by show win0_4.index t 0 * 1 + 1 * 0 = b.val; rw [(at4 t).1]; omega)
    (by show win0_4.index t 1 * 128 + 1 * r.val = n.val; rw [(at4 t).2.1]; omega) (by show win0_4.index t 2 * 128 + 1 * k.val = k.val; rw [(at4 t).2.2]; omega))

theorem read8 (c : Dev nD) (t : Fin cfg0.N) (r : Fin 128) (k : Fin 128) (b : Fin 8) (n : Fin 2304) (hb : b.val = t.val / 8) (hn : n.val = 256 + 128 * near t.val 3 + r.val) :
    (iblk m c 8 t : Vec Ideal S1x128x128 .f32) (ix3 0 r k) = (m ((c : Thread nD τ).loc main_arg2) : Vec Ideal S8x2304x128 .f32) (ix3 b n k) := by
  unfold iblk
  rw [View.read_apply]
  show V m c main_arg2 _ = _
  rw [V_main_arg2]
  exact congrArg _ (mk3 _ b n k (by show win0_8.index t 0 * 1 + 1 * 0 = b.val; rw [(at8 t).1]; omega)
    (by show win0_8.index t 1 * 128 + 1 * r.val = n.val; rw [(at8 t).2.1]; omega) (by show win0_8.index t 2 * 128 + 1 * k.val = k.val; rw [(at8 t).2.2]; omega))

theorem read9 (c : Dev nD) (t : Fin cfg0.N) (r : Fin 256) (k : Fin 128) (b : Fin 8) (n : Fin 2304) (hb : b.val = t.val / 8) (hn : n.val = r.val) :
    (iblk m c 9 t : Vec Ideal S1x256x128 .f32) (ix3 0 r k) = (m ((c : Thread nD τ).loc main_arg1) : Vec Ideal S8x2304x128 .f32) (ix3 b n k) := by
  unfold iblk
  rw [View.read_apply]
  show V m c main_arg1 _ = _
  rw [V_main_arg1]
  exact congrArg _ (mk3 _ b n k (by show win0_9.index t 0 * 1 + 1 * 0 = b.val; rw [(at9 t).1]; omega)
    (by show win0_9.index t 1 * 256 + 1 * r.val = n.val; rw [(at9 t).2.1]; omega) (by show win0_9.index t 2 * 128 + 1 * k.val = k.val; rw [(at9 t).2.2]; omega))

theorem read10 (c : Dev nD) (t : Fin cfg0.N) (r : Fin 256) (k : Fin 128) (b : Fin 8) (n : Fin 2304) (hb : b.val = t.val / 8) (hn : n.val = r.val) :
    (iblk m c 10 t : Vec Ideal S1x256x128 .f32) (ix3 0 r k) = (m ((c : Thread nD τ).loc main_arg2) : Vec Ideal S8x2304x128 .f32) (ix3 b n k) := by
  unfold iblk
  rw [View.read_apply]
  show V m c main_arg2 _ = _
  rw [V_main_arg2]
  exact congrArg _ (mk3 _ b n k (by show win0_10.index t 0 * 1 + 1 * 0 = b.val; rw [(at10 t).1]; omega)
    (by show win0_10.index t 1 * 256 + 1 * r.val = n.val; rw [(at10 t).2.1]; omega) (by show win0_10.index t 2 * 128 + 1 * k.val = k.val; rw [(at10 t).2.2]; omega))

theorem read11 (c : Dev nD) (t : Fin cfg0.N) (r l : Fin 128) (n : Fin 2048) (hn : n.val = 128 * near t.val 0 + r.val) :
    (iblk m c 11 t : Vec Ideal S128x128 .f32) (ix2 r l) = table (Host.cos angles) (Host.cos angles) (ix2 n l) := by
  unfold iblk
  rw [View.read_apply]
  show V m c main_v26 _ = _
  rw [V_cos]
  exact congrArg _ (mk2 _ n l (by show win0_11.index t 0 * 128 + 1 * r.val = n.val; rw [(at11 t).1]; omega)
    (by show win0_11.index t 1 * 128 + 1 * l.val = l.val; rw [(at11 t).2]; omega))

theorem read15 (c : Dev nD) (t : Fin cfg0.N) (r l : Fin 128) (n : Fin 2048) (hn : n.val = 128 * near t.val 0 + r.val) :
    (iblk m c 15 t : Vec Ideal S128x128 .f32) (ix2 r l) = table (Host.negf (Host.sin angles)) (Host.sin angles) (ix2 n l) := by
  unfold iblk
  rw [View.read_apply]
  show V m c main_v27 _ = _
  rw [V_sin]
  exact congrArg _ (mk2 _ n l (by show win0_15.index t 0 * 128 + 1 * r.val = n.val; rw [(at15 t).1]; omega)
    (by show win0_15.index t 1 * 128 + 1 * l.val = l.val; rw [(at15 t).2]; omega))

theorem read12 (c : Dev nD) (t : Fin cfg0.N) (r l : Fin 128) (n : Fin 2048) (hn : n.val = 128 * near t.val 1 + r.val) :
    (iblk m c 12 t : Vec Ideal S128x128 .f32) (ix2 r l) = table (Host.cos angles) (Host.cos angles) (ix2 n l) := by
  unfold iblk
  rw [View.read_apply]
  show V m c main_v26 _ = _
  rw [V_cos]
  exact congrArg _ (mk2 _ n l (by show win0_12.index t 0 * 128 + 1 * r.val = n.val; rw [(at12 t).1]; omega)
    (by show win0_12.index t 1 * 128 + 1 * l.val = l.val; rw [(at12 t).2]; omega))

theorem read16 (c : Dev nD) (t : Fin cfg0.N) (r l : Fin 128) (n : Fin 2048) (hn : n.val = 128 * near t.val 1 + r.val) :
    (iblk m c 16 t : Vec Ideal S128x128 .f32) (ix2 r l) = table (Host.negf (Host.sin angles)) (Host.sin angles) (ix2 n l) := by
  unfold iblk
  rw [View.read_apply]
  show V m c main_v27 _ = _
  rw [V_sin]
  exact congrArg _ (mk2 _ n l (by show win0_16.index t 0 * 128 + 1 * r.val = n.val; rw [(at16 t).1]; omega)
    (by show win0_16.index t 1 * 128 + 1 * l.val = l.val; rw [(at16 t).2]; omega))

theorem read13 (c : Dev nD) (t : Fin cfg0.N) (r l : Fin 128) (n : Fin 2048) (hn : n.val = 128 * near t.val 2 + r.val) :
    (iblk m c 13 t : Vec Ideal S128x128 .f32) (ix2 r l) = table (Host.cos angles) (Host.cos angles) (ix2 n l) := by
  unfold iblk
  rw [View.read_apply]
  show V m c main_v26 _ = _
  rw [V_cos]
  exact congrArg _ (mk2 _ n l (by show win0_13.index t 0 * 128 + 1 * r.val = n.val; rw [(at13 t).1]; omega)
    (by show win0_13.index t 1 * 128 + 1 * l.val = l.val; rw [(at13 t).2]; omega))

theorem read17 (c : Dev nD) (t : Fin cfg0.N) (r l : Fin 128) (n : Fin 2048) (hn : n.val = 128 * near t.val 2 + r.val) :
    (iblk m c 17 t : Vec Ideal S128x128 .f32) (ix2 r l) = table (Host.negf (Host.sin angles)) (Host.sin angles) (ix2 n l) := by
  unfold iblk
  rw [View.read_apply]
  show V m c main_v27 _ = _
  rw [V_sin]
  exact congrArg _ (mk2 _ n l (by show win0_17.index t 0 * 128 + 1 * r.val = n.val; rw [(at17 t).1]; omega)
    (by show win0_17.index t 1 * 128 + 1 * l.val = l.val; rw [(at17 t).2]; omega))

theorem read14 (c : Dev nD) (t : Fin cfg0.N) (r l : Fin 128) (n : Fin 2048) (hn : n.val = 128 * near t.val 3 + r.val) :
    (iblk m c 14 t : Vec Ideal S128x128 .f32) (ix2 r l) = table (Host.cos angles) (Host.cos angles) (ix2 n l) := by
  unfold iblk
  rw [View.read_apply]
  show V m c main_v26 _ = _
  rw [V_cos]
  exact congrArg _ (mk2 _ n l (by show win0_14.index t 0 * 128 + 1 * r.val = n.val; rw [(at14 t).1]; omega)
    (by show win0_14.index t 1 * 128 + 1 * l.val = l.val; rw [(at14 t).2]; omega))

theorem read18 (c : Dev nD) (t : Fin cfg0.N) (r l : Fin 128) (n : Fin 2048) (hn : n.val = 128 * near t.val 3 + r.val) :
    (iblk m c 18 t : Vec Ideal S128x128 .f32) (ix2 r l) = table (Host.negf (Host.sin angles)) (Host.sin angles) (ix2 n l) := by
  unfold iblk
  rw [View.read_apply]
  show V m c main_v27 _ = _
  rw [V_sin]
  exact congrArg _ (mk2 _ n l (by show win0_18.index t 0 * 128 + 1 * r.val = n.val; rw [(at18 t).1]; omega)
    (by show win0_18.index t 1 * 128 + 1 * l.val = l.val; rw [(at18 t).2]; omega))

theorem read19 (c : Dev nD) (t : Fin cfg0.N) (p : Fin 128) (h : Fin 6) (hp : p.val = h.val) :
    (iblk m c 19 t : Vec Ideal S1x128 .f32) (ix2 0 p) = (m ((c : Thread nD τ).loc main_arg3) : Vec Ideal S2x6 .f32) (ix2 0 h) := by
  have hv : (iblk m c 19 t : Vec Ideal S1x128 .f32) (ix2 0 p) = (V m c main_v31 : Vec Ideal S1x128 .f32) (ix2 0 p) := by
    unfold iblk
    rw [View.read_apply]
    show V m c main_v31 _ = _
    exact congrArg _ (mk2 _ 0 p (by show win0_19.index t 0 * 1 + 1 * 0 = 0; rw [(at19 t).1])
      (by show win0_19.index t 1 * 128 + 1 * p.val = p.val; rw [(at19 t).2]; omega))
  rw [hv, V_row]
  exact sinkRow_apply _ _ _ _ _ _ _ p h hp

theorem coord_eq : ∀ t : Fin cfg0.N, ((grid0.coords t) 1).val = t.val % 8 :=
  (by decide +kernel : ∀ t : Fin grid0.N, ((grid0.coords t) 1).val = t.val % 8)

theorem word_eq : ∀ (t : Fin 8) (a : Fin 2), Scalar.addi (Scalar.muli (BitVec.ofNat 32 t.val) 2#32) (BitVec.ofNat 32 a.val) = BitVec.ofNat 32 (2 * t.val + a.val) := by
  decide +kernel

attribute [local irreducible] iblk

/-- The tiles a point reads, by place. -/
def kt (c : Dev nD) (t : Fin cfg0.N) : Fin 4 → Vec Ideal S1x128x128 .f32 := ![iblk m c 1 t, iblk m c 2 t, iblk m c 3 t, iblk m c 4 t]
def vt (c : Dev nD) (t : Fin cfg0.N) : Fin 4 → Vec Ideal S1x128x128 .f32 := ![iblk m c 5 t, iblk m c 6 t, iblk m c 7 t, iblk m c 8 t]
def ct (c : Dev nD) (t : Fin cfg0.N) : Fin 4 → Vec Ideal S128x128 .f32 := ![iblk m c 11 t, iblk m c 12 t, iblk m c 13 t, iblk m c 14 t]
def st (c : Dev nD) (t : Fin cfg0.N) : Fin 4 → Vec Ideal S128x128 .f32 := ![iblk m c 15 t, iblk m c 16 t, iblk m c 17 t, iblk m c 18 t]

theorem each4 {P : Fin 4 → Prop} (h0 : P 0) (h1 : P 1) (h2 : P 2) (h3 : P 3) : ∀ j, P j := fun j => match j with
  | ⟨0, _⟩ => h0
  | ⟨1, _⟩ => h1
  | ⟨2, _⟩ => h2
  | ⟨3, _⟩ => h3

theorem kt_apply (c : Dev nD) (t : Fin cfg0.N) (b : Fin 8) (hb : b.val = t.val / 8) : ∀ (j : Fin 4) (r k : Fin 128) (n : Fin 2304)
    (_ : n.val = 256 + 128 * near t.val j.val + r.val), kt m c t j (ix3 0 r k) = (m ((c : Thread nD τ).loc main_arg1) : Vec Ideal S8x2304x128 .f32) (ix3 b n k) := by
  refine each4 ?_ ?_ ?_ ?_ <;> intro r k n hn
  · exact (congrFun (show kt m c t 0 = iblk m c 1 t from rfl) _).trans (read1 m c t r k b n hb hn)
  · exact (congrFun (show kt m c t 1 = iblk m c 2 t from rfl) _).trans (read2 m c t r k b n hb hn)
  · exact (congrFun (show kt m c t 2 = iblk m c 3 t from rfl) _).trans (read3 m c t r k b n hb hn)
  · exact (congrFun (show kt m c t 3 = iblk m c 4 t from rfl) _).trans (read4 m c t r k b n hb hn)

theorem vt_apply (c : Dev nD) (t : Fin cfg0.N) (b : Fin 8) (hb : b.val = t.val / 8) : ∀ (j : Fin 4) (r k : Fin 128) (n : Fin 2304)
    (_ : n.val = 256 + 128 * near t.val j.val + r.val), vt m c t j (ix3 0 r k) = (m ((c : Thread nD τ).loc main_arg2) : Vec Ideal S8x2304x128 .f32) (ix3 b n k) := by
  refine each4 ?_ ?_ ?_ ?_ <;> intro r k n hn
  · exact (congrFun (show vt m c t 0 = iblk m c 5 t from rfl) _).trans (read5 m c t r k b n hb hn)
  · exact (congrFun (show vt m c t 1 = iblk m c 6 t from rfl) _).trans (read6 m c t r k b n hb hn)
  · exact (congrFun (show vt m c t 2 = iblk m c 7 t from rfl) _).trans (read7 m c t r k b n hb hn)
  · exact (congrFun (show vt m c t 3 = iblk m c 8 t from rfl) _).trans (read8 m c t r k b n hb hn)

theorem ct_apply (c : Dev nD) (t : Fin cfg0.N) : ∀ (j : Fin 4) (r l : Fin 128) (n : Fin 2048) (_ : n.val = 128 * near t.val j.val + r.val),
    ct m c t j (ix2 r l) = table (Host.cos angles) (Host.cos angles) (ix2 n l) := by
  refine each4 ?_ ?_ ?_ ?_ <;> intro r l n hn
  · exact (congrFun (show ct m c t 0 = iblk m c 11 t from rfl) _).trans (read11 m c t r l n hn)
  · exact (congrFun (show ct m c t 1 = iblk m c 12 t from rfl) _).trans (read12 m c t r l n hn)
  · exact (congrFun (show ct m c t 2 = iblk m c 13 t from rfl) _).trans (read13 m c t r l n hn)
  · exact (congrFun (show ct m c t 3 = iblk m c 14 t from rfl) _).trans (read14 m c t r l n hn)

theorem st_apply (c : Dev nD) (t : Fin cfg0.N) : ∀ (j : Fin 4) (r l : Fin 128) (n : Fin 2048) (_ : n.val = 128 * near t.val j.val + r.val),
    st m c t j (ix2 r l) = table (Host.negf (Host.sin angles)) (Host.sin angles) (ix2 n l) := by
  refine each4 ?_ ?_ ?_ ?_ <;> intro r l n hn
  · exact (congrFun (show st m c t 0 = iblk m c 15 t from rfl) _).trans (read15 m c t r l n hn)
  · exact (congrFun (show st m c t 1 = iblk m c 16 t from rfl) _).trans (read16 m c t r l n hn)
  · exact (congrFun (show st m c t 2 = iblk m c 17 t from rfl) _).trans (read17 m c t r l n hn)
  · exact (congrFun (show st m c t 3 = iblk m c 18 t from rfl) _).trans (read18 m c t r l n hn)

/-- The rows of block `2 tt + a`: its queries, with the tiles `a`, `a + 1` and `a + 2` of the keys and values. -/
def partOf (i : grid0.Coords) (kt vt : Fin 4 → Vec Ideal S1x128x128 .f32) (ct st : Fin 4 → Vec Ideal S128x128 .f32) (kc vc : Vec Ideal S1x256x128 .f32)
    (x : Vec Ideal S1x128 .f32) (a : Fin 2) (q : Vec Ideal S1x128x384 .f32) : FVec Ideal S1x128x384 .f32 :=
  half (k0_pay23 (iota .tc S1x640 32 [1] iota_S1x640_d1_w32) k0_pay19 (word i (BitVec.ofNat 32 a.val)))
    (k0_pay20 q (ct ⟨a.val + 1, by omega⟩) (st ⟨a.val + 1, by omega⟩))
    (column4 (fun g => k0_pay2 (kt ⟨a.val + g.val, by omega⟩) (ct ⟨a.val + g.val, by omega⟩) (st ⟨a.val + g.val, by omega⟩)) (flat' kc))
    (column4 (fun g => flat (vt ⟨a.val + g.val, by omega⟩)) (flat' vc)) x

theorem out_parts (i : grid0.Coords) (x0 : Vec Ideal S1x256x384 .f32) (x1 x2 x3 x4 x5 x6 x7 x8 : Vec Ideal S1x128x128 .f32) (x9 x10 : Vec Ideal S1x256x128 .f32)
    (x11 x12 x13 x14 x15 x16 x17 x18 : Vec Ideal S128x128 .f32) (x19 : Vec Ideal S1x128 .f32) :
    out0_20 i x0 x1 x2 x3 x4 x5 x6 x7 x8 x9 x10 x11 x12 x13 x14 x15 x16 x17 x18 x19
    = View.canon [⟨r0_10, partOf i ![x1, x2, x3, x4] ![x5, x6, x7, x8] ![x11, x12, x13, x14] ![x15, x16, x17, x18] x9 x10 x19 1 (View.ld x0 r0_10)⟩,
        ⟨r0_2, partOf i ![x1, x2, x3, x4] ![x5, x6, x7, x8] ![x11, x12, x13, x14] ![x15, x16, x17, x18] x9 x10 x19 0 (View.ld x0 r0_2)⟩] := by
  rw [out_eq]
  simp only [View.ld_unit_zero (S := S1x128x128) (by decide : (![0, 0, 0] : Fin 3 → ℕ) = fun _ => 0), View.ld_unit_zero (S := S1x256x128) (by decide : (![0, 0, 0] : Fin 3 → ℕ) = fun _ => 0),
    View.ld_unit_zero (S := S128x128) (by decide : (![0, 0] : Fin 2 → ℕ) = fun _ => 0)]
  rfl

def part (c : Dev nD) (t : Fin cfg0.N) (a : Fin 2) (q : Vec Ideal S1x128x384 .f32) : FVec Ideal S1x128x384 .f32 :=
  partOf (grid0.coords t) (kt m c t) (vt m c t) (ct m c t) (st m c t) (iblk m c 9 t) (iblk m c 10 t) (iblk m c 19 t) a q

theorem part_apply (c : Dev nD) (t : Fin cfg0.N) (a : Fin 2) (q : Vec Ideal S1x128x384 .f32) (b : Fin 8) (hb : b.val = t.val / 8) (r : Fin 128) (n : Fin 2048)
    (hn : n.val = 256 * (t.val % 8) + 128 * a.val + r.val)
    (hq : ∀ k : Fin 384, q (ix3 0 r k) = (m ((c : Thread nD τ).loc main_arg0) : Vec Ideal S8x2304x384 .f32) (ix3 b ⟨256 + n.val, by omega⟩ k))
    (kv : Fin 2) (g : Fin 3) (d : Fin 64) (l : Fin 384) (hl : l.val = 192 * kv.val + 64 * g.val + d.val) : part m c t a q (ix3 0 r l)
      = lat (m ((c : Thread nD τ).loc main_arg0)) (m ((c : Thread nD τ).loc main_arg1)) (m ((c : Thread nD τ).loc main_arg2)) (m ((c : Thread nD τ).loc main_arg3)) b n kv g d := by
  have ht : t.val % 8 < 8 := Nat.mod_lt _ (by omega)
  have hs : ∀ j : Fin 640, j.val < 384 → spot (2 * (t.val % 8) + a.val) j.val = 128 * near t.val (a.val + j.val / 128) + j.val % 128 := fun j hj => by
    unfold spot near; rw [Nat.add_assoc]
  have hz : word (grid0.coords t) (BitVec.ofNat 32 a.val) = BitVec.ofNat 32 (2 * (t.val % 8) + a.val) := by
    unfold word
    rw [coord_eq]
    exact word_eq ⟨t.val % 8, ht⟩ a
  have hw : n.val = 128 * near t.val (a.val + 1) + r.val := by unfold near; omega
  unfold part partOf
  refine half_lat _ _ _ _ b n kv g d _ _ _ _ _ (2 * (t.val % 8) + a.val) (by omega) r (by omega) (fun p j => valid_apply _ (by omega) _ hz p j _ rfl) ?_ ?_ ?_ ?_ ?_ ?_ l hl
  · exact queries_turn q _ _ r n kv g _ (fun e => hq _) (fun l => ct_apply m c t ⟨a.val + 1, by omega⟩ r l n hw) (fun l => st_apply m c t ⟨a.val + 1, by omega⟩ r l n hw)
  · intro j e hj
    rw [column4_tile _ _ ⟨j.val / 128, by omega⟩ ⟨j.val % 128, by omega⟩ _ j (by show j.val = 128 * (j.val / 128) + j.val % 128; omega)]
    exact keys_turn _ _ _ ⟨j.val % 128, by omega⟩ ⟨spot (2 * (t.val % 8) + a.val) j.val, spot_lt _ _⟩ kv _
      (fun e => kt_apply m c t b hb ⟨a.val + j.val / 128, by omega⟩ _ _ ⟨256 + spot (2 * (t.val % 8) + a.val) j.val, by have := spot_lt (2 * (t.val % 8) + a.val) j.val; omega⟩
        (by show 256 + spot _ _ = 256 + _ + _; rw [hs j hj, Nat.add_assoc]))
      (fun l => ct_apply m c t ⟨a.val + j.val / 128, by omega⟩ _ l _ (hs j hj)) (fun l => st_apply m c t ⟨a.val + j.val / 128, by omega⟩ _ l _ (hs j hj)) e
  · intro j i e hj
    rw [column4_rest _ _ i _ j hj]
    refine (flat3 _ shapeCasts_S1x256x128_S256x128 i _).trans ?_
    exact read9 m c t i _ b ⟨i.val, by omega⟩ hb rfl
  · intro j hj
    rw [column4_tile _ _ ⟨j.val / 128, by omega⟩ ⟨j.val % 128, by omega⟩ _ j (by show j.val = 128 * (j.val / 128) + j.val % 128; omega)]
    refine (flat3 _ shapeCasts_S1x128x128_S128x128 _ _).trans ?_
    exact vt_apply m c t b hb ⟨a.val + j.val / 128, by omega⟩ _ _ ⟨256 + spot (2 * (t.val % 8) + a.val) j.val, by have := spot_lt (2 * (t.val % 8) + a.val) j.val; omega⟩
      (by show 256 + spot _ _ = 256 + _ + _; rw [hs j hj, Nat.add_assoc])
  · intro j i hj
    rw [column4_rest _ _ i _ j hj]
    refine (flat3 _ shapeCasts_S1x256x128_S256x128 i _).trans ?_
    exact read10 m c t i _ b ⟨i.val, by omega⟩ hb rfl
  · exact read19 m c t _ ⟨3 * kv.val + g.val, by omega⟩ rfl

/-- The whole array the kernel leaves. -/
def whole (q : (⟨3, ![8, 2304, 384]⟩ : Shape).Idx → EReal) (k v : (⟨3, ![8, 2304, 128]⟩ : Shape).Idx → EReal)
    (s : (⟨2, ![2, 6]⟩ : Shape).Idx → EReal) (b : Fin 8) (n : Fin 2048) (l : Fin 384) : EReal :=
  lat q k v s b n ⟨l.val / 192, by omega⟩ ⟨l.val / 64 % 3, by omega⟩ ⟨l.val % 64, by omega⟩

theorem part_whole (c : Dev nD) (t : Fin cfg0.N) (a : Fin 2) (o : ℕ) (ho : o = 128 * a.val) (inb) (b : Fin 8) (hb : b.val = t.val / 8) (hN : t.val < 64) (x : S1x128x384.Idx) :
    part m c t a (View.ld (iblk m c 0 t : Vec Ideal S1x256x384 .f32) (Rect.unit (s := S1x256x384) ![0, o, 0] S1x128x384.size inb)) x
      = whole (m ((c : Thread nD τ).loc main_arg0)) (m ((c : Thread nD τ).loc main_arg1)) (m ((c : Thread nD τ).loc main_arg2)) (m ((c : Thread nD τ).loc main_arg3)) b
        ⟨256 * (t.val % 8) + 128 * a.val + (x 1).val, by have : (x 1).val < 128 := (x 1).isLt; omega⟩ (x 2) := by
  have hx0 : (x 0).val < 1 := (x 0).isLt
  have hx1 : (x 1).val < 128 := (x 1).isLt
  have hx2 : (x 2).val < 384 := (x 2).isLt
  have hx : x = ix3 (n0 := 1) (n1 := 128) (n2 := 384) 0 (x 1) (x 2) := mk3 x 0 (x 1) (x 2) (by show (x 0).val = 0; omega) rfl rfl
  refine (congrArg _ hx).trans (part_apply m c t a _ b hb (x 1) ⟨256 * (t.val % 8) + 128 * a.val + (x 1).val, by omega⟩ rfl (fun k => ?_) ⟨(x 2).val / 192, by omega⟩ ⟨(x 2).val / 64 % 3, by omega⟩ ⟨(x 2).val % 64, by omega⟩ (x 2)
    (by show (x 2).val = 192 * ((x 2).val / 192) + 64 * ((x 2).val / 64 % 3) + (x 2).val % 64; omega))
  refine Eq.trans (congrArg (iblk m c 0 t : Vec Ideal S1x256x384 .f32) (mk3 _ 0 ⟨128 * a.val + (x 1).val, by omega⟩ k rfl ?_ ?_)) (read0 m c t _ k b _ hb ?_)
  · show o + 1 * (x 1).val = 128 * a.val + (x 1).val; omega
  · show 0 + 1 * k.val = k.val; omega
  · show 256 + (256 * (t.val % 8) + 128 * a.val + (x 1).val) = 256 + 256 * (t.val % 8) + (128 * a.val + (x 1).val); omega

/-- Two halves of a block, each the half of one array, are the array. -/
theorem halves (G : S1x256x384.Idx → EReal) (p₁ p₀ : Vec Ideal S1x128x384 .f32) (h₁ : ∀ x : S1x128x384.Idx, p₁ x = G (r0_10.emb x))
    (h₀ : ∀ x : S1x128x384.Idx, p₀ x = G (r0_2.emb x)) (y : S1x256x384.Idx) :
    (View.canon [⟨r0_10, p₁⟩, ⟨r0_2, p₀⟩] : Vec Ideal S1x256x384 .f32) y = G y := by
  refine View.canon_apply_of_pieces (Val := Elt Ideal) (e := .f32) G _ ?_ y (cover0_20 _ _ y)
  intro pc hpc x
  rcases List.mem_cons.mp hpc with rfl | hpc
  · exact h₁ x
  rcases List.mem_cons.mp hpc with rfl | hpc
  · exact h₀ x
  nomatch hpc

/-- The block a point writes. -/
theorem block_apply (c : Dev nD) (t : Fin cfg0.N) (b : Fin 8) (hb : b.val = t.val / 8) (hN : t.val < 64) (y : S1x256x384.Idx) :
    out0_20 (grid0.coords t) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (iblk m c 18 t) (iblk m c 19 t) y
      = whole (m ((c : Thread nD τ).loc main_arg0)) (m ((c : Thread nD τ).loc main_arg1)) (m ((c : Thread nD τ).loc main_arg2)) (m ((c : Thread nD τ).loc main_arg3)) b
        ⟨256 * (t.val % 8) + (y 1).val, by have : (y 1).val < 256 := (y 1).isLt; omega⟩ (y 2) := by
  have he : out0_20 (grid0.coords t) (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (iblk m c 17 t) (iblk m c 18 t) (iblk m c 19 t)
      = View.canon [⟨r0_10, part m c t 1 (View.ld (iblk m c 0 t) r0_10)⟩, ⟨r0_2, part m c t 0 (View.ld (iblk m c 0 t) r0_2)⟩] := by
    exact out_parts (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
  refine (congrFun he y).trans (halves (fun y => whole (m ((c : Thread nD τ).loc main_arg0)) (m ((c : Thread nD τ).loc main_arg1)) (m ((c : Thread nD τ).loc main_arg2))
    (m ((c : Thread nD τ).loc main_arg3)) b ⟨256 * (t.val % 8) + (y 1).val, by have : (y 1).val < 256 := (y 1).isLt; omega⟩ (y 2)) _ _ (fun x => ?_) (fun x => ?_) y)
  · refine (part_whole m c t 1 128 rfl _ b hb hN x).trans (congrArg₂ (whole _ _ _ _ b) (Fin.ext ?_) (Fin.ext ?_))
    · show 256 * (t.val % 8) + 128 * 1 + (x 1).val = 256 * (t.val % 8) + (128 + 1 * (x 1).val); omega
    · show (x 2).val = 0 + 1 * (x 2).val; omega
  · refine (part_whole m c t 0 0 rfl _ b hb hN x).trans (congrArg₂ (whole _ _ _ _ b) (Fin.ext ?_) (Fin.ext ?_))
    · show 256 * (t.val % 8) + 128 * 0 + (x 1).val = 256 * (t.val % 8) + (0 + 1 * (x 1).val); omega
    · show (x 2).val = 0 + 1 * (x 2).val; omega

theorem result_apply (c : Dev nD) : (dats m 0 c).arrAt 20 cfg0.N = fun i : S8x2048x384.Idx =>
    whole (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 20 _ (by decide +kernel) fun t hf y => ?_
  blk_simp
  rw [after0_20]
  have htl : t.val < 64 := t.isLt
  have hy0 : (y 0).val < 1 := (y 0).isLt
  have hy1 : (y 1).val < 256 := (y 1).isLt
  refine (block_apply m c t ⟨t.val / 8, by omega⟩ rfl htl y).trans ?_
  congr 1 <;> apply Fin.ext
  · show t.val / 8 = win0_20.index t 0 * 1 + 1 * (y 0).val
    rw [(at20 t).1]; omega
  · show 256 * (t.val % 8) + (y 1).val = win0_20.index t 1 * 256 + 1 * (y 1).val
    rw [(at20 t).2.1]; omega
  · show (y 2).val = win0_20.index t 2 * 384 + 1 * (y 2).val
    rw [(at20 t).2.2]; omega

end Cert.Proof.Window

end
-- ==== Proof.Finite.lean ====
/- What the precondition of the attention calls says of their arguments' elements. -/
module

public import proofs.«01_k».proof.Defs
public import Idealize.ShloMosaic.PureOps.Ideal.Laws

@[expose] public section

noncomputable section

namespace Cert.Proof.Finite

open Idealize.ShloMosaic

theorem facts : Cert.Pre_finite.Facts where
  bcast_S_S8x2304x384 := by decide
  reducesTo_S8x2304x384_S_d0_1_2 := by decide
  h_S_ := by decide
  bcast_S_S8x2304x128 := by decide
  reducesTo_S8x2304x128_S_d0_1_2 := by decide
  bcast_S_S2x6 := by decide
  reducesTo_S2x6_S_d0_1 := by decide

theorem real_of_abs (x : EReal) (h : max x (-x) < ⊤) : ∃ r : ℝ, x = r := by
  induction x with
  | bot => simp at h
  | top => simp at h
  | coe r => exact ⟨r, rfl⟩

theorem inf_f32 : Ideal.ofBits .f32 0x7F800000#32 = ⊤ := by simp [Ideal.ofBits, Ideal.ieee]

/-- A conjunction over all elements of an array holds of each. -/
theorem all_true {s : Shape} {axes : List (Fin s.rank)} (x : s.Idx → BitVec 1) (h : s.ReducesTo axes Cert.Pre_finite.S_) (hu : 0 < Cert.Pre_finite.S_.numel)
    (j : Cert.Pre_finite.S_.Idx) (ht : Host.reduce IntOp.andi x (constantI Cert.Pre_finite.S_ 1 1#1) h hu j = 1#1) (i : s.Idx) : x i = 1#1 := by
  rw [Host.reduce_eq_fold] at ht
  have key := (Finset.fold_op_rel_iff_and (op := (IntOp.andi : BitVec 1 → BitVec 1 → BitVec 1)) (r := fun (_ z : BitVec 1) => z = 1#1)
    (fun {_ y z} => by revert y z; decide) (c := (1#1 : BitVec 1)) (f := x) (b := constantI Cert.Pre_finite.S_ 1 1#1 (Shape.Idx.first hu))
    (s := Finset.univ.filter fun i => h.drop i = j)).1 ht
  exact key.2 i (Finset.mem_filter.2 ⟨Finset.mem_univ _, funext fun a => a.elim0⟩)

theorem real_of_all {s : Shape} {axes : List (Fin s.rank)} (x : s.Idx → EReal) (hb) (h : s.ReducesTo axes Cert.Pre_finite.S_) (hu) (j)
    (ht : Host.reduce IntOp.andi (cmpf (F := Ideal) (φ := .f32) .olt (Host.absf (F := Ideal) (φ := .f32) x) (broadcastInDim s ![] hb (constant (F := Ideal) Cert.Pre_finite.S_ .f32 0x7F800000#32)))
      (constantI Cert.Pre_finite.S_ 1 1#1) h hu j = 1#1) (i : s.Idx) : ∃ r : ℝ, x i = r := by
  refine real_of_abs _ ?_
  have h1 : BitVec.ofBool (decide (max (x i) (-(x i)) < Ideal.ofBits .f32 0x7F800000#32)) = 1#1 := all_true _ h hu j ht i
  rw [inf_f32] at h1
  by_contra hn
  rw [decide_eq_false hn] at h1
  exact absurd h1 (by decide)

/-- The queries, the keys and the sinks are numbers between the infinities. -/
theorem elements (q : FVec Ideal Cert.Pre_finite.S8x2304x384 .f32) (k v : FVec Ideal Cert.Pre_finite.S8x2304x128 .f32) (s : FVec Ideal Cert.Pre_finite.S2x6 .f32)
    (h : @Cert.Pre_finite.fn facts Ideal _ q k v s = fun _ => 1#1) :
    (∀ i, ∃ r : ℝ, q i = r) ∧ (∀ i, ∃ r : ℝ, k i = r) ∧ ∀ i, ∃ r : ℝ, s i = r := by
  have h0 := congrFun h (fun a => a.elim0)
  have split : ∀ a b : BitVec 1, IntOp.andi a b = 1#1 → a = 1#1 ∧ b = 1#1 := by decide
  obtain ⟨h12, h3⟩ := split _ _ h0
  obtain ⟨h1, h2⟩ := split _ _ h12
  exact ⟨real_of_all q _ _ _ _ h1, real_of_all k _ _ _ _ h2, real_of_all s _ _ _ _ h3⟩

end Cert.Proof.Finite

end
-- ==== Proof.Latent.lean ====
/- Attention of the latents to their neighbours and to the context: the claims of `attn_x`. -/
module

public import proofs.«01_k».proof.Defs
public import proofs.«01_k».proof.Proof.Block
public import proofs.«01_k».proof.Proof.Finite
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim

@[expose] public section

set_option maxRecDepth 16384

noncomputable section

namespace Cert.Proof.Latent

open Cert.Kernel5Ideal Cert.Kernel5Ideal.Gen Cert.Proof.Norm Cert.Proof.Attend Cert.Proof.Turn Cert.Proof.Window
open Idealize.ShloMosaic hiding ix1 ix2 ix3 ix4 ix5 eq_ix1 eq_ix2 eq_ix3
open Idealize.ShloMosaic.TcCoe Idealize.ShloMosaic.ValueIdx Idealize.SL.Sem
open scoped BigOperators

/-! ## The reference's turns -/

section Reference
open Cert.Reference5Ideal.Read

variable (x0 : (⟨S8x2304x384, .f32⟩ : BufTy).Contents (Elt Ideal)) (x1 x2 : (⟨S8x2304x128, .f32⟩ : BufTy).Contents (Elt Ideal))
  (x3 : (⟨S2x6, .f32⟩ : BufTy).Contents (Elt Ideal))

/-- The row and the column of a position. -/
theorem position (n : Fin 2048) (a : Fin 2) :
    val_main_v8 (F := Ideal) (ix2 n a) = BitVec.ofNat 32 (if a.val = 0 then n.val / 64 else n.val % 64) := by
  match a with
  | ⟨0, _⟩ => exact (concatenate_pair_apply_left 1 (val_main_v6 (F := Ideal)) (val_main_v7 (F := Ideal)) Cert.Reference5Ideal.Facts₀.concatenates_S2048x1_S2048x1_S2048x2_d1
      (ix2 n 0) rfl (ix2 n 0) (fun a => match a with
      | ⟨0, _⟩ => rfl
      | ⟨1, _⟩ => rfl)).trans ((val_main_v6_apply _).trans ((val_main_v4_apply _).trans ((val_main_v2_apply _).trans (val_main_v0_apply _))))
  | ⟨1, _⟩ => exact (concatenate_pair_apply_right 1 (val_main_v6 (F := Ideal)) (val_main_v7 (F := Ideal)) Cert.Reference5Ideal.Facts₀.concatenates_S2048x1_S2048x1_S2048x2_d1
      (ix2 n 1) rfl rfl (ix2 n 0) (fun a ha => match a, ha with
      | ⟨0, _⟩, _ => rfl
      | ⟨1, _⟩, ha => absurd rfl ha) rfl).trans ((val_main_v7_apply _).trans ((val_main_v5_apply _).trans ((val_main_v3_apply _).trans (val_main_v1_apply _))))

theorem frequencies : val_main_v15 (F := Ideal) = freq := rfl

theorem angles_ref (n : Fin 2048) (a : Fin 2) (f : Fin 16) : val_main_v20 (F := Ideal) (ix3 n a f) = ang n a f :=
  (val_main_v20_apply _).trans (congrArg₂ (· * ·)
    ((val_main_v18_apply _).trans ((val_main_v16_apply _).trans ((val_main_v9_apply _).trans
      (congrArg (FloatOps.sitofp (F := Ideal) .f32) ((congrArg _ (eq_ix2 _)).trans (position n a))))))
    ((val_main_v19_apply _).trans ((val_main_v17_apply _).trans ((congrArg _ (eq_ix1 _)).trans (congrFun frequencies (ix1 f))))))

theorem query_split (b : Fin 8) (n : Fin 2048) (A : Fin 12) (s : Fin 2) (f : Fin 16) (l : Fin 384) (hl : l.val = 32 * A.val + 16 * s.val + f.val) :
    val_main_v31 x0 (ix5 b n A s f) = x0 (ix3 b ⟨256 + n.val, by omega⟩ l) := by
  have h₁ : idx_main_v31 (ix5 b n A s f) = ix4 b n ⟨A.val / 2, by omega⟩ ⟨32 * (A.val % 2) + 16 * s.val + f.val, by omega⟩ := funext fun i => Fin.ext (by
    match i with
    | ⟨0, _⟩ => show ((((b.val * 2048 + n.val) * 12 + A.val) * 2 + s.val) * 16 + f.val) / 786432 = b.val; omega
    | ⟨1, _⟩ => show ((((b.val * 2048 + n.val) * 12 + A.val) * 2 + s.val) * 16 + f.val) / 384 % 2048 = n.val; omega
    | ⟨2, _⟩ => show ((((b.val * 2048 + n.val) * 12 + A.val) * 2 + s.val) * 16 + f.val) / 64 % 6 = A.val / 2; omega
    | ⟨3, _⟩ => show ((((b.val * 2048 + n.val) * 12 + A.val) * 2 + s.val) * 16 + f.val) % 64 = 32 * (A.val % 2) + 16 * s.val + f.val; omega)
  have h₂ : idx_main_v24 (ix4 b n ⟨A.val / 2, by omega⟩ ⟨32 * (A.val % 2) + 16 * s.val + f.val, by omega⟩) = ix3 b n l := funext fun i => Fin.ext (by
    match i with
    | ⟨0, _⟩ => show (((b.val * 2048 + n.val) * 6 + (A.val / 2)) * 64 + (32 * (A.val % 2) + 16 * s.val + f.val)) / 786432 = b.val; omega
    | ⟨1, _⟩ => show (((b.val * 2048 + n.val) * 6 + (A.val / 2)) * 64 + (32 * (A.val % 2) + 16 * s.val + f.val)) / 384 % 2048 = n.val; omega
    | ⟨2, _⟩ => show (((b.val * 2048 + n.val) * 6 + (A.val / 2)) * 64 + (32 * (A.val % 2) + 16 * s.val + f.val)) % 384 = l.val; omega)
  refine (val_main_v31_apply x0 _).trans ((congrArg (val_main_v24 x0) h₁).trans ((val_main_v24_apply x0 _).trans ((congrArg (val_main_v23 x0) h₂).trans
    ((val_main_v23_apply x0 _).trans (congrArg x0 (funext fun a => Fin.ext ?_))))))
  match a with
  | ⟨0, _⟩ => rfl
  | ⟨1, _⟩ => rfl
  | ⟨2, _⟩ => rfl

theorem query_first (b : Fin 8) (n : Fin 2048) (A : Fin 12) (f : Fin 16) (l : Fin 384) (hl : l.val = 32 * A.val + 0 + f.val) :
    val_main_v33 x0 (ix4 b n A f) = x0 (ix3 b ⟨256 + n.val, by omega⟩ l) := by
  have h₁ : idx_main_v33 (ix4 b n A f) = ix5 b n A 0 f := funext fun i => Fin.ext (by
    match i with
    | ⟨0, _⟩ => show (((b.val * 2048 + n.val) * 12 + A.val) * 16 + f.val) / 393216 = b.val; omega
    | ⟨1, _⟩ => show (((b.val * 2048 + n.val) * 12 + A.val) * 16 + f.val) / 192 % 2048 = n.val; omega
    | ⟨2, _⟩ => show (((b.val * 2048 + n.val) * 12 + A.val) * 16 + f.val) / 16 % 12 = A.val; omega
    | ⟨3, _⟩ => rfl
    | ⟨4, _⟩ => show (((b.val * 2048 + n.val) * 12 + A.val) * 16 + f.val) % 16 = f.val; omega)
  have h₂ : idx_main_v32 (ix5 b n A 0 f) = ix5 b n A 0 f := funext fun i => Fin.ext (by
    match i with
    | ⟨0, _⟩ => rfl
    | ⟨1, _⟩ => rfl
    | ⟨2, _⟩ => rfl
    | ⟨3, _⟩ => rfl
    | ⟨4, _⟩ => rfl)
  exact (val_main_v33_apply x0 _).trans ((congrArg (val_main_v32 x0) h₁).trans ((val_main_v32_apply x0 _).trans ((congrArg (val_main_v31 x0) h₂).trans
    (query_split x0 b n A 0 f l (by show l.val = 32 * A.val + 16 * 0 + f.val; omega)))))

theorem query_second (b : Fin 8) (n : Fin 2048) (A : Fin 12) (f : Fin 16) (l : Fin 384) (hl : l.val = 32 * A.val + 16 + f.val) :
    val_main_v35 x0 (ix4 b n A f) = x0 (ix3 b ⟨256 + n.val, by omega⟩ l) := by
  have h₁ : idx_main_v35 (ix4 b n A f) = ix5 b n A 0 f := funext fun i => Fin.ext (by
    match i with
    | ⟨0, _⟩ => show (((b.val * 2048 + n.val) * 12 + A.val) * 16 + f.val) / 393216 = b.val; omega
    | ⟨1, _⟩ => show (((b.val * 2048 + n.val) * 12 + A.val) * 16 + f.val) / 192 % 2048 = n.val; omega
    | ⟨2, _⟩ => show (((b.val * 2048 + n.val) * 12 + A.val) * 16 + f.val) / 16 % 12 = A.val; omega
    | ⟨3, _⟩ => rfl
    | ⟨4, _⟩ => show (((b.val * 2048 + n.val) * 12 + A.val) * 16 + f.val) % 16 = f.val; omega)
  have h₂ : idx_main_v34 (ix5 b n A 0 f) = ix5 b n A 1 f := funext fun i => Fin.ext (by
    match i with
    | ⟨0, _⟩ => rfl
    | ⟨1, _⟩ => rfl
    | ⟨2, _⟩ => rfl
    | ⟨3, _⟩ => show 1 + 0 = 1; omega
    | ⟨4, _⟩ => rfl)
  exact (val_main_v35_apply x0 _).trans ((congrArg (val_main_v34 x0) h₁).trans ((val_main_v34_apply x0 _).trans ((congrArg (val_main_v31 x0) h₂).trans
    (query_split x0 b n A 1 f l (by show l.val = 32 * A.val + 16 * 1 + f.val; omega)))))

theorem query_table (b : Fin 8) (n : Fin 2048) (A : Fin 12) (f : Fin 16) (a : Fin 2) (ha : a.val = A.val % 2) :
    val_main_v37 (F := Ideal) (ix4 b n A f) = Ideal.cos (ang n a f) ∧ val_main_v40 (F := Ideal) (ix4 b n A f) = Ideal.sin (ang n a f) := by
  have h₁ : idx_main_v27 (ix3 n A f) = ix4 n ⟨A.val / 2, by omega⟩ a f := funext fun i => Fin.ext (by
    match i with
    | ⟨0, _⟩ => show ((n.val * 12 + A.val) * 16 + f.val) / 192 = n.val; omega
    | ⟨1, _⟩ => show ((n.val * 12 + A.val) * 16 + f.val) / 32 % 6 = A.val / 2; omega
    | ⟨2, _⟩ => show ((n.val * 12 + A.val) * 16 + f.val) / 16 % 2 = a.val; omega
    | ⟨3, _⟩ => show ((n.val * 12 + A.val) * 16 + f.val) % 16 = f.val; omega)
  exact ⟨(val_main_v37_apply _).trans ((val_main_v36_apply _).trans ((congrArg _ (eq_ix3 _)).trans ((val_main_v27_apply _).trans ((congrArg _ h₁).trans
      ((val_main_v26_apply _).trans ((val_main_v25_apply _).trans ((congrArg _ (eq_ix3 _)).trans ((val_main_v21_apply _).trans (congrArg Ideal.cos (angles_ref n a f)))))))))),
    (val_main_v40_apply _).trans ((val_main_v39_apply _).trans ((congrArg _ (eq_ix3 _)).trans ((val_main_v30_apply _).trans ((congrArg _ h₁).trans
      ((val_main_v29_apply _).trans ((val_main_v28_apply _).trans ((congrArg _ (eq_ix3 _)).trans ((val_main_v22_apply _).trans (congrArg Ideal.sin (angles_ref n a f))))))))))⟩

theorem query_lower (b : Fin 8) (n : Fin 2048) (A : Fin 12) (f : Fin 16) (l₀ l₁ : Fin 384) (h₀ : l₀.val = 32 * A.val + f.val)
    (h₁ : l₁.val = 32 * A.val + 16 + f.val) (a : Fin 2) (ha : a.val = A.val % 2) :
    val_main_v42 x0 (ix4 b n A f) = x0 (ix3 b ⟨256 + n.val, by omega⟩ l₀) * Ideal.cos (ang n a f) - x0 (ix3 b ⟨256 + n.val, by omega⟩ l₁) * Ideal.sin (ang n a f) :=
  (val_main_v42_apply x0 _).trans (congrArg₂ (· - ·) ((val_main_v38_apply x0 _).trans (congrArg₂ (· * ·) (query_first x0 b n A f l₀ h₀) (query_table b n A f a ha).1))
    ((val_main_v41_apply x0 _).trans (congrArg₂ (· * ·) (query_second x0 b n A f l₁ h₁) (query_table b n A f a ha).2)))

theorem query_upper (b : Fin 8) (n : Fin 2048) (A : Fin 12) (f : Fin 16) (l₀ l₁ : Fin 384) (h₀ : l₀.val = 32 * A.val + f.val)
    (h₁ : l₁.val = 32 * A.val + 16 + f.val) (a : Fin 2) (ha : a.val = A.val % 2) :
    val_main_v49 x0 (ix4 b n A f) = x0 (ix3 b ⟨256 + n.val, by omega⟩ l₁) * Ideal.cos (ang n a f) + x0 (ix3 b ⟨256 + n.val, by omega⟩ l₀) * Ideal.sin (ang n a f) :=
  (val_main_v49_apply x0 _).trans (congrArg₂ (· + ·) ((val_main_v45_apply x0 _).trans (congrArg₂ (· * ·) (query_second x0 b n A f l₁ h₁) (query_table b n A f a ha).1))
    ((val_main_v48_apply x0 _).trans (congrArg₂ (· * ·) (query_first x0 b n A f l₀ h₀) (query_table b n A f a ha).2)))

theorem queries (b : Fin 8) (n : Fin 2048) (kv : Fin 2) (g : Fin 3) (h : Fin 6) (hh : h.val = 3 * kv.val + g.val) (e : Fin 64) :
    val_main_v53 x0 (ix4 b n h e) = turned (query x0 b n kv g) n e := by
  unfold turned
  by_cases he : e.val % 32 < 16
  · rw [dif_pos he]
    have h₁ : idx_main_v53 (ix4 b n h e) = ix5 b n ⟨2 * h.val + e.val / 32, by omega⟩ 0 ⟨e.val % 16, by omega⟩ := funext fun i => Fin.ext (by
      match i with
      | ⟨0, _⟩ => show (((b.val * 2048 + n.val) * 6 + h.val) * 64 + e.val) / 786432 = b.val; omega
      | ⟨1, _⟩ => show (((b.val * 2048 + n.val) * 6 + h.val) * 64 + e.val) / 384 % 2048 = n.val; omega
      | ⟨2, _⟩ => show (((b.val * 2048 + n.val) * 6 + h.val) * 64 + e.val) / 32 % 12 = 2 * h.val + e.val / 32; omega
      | ⟨3, _⟩ => show (((b.val * 2048 + n.val) * 6 + h.val) * 64 + e.val) / 16 % 2 = 0; omega
      | ⟨4, _⟩ => show (((b.val * 2048 + n.val) * 6 + h.val) * 64 + e.val) % 16 = e.val % 16; omega)
    refine (val_main_v53_apply x0 _).trans ((congrArg (val_main_v52 x0) h₁).trans ?_)
    refine (concatenate_pair_apply_left 3 (val_main_v50 x0) (val_main_v51 x0) Cert.Reference5Ideal.Facts₀.concatenates_S8x2048x12x1x16_S8x2048x12x1x16_S8x2048x12x2x16_d3
      (ix5 b n ⟨2 * h.val + e.val / 32, by omega⟩ 0 ⟨e.val % 16, by omega⟩) rfl (ix5 b n ⟨2 * h.val + e.val / 32, by omega⟩ 0 ⟨e.val % 16, by omega⟩) (fun a => match a with
      | ⟨0, _⟩ => rfl
      | ⟨1, _⟩ => rfl
      | ⟨2, _⟩ => rfl
      | ⟨3, _⟩ => rfl
      | ⟨4, _⟩ => rfl)).trans ?_
    refine (val_main_v50_apply x0 _).trans ((congrArg _ (eq_ix4 _)).trans ?_)
    exact query_lower x0 b n ⟨2 * h.val + e.val / 32, by omega⟩ ⟨e.val % 16, by omega⟩ ⟨192 * kv.val + 64 * g.val + e.val, by omega⟩
      ⟨192 * kv.val + 64 * g.val + (e.val + 16), by omega⟩ (by show 192 * kv.val + 64 * g.val + e.val = 32 * (2 * h.val + e.val / 32) + e.val % 16; omega)
      (by show 192 * kv.val + 64 * g.val + (e.val + 16) = 32 * (2 * h.val + e.val / 32) + 16 + e.val % 16; omega) ⟨e.val / 32, by omega⟩ (by show e.val / 32 = (2 * h.val + e.val / 32) % 2; omega)
  · rw [dif_neg he]
    have h₁ : idx_main_v53 (ix4 b n h e) = ix5 b n ⟨2 * h.val + e.val / 32, by omega⟩ 1 ⟨e.val % 16, by omega⟩ := funext fun i => Fin.ext (by
      match i with
      | ⟨0, _⟩ => show (((b.val * 2048 + n.val) * 6 + h.val) * 64 + e.val) / 786432 = b.val; omega
      | ⟨1, _⟩ => show (((b.val * 2048 + n.val) * 6 + h.val) * 64 + e.val) / 384 % 2048 = n.val; omega
      | ⟨2, _⟩ => show (((b.val * 2048 + n.val) * 6 + h.val) * 64 + e.val) / 32 % 12 = 2 * h.val + e.val / 32; omega
      | ⟨3, _⟩ => show (((b.val * 2048 + n.val) * 6 + h.val) * 64 + e.val) / 16 % 2 = 1; omega
      | ⟨4, _⟩ => show (((b.val * 2048 + n.val) * 6 + h.val) * 64 + e.val) % 16 = e.val % 16; omega)
    refine (val_main_v53_apply x0 _).trans ((congrArg (val_main_v52 x0) h₁).trans ?_)
    refine (concatenate_pair_apply_right 3 (val_main_v50 x0) (val_main_v51 x0) Cert.Reference5Ideal.Facts₀.concatenates_S8x2048x12x1x16_S8x2048x12x1x16_S8x2048x12x2x16_d3
      (ix5 b n ⟨2 * h.val + e.val / 32, by omega⟩ 1 ⟨e.val % 16, by omega⟩) rfl rfl (ix5 b n ⟨2 * h.val + e.val / 32, by omega⟩ 0 ⟨e.val % 16, by omega⟩) (fun a ha => match a, ha with
      | ⟨0, _⟩, _ => rfl
      | ⟨1, _⟩, _ => rfl
      | ⟨2, _⟩, _ => rfl
      | ⟨3, _⟩, ha => absurd rfl ha
      | ⟨4, _⟩, _ => rfl) rfl).trans ?_
    refine (val_main_v51_apply x0 _).trans ((congrArg _ (eq_ix4 _)).trans ?_)
    exact query_upper x0 b n ⟨2 * h.val + e.val / 32, by omega⟩ ⟨e.val % 16, by omega⟩ ⟨192 * kv.val + 64 * g.val + (e.val - 16), by omega⟩
      ⟨192 * kv.val + 64 * g.val + e.val, by omega⟩ (by show 192 * kv.val + 64 * g.val + (e.val - 16) = 32 * (2 * h.val + e.val / 32) + e.val % 16; omega)
      (by show 192 * kv.val + 64 * g.val + e.val = 32 * (2 * h.val + e.val / 32) + 16 + e.val % 16; omega) ⟨e.val / 32, by omega⟩ (by show e.val / 32 = (2 * h.val + e.val / 32) % 2; omega)

theorem key_split (b : Fin 8) (n : Fin 2048) (A : Fin 4) (s : Fin 2) (f : Fin 16) (l : Fin 128) (hl : l.val = 32 * A.val + 16 * s.val + f.val) :
    val_main_v62 x1 (ix5 b n A s f) = x1 (ix3 b ⟨256 + n.val, by omega⟩ l) := by
  have h₁ : idx_main_v62 (ix5 b n A s f) = ix4 b n ⟨A.val / 2, by omega⟩ ⟨32 * (A.val % 2) + 16 * s.val + f.val, by omega⟩ := funext fun i => Fin.ext (by
    match i with
    | ⟨0, _⟩ => show ((((b.val * 2048 + n.val) * 4 + A.val) * 2 + s.val) * 16 + f.val) / 262144 = b.val; omega
    | ⟨1, _⟩ => show ((((b.val * 2048 + n.val) * 4 + A.val) * 2 + s.val) * 16 + f.val) / 128 % 2048 = n.val; omega
    | ⟨2, _⟩ => show ((((b.val * 2048 + n.val) * 4 + A.val) * 2 + s.val) * 16 + f.val) / 64 % 2 = A.val / 2; omega
    | ⟨3, _⟩ => show ((((b.val * 2048 + n.val) * 4 + A.val) * 2 + s.val) * 16 + f.val) % 64 = 32 * (A.val % 2) + 16 * s.val + f.val; omega)
  have h₂ : idx_main_v55 (ix4 b n ⟨A.val / 2, by omega⟩ ⟨32 * (A.val % 2) + 16 * s.val + f.val, by omega⟩) = ix3 b n l := funext fun i => Fin.ext (by
    match i with
    | ⟨0, _⟩ => show (((b.val * 2048 + n.val) * 2 + (A.val / 2)) * 64 + (32 * (A.val % 2) + 16 * s.val + f.val)) / 262144 = b.val; omega
    | ⟨1, _⟩ => show (((b.val * 2048 + n.val) * 2 + (A.val / 2)) * 64 + (32 * (A.val % 2) + 16 * s.val + f.val)) / 128 % 2048 = n.val; omega
    | ⟨2, _⟩ => show (((b.val * 2048 + n.val) * 2 + (A.val / 2)) * 64 + (32 * (A.val % 2) + 16 * s.val + f.val)) % 128 = l.val; omega)
  refine (val_main_v62_apply x1 _).trans ((congrArg (val_main_v55 x1) h₁).trans ((val_main_v55_apply x1 _).trans ((congrArg (val_main_v54 x1) h₂).trans
    ((val_main_v54_apply x1 _).trans (congrArg x1 (funext fun a => Fin.ext ?_))))))
  match a with
  | ⟨0, _⟩ => rfl
  | ⟨1, _⟩ => rfl
  | ⟨2, _⟩ => rfl

theorem key_first (b : Fin 8) (n : Fin 2048) (A : Fin 4) (f : Fin 16) (l : Fin 128) (hl : l.val = 32 * A.val + 0 + f.val) :
    val_main_v64 x1 (ix4 b n A f) = x1 (ix3 b ⟨256 + n.val, by omega⟩ l) := by
  have h₁ : idx_main_v64 (ix4 b n A f) = ix5 b n A 0 f := funext fun i => Fin.ext (by
    match i with
    | ⟨0, _⟩ => show (((b.val * 2048 + n.val) * 4 + A.val) * 16 + f.val) / 131072 = b.val; omega
    | ⟨1, _⟩ => show (((b.val * 2048 + n.val) * 4 + A.val) * 16 + f.val) / 64 % 2048 = n.val; omega
    | ⟨2, _⟩ => show (((b.val * 2048 + n.val) * 4 + A.val) * 16 + f.val) / 16 % 4 = A.val; omega
    | ⟨3, _⟩ => rfl
    | ⟨4, _⟩ => show (((b.val * 2048 + n.val) * 4 + A.val) * 16 + f.val) % 16 = f.val; omega)
  have h₂ : idx_main_v63 (ix5 b n A 0 f) = ix5 b n A 0 f := funext fun i => Fin.ext (by
    match i with
    | ⟨0, _⟩ => rfl
    | ⟨1, _⟩ => rfl
    | ⟨2, _⟩ => rfl
    | ⟨3, _⟩ => rfl
    | ⟨4, _⟩ => rfl)
  exact (val_main_v64_apply x1 _).trans ((congrArg (val_main_v63 x1) h₁).trans ((val_main_v63_apply x1 _).trans ((congrArg (val_main_v62 x1) h₂).trans
    (key_split x1 b n A 0 f l (by show l.val = 32 * A.val + 16 * 0 + f.val; omega)))))

theorem key_second (b : Fin 8) (n : Fin 2048) (A : Fin 4) (f : Fin 16) (l : Fin 128) (hl : l.val = 32 * A.val + 16 + f.val) :
    val_main_v66 x1 (ix4 b n A f) = x1 (ix3 b ⟨256 + n.val, by omega⟩ l) := by
  have h₁ : idx_main_v66 (ix4 b n A f) = ix5 b n A 0 f := funext fun i => Fin.ext (by
    match i with
    | ⟨0, _⟩ => show (((b.val * 2048 + n.val) * 4 + A.val) * 16 + f.val) / 131072 = b.val; omega
    | ⟨1, _⟩ => show (((b.val * 2048 + n.val) * 4 + A.val) * 16 + f.val) / 64 % 2048 = n.val; omega
    | ⟨2, _⟩ => show (((b.val * 2048 + n.val) * 4 + A.val) * 16 + f.val) / 16 % 4 = A.val; omega
    | ⟨3, _⟩ => rfl
    | ⟨4, _⟩ => show (((b.val * 2048 + n.val) * 4 + A.val) * 16 + f.val) % 16 = f.val; omega)
  have h₂ : idx_main_v65 (ix5 b n A 0 f) = ix5 b n A 1 f := funext fun i => Fin.ext (by
    match i with
    | ⟨0, _⟩ => rfl
    | ⟨1, _⟩ => rfl
    | ⟨2, _⟩ => rfl
    | ⟨3, _⟩ => show 1 + 0 = 1; omega
    | ⟨4, _⟩ => rfl)
  exact (val_main_v66_apply x1 _).trans ((congrArg (val_main_v65 x1) h₁).trans ((val_main_v65_apply x1 _).trans ((congrArg (val_main_v62 x1) h₂).trans
    (key_split x1 b n A 1 f l (by show l.val = 32 * A.val + 16 * 1 + f.val; omega)))))

theorem key_table (b : Fin 8) (n : Fin 2048) (A : Fin 4) (f : Fin 16) (a : Fin 2) (ha : a.val = A.val % 2) :
    val_main_v68 (F := Ideal) (ix4 b n A f) = Ideal.cos (ang n a f) ∧ val_main_v71 (F := Ideal) (ix4 b n A f) = Ideal.sin (ang n a f) := by
  have h₁ : idx_main_v58 (ix3 n A f) = ix4 n ⟨A.val / 2, by omega⟩ a f := funext fun i => Fin.ext (by
    match i with
    | ⟨0, _⟩ => show ((n.val * 4 + A.val) * 16 + f.val) / 64 = n.val; omega
    | ⟨1, _⟩ => show ((n.val * 4 + A.val) * 16 + f.val) / 32 % 2 = A.val / 2; omega
    | ⟨2, _⟩ => show ((n.val * 4 + A.val) * 16 + f.val) / 16 % 2 = a.val; omega
    | ⟨3, _⟩ => show ((n.val * 4 + A.val) * 16 + f.val) % 16 = f.val; omega)
  exact ⟨(val_main_v68_apply _).trans ((val_main_v67_apply _).trans ((congrArg _ (eq_ix3 _)).trans ((val_main_v58_apply _).trans ((congrArg _ h₁).trans
      ((val_main_v57_apply _).trans ((val_main_v56_apply _).trans ((congrArg _ (eq_ix3 _)).trans ((val_main_v21_apply _).trans (congrArg Ideal.cos (angles_ref n a f)))))))))),
    (val_main_v71_apply _).trans ((val_main_v70_apply _).trans ((congrArg _ (eq_ix3 _)).trans ((val_main_v61_apply _).trans ((congrArg _ h₁).trans
      ((val_main_v60_apply _).trans ((val_main_v59_apply _).trans ((congrArg _ (eq_ix3 _)).trans ((val_main_v22_apply _).trans (congrArg Ideal.sin (angles_ref n a f))))))))))⟩

theorem key_lower (b : Fin 8) (n : Fin 2048) (A : Fin 4) (f : Fin 16) (l₀ l₁ : Fin 128) (h₀ : l₀.val = 32 * A.val + f.val)
    (h₁ : l₁.val = 32 * A.val + 16 + f.val) (a : Fin 2) (ha : a.val = A.val % 2) :
    val_main_v73 x1 (ix4 b n A f) = x1 (ix3 b ⟨256 + n.val, by omega⟩ l₀) * Ideal.cos (ang n a f) - x1 (ix3 b ⟨256 + n.val, by omega⟩ l₁) * Ideal.sin (ang n a f) :=
  (val_main_v73_apply x1 _).trans (congrArg₂ (· - ·) ((val_main_v69_apply x1 _).trans (congrArg₂ (· * ·) (key_first x1 b n A f l₀ h₀) (key_table b n A f a ha).1))
    ((val_main_v72_apply x1 _).trans (congrArg₂ (· * ·) (key_second x1 b n A f l₁ h₁) (key_table b n A f a ha).2)))

theorem key_upper (b : Fin 8) (n : Fin 2048) (A : Fin 4) (f : Fin 16) (l₀ l₁ : Fin 128) (h₀ : l₀.val = 32 * A.val + f.val)
    (h₁ : l₁.val = 32 * A.val + 16 + f.val) (a : Fin 2) (ha : a.val = A.val % 2) :
    val_main_v80 x1 (ix4 b n A f) = x1 (ix3 b ⟨256 + n.val, by omega⟩ l₁) * Ideal.cos (ang n a f) + x1 (ix3 b ⟨256 + n.val, by omega⟩ l₀) * Ideal.sin (ang n a f) :=
  (val_main_v80_apply x1 _).trans (congrArg₂ (· + ·) ((val_main_v76_apply x1 _).trans (congrArg₂ (· * ·) (key_second x1 b n A f l₁ h₁) (key_table b n A f a ha).1))
    ((val_main_v79_apply x1 _).trans (congrArg₂ (· * ·) (key_first x1 b n A f l₀ h₀) (key_table b n A f a ha).2)))

theorem keys_turned (b : Fin 8) (n : Fin 2048) (h : Fin 2) (e : Fin 64) :
    val_main_v84 x1 (ix4 b n h e) = turned (latent x1 b n h) n e := by
  unfold turned
  by_cases he : e.val % 32 < 16
  · rw [dif_pos he]
    have h₁ : idx_main_v84 (ix4 b n h e) = ix5 b n ⟨2 * h.val + e.val / 32, by omega⟩ 0 ⟨e.val % 16, by omega⟩ := funext fun i => Fin.ext (by
      match i with
      | ⟨0, _⟩ => show (((b.val * 2048 + n.val) * 2 + h.val) * 64 + e.val) / 262144 = b.val; omega
      | ⟨1, _⟩ => show (((b.val * 2048 + n.val) * 2 + h.val) * 64 + e.val) / 128 % 2048 = n.val; omega
      | ⟨2, _⟩ => show (((b.val * 2048 + n.val) * 2 + h.val) * 64 + e.val) / 32 % 4 = 2 * h.val + e.val / 32; omega
      | ⟨3, _⟩ => show (((b.val * 2048 + n.val) * 2 + h.val) * 64 + e.val) / 16 % 2 = 0; omega
      | ⟨4, _⟩ => show (((b.val * 2048 + n.val) * 2 + h.val) * 64 + e.val) % 16 = e.val % 16; omega)
    refine (val_main_v84_apply x1 _).trans ((congrArg (val_main_v83 x1) h₁).trans ?_)
    refine (concatenate_pair_apply_left 3 (val_main_v81 x1) (val_main_v82 x1) Cert.Reference5Ideal.Facts₀.concatenates_S8x2048x4x1x16_S8x2048x4x1x16_S8x2048x4x2x16_d3
      (ix5 b n ⟨2 * h.val + e.val / 32, by omega⟩ 0 ⟨e.val % 16, by omega⟩) rfl (ix5 b n ⟨2 * h.val + e.val / 32, by omega⟩ 0 ⟨e.val % 16, by omega⟩) (fun a => match a with
      | ⟨0, _⟩ => rfl
      | ⟨1, _⟩ => rfl
      | ⟨2, _⟩ => rfl
      | ⟨3, _⟩ => rfl
      | ⟨4, _⟩ => rfl)).trans ?_
    refine (val_main_v81_apply x1 _).trans ((congrArg _ (eq_ix4 _)).trans ?_)
    exact key_lower x1 b n ⟨2 * h.val + e.val / 32, by omega⟩ ⟨e.val % 16, by omega⟩ ⟨64 * h.val + e.val, by omega⟩
      ⟨64 * h.val + (e.val + 16), by omega⟩ (by show 64 * h.val + e.val = 32 * (2 * h.val + e.val / 32) + e.val % 16; omega)
      (by show 64 * h.val + (e.val + 16) = 32 * (2 * h.val + e.val / 32) + 16 + e.val % 16; omega) ⟨e.val / 32, by omega⟩ (by show e.val / 32 = (2 * h.val + e.val / 32) % 2; omega)
  · rw [dif_neg he]
    have h₁ : idx_main_v84 (ix4 b n h e) = ix5 b n ⟨2 * h.val + e.val / 32, by omega⟩ 1 ⟨e.val % 16, by omega⟩ := funext fun i => Fin.ext (by
      match i with
      | ⟨0, _⟩ => show (((b.val * 2048 + n.val) * 2 + h.val) * 64 + e.val) / 262144 = b.val; omega
      | ⟨1, _⟩ => show (((b.val * 2048 + n.val) * 2 + h.val) * 64 + e.val) / 128 % 2048 = n.val; omega
      | ⟨2, _⟩ => show (((b.val * 2048 + n.val) * 2 + h.val) * 64 + e.val) / 32 % 4 = 2 * h.val + e.val / 32; omega
      | ⟨3, _⟩ => show (((b.val * 2048 + n.val) * 2 + h.val) * 64 + e.val) / 16 % 2 = 1; omega
      | ⟨4, _⟩ => show (((b.val * 2048 + n.val) * 2 + h.val) * 64 + e.val) % 16 = e.val % 16; omega)
    refine (val_main_v84_apply x1 _).trans ((congrArg (val_main_v83 x1) h₁).trans ?_)
    refine (concatenate_pair_apply_right 3 (val_main_v81 x1) (val_main_v82 x1) Cert.Reference5Ideal.Facts₀.concatenates_S8x2048x4x1x16_S8x2048x4x1x16_S8x2048x4x2x16_d3
      (ix5 b n ⟨2 * h.val + e.val / 32, by omega⟩ 1 ⟨e.val % 16, by omega⟩) rfl rfl (ix5 b n ⟨2 * h.val + e.val / 32, by omega⟩ 0 ⟨e.val % 16, by omega⟩) (fun a ha => match a, ha with
      | ⟨0, _⟩, _ => rfl
      | ⟨1, _⟩, _ => rfl
      | ⟨2, _⟩, _ => rfl
      | ⟨3, _⟩, ha => absurd rfl ha
      | ⟨4, _⟩, _ => rfl) rfl).trans ?_
    refine (val_main_v82_apply x1 _).trans ((congrArg _ (eq_ix4 _)).trans ?_)
    exact key_upper x1 b n ⟨2 * h.val + e.val / 32, by omega⟩ ⟨e.val % 16, by omega⟩ ⟨64 * h.val + (e.val - 16), by omega⟩
      ⟨64 * h.val + e.val, by omega⟩ (by show 64 * h.val + (e.val - 16) = 32 * (2 * h.val + e.val / 32) + e.val % 16; omega)
      (by show 64 * h.val + e.val = 32 * (2 * h.val + e.val / 32) + 16 + e.val % 16; omega) ⟨e.val / 32, by omega⟩ (by show e.val / 32 = (2 * h.val + e.val / 32) % 2; omega)

theorem keys (b : Fin 8) (n : Fin 2048) (kv : Fin 2) (g : Fin 3) (h : Fin 6) (hh : h.val = 3 * kv.val + g.val) (e : Fin 64) :
    val_main_v87 x1 (ix4 b n h e) = turned (latent x1 b n kv) n e := by
  have h₁ : idx_main_v87 (ix4 b n h e) = ix5 b n kv g e := funext fun i => Fin.ext (by
    match i with
    | ⟨0, _⟩ => show (((b.val * 2048 + n.val) * 6 + h.val) * 64 + e.val) / 786432 = b.val; omega
    | ⟨1, _⟩ => show (((b.val * 2048 + n.val) * 6 + h.val) * 64 + e.val) / 384 % 2048 = n.val; omega
    | ⟨2, _⟩ => show (((b.val * 2048 + n.val) * 6 + h.val) * 64 + e.val) / 192 % 2 = kv.val; omega
    | ⟨3, _⟩ => show (((b.val * 2048 + n.val) * 6 + h.val) * 64 + e.val) / 64 % 3 = g.val; omega
    | ⟨4, _⟩ => show (((b.val * 2048 + n.val) * 6 + h.val) * 64 + e.val) % 64 = e.val; omega)
  exact (val_main_v87_apply x1 _).trans ((congrArg (val_main_v86 x1) h₁).trans ((val_main_v86_apply x1 _).trans ((val_main_v85_apply x1 _).trans
    ((congrArg _ (eq_ix4 _)).trans (keys_turned x1 b n kv e)))))

theorem latents (b : Fin 8) (n : Fin 2048) (kv : Fin 2) (e : Fin 64) : val_main_v89 x2 (ix4 b n kv e) = latent x2 b n kv e := by
  have h₁ : idx_main_v89 (ix4 b n kv e) = ix3 b n ⟨64 * kv.val + e.val, by omega⟩ := funext fun i => Fin.ext (by
    match i with
    | ⟨0, _⟩ => show (((b.val * 2048 + n.val) * 2 + kv.val) * 64 + e.val) / 262144 = b.val; omega
    | ⟨1, _⟩ => show (((b.val * 2048 + n.val) * 2 + kv.val) * 64 + e.val) / 128 % 2048 = n.val; omega
    | ⟨2, _⟩ => show (((b.val * 2048 + n.val) * 2 + kv.val) * 64 + e.val) % 128 = 64 * kv.val + e.val; omega)
  refine (val_main_v89_apply x2 _).trans ((congrArg (val_main_v88 x2) h₁).trans ((val_main_v88_apply x2 _).trans (congrArg x2 (funext fun a => Fin.ext ?_))))
  match a with
  | ⟨0, _⟩ => rfl
  | ⟨1, _⟩ => rfl
  | ⟨2, _⟩ => rfl

theorem values (b : Fin 8) (n : Fin 2048) (kv : Fin 2) (g : Fin 3) (h : Fin 6) (hh : h.val = 3 * kv.val + g.val) (e : Fin 64) :
    val_main_v92 x2 (ix4 b n h e) = latent x2 b n kv e := by
  have h₁ : idx_main_v92 (ix4 b n h e) = ix5 b n kv g e := funext fun i => Fin.ext (by
    match i with
    | ⟨0, _⟩ => show (((b.val * 2048 + n.val) * 6 + h.val) * 64 + e.val) / 786432 = b.val; omega
    | ⟨1, _⟩ => show (((b.val * 2048 + n.val) * 6 + h.val) * 64 + e.val) / 384 % 2048 = n.val; omega
    | ⟨2, _⟩ => show (((b.val * 2048 + n.val) * 6 + h.val) * 64 + e.val) / 192 % 2 = kv.val; omega
    | ⟨3, _⟩ => show (((b.val * 2048 + n.val) * 6 + h.val) * 64 + e.val) / 64 % 3 = g.val; omega
    | ⟨4, _⟩ => show (((b.val * 2048 + n.val) * 6 + h.val) * 64 + e.val) % 64 = e.val; omega)
  exact (val_main_v92_apply x2 _).trans ((congrArg (val_main_v91 x2) h₁).trans ((val_main_v91_apply x2 _).trans ((val_main_v90_apply x2 _).trans
    ((congrArg _ (eq_ix4 _)).trans (latents x2 b n kv e)))))

theorem contexts (b : Fin 8) (n : Fin 256) (kv : Fin 2) (e : Fin 64) : val_main_v94 x1 (ix4 b n kv e) = context x1 b n kv e := by
  have h₁ : idx_main_v94 (ix4 b n kv e) = ix3 b n ⟨64 * kv.val + e.val, by omega⟩ := funext fun i => Fin.ext (by
    match i with
    | ⟨0, _⟩ => show (((b.val * 256 + n.val) * 2 + kv.val) * 64 + e.val) / 32768 = b.val; omega
    | ⟨1, _⟩ => show (((b.val * 256 + n.val) * 2 + kv.val) * 64 + e.val) / 128 % 256 = n.val; omega
    | ⟨2, _⟩ => show (((b.val * 256 + n.val) * 2 + kv.val) * 64 + e.val) % 128 = 64 * kv.val + e.val; omega)
  refine (val_main_v94_apply x1 _).trans ((congrArg (val_main_v93 x1) h₁).trans ((val_main_v93_apply x1 _).trans (congrArg x1 (funext fun a => Fin.ext ?_))))
  match a with
  | ⟨0, _⟩ => rfl
  | ⟨1, _⟩ => rfl
  | ⟨2, _⟩ => rfl

theorem context_keys (b : Fin 8) (n : Fin 256) (kv : Fin 2) (g : Fin 3) (h : Fin 6) (hh : h.val = 3 * kv.val + g.val) (e : Fin 64) :
    val_main_v97 x1 (ix4 b n h e) = context x1 b n kv e := by
  have h₁ : idx_main_v97 (ix4 b n h e) = ix5 b n kv g e := funext fun i => Fin.ext (by
    match i with
    | ⟨0, _⟩ => show (((b.val * 256 + n.val) * 6 + h.val) * 64 + e.val) / 98304 = b.val; omega
    | ⟨1, _⟩ => show (((b.val * 256 + n.val) * 6 + h.val) * 64 + e.val) / 384 % 256 = n.val; omega
    | ⟨2, _⟩ => show (((b.val * 256 + n.val) * 6 + h.val) * 64 + e.val) / 192 % 2 = kv.val; omega
    | ⟨3, _⟩ => show (((b.val * 256 + n.val) * 6 + h.val) * 64 + e.val) / 64 % 3 = g.val; omega
    | ⟨4, _⟩ => show (((b.val * 256 + n.val) * 6 + h.val) * 64 + e.val) % 64 = e.val; omega)
  exact (val_main_v97_apply x1 _).trans ((congrArg (val_main_v96 x1) h₁).trans ((val_main_v96_apply x1 _).trans ((val_main_v95_apply x1 _).trans
    ((congrArg _ (eq_ix4 _)).trans (contexts x1 b n kv e)))))

theorem context_values (b : Fin 8) (n : Fin 256) (kv : Fin 2) (g : Fin 3) (h : Fin 6) (hh : h.val = 3 * kv.val + g.val) (e : Fin 64) :
    val_main_v102 x2 (ix4 b n h e) = context x2 b n kv e := context_keys x2 b n kv g h hh e

/-! ## The reference's scores -/

theorem near : ∀ d : Fin 4096, IntOp.cmpi .sle (IntOp.absi (BitVec.ofNat 32 d.val - 2048#32)) 128#32
    = BitVec.ofBool (decide (1920 ≤ d.val ∧ d.val ≤ 2176)) := by
  decide +kernel

theorem mask (n j : Fin 2048) :
    val_main_v111 (F := Ideal) (ix2 n j) = BitVec.ofBool (decide (n.val ≤ j.val + 128 ∧ j.val ≤ n.val + 128)) := by
  have hd : val_main_v108 (F := Ideal) (ix2 n j) = BitVec.ofNat 32 (j.val + 2048 - n.val) - 2048#32 := by
    refine (val_main_v108_apply _).trans ((congrArg₂ IntOp.subi ((val_main_v106_apply _).trans ((val_main_v104_apply _).trans (val_main_v103_apply _)))
      ((val_main_v107_apply _).trans ((val_main_v105_apply _).trans (val_main_v103_apply _)))).trans ?_)
    show BitVec.ofNat 32 j.val - BitVec.ofNat 32 n.val = _
    apply BitVec.eq_of_toNat_eq
    simp only [BitVec.toNat_sub, BitVec.toNat_ofNat]
    omega
  refine (val_main_v111_apply _).trans ((congrArg₂ (IntOp.cmpi .sle) ((val_main_v109_apply _).trans (congrArg IntOp.absi hd)) (val_main_v110_apply _)).trans ?_)
  refine (near ⟨j.val + 2048 - n.val, by omega⟩).trans (congrArg BitVec.ofBool (decide_eq_decide.2 ?_))
  show 1920 ≤ j.val + 2048 - n.val ∧ j.val + 2048 - n.val ≤ 2176 ↔ _
  omega

theorem sinks_ref (b : Fin 8) (n : Fin 2048) (h : Fin 6) : val_main_v122 x3 (ix4 b h n 0) = x3 (ix2 0 h) := by
  refine (val_main_v122_apply x3 _).trans ((val_main_v121_apply x3 _).trans ((val_main_v120_apply x3 _).trans ((val_main_v119_apply x3 _).trans
    (congrArg x3 (funext fun a => Fin.ext ?_)))))
  match a with
  | ⟨0, _⟩ => rfl
  | ⟨1, _⟩ => show h.val % 6 = h.val; omega

/-- The scores of the latents, of the context and the sink, one after the other. -/
def pos : (Fin 2048 ⊕ Fin 256) ⊕ Unit ≃ Fin 2305 :=
  (Equiv.sumCongr (finSumFinEquiv (m := 2048) (n := 256)) (Equiv.ofUnique Unit (Fin 1))).trans (finSumFinEquiv (m := 2304) (n := 1))

theorem near_score (b : Fin 8) (n : Fin 2048) (kv : Fin 2) (g : Fin 3) (h : Fin 6) (hh : h.val = 3 * kv.val + g.val) (j : Fin 2048) :
    val_main_v115 x0 x1 (ix4 b h n j) = score x0 x1 b n kv g (.inl j) := by
  have hc : val_main_call0_v1 (F := Ideal) (ix4 b h n j) = BitVec.ofBool (decide (n.val ≤ j.val + 128 ∧ j.val ≤ n.val + 128)) :=
    (val_main_call0_v1_apply _).trans ((congrArg _ (eq_ix2 _)).trans (mask n j))
  have hb : val_main_call0_v2 (F := Ideal) (ix4 b h n j) = ⊥ := by
    refine (val_main_call0_v2_apply _).trans ?_
    show Ideal.ofBits .f32 0xFF800000#32 = ⊥
    simp [Ideal.ofBits, Ideal.ieee]
  have hs : val_main_v114 x0 x1 (ix4 b h n j) = (∑ e : Fin 64, turned (query x0 b n kv g) n e * turned (latent x1 b j kv) j e) * Ideal.ofBits .f32 0x3E000000#32 :=
    (val_main_v114_apply x0 x1 _).trans (congrArg₂ (· * ·) ((val_main_v112_apply x0 x1 _).trans (Finset.sum_congr rfl fun e _ =>
      congrArg₂ (· * ·) ((congrArg _ (eq_ix4 _)).trans (queries x0 b n kv g h hh e)) ((congrArg _ (eq_ix4 _)).trans (keys x1 b j kv g h hh e))))
      (val_main_v113_apply _))
  refine (val_main_v115_apply x0 x1 _).trans ?_
  rw [hc, hb, hs]
  show _ = if n.val ≤ j.val + 128 ∧ j.val ≤ n.val + 128 then _ else ⊥
  by_cases hp : n.val ≤ j.val + 128 ∧ j.val ≤ n.val + 128
  · rw [if_pos hp, decide_eq_true hp]; rfl
  · rw [if_neg hp, decide_eq_false hp]; rfl

theorem context_score (b : Fin 8) (n : Fin 2048) (kv : Fin 2) (g : Fin 3) (h : Fin 6) (hh : h.val = 3 * kv.val + g.val) (j : Fin 256) :
    val_main_v118 x0 x1 (ix4 b h n j) = score x0 x1 b n kv g (.inr j) :=
  (val_main_v118_apply x0 x1 _).trans (congrArg₂ (· * ·) ((val_main_v116_apply x0 x1 _).trans (Finset.sum_congr rfl fun e _ =>
    congrArg₂ (· * ·) ((congrArg _ (eq_ix4 _)).trans (queries x0 b n kv g h hh e)) ((congrArg _ (eq_ix4 _)).trans (context_keys x1 b j kv g h hh e))))
    (val_main_v117_apply _))

theorem elsewhere {N : ℕ} (b : Fin 8) (h : Fin 6) (n : Fin 2048) (j : Fin N) (p : Fin 2305) : ∀ a : Fin 4, a.cast rfl ≠ (3 : Fin 4) →
    (ix4 (n0 := 8) (n1 := 6) (n2 := 2048) (n3 := N) b h n j a).val = (ix4 (n0 := 8) (n1 := 6) (n2 := 2048) (n3 := 2305) b h n p (a.cast rfl)).val :=
  fun a ha => match a, ha with
    | ⟨0, _⟩, _ => rfl
    | ⟨1, _⟩, _ => rfl
    | ⟨2, _⟩, _ => rfl
    | ⟨3, _⟩, ha => absurd rfl ha

theorem joined (x : (⟨4, ![8, 6, 2048, 2048]⟩ : Shape).Idx → EReal) (y : (⟨4, ![8, 6, 2048, 256]⟩ : Shape).Idx → EReal) (z : (⟨4, ![8, 6, 2048, 1]⟩ : Shape).Idx → EReal) (hc)
    (b : Fin 8) (h : Fin 6) (n : Fin 2048) (p : (Fin 2048 ⊕ Fin 256) ⊕ Unit) :
    concatenate (⟨4, ![8, 6, 2048, 2305]⟩ : Shape) 3 [⟨(⟨4, ![8, 6, 2048, 2048]⟩ : Shape), x⟩, ⟨(⟨4, ![8, 6, 2048, 256]⟩ : Shape), y⟩, ⟨(⟨4, ![8, 6, 2048, 1]⟩ : Shape), z⟩] hc (ix4 b h n (pos p))
      = Sum.elim (Sum.elim (fun j => x (ix4 b h n j)) fun j => y (ix4 b h n j)) (fun _ => z (ix4 b h n 0)) p := by
  match p with
  | .inl (.inl j) => exact concatenate_apply_piece 3 _ hc _ 0 (Nat.succ_pos _) _ x rfl rfl 0 rfl (ix4 b h n j) (elsewhere b h n j _) (by show 0 + j.val = j.val; omega)
  | .inl (.inr j) => exact concatenate_apply_piece 3 _ hc _ 1 (Nat.succ_lt_succ (Nat.succ_pos _)) _ y rfl rfl 2048 rfl (ix4 b h n j) (elsewhere b h n j _) rfl
  | .inr () => exact concatenate_apply_piece 3 _ hc _ 2 (Nat.succ_lt_succ (Nat.succ_lt_succ (Nat.succ_pos _))) _ z rfl rfl 2304 rfl (ix4 b h n 0) (elsewhere b h n 0 _) rfl

theorem row (b : Fin 8) (h : Fin 6) (n : Fin 2048) (p : (Fin 2048 ⊕ Fin 256) ⊕ Unit) : val_main_v123 x0 x1 x3 (ix4 b h n (pos p))
    = Sum.elim (Sum.elim (fun j => val_main_v115 x0 x1 (ix4 b h n j)) fun j => val_main_v118 x0 x1 (ix4 b h n j)) (fun _ => val_main_v122 x3 (ix4 b h n 0)) p :=
  joined (val_main_v115 x0 x1) (val_main_v118 x0 x1) (val_main_v122 x3)
    Cert.Reference5Ideal.Facts₀.concatenates_S8x6x2048x2048_S8x6x2048x256_S8x6x2048x1_S8x6x2048x2305_d3 b h n p

theorem scores (b : Fin 8) (n : Fin 2048) (kv : Fin 2) (g : Fin 3) (h : Fin 6) (hh : h.val = 3 * kv.val + g.val) (j : Fin 2048 ⊕ Fin 256) :
    val_main_v123 x0 x1 x3 (ix4 b h n (pos (.inl j))) = score x0 x1 b n kv g j :=
  (row x0 x1 x3 b h n (.inl j)).trans (match j with
    | .inl j => near_score x0 x1 b n kv g h hh j
    | .inr j => context_score x0 x1 b n kv g h hh j)

theorem sink (b : Fin 8) (n : Fin 2048) (h : Fin 6) : val_main_v123 x0 x1 x3 (ix4 b h n (pos (.inr ()))) = x3 (ix2 0 h) :=
  (row x0 x1 x3 b h n (.inr ())).trans (sinks_ref x3 b n h)

theorem greatest (b : Fin 8) (n : Fin 2048) (kv : Fin 2) (g : Fin 3) (h : Fin 6) (hh : h.val = 3 * kv.val + g.val) :
    val_main_v126 x0 x1 x3 (ix3 b h n) = top (score x0 x1 b n kv g) (x3 (ix2 0 h)) := by
  refine (val_main_v126_apply x0 x1 x3 _).trans ?_
  have h0 : val_main_v125 (F := Ideal) (ix3 b h n) = ⊥ := by
    refine (val_main_v125_apply _).trans ((val_main_cst_5_apply _).trans ?_)
    show Ideal.ofBits .f32 0xFF800000#32 = ⊥
    simp [Ideal.ofBits, Ideal.ieee]
  rw [h0]
  show max ⊥ _ = _
  rw [max_eq_right bot_le]
  refine (hostTop _ _ _ (by decide) _ rfl b h n).trans ?_
  exact row_top pos _ _ _ (fun j => scores x0 x1 x3 b n kv g h hh j) (sink x0 x1 x3 b n h)

/-- The part of score `j` in its row. -/
def share (x0 : (⟨S8x2304x384, .f32⟩ : BufTy).Contents (Elt Ideal)) (x1 : (⟨S8x2304x128, .f32⟩ : BufTy).Contents (Elt Ideal))
    (x3 : (⟨S2x6, .f32⟩ : BufTy).Contents (Elt Ideal)) (b : Fin 8) (n : Fin 2048) (kv : Fin 2) (g : Fin 3) (h : Fin 6) (j : Fin 2048 ⊕ Fin 256) : EReal :=
  Ideal.div (Ideal.exp (score x0 x1 b n kv g j - top (score x0 x1 b n kv g) (x3 (ix2 0 h))))
    ((∑ j, Ideal.exp (score x0 x1 b n kv g j - top (score x0 x1 b n kv g) (x3 (ix2 0 h)))) + Ideal.exp (x3 (ix2 0 h) - top (score x0 x1 b n kv g) (x3 (ix2 0 h))))

theorem weight (b : Fin 8) (n : Fin 2048) (kv : Fin 2) (g : Fin 3) (h : Fin 6) (hh : h.val = 3 * kv.val + g.val) (j : Fin 2048 ⊕ Fin 256) :
    val_main_v134 x0 x1 x3 (ix4 b h n (pos (.inl j))) = share x0 x1 x3 b n kv g h j := by
  have hw : ∀ i : Fin 2305, val_main_v130 x0 x1 x3 (ix4 b h n i) = Ideal.exp (val_main_v123 x0 x1 x3 (ix4 b h n i) - top (score x0 x1 b n kv g) (x3 (ix2 0 h))) := fun i =>
    (val_main_v130_apply x0 x1 x3 _).trans (congrArg Ideal.exp ((val_main_v129_apply x0 x1 x3 _).trans (congrArg (val_main_v123 x0 x1 x3 (ix4 b h n i) - ·)
      ((val_main_v128_apply x0 x1 x3 _).trans ((val_main_v127_apply x0 x1 x3 _).trans ((congrArg _ (eq_ix3 _)).trans (greatest x0 x1 x3 b n kv g h hh)))))))
  refine (val_main_v134_apply x0 x1 x3 _).trans (congrArg₂ Ideal.div ?_ ?_)
  · refine (hw (pos (.inl j))).trans ?_
    rw [scores x0 x1 x3 b n kv g h hh]
  · refine (val_main_v133_apply x0 x1 x3 _).trans ((val_main_v132_apply x0 x1 x3 _).trans ((val_main_v131_apply x0 x1 x3 _).trans ?_))
    have hz : val_main_cst_6 (F := Ideal) (Shape.Idx.first h_S_) = 0 := Dense.zero_f32
    rw [hz, zero_add, row_sum pos]
    refine congrArg₂ (· + ·) (Finset.sum_congr rfl fun j _ => ?_) ?_
    · refine (congrArg _ (eq_ix4 _)).trans ((hw (pos (.inl j))).trans ?_)
      rw [scores x0 x1 x3 b n kv g h hh]
    · refine (congrArg _ (eq_ix4 _)).trans ((hw (pos (.inr ()))).trans ?_)
      rw [sink]

theorem score_ne_top (hq : ∀ i, ∃ r : ℝ, x0 i = r) (hk : ∀ i, ∃ r : ℝ, x1 i = r) (b : Fin 8) (n : Fin 2048) (kv : Fin 2) (g : Fin 3)
    (j : Fin 2048 ⊕ Fin 256) : score x0 x1 b n kv g j ≠ ⊤ := by
  have hq' := fun e => turned_real (query x0 b n kv g) (fun e => hq _) n e
  match j with
  | .inl j =>
    show (if n.val ≤ j.val + 128 ∧ j.val ≤ n.val + 128 then _ else ⊥) ≠ ⊤
    split_ifs
    · obtain ⟨r, hr⟩ := score_real (turned (query x0 b n kv g) n) (turned (latent x1 b j kv) j) hq' (fun e => turned_real (latent x1 b j kv) (fun e => hk _) j e)
      exact fun ht => EReal.coe_ne_top r (hr.symm.trans ht)
    · exact bot_ne_top
  | .inr j =>
    obtain ⟨r, hr⟩ := score_real (turned (query x0 b n kv g) n) (context x1 b j kv) hq' (fun e => hk _)
    exact fun ht => EReal.coe_ne_top r (hr.symm.trans ht)

theorem mean (hq : ∀ i, ∃ r : ℝ, x0 i = r) (hk : ∀ i, ∃ r : ℝ, x1 i = r) (hs : ∀ i, ∃ r : ℝ, x3 i = r) (b : Fin 8) (n : Fin 2048) (kv : Fin 2)
    (g : Fin 3) (h : Fin 6) (d : Fin 64) :
    (∑ j : Fin 2048, latent x2 b j kv d * share x0 x1 x3 b n kv g h (.inl j)) + ∑ j : Fin 256, context x2 b j kv d * share x0 x1 x3 b n kv g h (.inr j)
      = attend (score x0 x1 b n kv g) (x3 (ix2 0 h)) (value x2 b kv d) :=
  (Fintype.sum_sum_type fun j : Fin 2048 ⊕ Fin 256 => value x2 b kv d j * share x0 x1 x3 b n kv g h j).symm.trans
    (attend_mean (score x0 x1 b n kv g) (x3 (ix2 0 h)) (value x2 b kv d) (hs _) fun j => score_ne_top x0 x1 hq hk b n kv g j)

theorem ref_apply (hq : ∀ i, ∃ r : ℝ, x0 i = r) (hk : ∀ i, ∃ r : ℝ, x1 i = r) (hs : ∀ i, ∃ r : ℝ, x3 i = r) (b : Fin 8) (n : Fin 2048) (l : Fin 384) :
    val_main_v142 x0 x1 x2 x3 (ix3 b n l) = whole x0 x1 x2 x3 b n l := by
  have h142 : idx_main_v142 (ix3 b n l) = ix4 b n ⟨l.val / 64, by omega⟩ ⟨l.val % 64, by omega⟩ := funext fun a => Fin.ext (by
    match a with
    | ⟨0, _⟩ => show ((b.val * 2048 + n.val) * 384 + l.val) / 786432 = b.val; omega
    | ⟨1, _⟩ => show ((b.val * 2048 + n.val) * 384 + l.val) / 384 % 2048 = n.val; omega
    | ⟨2, _⟩ => show ((b.val * 2048 + n.val) * 384 + l.val) / 64 % 6 = l.val / 64; omega
    | ⟨3, _⟩ => show ((b.val * 2048 + n.val) * 384 + l.val) % 64 = l.val % 64; omega)
  have hh : l.val / 64 = 3 * (l.val / 192) + l.val / 64 % 3 := by omega
  have hv := fun j => values x2 b j ⟨l.val / 192, by omega⟩ ⟨l.val / 64 % 3, by omega⟩ ⟨l.val / 64, by omega⟩ hh ⟨l.val % 64, by omega⟩
  have hc := fun j => context_values x2 b j ⟨l.val / 192, by omega⟩ ⟨l.val / 64 % 3, by omega⟩ ⟨l.val / 64, by omega⟩ hh ⟨l.val % 64, by omega⟩
  have hw := fun j => weight x0 x1 x3 b n ⟨l.val / 192, by omega⟩ ⟨l.val / 64 % 3, by omega⟩ ⟨l.val / 64, by omega⟩ hh j
  refine (val_main_v142_apply x0 x1 x2 x3 _).trans ((congrArg (val_main_v141 x0 x1 x2 x3) h142).trans ((val_main_v141_apply x0 x1 x2 x3 _).trans ?_))
  refine Eq.trans (congrArg₂ (· + ·)
    ((val_main_v137_apply x0 x1 x2 x3 _).trans ((val_main_v136_apply x0 x1 x2 x3 _).trans (Finset.sum_congr rfl fun j _ => congrArg₂ (· * ·)
      ((congrArg _ (eq_ix4 _)).trans (hv j)) ((val_main_v135_apply x0 x1 x3 _).trans ((congrArg _ (eq_ix4 _)).trans (hw (.inl j)))))))
    ((val_main_v140_apply x0 x1 x2 x3 _).trans ((val_main_v139_apply x0 x1 x2 x3 _).trans (Finset.sum_congr rfl fun j _ => congrArg₂ (· * ·)
      ((congrArg _ (eq_ix4 _)).trans (hc j)) ((val_main_v138_apply x0 x1 x3 _).trans ((congrArg _ (eq_ix4 _)).trans (hw (.inr j))))))))
    ((mean x0 x1 x2 x3 hq hk hs b n ⟨l.val / 192, by omega⟩ ⟨l.val / 64 % 3, by omega⟩ ⟨l.val / 64, by omega⟩ ⟨l.val % 64, by omega⟩).trans ?_)
  unfold whole lat
  congr 3
  exact Fin.ext hh

theorem ref_whole (q : (⟨S8x2304x384, .f32⟩ : BufTy).Contents (Elt Ideal)) (k v : (⟨S8x2304x128, .f32⟩ : BufTy).Contents (Elt Ideal))
    (s : (⟨S2x6, .f32⟩ : BufTy).Contents (Elt Ideal)) (h0 : x0 = q) (h1 : x1 = k) (h2 : x2 = v) (h3 : x3 = s)
    (hq : ∀ i, ∃ r : ℝ, q i = r) (hk : ∀ i, ∃ r : ℝ, k i = r) (hs : ∀ i, ∃ r : ℝ, s i = r) :
    val_main_v142 x0 x1 x2 x3 = fun i : S8x2048x384.Idx => whole q k v s (i 0) (i 1) (i 2) := by
  subst h0 h1 h2 h3
  exact funext fun i => (congrArg _ (eq_ix3 i)).trans (ref_apply _ _ _ _ hq hk hs (i 0) (i 1) (i 2))

end Reference

/-! ## The claims -/

theorem kernel_frame : Cert.quiescent_Kernel5 (hKernel5 := Cert.Kernel5.Gen.facts) :=
  fun m ρ _ => Cert.Kernel5.Gen.frame m ρ

theorem ideal_frame : Cert.quiescent_Kernel5Ideal (hKernel5Ideal := Cert.Kernel5Ideal.Gen.facts) :=
  fun m ρ _ => Cert.Kernel5Ideal.Gen.frame m ρ

theorem ideal_frame_pre : Cert.quiescent_Kernel5Ideal_pre_finite (hKernel5Ideal := Cert.Kernel5Ideal.Gen.facts) (hPre_finite := Finite.facts) :=
  fun m ρ _ => Cert.Kernel5Ideal.Gen.frame m ρ

theorem reference_frame : Cert.quiescent_Reference5Ideal (hReference5Ideal := Cert.Reference5Ideal.Gen.facts) :=
  fun m ρ _ => (θ_run _ _ _).mono (fun r h => ⟨fun c => (h c).2, sem_eq_zero_of_no_sems (by decide) r.2⟩)
    (Cert.Reference5Ideal.Value.run m ρ)

theorem reference_frame_pre : Cert.quiescent_Reference5Ideal_pre_finite (hReference5Ideal := Cert.Reference5Ideal.Gen.facts)
    (hPre_finite := Finite.facts) :=
  fun m ρ _ => reference_frame m ρ trivial

/-- The mask's number is named, and its name means what it is. -/
theorem preserves : Cert.preserves_Kernel5_Kernel5Ideal :=
  IdealRules.named_const.statement Cert.Kernel5Ideal.κ "mask" .f32 0xF149F2CA#32 ⊥ rfl

/-- Both compute the attention of the latents. -/
theorem algebraic : Cert.algebraic_Kernel5Ideal_Reference5Ideal_pre_finite (hKernel5Ideal := Cert.Kernel5Ideal.Gen.facts)
    (hReference5Ideal := Cert.Reference5Ideal.Gen.facts) (hPre_finite := Finite.facts) := by
  intro m ρ m' ρ' hpre hargs
  refine ⟨fun c => (dats m 0 c).arrAt 20 cfg0.N, ?_, ?_⟩
  · exact Cert.Kernel5Ideal.Value.run_blocks m ρ
  · refine (θ_run _ _ _).mono (fun r h c => ⟨(h c).1.trans ?_, (h c).2⟩) (Cert.Reference5Ideal.Value.run m' ρ')
    obtain ⟨h0, h1, h2, h3⟩ := hargs c
    obtain ⟨hq, hk, hs⟩ := Finite.elements _ _ _ _ (hpre c)
    refine Eq.trans ?_ (result_apply m c).symm
    exact (Cert.Reference5Ideal.Read.val_main_v142_eq ..).trans (ref_whole _ _ _ _ _ _ _ _ h0 h1 h2 h3 hq hk hs)

end Cert.Proof.Latent

end
-- ==== Proof.Ctx.lean ====
/- Attention of the context to itself: the claims of `attn_ctx`. -/
module

public import proofs.«01_k».proof.Defs
public import proofs.«01_k».proof.Proof.Attend
public import proofs.«01_k».proof.Proof.Finite
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim

@[expose] public section

set_option maxRecDepth 16384

noncomputable section

namespace Cert.Proof.Ctx

open Cert.Kernel6Ideal Cert.Kernel6Ideal.Gen Cert.Proof.Norm Cert.Proof.Attend
open Idealize.ShloMosaic hiding ix1 ix2 ix3 ix4 ix5 eq_ix1 eq_ix2 eq_ix3
open Idealize.ShloMosaic.TcCoe Idealize.ShloMosaic.ValueIdx Idealize.SL.Sem
open scoped BigOperators

/-- The score of context row `j` for head `3 kv + g` of context row `n`. -/
def score (q : (⟨3, ![8, 2304, 384]⟩ : Shape).Idx → EReal) (k : (⟨3, ![8, 2304, 128]⟩ : Shape).Idx → EReal) (b : Fin 8) (n : Fin 256)
    (kv : Fin 2) (g : Fin 3) (j : Fin 256) : EReal :=
  (∑ e : Fin 64, q (ix3 b ⟨n.val, by omega⟩ ⟨192 * kv.val + 64 * g.val + e.val, by omega⟩)
    * k (ix3 b ⟨j.val, by omega⟩ ⟨64 * kv.val + e.val, by omega⟩)) * Ideal.ofBits .f32 0x3E000000#32

/-- Head `3 kv + g` of context row `n`: attention to the rows of the context. -/
def ctx (q : (⟨3, ![8, 2304, 384]⟩ : Shape).Idx → EReal) (k v : (⟨3, ![8, 2304, 128]⟩ : Shape).Idx → EReal)
    (s : (⟨2, ![2, 6]⟩ : Shape).Idx → EReal) (b : Fin 8) (n : Fin 256) (kv : Fin 2) (g : Fin 3) (d : Fin 64) : EReal :=
  attend (score q k b n kv g) (s (ix2 0 ⟨3 * kv.val + g.val, by omega⟩)) (fun j => v (ix3 b ⟨j.val, by omega⟩ ⟨64 * kv.val + d.val, by omega⟩))

/-! ## The kernel -/

/-- The queries of each head, the keys or values of each group, and the sinks. -/
def qs (Q : FVec Ideal S256x384 .f32) : Fin 2 → Fin 3 → FVec Ideal S256x64 .f32 :=
  ![![extractStridedSlice S256x64 ![0, 0] Q slices_S256x384_o0_0_S256x64, extractStridedSlice S256x64 ![0, 64] Q slices_S256x384_o0_64_S256x64,
      extractStridedSlice S256x64 ![0, 128] Q slices_S256x384_o0_128_S256x64],
    ![extractStridedSlice S256x64 ![0, 192] Q slices_S256x384_o0_192_S256x64, extractStridedSlice S256x64 ![0, 256] Q slices_S256x384_o0_256_S256x64,
      extractStridedSlice S256x64 ![0, 320] Q slices_S256x384_o0_320_S256x64]]
def ks (K : FVec Ideal S256x128 .f32) : Fin 2 → FVec Ideal S256x64 .f32 :=
  ![extractStridedSlice S256x64 ![0, 0] K slices_S256x128_o0_0_S256x64, extractStridedSlice S256x64 ![0, 64] K slices_S256x128_o0_64_S256x64]
def ss (x : Vec Ideal S1x128 .f32) : Fin 2 → Fin 3 → FVec Ideal S1x1 .f32 :=
  ![![View.ld x r0_2, View.ld x r0_3, View.ld x r0_4], ![View.ld x r0_5, View.ld x r0_6, View.ld x r0_7]]

theorem qs_apply (Q : FVec Ideal S256x384 .f32) (kv : Fin 2) (g : Fin 3) (r : Fin 256) (e : Fin 64) :
    qs Q kv g (ix2 r e) = Q (ix2 r ⟨192 * kv.val + 64 * g.val + e.val, by omega⟩) := by
  match kv, g with
  | ⟨0, _⟩, ⟨0, _⟩ => exact lanes_apply 0 Q slices_S256x384_o0_0_S256x64 r e _ (by simp)
  | ⟨0, _⟩, ⟨1, _⟩ => exact lanes_apply 64 Q slices_S256x384_o0_64_S256x64 r e _ (by simp)
  | ⟨0, _⟩, ⟨2, _⟩ => exact lanes_apply 128 Q slices_S256x384_o0_128_S256x64 r e _ (by simp)
  | ⟨1, _⟩, ⟨0, _⟩ => exact lanes_apply 192 Q slices_S256x384_o0_192_S256x64 r e _ (by simp)
  | ⟨1, _⟩, ⟨1, _⟩ => exact lanes_apply 256 Q slices_S256x384_o0_256_S256x64 r e _ (by simp)
  | ⟨1, _⟩, ⟨2, _⟩ => exact lanes_apply 320 Q slices_S256x384_o0_320_S256x64 r e _ (by simp)

theorem ks_apply (K : FVec Ideal S256x128 .f32) (kv : Fin 2) (r : Fin 256) (e : Fin 64) : ks K kv (ix2 r e) = K (ix2 r ⟨64 * kv.val + e.val, by omega⟩) := by
  match kv with
  | ⟨0, _⟩ => exact lanes_apply 0 K slices_S256x128_o0_0_S256x64 r e _ (by simp)
  | ⟨1, _⟩ => exact lanes_apply 64 K slices_S256x128_o0_64_S256x64 r e _ (by simp)

theorem ld_one (x : Vec Ideal S1x128 .f32) (o : ℕ) (h) (p : Fin 128) (hp : p.val = o) :
    View.ld x (Rect.unit (s := S1x128) ![0, o] S1x1.size h) (ix2 0 0) = x (ix2 0 p) := by
  show x _ = _
  congr 1
  funext a
  apply Fin.ext
  match a with
  | ⟨0, _⟩ => rfl
  | ⟨1, _⟩ => show o + 1 * 0 = p.val; omega

theorem ss_apply (x : Vec Ideal S1x128 .f32) (kv : Fin 2) (g : Fin 3) : ss x kv g (ix2 0 0) = x (ix2 0 ⟨3 * kv.val + g.val, by omega⟩) := by
  match kv, g with
  | ⟨0, _⟩, ⟨0, _⟩ => exact ld_one x 0 _ _ rfl
  | ⟨0, _⟩, ⟨1, _⟩ => exact ld_one x 1 _ _ rfl
  | ⟨0, _⟩, ⟨2, _⟩ => exact ld_one x 2 _ _ rfl
  | ⟨1, _⟩, ⟨0, _⟩ => exact ld_one x 3 _ _ rfl
  | ⟨1, _⟩, ⟨1, _⟩ => exact ld_one x 4 _ _ rfl
  | ⟨1, _⟩, ⟨2, _⟩ => exact ld_one x 5 _ _ rfl

/-- One group's three heads. -/
def grp (q : Fin 3 → FVec Ideal S256x64 .f32) (k v : FVec Ideal S256x64 .f32) (a : Fin 3 → FVec Ideal S1x1 .f32) : FVec Ideal S768x64 .f32 :=
  rows (matmul dot_S768x64_S256x64_S768x256_1_1_0_0_n_n none
      (truncf .bf16 (stack q concatenates_S256x64_S256x64_S256x64_S768x64_d0) bitsLt_bf16_f32) (truncf .bf16 k bitsLt_bf16_f32)
      (constant (F := Ideal) S768x256 .f32 0x00000000#32))
    (sinks a shapeCasts_S1x1_S1x1 broadcasts_S1x1_S256x1 concatenates_S256x1_S256x1_S256x1_S768x1_d0) v
    reduces_S768x256_S768 (.inl rfl) rfl shapeCasts_S768_S768x1 broadcasts_S768x1_S768x256 broadcasts_S768x1_S768x64 rfl bitsLt_bf16_f32

theorem grp_apply (q : Fin 3 → FVec Ideal S256x64 .f32) (k v : FVec Ideal S256x64 .f32) (a : Fin 3 → FVec Ideal S1x1 .f32) (g : Fin 3) (r : Fin 256) (d : Fin 64)
    (p : Fin 768) (hp : p.val = 256 * g.val + r.val) : grp q k v a (ix2 p d)
      = attend (fun j : Fin 256 => ∑ e : Fin 64, q g (ix2 r e) * k (ix2 j e)) (a g (ix2 0 0)) (fun j => v (ix2 j d)) := by
  unfold grp
  refine (rows_apply _ _ _ _ _ _ _ _ _ _ _ p d).trans ?_
  rw [sinks_apply a _ _ _ g r p hp]
  refine congrArg (attend · _ _) (funext fun j => (scores_apply _ k _ p j).trans (Finset.sum_congr rfl fun e _ => ?_))
  rw [stack_apply q _ g r e p hp]

theorem out_eq (x0 : Vec Ideal S1x256x384 .f32) (x1 x2 : Vec Ideal S1x256x128 .f32) (x3 : Vec Ideal S1x128 .f32) : out0_4 x0 x1 x2 x3
    = View.canon [⟨r0_0, six (R := 256) (M := 768) (fun kv => grp (qs (k0_pay2 (View.ld x0 r0_0)) kv) (ks (k0_pay3 (View.ld x1 r0_1)) kv) (ks (k0_pay4 (View.ld x2 r0_1)) kv) (ss x3 kv))
        256 512 slices_S768x64_o0_0_S256x64 slices_S768x64_o256_0_S256x64 slices_S768x64_o512_0_S256x64
        concatenates_S256x64_S256x64_S256x64_S256x64_S256x64_S256x64_S256x384_d1 shapeCasts_S256x384_S1x256x384⟩] := rfl

theorem out_apply (x0 : Vec Ideal S1x256x384 .f32) (x1 x2 : Vec Ideal S1x256x128 .f32) (x3 : Vec Ideal S1x128 .f32) (r : Fin 256) (kv : Fin 2) (g : Fin 3)
    (d : Fin 64) (n : Fin 384) (hn : n.val = 192 * kv.val + 64 * g.val + d.val) : out0_4 x0 x1 x2 x3 (ix3 0 r n)
      = attend (fun j : Fin 256 => (∑ e : Fin 64, x0 (ix3 0 r ⟨192 * kv.val + 64 * g.val + e.val, by omega⟩) * x1 (ix3 0 j ⟨64 * kv.val + e.val, by omega⟩))
            * Ideal.ofBits .f32 0x3E000000#32)
          (x3 (ix2 0 ⟨3 * kv.val + g.val, by omega⟩)) (fun j => x2 (ix3 0 j ⟨64 * kv.val + d.val, by omega⟩)) := by
  rw [out_eq, View.canon_unit_zero (by decide)]
  refine (six_apply _ 256 512 _ _ _ _ _ rfl rfl kv g r d n hn ⟨256 * g.val + r.val, by omega⟩ rfl).trans ?_
  rw [grp_apply _ _ _ _ g r d _ rfl, ss_apply, View.ld_unit_zero (by decide), View.ld_unit_zero (by decide), View.ld_unit_zero (by decide)]
  congr 1
  · funext j
    rw [← score_scale _ _ _ (by rw [eighth]; exact EReal.coe_nonneg.2 (by norm_num)) (by rw [eighth]; exact EReal.coe_ne_top _)]
    refine Finset.sum_congr rfl fun e _ => ?_
    rw [qs_apply, ks_apply]
    show shapeCast S256x384 x0 _ (ix2 r _) * _ * shapeCast S256x128 x1 _ (ix2 j _) = _
    rw [flat3, flat3]
    rfl
  · funext j
    rw [ks_apply]
    show shapeCast S256x128 x2 _ (ix2 j _) = _
    rw [flat3]

variable (m : (ℓ : Loc nD τ sig) → Buf (Elt Ideal) ℓ)

theorem at0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem at1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem at2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem read0 (c : Dev nD) (t : Fin cfg0.N) (r : Fin 256) (k : Fin 384) (hb : t.val < 8) :
    (iblk m c 0 t : Vec Ideal S1x256x384 .f32) (ix3 0 r k)
      = (m ((c : Thread nD τ).loc main_arg0) : Vec Ideal S8x2304x384 .f32) (ix3 ⟨t.val, hb⟩ ⟨r.val, by omega⟩ k) := by
  unfold iblk
  rw [View.read_apply]
  show V m c main_arg0 _ = _
  rw [V_main_arg0]
  congr 1
  funext a
  apply Fin.ext
  match a with
  | ⟨0, _⟩ => show win0_0.index t 0 * 1 + 1 * 0 = t.val; rw [(at0 t).1]; omega
  | ⟨1, _⟩ => show win0_0.index t 1 * 256 + 1 * r.val = r.val; rw [(at0 t).2.1]; omega
  | ⟨2, _⟩ => show win0_0.index t 2 * 384 + 1 * k.val = k.val; rw [(at0 t).2.2]; omega

theorem read1 (c : Dev nD) (t : Fin cfg0.N) (r : Fin 256) (k : Fin 128) (hb : t.val < 8) :
    (iblk m c 1 t : Vec Ideal S1x256x128 .f32) (ix3 0 r k)
      = (m ((c : Thread nD τ).loc main_arg1) : Vec Ideal S8x2304x128 .f32) (ix3 ⟨t.val, hb⟩ ⟨r.val, by omega⟩ k) := by
  unfold iblk
  rw [View.read_apply]
  show V m c main_arg1 _ = _
  rw [V_main_arg1]
  congr 1
  funext a
  apply Fin.ext
  match a with
  | ⟨0, _⟩ => show win0_1.index t 0 * 1 + 1 * 0 = t.val; rw [(at1 t).1]; omega
  | ⟨1, _⟩ => show win0_1.index t 1 * 256 + 1 * r.val = r.val; rw [(at1 t).2.1]; omega
  | ⟨2, _⟩ => show win0_1.index t 2 * 128 + 1 * k.val = k.val; rw [(at1 t).2.2]; omega

theorem read2 (c : Dev nD) (t : Fin cfg0.N) (r : Fin 256) (k : Fin 128) (hb : t.val < 8) :
    (iblk m c 2 t : Vec Ideal S1x256x128 .f32) (ix3 0 r k)
      = (m ((c : Thread nD τ).loc main_arg2) : Vec Ideal S8x2304x128 .f32) (ix3 ⟨t.val, hb⟩ ⟨r.val, by omega⟩ k) := by
  unfold iblk
  rw [View.read_apply]
  show V m c main_arg2 _ = _
  rw [V_main_arg2]
  congr 1
  funext a
  apply Fin.ext
  match a with
  | ⟨0, _⟩ => show win0_2.index t 0 * 1 + 1 * 0 = t.val; rw [(at2 t).1]; omega
  | ⟨1, _⟩ => show win0_2.index t 1 * 256 + 1 * r.val = r.val; rw [(at2 t).2.1]; omega
  | ⟨2, _⟩ => show win0_2.index t 2 * 128 + 1 * k.val = k.val; rw [(at2 t).2.2]; omega

theorem V_row (c : Dev nD) : V m c main_v3 = broadcastInDim S1x128 ![1] bcast_S128_S1x128_1 (pad S128 ![0] ![122] ![0] (shapeCast S6
    (extractStridedSlice S1x6 ![0, 0] (m ((c : Thread nD τ).loc main_arg3)) slices_S2x6_S1x6_0_0) shapeCasts_S1x6_S6)
    (sitofp (F := Ideal) .f32 (constantI S_ 32 0#32)) pads_S6_S128_01220 h_S_) := by
  unfold V; after_results <;> rfl

theorem read3 (c : Dev nD) (t : Fin cfg0.N) (p : Fin 128) (h : Fin 6) (hp : p.val = h.val) :
    (iblk m c 3 t : Vec Ideal S1x128 .f32) (ix2 0 p) = (m ((c : Thread nD τ).loc main_arg3) : Vec Ideal S2x6 .f32) (ix2 0 h) := by
  have hv : (iblk m c 3 t : Vec Ideal S1x128 .f32) (ix2 0 p) = (V m c main_v3 : Vec Ideal S1x128 .f32) (ix2 0 p) := by
    unfold iblk
    rw [View.read_apply]
    show V m c main_v3 _ = _
    congr 1
    funext a
    apply Fin.ext
    match a with
    | ⟨0, _⟩ => show win0_3.index t 0 * 1 + 1 * 0 = 0; rw [(at3 t).1]
    | ⟨1, _⟩ => show win0_3.index t 1 * 128 + 1 * p.val = p.val; rw [(at3 t).2]; omega
  rw [hv, V_row]
  exact sinkRow_apply _ _ _ _ _ _ _ p h hp

/-- The block a point writes. -/
theorem block_apply (c : Dev nD) (t : Fin cfg0.N) (r : Fin 256) (kv : Fin 2) (g : Fin 3) (d : Fin 64) (n : Fin 384)
    (hn : n.val = 192 * kv.val + 64 * g.val + d.val) (hb : t.val < 8) :
    out0_4 (iblk m c 0 t) (iblk m c 1 t) (iblk m c 2 t) (iblk m c 3 t) (ix3 0 r n)
      = ctx (m ((c : Thread nD τ).loc main_arg0)) (m ((c : Thread nD τ).loc main_arg1)) (m ((c : Thread nD τ).loc main_arg2))
        (m ((c : Thread nD τ).loc main_arg3)) ⟨t.val, hb⟩ r kv g d := by
  rw [out_apply _ _ _ _ r kv g d n hn, read3 m c t _ ⟨3 * kv.val + g.val, by omega⟩ rfl]
  simp only [read0 m c t _ _ hb, read1 m c t _ _ hb, read2 m c t _ _ hb]
  rfl

/-- The whole array the kernel leaves. -/
def whole (q : (⟨3, ![8, 2304, 384]⟩ : Shape).Idx → EReal) (k v : (⟨3, ![8, 2304, 128]⟩ : Shape).Idx → EReal)
    (s : (⟨2, ![2, 6]⟩ : Shape).Idx → EReal) (b : Fin 8) (n : Fin 256) (l : Fin 384) : EReal :=
  ctx q k v s b n ⟨l.val / 192, by omega⟩ ⟨l.val / 64 % 3, by omega⟩ ⟨l.val % 64, by omega⟩

theorem result_apply (c : Dev nD) : (dats m 0 c).arrAt 4 cfg0.N = fun i : S8x256x384.Idx =>
    whole (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 4 _ (by decide +kernel) fun t hf y => ?_
  blk_simp
  rw [after0_4]
  have hN : cfg0.N = 8 := rfl
  have htl : t.val < 8 := t.isLt
  have hy0 : (y 0).val < 1 := (y 0).isLt
  have hy1 : (y 1).val < 256 := (y 1).isLt
  have hy2 : (y 2).val < 384 := (y 2).isLt
  have hy : y = ix3 (n0 := 1) (n1 := 256) (n2 := 384) 0 (y 1) (y 2) := funext fun a => match a with
    | ⟨0, _⟩ => Fin.ext (by show (y 0).val = 0; omega)
    | ⟨1, _⟩ => rfl
    | ⟨2, _⟩ => rfl
  refine (congrArg _ hy).trans ((block_apply m c t (y 1) ⟨(y 2).val / 192, by omega⟩ ⟨(y 2).val / 64 % 3, by omega⟩ ⟨(y 2).val % 64, by omega⟩ (y 2)
    (by show (y 2).val = 192 * ((y 2).val / 192) + 64 * ((y 2).val / 64 % 3) + (y 2).val % 64; omega) (by omega)).trans ?_)
  show whole _ _ _ _ _ (y 1) (y 2) = _
  congr 1 <;> apply Fin.ext
  · show t.val = win0_4.index t 0 * 1 + 1 * (y 0).val
    rw [(at4 t).1]; omega
  · show (y 1).val = win0_4.index t 1 * 256 + 1 * (y 1).val
    rw [(at4 t).2.1]; omega
  · show (y 2).val = win0_4.index t 2 * 384 + 1 * (y 2).val
    rw [(at4 t).2.2]; omega

/-! ## The reference -/

section Reference
open Cert.Reference6Ideal.Read

variable (x0 : (⟨S8x2304x384, .f32⟩ : BufTy).Contents (Elt Ideal)) (x1 x2 : (⟨S8x2304x128, .f32⟩ : BufTy).Contents (Elt Ideal))
  (x3 : (⟨S2x6, .f32⟩ : BufTy).Contents (Elt Ideal))

/-- The head, and its group, of a query head. -/
theorem queries (b : Fin 8) (n : Fin 256) (kv : Fin 2) (g : Fin 3) (h : Fin 6) (hh : h.val = 3 * kv.val + g.val) (e : Fin 64) :
    val_main_v1 x0 (ix4 b n h e) = x0 (ix3 b ⟨n.val, by omega⟩ ⟨192 * kv.val + 64 * g.val + e.val, by omega⟩) := by
  refine (val_main_v1_apply x0 _).trans ((val_main_v0_apply x0 _).trans (congrArg x0 (funext fun a => Fin.ext ?_)))
  match a with
  | ⟨0, _⟩ => show (((b.val * 256 + n.val) * 6 + h.val) * 64 + e.val) / 98304 = b.val; omega
  | ⟨1, _⟩ => show (((b.val * 256 + n.val) * 6 + h.val) * 64 + e.val) / 384 % 256 = n.val; omega
  | ⟨2, _⟩ => show (((b.val * 256 + n.val) * 6 + h.val) * 64 + e.val) % 384 = 192 * kv.val + 64 * g.val + e.val; omega

theorem keys (b : Fin 8) (n : Fin 256) (kv : Fin 2) (g : Fin 3) (h : Fin 6) (hh : h.val = 3 * kv.val + g.val) (e : Fin 64) :
    val_main_v6 x1 (ix4 b n h e) = x1 (ix3 b ⟨n.val, by omega⟩ ⟨64 * kv.val + e.val, by omega⟩) := by
  have h6 : idx_main_v6 (ix4 b n h e) = ix5 b n kv g e := funext fun a => Fin.ext (by
    match a with
    | ⟨0, _⟩ => show (((b.val * 256 + n.val) * 6 + h.val) * 64 + e.val) / 98304 = b.val; omega
    | ⟨1, _⟩ => show (((b.val * 256 + n.val) * 6 + h.val) * 64 + e.val) / 384 % 256 = n.val; omega
    | ⟨2, _⟩ => show (((b.val * 256 + n.val) * 6 + h.val) * 64 + e.val) / 192 % 2 = kv.val; omega
    | ⟨3, _⟩ => show (((b.val * 256 + n.val) * 6 + h.val) * 64 + e.val) / 64 % 3 = g.val; omega
    | ⟨4, _⟩ => show (((b.val * 256 + n.val) * 6 + h.val) * 64 + e.val) % 64 = e.val; omega)
  refine (val_main_v6_apply x1 _).trans (h6 ▸ (val_main_v5_apply x1 _).trans ((val_main_v4_apply x1 _).trans ((val_main_v3_apply x1 _).trans
    ((val_main_v2_apply x1 _).trans (congrArg x1 (funext fun a => Fin.ext ?_))))))
  match a with
  | ⟨0, _⟩ => show (((b.val * 256 + n.val) * 2 + kv.val) * 64 + e.val) / 32768 = b.val; omega
  | ⟨1, _⟩ => show (((b.val * 256 + n.val) * 2 + kv.val) * 64 + e.val) / 128 % 256 = n.val; omega
  | ⟨2, _⟩ => show (((b.val * 256 + n.val) * 2 + kv.val) * 64 + e.val) % 128 = 64 * kv.val + e.val; omega

theorem values (b : Fin 8) (n : Fin 256) (kv : Fin 2) (g : Fin 3) (h : Fin 6) (hh : h.val = 3 * kv.val + g.val) (e : Fin 64) :
    val_main_v11 x2 (ix4 b n h e) = x2 (ix3 b ⟨n.val, by omega⟩ ⟨64 * kv.val + e.val, by omega⟩) := keys x2 b n kv g h hh e

theorem sinks_ref (b : Fin 8) (n : Fin 256) (h : Fin 6) : val_main_v18 x3 (ix4 b h n 0) = x3 (ix2 0 h) := by
  refine (val_main_v18_apply x3 _).trans ((val_main_v17_apply x3 _).trans ((val_main_v16_apply x3 _).trans ((val_main_v15_apply x3 _).trans
    (congrArg x3 (funext fun a => Fin.ext ?_)))))
  match a with
  | ⟨0, _⟩ => rfl
  | ⟨1, _⟩ => show h.val % 6 = h.val; omega

/-- The scores of a row and its sink, one after the other. -/
def pos : Fin 256 ⊕ Unit ≃ Fin 257 := (Equiv.sumCongr (Equiv.refl _) (Equiv.ofUnique Unit (Fin 1))).trans finSumFinEquiv

theorem scores (b : Fin 8) (n : Fin 256) (kv : Fin 2) (g : Fin 3) (h : Fin 6) (hh : h.val = 3 * kv.val + g.val) (j : Fin 256) :
    val_main_v19 x0 x1 x3 (ix4 b h n (pos (.inl j))) = score x0 x1 b n kv g j := by
  refine (concatenate_pair_apply_left 3 (val_main_v14 x0 x1) (val_main_v18 x3) Cert.Reference6Ideal.Facts₀.concatenates_S8x6x256x256_S8x6x256x1_S8x6x256x257_d3 (ix4 b h n (pos (.inl j))) rfl (ix4 b h n j) (fun a => match a with
    | ⟨0, _⟩ => rfl
    | ⟨1, _⟩ => rfl
    | ⟨2, _⟩ => rfl
    | ⟨3, _⟩ => rfl)).trans ?_
  refine (val_main_v14_apply x0 x1 _).trans (congrArg₂ (· * ·) ((val_main_v12_apply x0 x1 _).trans (Finset.sum_congr rfl fun e _ => ?_)) ?_)
  · exact congrArg₂ (· * ·) ((congrArg _ (eq_ix4 _)).trans (queries x0 b n kv g h hh e)) ((congrArg _ (eq_ix4 _)).trans (keys x1 b j kv g h hh e))
  · exact val_main_v13_apply _

theorem sink (b : Fin 8) (n : Fin 256) (h : Fin 6) : val_main_v19 x0 x1 x3 (ix4 b h n (pos (.inr ()))) = x3 (ix2 0 h) :=
  (concatenate_pair_apply_right 3 (val_main_v14 x0 x1) (val_main_v18 x3) Cert.Reference6Ideal.Facts₀.concatenates_S8x6x256x256_S8x6x256x1_S8x6x256x257_d3 (ix4 b h n (pos (.inr ()))) rfl rfl (ix4 b h n 0) (fun a ha => match a, ha with
    | ⟨0, _⟩, _ => rfl
    | ⟨1, _⟩, _ => rfl
    | ⟨2, _⟩, _ => rfl
    | ⟨3, _⟩, ha => absurd rfl ha) rfl).trans (sinks_ref x3 b n h)

theorem greatest (b : Fin 8) (n : Fin 256) (kv : Fin 2) (g : Fin 3) (h : Fin 6) (hh : h.val = 3 * kv.val + g.val) :
    val_main_v22 x0 x1 x3 (ix3 b h n) = top (score x0 x1 b n kv g) (x3 (ix2 0 h)) := by
  refine (val_main_v22_apply x0 x1 x3 _).trans ?_
  have h0 : val_main_v21 (F := Ideal) (ix3 b h n) = ⊥ := by
    refine (val_main_v21_apply _).trans ((val_main_cst_1_apply _).trans ?_)
    show Ideal.ofBits .f32 0xFF800000#32 = ⊥
    simp [Ideal.ofBits, Ideal.ieee]
  rw [h0]
  show max ⊥ _ = _
  rw [max_eq_right bot_le]
  refine (hostTop _ _ _ (by decide) _ rfl b h n).trans ?_
  exact row_top pos _ _ _ (fun j => scores x0 x1 x3 b n kv g h hh j) (sink x0 x1 x3 b n h)

theorem weight (b : Fin 8) (n : Fin 256) (kv : Fin 2) (g : Fin 3) (h : Fin 6) (hh : h.val = 3 * kv.val + g.val) (j : Fin 256) :
    val_main_v31 x0 x1 x3 (ix4 b h n j) = Ideal.div (Ideal.exp (score x0 x1 b n kv g j - top (score x0 x1 b n kv g) (x3 (ix2 0 h))))
      ((∑ j, Ideal.exp (score x0 x1 b n kv g j - top (score x0 x1 b n kv g) (x3 (ix2 0 h)))) + Ideal.exp (x3 (ix2 0 h) - top (score x0 x1 b n kv g) (x3 (ix2 0 h)))) := by
  have hw : ∀ i : Fin 257, val_main_v26 x0 x1 x3 (ix4 b h n i) = Ideal.exp (val_main_v19 x0 x1 x3 (ix4 b h n i) - top (score x0 x1 b n kv g) (x3 (ix2 0 h))) := fun i =>
    (val_main_v26_apply x0 x1 x3 _).trans (congrArg Ideal.exp ((val_main_v25_apply x0 x1 x3 _).trans (congrArg (val_main_v19 x0 x1 x3 (ix4 b h n i) - ·)
      ((val_main_v24_apply x0 x1 x3 _).trans ((val_main_v23_apply x0 x1 x3 _).trans ((congrArg _ (eq_ix3 _)).trans (greatest x0 x1 x3 b n kv g h hh)))))))
  refine (val_main_v31_apply x0 x1 x3 _).trans ((val_main_v30_apply x0 x1 x3 _).trans (congrArg₂ Ideal.div ?_ ?_))
  · refine (congrArg _ (eq_ix4 _)).trans ((hw (pos (.inl j))).trans ?_)
    rw [scores x0 x1 x3 b n kv g h hh]
  · refine (val_main_v29_apply x0 x1 x3 _).trans ((val_main_v28_apply x0 x1 x3 _).trans ((val_main_v27_apply x0 x1 x3 _).trans ?_))
    have hz : val_main_cst_2 (F := Ideal) (Shape.Idx.first h_S_) = 0 := Dense.zero_f32
    rw [hz, zero_add, row_sum pos]
    refine congrArg₂ (· + ·) (Finset.sum_congr rfl fun j _ => ?_) ?_
    · refine (congrArg _ (eq_ix4 _)).trans ((hw (pos (.inl j))).trans ?_)
      rw [scores x0 x1 x3 b n kv g h hh]
    · refine (congrArg _ (eq_ix4 _)).trans ((hw (pos (.inr ()))).trans ?_)
      rw [sink]

theorem ref_apply (hq : ∀ i, ∃ r : ℝ, x0 i = r) (hk : ∀ i, ∃ r : ℝ, x1 i = r) (hs : ∀ i, ∃ r : ℝ, x3 i = r) (b : Fin 8) (n : Fin 256) (l : Fin 384) :
    val_main_v34 x0 x1 x2 x3 (ix3 b n l) = whole x0 x1 x2 x3 b n l := by
  have h34 : idx_main_v34 (ix3 b n l) = ix4 b n ⟨l.val / 64, by omega⟩ ⟨l.val % 64, by omega⟩ := funext fun a => Fin.ext (by
    match a with
    | ⟨0, _⟩ => show ((b.val * 256 + n.val) * 384 + l.val) / 98304 = b.val; omega
    | ⟨1, _⟩ => show ((b.val * 256 + n.val) * 384 + l.val) / 384 % 256 = n.val; omega
    | ⟨2, _⟩ => show ((b.val * 256 + n.val) * 384 + l.val) / 64 % 6 = l.val / 64; omega
    | ⟨3, _⟩ => show ((b.val * 256 + n.val) * 384 + l.val) % 64 = l.val % 64; omega)
  have hh : l.val / 64 = 3 * (l.val / 192) + l.val / 64 % 3 := by omega
  have hv := fun j => values x2 b j ⟨l.val / 192, by omega⟩ ⟨l.val / 64 % 3, by omega⟩ ⟨l.val / 64, by omega⟩ hh ⟨l.val % 64, by omega⟩
  have hw := fun j => weight x0 x1 x3 b n ⟨l.val / 192, by omega⟩ ⟨l.val / 64 % 3, by omega⟩ ⟨l.val / 64, by omega⟩ hh j
  refine (val_main_v34_apply x0 x1 x2 x3 _).trans (h34 ▸ (val_main_v33_apply x0 x1 x2 x3 _).trans ((val_main_v32_apply x0 x1 x2 x3 _).trans ?_))
  refine Eq.trans (Finset.sum_congr rfl fun j _ => congrArg₂ (· * ·)
    ((congrArg _ (eq_ix4 _)).trans (hv j)) ((congrArg _ (eq_ix4 _)).trans (hw j)))
    ((attend_mean _ _ _ (hs _) fun j => ?_).trans ?_)
  · obtain ⟨r, hr⟩ := score_real (fun e : Fin 64 => x0 (ix3 b ⟨n.val, by omega⟩ ⟨192 * (l.val / 192) + 64 * (l.val / 64 % 3) + e.val, by omega⟩))
      (fun e => x1 (ix3 b ⟨j.val, by omega⟩ ⟨64 * (l.val / 192) + e.val, by omega⟩)) (fun e => hq _) (fun e => hk _)
    exact fun ht => EReal.coe_ne_top r (hr.symm.trans ht)
  · unfold whole ctx
    congr 3
    exact Fin.ext hh

end Reference

/-! ## The claims -/

theorem kernel_frame : Cert.quiescent_Kernel6 (hKernel6 := Cert.Kernel6.Gen.facts) :=
  fun m ρ _ => Cert.Kernel6.Gen.frame m ρ

theorem ideal_frame : Cert.quiescent_Kernel6Ideal (hKernel6Ideal := Cert.Kernel6Ideal.Gen.facts) :=
  fun m ρ _ => Cert.Kernel6Ideal.Gen.frame m ρ

theorem ideal_frame_pre : Cert.quiescent_Kernel6Ideal_pre_finite (hKernel6Ideal := Cert.Kernel6Ideal.Gen.facts) (hPre_finite := Finite.facts) :=
  fun m ρ _ => Cert.Kernel6Ideal.Gen.frame m ρ

theorem reference_frame : Cert.quiescent_Reference6Ideal (hReference6Ideal := Cert.Reference6Ideal.Gen.facts) :=
  fun m ρ _ => (θ_run _ _ _).mono (fun r h => ⟨fun c => (h c).2, sem_eq_zero_of_no_sems (by decide) r.2⟩)
    (Cert.Reference6Ideal.Value.run m ρ)

theorem reference_frame_pre : Cert.quiescent_Reference6Ideal_pre_finite (hReference6Ideal := Cert.Reference6Ideal.Gen.facts)
    (hPre_finite := Finite.facts) :=
  fun m ρ _ => reference_frame m ρ trivial

theorem preserves : Cert.preserves_Kernel6_Kernel6Ideal := trivial

/-- Both compute the attention of the context rows. -/
theorem algebraic : Cert.algebraic_Kernel6Ideal_Reference6Ideal_pre_finite (hKernel6Ideal := Cert.Kernel6Ideal.Gen.facts)
    (hReference6Ideal := Cert.Reference6Ideal.Gen.facts) (hPre_finite := Finite.facts) := by
  intro m ρ m' ρ' hpre hargs
  refine ⟨fun c => (dats m 0 c).arrAt 4 cfg0.N, ?_, ?_⟩
  · exact Cert.Kernel6Ideal.Value.run_blocks m ρ
  · refine (θ_run _ _ _).mono (fun r h c => ⟨(h c).1.trans ?_, (h c).2⟩) (Cert.Reference6Ideal.Value.run m' ρ')
    obtain ⟨h0, h1, h2, h3⟩ := hargs c
    obtain ⟨hq, hk, hs⟩ := Finite.elements _ _ _ _ (hpre c)
    refine Eq.trans ?_ (result_apply m c).symm
    refine (Cert.Reference6Ideal.Read.val_main_v34_eq ..).trans ?_
    rw [h0, h1, h2, h3]
    exact funext fun i => (congrArg _ (eq_ix3 i)).trans (ref_apply _ _ _ _ hq hk hs (i 0) (i 1) (i 2))

end Cert.Proof.Ctx

end
-- ==== Proof.Next.lean ====
/- The second layer's residual and its first projection: the claims of `in_proj` with the feed-forward's rows to add. -/
module

public import proofs.«01_k».proof.Defs
public import proofs.«01_k».proof.Proof.Norm
public import proofs.«01_k».proof.Proof.In
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim

@[expose] public section

set_option maxRecDepth 16384

noncomputable section

namespace Cert.Proof.Next

open Cert.Kernel7Ideal Cert.Kernel7Ideal.Gen Cert.Proof.Norm
open Idealize.ShloMosaic hiding ix1 ix2 ix3 ix4 ix5 eq_ix1 eq_ix2 eq_ix3
open Idealize.ShloMosaic.TcCoe Idealize.ShloMosaic.ValueIdx Idealize.SL.Sem
open scoped BigOperators

/-- The residual stream with the first layer's feed-forward rows added under its gate. -/
def stream (H F : (⟨3, ![8, 2304, 1024]⟩ : Shape).Idx → EReal)
    (M : (⟨3, ![2, 8, 6144]⟩ : Shape).Idx → EReal) (C : (⟨2, ![2, 6144]⟩ : Shape).Idx → EReal)
    (b : Fin 8) (n : Fin 2304) (d : Fin 1024) : EReal :=
  H (ix3 b n d) + modRow M C 0 b n 5 d * F (ix3 b n d)

/-- A token's normalized and modulated row against a column of the second layer's weights. -/
def proj (H F : (⟨3, ![8, 2304, 1024]⟩ : Shape).Idx → EReal)
    (M : (⟨3, ![2, 8, 6144]⟩ : Shape).Idx → EReal) (C : (⟨2, ![2, 6144]⟩ : Shape).Idx → EReal)
    (G : (⟨2, ![2, 1024]⟩ : Shape).Idx → EReal) (W : (⟨3, ![2, 1024, 2456]⟩ : Shape).Idx → EReal)
    (b : Fin 8) (n : Fin 2304) (q : Fin 2456) : EReal :=
  ∑ k : Fin 1024, modnorm (stream H F M C b n) (fun d => G (ix2 1 d)) (modRow M C 1 b n 1) (modRow M C 1 b n 0) k * W (ix3 1 k q)

/-- `N` of the projection's columns, from column `o` on, as an array. -/
def cols (H F : (⟨3, ![8, 2304, 1024]⟩ : Shape).Idx → EReal)
    (M : (⟨3, ![2, 8, 6144]⟩ : Shape).Idx → EReal) (C : (⟨2, ![2, 6144]⟩ : Shape).Idx → EReal)
    (G : (⟨2, ![2, 1024]⟩ : Shape).Idx → EReal) (W : (⟨3, ![2, 1024, 2456]⟩ : Shape).Idx → EReal)
    (N o : ℕ) (h : o + N ≤ 2456) : (⟨3, ![8, 2304, N]⟩ : Shape).Idx → EReal := fun i =>
  proj H F M C G W (i 0) (i 1) ⟨o + (i 2).val, by have : (i 2).val < N := (i 2).isLt; omega⟩

/-! ## A tile -/

theorem pick (i : grid0.Coords) (u v : Vec Ideal S1x1x1x1024 .f32) (r : Fin 768) (k : Fin 1024) (h0) (h1) (h2) (h3) (h4) (h5) :
    select (broadcastTo S768x1024 (shapeCast S768x1 (k0_pay6 i) h0) h1)
      (broadcastTo S768x1024 (shapeCast S1x1024 (shapeCast S1x1024 u h2) h3) h4)
      (broadcastTo S768x1024 (shapeCast S1x1024 (shapeCast S1x1024 v h2) h3) h5) (ix2 r k)
      = if 768 * (i 1).val + r.val < 256 then v (ix4 0 0 0 k) else u (ix4 0 0 0 k) := by
  rw [shapeCast_self, shapeCast_self, shapeCast_self]
  refine (pick_apply _ _ (k0_pay6 i) (768 * (i 1).val + r.val) r (mask_apply ⟨(i 1).val, (i 1).isLt⟩ r) _ _ _ k).trans ?_
  rw [flat4, flat4]

theorem table_row (s : Vec Ideal S1x2x6x1024 .f32) (o p : ℕ) (inb) (ho : o < 2) (hp : p < 6) (k : Fin 1024) :
    View.ld s (Rect.unit (s := S1x2x6x1024) ![0, o, p, 0] S1x1x1x1024.size inb) (ix4 0 0 0 k) = s (ix4 0 ⟨o, ho⟩ ⟨p, hp⟩ k) := by
  show s _ = _
  congr 1
  funext a
  apply Fin.ext
  match a with
  | ⟨0, _⟩ => rfl
  | ⟨1, _⟩ => rfl
  | ⟨2, _⟩ => rfl
  | ⟨3, _⟩ => show 0 + 1 * k.val = k.val; omega

section Tile
variable (i : grid0.Coords) (x0 x1 : Vec Ideal S1x768x1024 .f32) (x2 x3 : Vec Ideal S1x2x6x1024 .f32) (x4 : Vec Ideal S1x1024 .f32)
  (x5 : Vec Ideal S1024x2816 .bf16) (r : Fin 768) (d : Fin 1024)

/-- The stream of a tile. -/
abbrev resid : FVec Ideal S768x1024 .f32 :=
  k0_pay4 i (View.ld x0 r0_0) (View.ld x2 r0_1) (View.ld x2 r0_2) (View.ld x1 r0_0)

theorem resid_apply : resid i x0 x1 x2 (ix2 r d) = x0 (ix3 0 r d)
    + (if 768 * (i 1).val + r.val < 256 then x2 (ix4 0 0 5 d) else x2 (ix4 0 1 5 d)) * x1 (ix3 0 r d) := by
  unfold resid k0_pay4
  rw [View.ld_unit_zero (by decide), View.ld_unit_zero (by decide)]
  refine congrArg₂ (fun (a b : EReal) => a + b) (flat3 x0 _ r d) (congrArg₂ (fun (a b : EReal) => a * b)
    ((pick i _ _ r d _ _ _ _ _ _).trans ?_) (flat3 x1 _ r d))
  rw [table_row x2 0 5 _ (by decide) (by decide), table_row x2 1 5 _ (by decide) (by decide)]
  rfl

theorem tile_apply : k0_pay14 i x0 x1 x2 x3 x4 x5 (ix2 r d)
    = modnorm (fun k => resid i x0 x1 x2 (ix2 r k)) (fun k => x4 (ix2 0 k))
        (fun k => if 768 * (i 1).val + r.val < 256 then x3 (ix4 0 0 1 k) else x3 (ix4 0 1 1 k))
        (fun k => if 768 * (i 1).val + r.val < 256 then x3 (ix4 0 0 0 k) else x3 (ix4 0 1 0 k)) d := by
  have hg : k0_pay7 x4 = x4 := by unfold k0_pay7; exact shapeCast_self _ _
  unfold k0_pay14
  rw [View.ld_unit_zero (S := S1x1024) (by decide), hg]
  unfold k0_pay8 modnorm
  refine congrArg₂ (fun (a b : EReal) => a + b) (congrArg₂ (fun (a b : EReal) => a * b) (congrArg₂ (fun (a b : EReal) => a * b)
    (rms_apply (resid i x0 x1 x2) _ _ _ _ _ _ r d) (spreadRow x4 _ r d))
    (congrArg (fun b : EReal => _ + b) ((pick i _ _ r d _ _ _ _ _ _).trans ?_))) ((pick i _ _ r d _ _ _ _ _ _).trans ?_)
  · rw [table_row x3 0 1 _ (by decide) (by decide), table_row x3 1 1 _ (by decide) (by decide)]; rfl
  · rw [table_row x3 0 0 _ (by decide) (by decide), table_row x3 1 0 _ (by decide) (by decide)]; rfl

end Tile

/-! ## The blocks -/

variable (m : (ℓ : Loc nD τ sig) → Buf (Elt Ideal) ℓ)

theorem at0 : ∀ t : Fin cfg0.N, win0_0.index t 0 = t.val / 3 ∧ win0_0.index t 1 = t.val % 3 ∧ win0_0.index t 2 = 0 :=
  (by decide +kernel : ∀ t : Fin grid0.N, win0_0.index t 0 = t.val / 3 ∧ win0_0.index t 1 = t.val % 3 ∧ win0_0.index t 2 = 0)
theorem at2 : ∀ t : Fin cfg0.N, win0_2.index t 0 = t.val / 3 ∧ win0_2.index t 1 = 0 ∧ win0_2.index t 2 = 0 ∧ win0_2.index t 3 = 0 :=
  (by decide +kernel : ∀ t : Fin grid0.N, win0_2.index t 0 = t.val / 3 ∧ win0_2.index t 1 = 0 ∧ win0_2.index t 2 = 0 ∧ win0_2.index t 3 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem tile_of : ∀ t : Fin cfg0.N, ((grid0.coords t) 1).val = t.val % 3 :=
  (by decide +kernel : ∀ t : Fin grid0.N, ((grid0.coords t) 1).val = t.val % 3)

theorem V_table0 (c : Dev nD) : V m c main_v17 = shapeCast S8x2x6x1024 (extractStridedSlice S1x8x2x6x1024 ![0, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg3)) shapeCasts_S2x6144_S2x1x1x6x1024)⟩,
       ⟨S2x8x1x6x1024, shapeCast S2x8x1x6x1024 (m ((c : Thread nD τ).loc main_arg2)) shapeCasts_S2x8x6144_S2x8x1x6x1024⟩]
      concatenates_S2x8x1x6x1024_S2x8x1x6x1024_S2x8x2x6x1024_d2) slices_S2x8x2x6x1024_S1x8x2x6x1024_0_0_0_0_0) shapeCasts_S1x8x2x6x1024_S8x2x6x1024 := by
  unfold V
  simp only [hostOps0, hostOps0_1, hostOps0_2, List.flatten_cons, List.flatten_nil, List.append_nil, List.cons_append, List.nil_append]
  after_results <;> rfl

theorem V_table1 (c : Dev nD) : V m c main_v19 = shapeCast S8x2x6x1024 (extractStridedSlice S1x8x2x6x1024 ![1, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg3)) shapeCasts_S2x6144_S2x1x1x6x1024)⟩,
       ⟨S2x8x1x6x1024, shapeCast S2x8x1x6x1024 (m ((c : Thread nD τ).loc main_arg2)) shapeCasts_S2x8x6144_S2x8x1x6x1024⟩]
      concatenates_S2x8x1x6x1024_S2x8x1x6x1024_S2x8x2x6x1024_d2) slices_S2x8x2x6x1024_S1x8x2x6x1024_1_0_0_0_0) shapeCasts_S1x8x2x6x1024_S8x2x6x1024 := by
  unfold V
  simp only [hostOps0, hostOps0_1, hostOps0_2, List.flatten_cons, List.flatten_nil, List.append_nil, List.cons_append, List.nil_append]
  after_results <;> rfl

theorem V_gain (c : Dev nD) : V m c main_v22 = broadcastInDim S1x1024 ![1] bcast_S1024_S1x1024_1 (shapeCast S1024
    (extractStridedSlice S1x1024 ![1, 0] (m ((c : Thread nD τ).loc main_arg4)) slices_S2x1024_S1x1024_1_0) shapeCasts_S1x1024_S1024) := by
  unfold V
  simp only [hostOps0, hostOps0_1, hostOps0_2, List.flatten_cons, List.flatten_nil, List.append_nil, List.cons_append, List.nil_append]
  after_results <;> rfl

/-- The second layer's weights as a matrix. -/
abbrev mat (c : Dev nD) : Vec Ideal S1024x2456 .f32 := shapeCast S1024x2456
  (extractStridedSlice S1x1024x2456 ![1, 0, 0] (m ((c : Thread nD τ).loc main_arg5)) slices_S2x1024x2456_S1x1024x2456_1_0_0) shapeCasts_S1x1024x2456_S1024x2456

/-- The matrix the kernel reads: the weights' columns around some padded ones. -/
theorem V_big (c : Dev nD) : ∃ P : Vec Ideal S1024x384 .f32, V m c main_v11 = (truncf (F := Ideal) .bf16 (concatenate S1024x2816 1
    [⟨S1024x1792, extractStridedSlice S1024x1792 ![0, 0] (mat m c) slices_S1024x2456_S1024x1792_0_0⟩, ⟨S1024x384, P⟩,
     ⟨S1024x640, extractStridedSlice S1024x640 ![0, 1816] (mat m c) slices_S1024x2456_S1024x640_0_1816⟩]
    concatenates_S1024x1792_S1024x384_S1024x640_S1024x2816_d1) bitsLt_bf16_f32 : Vec Ideal S1024x2816 .bf16) := by
  refine ⟨?_, ?_⟩
  rotate_left
  · unfold V
    simp only [hostOps0, hostOps0_1, hostOps0_2, List.flatten_cons, List.flatten_nil, List.append_nil, List.cons_append, List.nil_append]
    after_results <;> rfl

theorem mat_apply (c : Dev nD) (k : Fin 1024) (q : Fin 2456) :
    mat m c (ix2 k q) = (m ((c : Thread nD τ).loc main_arg5) : Vec Ideal S2x1024x2456 .f32) (ix3 1 k q) := by
  refine (flat3 (R := 1024) (C := 2456) _ _ k q).trans ?_
  exact extractStridedSlice_apply ![1, 0, 0] _ _ (ix3 (0 : Fin 1) k q) (ix3 (1 : Fin 2) k q) (fun a => match a with
    | ⟨0, _⟩ => rfl
    | ⟨1, _⟩ => by show k.val = 0 + k.val; omega
    | ⟨2, _⟩ => by show q.val = 0 + q.val; omega)

theorem big_apply (c : Dev nD) (k : Fin 1024) (q : Fin 2816) (q' : Fin 2456)
    (hq : q.val < 1792 ∧ q'.val = q.val ∨ 2176 ≤ q.val ∧ q'.val + 360 = q.val) :
    (V m c main_v11 : Vec Ideal S1024x2816 .bf16) (ix2 k q) = (m ((c : Thread nD τ).loc main_arg5) : Vec Ideal S2x1024x2456 .f32) (ix3 1 k q') := by
  obtain ⟨P, hP⟩ := V_big m c
  rw [hP, ← mat_apply m c k q']
  exact Cert.Proof.In.pieces_apply (mat m c) P k q q' hq

section Reads
variable (c : Dev nD) (t : Fin cfg0.N) (r : Fin 768) (k : Fin 1024) (b : Fin 8) (n : Fin 2304) (hb : b.val = t.val / 3)
  (hn : n.val = 768 * (t.val % 3) + r.val)

/-- A row of a block of 768 rows lies in the array at its tile's place. -/
theorem row_read (w : Fin 3 → ℕ) (hw : w 0 = t.val / 3 ∧ w 1 = t.val % 3 ∧ w 2 = 0) (hb : b.val = t.val / 3)
    (hn : n.val = 768 * (t.val % 3) + r.val) (i : (⟨3, ![8, 2304, 1024]⟩ : Shape).Idx)
    (h0 : (i 0).val = w 0 * 1 + 1 * 0) (h1 : (i 1).val = w 1 * 768 + 1 * r.val) (h2 : (i 2).val = w 2 * 1024 + 1 * k.val) : i = ix3 b n k := by
  rw [hw.1] at h0
  rw [hw.2.1] at h1
  rw [hw.2.2] at h2
  funext a
  apply Fin.ext
  match a with
  | ⟨0, _⟩ => show (i 0).val = b.val; omega
  | ⟨1, _⟩ => show (i 1).val = n.val; omega
  | ⟨2, _⟩ => show (i 2).val = k.val; omega

/-- A row of a block of the table lies in the table of its sequence. -/
theorem table_read (w : Fin 4 → ℕ) (hw : w 0 = t.val / 3 ∧ w 1 = 0 ∧ w 2 = 0 ∧ w 3 = 0) (hb : b.val = t.val / 3) (s : Fin 2) (j : Fin 6)
    (i : (⟨4, ![8, 2, 6, 1024]⟩ : Shape).Idx) (h0 : (i 0).val = w 0 * 1 + 1 * 0) (h1 : (i 1).val = w 1 * 2 + 1 * s.val)
    (h2 : (i 2).val = w 2 * 6 + 1 * j.val) (h3 : (i 3).val = w 3 * 1024 + 1 * k.val) : i = ix4 b s j k := by
  rw [hw.1] at h0
  rw [hw.2.1] at h1
  rw [hw.2.2.1] at h2
  rw [hw.2.2.2] at h3
  funext a
  apply Fin.ext
  match a with
  | ⟨0, _⟩ => show (i 0).val = b.val; omega
  | ⟨1, _⟩ => show (i 1).val = s.val; omega
  | ⟨2, _⟩ => show (i 2).val = j.val; omega
  | ⟨3, _⟩ => show (i 3).val = k.val; omega

include hb

theorem read2 (s : Fin 2) (j : Fin 6) : (iblk m c 2 t : Vec Ideal S1x2x6x1024 .f32) (ix4 0 s j k)
    = if s.val = 0 then modCtx (m ((c : Thread nD τ).loc main_arg3)) 0 j k else modLat (m ((c : Thread nD τ).loc main_arg2)) 0 b j k := by
  have h : (iblk m c 2 t : Vec Ideal S1x2x6x1024 .f32) (ix4 0 s j k) = (V m c main_v17 : Vec Ideal S8x2x6x1024 .f32) (ix4 b s j k) := by
    unfold iblk
    rw [View.read_apply]
    show V m c main_v17 _ = _
    exact congrArg _ (table_read t k b (win0_2.index t) (at2 t) hb s j _ rfl rfl rfl rfl)
  rw [h, V_table0]
  exact table_apply 0 (m ((c : Thread nD τ).loc main_arg2)) (m ((c : Thread nD τ).loc main_arg3)) _ _ _ _ _ _ b s j k

theorem read3 (s : Fin 2) (j : Fin 6) : (iblk m c 3 t : Vec Ideal S1x2x6x1024 .f32) (ix4 0 s j k)
    = if s.val = 0 then modCtx (m ((c : Thread nD τ).loc main_arg3)) 1 j k else modLat (m ((c : Thread nD τ).loc main_arg2)) 1 b j k := by
  have h : (iblk m c 3 t : Vec Ideal S1x2x6x1024 .f32) (ix4 0 s j k) = (V m c main_v19 : Vec Ideal S8x2x6x1024 .f32) (ix4 b s j k) := by
    unfold iblk
    rw [View.read_apply]
    show V m c main_v19 _ = _
    exact congrArg _ (table_read t k b (win0_3.index t) (at2 t) hb s j _ rfl rfl rfl rfl)
  rw [h, V_table1]
  exact table_apply 1 (m ((c : Thread nD τ).loc main_arg2)) (m ((c : Thread nD τ).loc main_arg3)) _ _ _ _ _ _ b s j k

include hn

theorem read0 : (iblk m c 0 t : Vec Ideal S1x768x1024 .f32) (ix3 0 r k)
    = (m ((c : Thread nD τ).loc main_arg0) : Vec Ideal S8x2304x1024 .f32) (ix3 b n k) := by
  unfold iblk
  rw [View.read_apply]
  show V m c main_arg0 _ = _
  rw [V_main_arg0]
  exact congrArg _ (row_read t r k b n (win0_0.index t) (at0 t) hb hn _ rfl rfl rfl)

theorem read1 : (iblk m c 1 t : Vec Ideal S1x768x1024 .f32) (ix3 0 r k)
    = (m ((c : Thread nD τ).loc main_arg1) : Vec Ideal S8x2304x1024 .f32) (ix3 b n k) := by
  unfold iblk
  rw [View.read_apply]
  show V m c main_arg1 _ = _
  rw [V_main_arg1]
  exact congrArg _ (row_read t r k b n (win0_1.index t) (at0 t) hb hn _ rfl rfl rfl)

/-- The rows of the tables a tile's row picks. -/
theorem row0_apply (j : Fin 6) :
    (if 768 * ((grid0.coords t) 1).val + r.val < 256 then (iblk m c 2 t : Vec Ideal S1x2x6x1024 .f32) (ix4 0 0 j k)
      else (iblk m c 2 t : Vec Ideal S1x2x6x1024 .f32) (ix4 0 1 j k))
      = modRow (m ((c : Thread nD τ).loc main_arg2)) (m ((c : Thread nD τ).loc main_arg3)) 0 b n j k := by
  rw [read2 m c t k b hb 0 j, read2 m c t k b hb 1 j, tile_of t, ← hn]
  rfl

theorem row1_apply (j : Fin 6) :
    (if 768 * ((grid0.coords t) 1).val + r.val < 256 then (iblk m c 3 t : Vec Ideal S1x2x6x1024 .f32) (ix4 0 0 j k)
      else (iblk m c 3 t : Vec Ideal S1x2x6x1024 .f32) (ix4 0 1 j k))
      = modRow (m ((c : Thread nD τ).loc main_arg2)) (m ((c : Thread nD τ).loc main_arg3)) 1 b n j k := by
  rw [read3 m c t k b hb 0 j, read3 m c t k b hb 1 j, tile_of t, ← hn]
  rfl

/-- The stream of the arguments in memory, and a tile's part of it. -/
abbrev streamOf : Fin 8 → Fin 2304 → Fin 1024 → EReal :=
  stream (m ((c : Thread nD τ).loc main_arg0)) (m ((c : Thread nD τ).loc main_arg1)) (m ((c : Thread nD τ).loc main_arg2))
    (m ((c : Thread nD τ).loc main_arg3))

theorem resid_block : resid (grid0.coords t) (iblk m c 0 t) (iblk m c 1 t) (iblk m c 2 t) (ix2 r k) = streamOf m c b n k := by
  refine (resid_apply _ _ _ _ r k).trans ?_
  rw [row0_apply m c t r k b n hb hn 5, read0 m c t r k b n hb hn, read1 m c t r k b n hb hn]
  rfl

end Reads

theorem read4 (c : Dev nD) (t : Fin cfg0.N) (k : Fin 1024) :
    (iblk m c 4 t : Vec Ideal S1x1024 .f32) (ix2 0 k) = (m ((c : Thread nD τ).loc main_arg4) : Vec Ideal S2x1024 .f32) (ix2 1 k) := by
  have h : (iblk m c 4 t : Vec Ideal S1x1024 .f32) (ix2 0 k) = (V m c main_v22 : Vec Ideal S1x1024 .f32) (ix2 0 k) := by
    unfold iblk
    rw [View.read_apply]
    show V m c main_v22 _ = _
    congr 1
    funext a
    apply Fin.ext
    match a with
    | ⟨0, _⟩ => show win0_4.index t 0 * 1 + 1 * 0 = 0; rw [(at4 t).1]
    | ⟨1, _⟩ => show win0_4.index t 1 * 1024 + 1 * k.val = k.val; rw [(at4 t).2]; omega
  rw [h, V_gain]
  refine (broadcastInDim_apply ![1] _ _ (ix2 0 k) (ix1 k) (fun a => match a with | ⟨0, _⟩ => rfl)).trans ?_
  refine (shapeCast_apply _ _ (ix1 k) (ix2 0 k) (by
    rewrite [Shape.rowMajor_val_one, Shape.rowMajor_val_two]
    show 0 * 1024 + k.val = k.val
    omega)).trans ?_
  exact extractStridedSlice_apply ![1, 0] _ _ (ix2 (0 : Fin 1) k) (ix2 (1 : Fin 2) k) (fun a => match a with
    | ⟨0, _⟩ => rfl
    | ⟨1, _⟩ => by show k.val = 0 + k.val; omega)

theorem read5 (c : Dev nD) (t : Fin cfg0.N) (k : Fin 1024) (q : Fin 2816) :
    (iblk m c 5 t : Vec Ideal S1024x2816 .bf16) (ix2 k q) = (V m c main_v11 : Vec Ideal S1024x2816 .bf16) (ix2 k q) := by
  unfold iblk
  rw [View.read_apply]
  show V m c main_v11 _ = _
  congr 1
  funext a
  apply Fin.ext
  match a with
  | ⟨0, _⟩ => show win0_5.index t 0 * 1024 + 1 * k.val = k.val; rw [(at5 t).1]; omega
  | ⟨1, _⟩ => show win0_5.index t 1 * 2816 + 1 * q.val = q.val; rw [(at5 t).2]; omega

/-! ## The results -/

/-- The array of `N` of the projection's columns, from column `o` on, of the arguments in memory. -/
abbrev res (c : Dev nD) (N o : ℕ) (h : o + N ≤ 2456) : (⟨3, ![8, 2304, N]⟩ : Shape).Idx → EReal :=
  cols (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) N o h

/-- A block of a result: the tile's product with the columns from `p` on of the matrix read, which are the weights' from `o` on. -/
theorem point_apply {N : ℕ} (c : Dev nD) (t : Fin cfg0.N) (p o : ℕ) (ho : o + N ≤ 2456)
    (inb : ∀ a, (![0, p] : Fin 2 → Nat) a + (⟨2, ![1024, N]⟩ : Shape).size a ≤ S1024x2816.size a)
    (h : (⟨2, ![1024, N]⟩ : Shape).ShapeCasts ⟨2, ![1024, N]⟩) (h' : (⟨2, ![768, N]⟩ : Shape).ShapeCasts ⟨3, ![1, 768, N]⟩)
    (hp : p + N ≤ 1792 ∧ o = p ∨ 2176 ≤ p ∧ o + 360 = p) (r : Fin 768) (q : Fin N) (b : Fin 8) (n : Fin 2304) (q' : Fin 2456)
    (hb : b.val = t.val / 3) (hn : n.val = 768 * (t.val % 3) + r.val) (hq : q'.val = o + q.val) :
    shapeCast (⟨3, ![1, 768, N]⟩ : Shape) (FloatOps.matmul (φ₁ := .bf16) (φ₂ := .bf16) (DotDims.plain 768 1024 N) none
      (k0_pay14 (F := Ideal) (grid0.coords t) (iblk m c 0 t) (iblk m c 1 t) (iblk m c 2 t) (iblk m c 3 t) (iblk m c 4 t) (iblk m c 5 t) : FVec Ideal ⟨2, ![768, 1024]⟩ .bf16)
      (shapeCast (⟨2, ![1024, N]⟩ : Shape) (α := Ideal .bf16) (View.ld (iblk m c 5 t : Vec Ideal S1024x2816 .bf16)
        (Rect.unit (s := S1024x2816) ![0, p] (⟨2, ![1024, N]⟩ : Shape).size inb)) h)
      (constant (F := Ideal) (⟨2, ![768, N]⟩ : Shape) .f32 0x00000000#32)) h' (ix3 0 r q)
      = proj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b n q' := by
  have htl : t.val < 24 := t.isLt
  have hinb : p + N ≤ 2816 := inb 1
  have hql := q.isLt
  rcases b with ⟨b, hbl⟩
  rcases n with ⟨n, hnl⟩
  obtain rfl : b = t.val / 3 := hb
  obtain rfl : n = 768 * (t.val % 3) + r.val := hn
  refine (prod_apply (R := 768) (N := N) _ _ h h' r q).trans ?_
  unfold proj
  refine Finset.sum_congr rfl fun k _ => congrArg₂ (fun (a b : EReal) => a * b) ?_ ?_
  · refine (tile_apply _ _ _ _ _ _ _ r k).trans ?_
    rw [funext fun d => resid_block m c t r d ⟨t.val / 3, by omega⟩ ⟨768 * (t.val % 3) + r.val, by omega⟩ rfl rfl, funext fun d => read4 m c t d,
      funext fun d => row1_apply m c t r d ⟨t.val / 3, by omega⟩ ⟨768 * (t.val % 3) + r.val, by omega⟩ rfl rfl 1,
      funext fun d => row1_apply m c t r d ⟨t.val / 3, by omega⟩ ⟨768 * (t.val % 3) + r.val, by omega⟩ rfl rfl 0]
  · refine Eq.trans (b := (iblk m c 5 t : Vec Ideal S1024x2816 .bf16) (ix2 k ⟨p + q.val, by omega⟩)) ?_ ?_
    · show (iblk m c 5 t : Vec Ideal S1024x2816 .bf16) _ = _
      congr 1
      funext a
      apply Fin.ext
      match a with
      | ⟨0, _⟩ => show 0 + 1 * k.val = k.val; omega
      | ⟨1, _⟩ => show p + 1 * q.val = p + q.val; omega
    · rw [read5]
      refine big_apply m c k _ _ ?_
      show p + q.val < 1792 ∧ q'.val = p + q.val ∨ 2176 ≤ p + q.val ∧ q'.val + 360 = p + q.val
      omega

/-- The same at any index of the block and the place of the array it lies over. -/
theorem block_apply {N : ℕ} (c : Dev nD) (t : Fin cfg0.N) (p o : ℕ) (ho : o + N ≤ 2456)
    (inb : ∀ a, (![0, p] : Fin 2 → Nat) a + (⟨2, ![1024, N]⟩ : Shape).size a ≤ S1024x2816.size a)
    (h : (⟨2, ![1024, N]⟩ : Shape).ShapeCasts ⟨2, ![1024, N]⟩) (h' : (⟨2, ![768, N]⟩ : Shape).ShapeCasts ⟨3, ![1, 768, N]⟩)
    (hp : p + N ≤ 1792 ∧ o = p ∨ 2176 ≤ p ∧ o + 360 = p) (y : (⟨3, ![1, 768, N]⟩ : Shape).Idx) (i : (⟨3, ![8, 2304, N]⟩ : Shape).Idx)
    (h0 : (i 0).val = t.val / 3) (h1 : (i 1).val = 768 * (t.val % 3) + (y 1).val) (h2 : (i 2).val = (y 2).val) :
    shapeCast (⟨3, ![1, 768, N]⟩ : Shape) (FloatOps.matmul (φ₁ := .bf16) (φ₂ := .bf16) (DotDims.plain 768 1024 N) none
      (k0_pay14 (F := Ideal) (grid0.coords t) (iblk m c 0 t) (iblk m c 1 t) (iblk m c 2 t) (iblk m c 3 t) (iblk m c 4 t) (iblk m c 5 t) : FVec Ideal ⟨2, ![768, 1024]⟩ .bf16)
      (shapeCast (⟨2, ![1024, N]⟩ : Shape) (α := Ideal .bf16) (View.ld (iblk m c 5 t : Vec Ideal S1024x2816 .bf16)
        (Rect.unit (s := S1024x2816) ![0, p] (⟨2, ![1024, N]⟩ : Shape).size inb)) h)
      (constant (F := Ideal) (⟨2, ![768, N]⟩ : Shape) .f32 0x00000000#32)) h' y = res m c N o ho i := by
  have hy0 : (y 0).val < 1 := (y 0).isLt
  have hy : y = ix3 (n0 := 1) (n1 := 768) (n2 := N) 0 (y 1) (y 2) := funext fun a => match a with
    | ⟨0, _⟩ => Fin.ext (by show (y 0).val = 0; omega)
    | ⟨1, _⟩ => rfl
    | ⟨2, _⟩ => rfl
  exact (congrArg _ hy).trans (point_apply m c t p o ho inb h h' hp (y 1) (y 2) (i 0) (i 1) _ h0 h1 (congrArg (o + ·) h2))

theorem at6 : ∀ t : Fin cfg0.N, win0_6.index t 0 = t.val / 3 ∧ win0_6.index t 1 = t.val % 3 ∧ win0_6.index t 2 = 0 :=
  (by decide +kernel : ∀ t : Fin grid0.N, win0_6.index t 0 = t.val / 3 ∧ win0_6.index t 1 = t.val % 3 ∧ win0_6.index t 2 = 0)

/-- An element of a block and the element of the array it lies over. -/
theorem place {N : ℕ} (t : Fin cfg0.N) (w : Fin 3 → ℕ) (hw : w 0 = t.val / 3 ∧ w 1 = t.val % 3 ∧ w 2 = 0)
    (y : (⟨3, ![1, 768, N]⟩ : Shape).Idx) : w 0 * 1 + 1 * (y 0).val = t.val / 3
      ∧ w 1 * 768 + 1 * (y 1).val = 768 * (t.val % 3) + (y 1).val ∧ w 2 * N + 1 * (y 2).val = (y 2).val := by
  have hy0 : (y 0).val < 1 := (y 0).isLt
  rw [hw.1, hw.2.1, hw.2.2]
  exact ⟨by omega, by omega, by omega⟩

theorem result6 (c : Dev nD) : (dats m 0 c).arrAt 6 cfg0.N = fun i : S8x2304x1024.Idx => streamOf m c (i 0) (i 1) (i 2) := by
  refine (dats m 0 c).arrAt_eq_of_covers 6 _ (by decide +kernel) fun t hf y => ?_
  blk_simp
  rw [after0_6]
  unfold out0_6
  rw [View.canon_unit_zero (by decide)]
  obtain ⟨h0, h1, h2⟩ := place (N := 1024) t (win0_6.index t) (at6 t) y
  have hy0 : (y 0).val < 1 := (y 0).isLt
  have hy : y = ix3 (n0 := 1) (n1 := 768) (n2 := 1024) 0 (y 1) (y 2) := funext fun a => match a with
    | ⟨0, _⟩ => Fin.ext (by show (y 0).val = 0; omega)
    | ⟨1, _⟩ => rfl
    | ⟨2, _⟩ => rfl
  unfold k0_pay5
  refine (congrArg _ hy).trans ((lift3 _ _ (y 1) (y 2)).trans ?_)
  exact (resid_block m c t (y 1) (y 2) _ _ h0 h1).trans (congrArg (streamOf m c _ _) (Fin.ext h2.symm))

theorem result7 (c : Dev nD) : (dats m 0 c).arrAt 7 cfg0.N = res m c 256 0 (by decide) := by
  refine (dats m 0 c).arrAt_eq_of_covers 7 _ (by decide +kernel) fun t hf y => ?_
  blk_simp
  rw [after0_7]
  unfold out0_7
  rw [View.canon_unit_zero (by decide)]
  obtain ⟨h0, h1, h2⟩ := place (N := 256) t (win0_7.index t) (at6 t) y
  exact block_apply m c t 0 0 _ _ _ _ (by decide) y _ h0 h1 h2

theorem result8 (c : Dev nD) : (dats m 0 c).arrAt 8 cfg0.N = res m c 1152 256 (by decide) := by
  refine (dats m 0 c).arrAt_eq_of_covers 8 _ (by decide +kernel) fun t hf y => ?_
  blk_simp
  rw [after0_8]
  unfold out0_8
  rw [View.canon_unit_zero (by decide)]
  obtain ⟨h0, h1, h2⟩ := place (N := 1152) t (win0_8.index t) (at6 t) y
  exact block_apply m c t 256 256 _ _ _ _ (by decide) y _ h0 h1 h2

theorem result9 (c : Dev nD) : (dats m 0 c).arrAt 9 cfg0.N = res m c 384 1408 (by decide) := by
  refine (dats m 0 c).arrAt_eq_of_covers 9 _ (by decide +kernel) fun t hf y => ?_
  blk_simp
  rw [after0_9]
  unfold out0_9
  rw [View.canon_unit_zero (by decide)]
  obtain ⟨h0, h1, h2⟩ := place (N := 384) t (win0_9.index t) (at6 t) y
  exact block_apply m c t 1408 1408 _ _ _ _ (by decide) y _ h0 h1 h2

theorem result11 (c : Dev nD) : (dats m 0 c).arrAt 11 cfg0.N = res m c 384 1816 (by decide) := by
  refine (dats m 0 c).arrAt_eq_of_covers 11 _ (by decide +kernel) fun t hf y => ?_
  blk_simp
  rw [after0_11]
  unfold out0_11
  rw [View.canon_unit_zero (by decide)]
  obtain ⟨h0, h1, h2⟩ := place (N := 384) t (win0_11.index t) (at6 t) y
  exact block_apply m c t 2176 1816 _ _ _ _ (by decide) y _ h0 h1 h2

theorem result12 (c : Dev nD) : (dats m 0 c).arrAt 12 cfg0.N = res m c 128 2200 (by decide) := by
  refine (dats m 0 c).arrAt_eq_of_covers 12 _ (by decide +kernel) fun t hf y => ?_
  blk_simp
  rw [after0_12]
  unfold out0_12
  rw [View.canon_unit_zero (by decide)]
  obtain ⟨h0, h1, h2⟩ := place (N := 128) t (win0_12.index t) (at6 t) y
  exact block_apply m c t 2560 2200 _ _ _ _ (by decide) y _ h0 h1 h2

theorem result13 (c : Dev nD) : (dats m 0 c).arrAt 13 cfg0.N = res m c 128 2328 (by decide) := by
  refine (dats m 0 c).arrAt_eq_of_covers 13 _ (by decide +kernel) fun t hf y => ?_
  blk_simp
  rw [after0_13]
  unfold out0_13
  rw [View.canon_unit_zero (by decide)]
  obtain ⟨h0, h1, h2⟩ := place (N := 128) t (win0_13.index t) (at6 t) y
  exact block_apply m c t 2688 2328 _ _ _ _ (by decide) y _ h0 h1 h2

/-! ## The reference -/

section Reference
open Cert.Reference7Ideal.Read

variable (x0 x1 : (⟨S8x2304x1024, .f32⟩ : BufTy).Contents (Elt Ideal))
  (x2 : (⟨S2x8x6144, .f32⟩ : BufTy).Contents (Elt Ideal)) (x3 : (⟨S2x6144, .f32⟩ : BufTy).Contents (Elt Ideal))
  (x4 : (⟨S2x1024, .f32⟩ : BufTy).Contents (Elt Ideal)) (x5 : (⟨S2x1024x2456, .f32⟩ : BufTy).Contents (Elt Ideal))

/-- A row of the latents' modulation, sliced from the table and reshaped. -/
theorem ref_lat (l : Fin 2) (b : Fin 8) (j : Fin 6) (k : Fin 1024) (i : (⟨3, ![2, 8, 6144]⟩ : Shape).Idx) (h0 : (i 0).val = l.val)
    (h1 : (i 1).val = (b.val * 1024 + k.val) / 1024 % 8) (h2 : (i 2).val = 1024 * j.val + (b.val * 1024 + k.val) % 1024) :
    x2 i = modLat x2 l b j k := by
  have hb := b.isLt; have hk := k.isLt
  exact congrArg x2 (funext fun a => Fin.ext (match a with
    | ⟨0, _⟩ => h0
    | ⟨1, _⟩ => h1.trans (by show _ = b.val; omega)
    | ⟨2, _⟩ => h2.trans (by show _ = 1024 * j.val + k.val; omega)))

/-- A row of the context's modulation. -/
theorem ref_ctx (l : Fin 2) (j : Fin 6) (k : Fin 1024) (i : (⟨2, ![2, 6144]⟩ : Shape).Idx) (h0 : (i 0).val = l.val)
    (h1 : (i 1).val = 1024 * j.val + k.val % 1024) : x3 i = modCtx x3 l j k := by
  have hk := k.isLt
  exact congrArg x3 (funext fun a => Fin.ext (match a with
    | ⟨0, _⟩ => h0
    | ⟨1, _⟩ => h1.trans (by show _ = 1024 * j.val + k.val; omega)))

theorem ref_row2 (b : Fin 8) (k : Fin 1024) : val_main_v2 (F := Ideal) x2 (ix3 b 0 k) = modLat x2 0 b 5 k := by
  rw [val_main_v2_apply, val_main_v1_apply, val_main_v0_apply]
  exact ref_lat x2 0 b 5 k _ rfl rfl rfl

theorem ref_row7 (b : Fin 8) (k : Fin 1024) : val_main_v7 (F := Ideal) x2 (ix3 b 0 k) = modLat x2 1 b 0 k := by
  rw [val_main_v7_apply, val_main_v6_apply, val_main_v5_apply]
  exact ref_lat x2 1 b 0 k _ rfl rfl (Nat.zero_add _).symm

theorem ref_row10 (b : Fin 8) (k : Fin 1024) : val_main_v10 (F := Ideal) x2 (ix3 b 0 k) = modLat x2 1 b 1 k := by
  rw [val_main_v10_apply, val_main_v9_apply, val_main_v8_apply]
  exact ref_lat x2 1 b 1 k _ rfl rfl rfl

theorem ref_row4 (k : Fin 1024) : val_main_v4 (F := Ideal) x3 (ix1 k) = modCtx x3 0 5 k := by
  rw [val_main_v4_apply, val_main_v3_apply]
  exact ref_ctx x3 0 5 k _ rfl rfl

theorem ref_row12 (k : Fin 1024) : val_main_v12 (F := Ideal) x3 (ix1 k) = modCtx x3 1 0 k := by
  rw [val_main_v12_apply, val_main_v11_apply]
  exact ref_ctx x3 1 0 k _ rfl (Nat.zero_add _).symm

theorem ref_row14 (k : Fin 1024) : val_main_v14 (F := Ideal) x3 (ix1 k) = modCtx x3 1 1 k := by
  rw [val_main_v14_apply, val_main_v13_apply]
  exact ref_ctx x3 1 1 k _ rfl rfl

/-- The latents' stream. -/
theorem ref_lat_stream (b : Fin 8) (n : Fin 2048) (d : Fin 1024) : val_main_v21 (F := Ideal) x0 x1 x2 (ix3 b n d)
    = x0 (ix3 b ⟨256 + n.val, by omega⟩ d) + modLat x2 0 b 5 d * x1 (ix3 b ⟨256 + n.val, by omega⟩ d) := by
  rw [val_main_v21_apply, val_main_v20_apply, val_main_v19_apply, val_main_v18_apply, val_main_v17_apply]
  rw [← ref_row2 x2 b d]
  refine congrArg₂ (fun (u v : EReal) => u + v) (congrArg _ ?_) (congrArg₂ (fun (u v : EReal) => u * v) (congrArg _ ?_) (congrArg _ ?_)) <;>
    exact funext fun a => match a with | ⟨0, _⟩ => rfl | ⟨1, _⟩ => rfl | ⟨2, _⟩ => rfl

/-- The context's stream. -/
theorem ref_ctx_stream (b : Fin 8) (n : Fin 256) (d : Fin 1024) : val_main_v27 (F := Ideal) x0 x1 x3 (ix3 b n d)
    = x0 (ix3 b ⟨n.val, by omega⟩ d) + modCtx x3 0 5 d * x1 (ix3 b ⟨n.val, by omega⟩ d) := by
  rw [val_main_v27_apply, val_main_v26_apply, val_main_v25_apply, val_main_v24_apply, val_main_v23_apply, val_main_v22_apply]
  rw [← ref_row4 x3 d]
  refine congrArg₂ (fun (u v : EReal) => u + v) (congrArg _ ?_) (congrArg₂ (fun (u v : EReal) => u * v) (congrArg _ ?_) (congrArg _ ?_))
  · exact funext fun a => match a with | ⟨0, _⟩ => rfl | ⟨1, _⟩ => rfl | ⟨2, _⟩ => rfl
  · exact funext fun a => match a with | ⟨0, _⟩ => rfl
  · exact funext fun a => match a with | ⟨0, _⟩ => rfl | ⟨1, _⟩ => rfl | ⟨2, _⟩ => rfl

theorem ref_stream (b : Fin 8) (n : Fin 2304) (d : Fin 1024) : val_main_v78 (F := Ideal) x0 x1 x2 x3 (ix3 b n d) = stream x0 x1 x2 x3 b n d := by
  unfold val_main_v78
  refine (joined_apply _ _ _ b n d).trans ?_
  unfold stream modRow
  by_cases hn : n.val < 256
  · simp only [hn, dite_true, if_true]
    exact ref_ctx_stream x0 x1 x3 b ⟨n.val, hn⟩ d
  · simp only [hn, dite_false, if_false]
    refine (ref_lat_stream x0 x1 x2 b ⟨n.val - 256, by omega⟩ d).trans ?_
    have e : (⟨256 + (n.val - 256), by omega⟩ : Fin 2304) = n := Fin.ext (by show 256 + (n.val - 256) = n.val; omega)
    simp only [e]

theorem ref_latents (b : Fin 8) (n : Fin 2048) (d : Fin 1024) : val_main_v46 (F := Ideal) x0 x1 x2 x4 (ix3 b n d)
    = modnorm (fun k => val_main_v21 (F := Ideal) x0 x1 x2 (ix3 b n k)) (fun k => x4 (ix2 1 k)) (modLat x2 1 b 1) (modLat x2 1 b 0) d := by
  rw [val_main_v46_apply, val_main_v45_apply, val_main_v44_apply, val_main_v43_apply, val_main_v42_apply, val_main_v41_apply,
    val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v16_apply, val_main_v15_apply,
    val_main_cst_apply, val_main_cst_0_apply, val_main_cst_1_apply, val_main_cst_2_apply]
  have hd := d.isLt
  have hs : ∀ k : Fin 1024, val_main_v28 (F := Ideal) x0 x1 x2 (idx_main_v29 (idx_main_v30 (idx_main_v36 (ix3 b n d))) k)
      = val_main_v21 (F := Ideal) x0 x1 x2 (ix3 b n k) * val_main_v21 (F := Ideal) x0 x1 x2 (ix3 b n k) := fun k => by
    have e : idx_main_v29 (idx_main_v30 (idx_main_v36 (ix3 b n d))) k = ix3 b n k := funext fun a => match a with
      | ⟨0, _⟩ => rfl | ⟨1, _⟩ => rfl | ⟨2, _⟩ => rfl
    rw [e, val_main_v28_apply]
    rfl
  rw [Finset.sum_congr rfl fun k _ => hs k]
  have hg : x4 (idx_main_v15 (idx_main_v16 (idx_main_v38 (idx_main_v39 (ix3 b n d))))) = x4 (ix2 1 d) := congrArg x4 (funext fun a => match a with
    | ⟨0, _⟩ => rfl
    | ⟨1, _⟩ => Fin.ext (by show d.val % 1024 = d.val; omega))
  have hsc : val_main_v10 (F := Ideal) x2 (idx_main_v43 (ix3 b n d)) = modLat x2 1 b 1 d := by
    rw [← ref_row10 x2 b d]
    exact congrArg _ (funext fun a => match a with | ⟨0, _⟩ => rfl | ⟨1, _⟩ => rfl | ⟨2, _⟩ => rfl)
  have hsh : val_main_v7 (F := Ideal) x2 (idx_main_v45 (ix3 b n d)) = modLat x2 1 b 0 d := by
    rw [← ref_row7 x2 b d]
    exact congrArg _ (funext fun a => match a with | ⟨0, _⟩ => rfl | ⟨1, _⟩ => rfl | ⟨2, _⟩ => rfl)
  rw [hg, hsc, hsh]
  show (_ * Ideal.rsqrt (Ideal.div (Ideal.ofBits .f32 0x00000000#32 + _) _ + _)) * _ * _ + _ = _
  rw [Dense.zero_f32, zero_add]
  rfl

theorem ref_context (b : Fin 8) (n : Fin 256) (d : Fin 1024) : val_main_v67 (F := Ideal) x0 x1 x3 x4 (ix3 b n d)
    = modnorm (fun k => val_main_v27 (F := Ideal) x0 x1 x3 (ix3 b n k)) (fun k => x4 (ix2 1 k)) (modCtx x3 1 1) (modCtx x3 1 0) d := by
  rw [val_main_v67_apply, val_main_v66_apply, val_main_v65_apply, val_main_v64_apply, val_main_v63_apply, val_main_v62_apply,
    val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v16_apply, val_main_v15_apply,
    val_main_cst_3_apply, val_main_cst_4_apply, val_main_cst_5_apply, val_main_cst_6_apply]
  have hd := d.isLt
  have hs : ∀ k : Fin 1024, val_main_v47 (F := Ideal) x0 x1 x3 (idx_main_v48 (idx_main_v49 (idx_main_v55 (ix3 b n d))) k)
      = val_main_v27 (F := Ideal) x0 x1 x3 (ix3 b n k) * val_main_v27 (F := Ideal) x0 x1 x3 (ix3 b n k) := fun k => by
    have e : idx_main_v48 (idx_main_v49 (idx_main_v55 (ix3 b n d))) k = ix3 b n k := funext fun a => match a with
      | ⟨0, _⟩ => rfl | ⟨1, _⟩ => rfl | ⟨2, _⟩ => rfl
    rw [e, val_main_v47_apply]
    rfl
  rw [Finset.sum_congr rfl fun k _ => hs k]
  have hg : x4 (idx_main_v15 (idx_main_v16 (idx_main_v57 (idx_main_v58 (ix3 b n d))))) = x4 (ix2 1 d) := congrArg x4 (funext fun a => match a with
    | ⟨0, _⟩ => rfl
    | ⟨1, _⟩ => Fin.ext (by show d.val % 1024 = d.val; omega))
  have hsc : val_main_v14 (F := Ideal) x3 (idx_main_v62 (idx_main_v63 (ix3 b n d))) = modCtx x3 1 1 d := by
    rw [← ref_row14 x3 d]
    exact congrArg _ (funext fun a => match a with | ⟨0, _⟩ => rfl)
  have hsh : val_main_v12 (F := Ideal) x3 (idx_main_v65 (idx_main_v66 (ix3 b n d))) = modCtx x3 1 0 d := by
    rw [← ref_row12 x3 d]
    exact congrArg _ (funext fun a => match a with | ⟨0, _⟩ => rfl)
  rw [hg, hsc, hsh]
  show (_ * Ideal.rsqrt (Ideal.div (Ideal.ofBits .f32 0x00000000#32 + _) _ + _)) * _ * _ + _ = _
  rw [Dense.zero_f32, zero_add]
  rfl

/-- The normalized rows, context first, are those of the stream. -/
theorem ref_rows (b : Fin 8) (n : Fin 2304) (d : Fin 1024) : val_main_v68 (F := Ideal) x0 x1 x2 x3 x4 (ix3 b n d)
    = modnorm (stream x0 x1 x2 x3 b n) (fun k => x4 (ix2 1 k)) (modRow x2 x3 1 b n 1) (modRow x2 x3 1 b n 0) d := by
  unfold val_main_v68
  refine (joined_apply _ _ _ b n d).trans ?_
  rw [← funext fun k => ref_stream x0 x1 x2 x3 b n k]
  unfold modRow val_main_v78
  rw [funext fun k => joined_apply _ _ _ b n k]
  by_cases hn : n.val < 256
  · simp only [hn, dite_true, if_true]
    exact ref_context x0 x1 x3 x4 b ⟨n.val, hn⟩ d
  · simp only [hn, dite_false, if_false]
    exact ref_latents x0 x1 x2 x4 b ⟨n.val - 256, by omega⟩ d

theorem ref_proj (b : Fin 8) (n : Fin 2304) (q : Fin 2456) : val_main_v71 (F := Ideal) x0 x1 x2 x3 x4 x5 (ix3 b n q)
    = proj x0 x1 x2 x3 x4 x5 b n q := by
  rw [val_main_v71_apply]
  unfold proj
  refine Finset.sum_congr rfl fun k _ => congrArg₂ (fun (a b : EReal) => a * b) ?_ ?_
  · rw [← ref_rows]
    exact congrArg _ (funext fun a => match a with | ⟨0, _⟩ => rfl | ⟨1, _⟩ => rfl | ⟨2, _⟩ => rfl)
  · rw [val_main_v70_apply, val_main_v69_apply]
    have hk := k.isLt; have hq := q.isLt
    refine congrArg x5 (funext fun a => match a with
      | ⟨0, _⟩ => rfl
      | ⟨1, _⟩ => Fin.ext ?_
      | ⟨2, _⟩ => Fin.ext ?_)
    · show (k.val * 2456 + q.val) / 2456 % 1024 = k.val; omega
    · show (k.val * 2456 + q.val) % 2456 = q.val; omega

/-- Some of the reference's columns, wherever it reads them. -/
theorem ref_cols {N : ℕ} (o : ℕ) (ho : o + N ≤ 2456) (v : (⟨3, ![8, 2304, N]⟩ : Shape).Idx → EReal)
    (e : (⟨3, ![8, 2304, N]⟩ : Shape).Idx → (⟨3, ![8, 2304, 2456]⟩ : Shape).Idx) (hv : ∀ i, v i = val_main_v71 (F := Ideal) x0 x1 x2 x3 x4 x5 (e i))
    (he : ∀ i, (e i 0).val = (i 0).val ∧ (e i 1).val = (i 1).val ∧ (e i 2).val = o + (i 2).val) :
    v = cols x0 x1 x2 x3 x4 x5 N o ho := by
  funext i
  refine (hv i).trans (Eq.trans ?_ (ref_proj x0 x1 x2 x3 x4 x5 (i 0) (i 1) _))
  exact congrArg _ (funext fun a => match a with
    | ⟨0, _⟩ => Fin.ext (he i).1 | ⟨1, _⟩ => Fin.ext (he i).2.1 | ⟨2, _⟩ => Fin.ext (he i).2.2)

end Reference

/-! ## The claims -/

theorem kernel_frame : Cert.quiescent_Kernel7 (hKernel7 := Cert.Kernel7.Gen.facts) :=
  fun m ρ _ => Cert.Kernel7.Gen.frame m ρ

theorem ideal_frame : Cert.quiescent_Kernel7Ideal (hKernel7Ideal := Cert.Kernel7Ideal.Gen.facts) :=
  fun m ρ _ => Cert.Kernel7Ideal.Gen.frame m ρ

theorem reference_frame : Cert.quiescent_Reference7Ideal (hReference7Ideal := Cert.Reference7Ideal.Gen.facts) :=
  fun m ρ _ => (θ_run _ _ _).mono (fun r h => ⟨fun c => (h c).2.2.2.2.2.2.2, sem_eq_zero_of_no_sems (by decide) r.2⟩)
    (Cert.Reference7Ideal.Value.run m ρ)

theorem preserves : Cert.preserves_Kernel7_Kernel7Ideal := trivial

set_option maxHeartbeats 1000000 in
open Cert.Reference7Ideal.Read in
/-- Both compute the same stream and the same columns. -/
theorem algebraic : Cert.algebraic_Kernel7Ideal_Reference7Ideal (hKernel7Ideal := Cert.Kernel7Ideal.Gen.facts)
    (hReference7Ideal := Cert.Reference7Ideal.Gen.facts) := by
  intro m ρ m' ρ' _ hargs
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 11 cfg0.N, fun c => (dats m 0 c).arrAt 12 cfg0.N,
    fun c => (dats m 0 c).arrAt 13 cfg0.N, ?_, ?_⟩
  · exact (θ_run _ _ _).mono (fun r h c => ⟨(h c).1, (h c).2.1, (h c).2.2.1, (h c).2.2.2.1, (h c).2.2.2.2.2.1, (h c).2.2.2.2.2.2.1,
      (h c).2.2.2.2.2.2.2⟩) (Cert.Kernel7Ideal.Value.run_blocks m ρ)
  · refine (θ_run _ _ _).mono (fun r h c => ?_) (Cert.Reference7Ideal.Value.run m' ρ')
    obtain ⟨h0, h1, h2, h3, h4, h5⟩ := hargs c
    obtain ⟨r0, r1, r2, r3, r4, r5, r6, hr⟩ := h c
    have key : ∀ (N o : ℕ) (ho : o + N ≤ 2456), cols _ _ _ _ _ _ N o ho = res m c N o ho := fun N o ho => by
      unfold res
      rw [← h0, ← h1, ← h2, ← h3, ← h4, ← h5]
    refine ⟨r0.trans ((val_main_v78_eq ..).trans (Eq.trans ?_ (result6 m c).symm)), r1.trans ?_, r2.trans ?_, r3.trans ?_, r4.trans ?_,
      r5.trans ?_, r6.trans ?_, hr⟩
    · funext i
      refine ((congrArg _ (eq_ix3 i)).trans (ref_stream _ _ _ _ (i 0) (i 1) (i 2))).trans ?_
      unfold streamOf
      rw [← h0, ← h1, ← h2, ← h3]
    · exact ((val_main_v72_eq ..).trans (ref_cols _ _ _ _ _ _ 0 (by decide) _ idx_main_v72 (val_main_v72_apply _ _ _ _ _ _)
        fun i => ⟨rfl, rfl, (Nat.zero_add _).symm⟩)).trans ((key 256 0 (by decide)).trans (result7 m c).symm)
    · exact ((val_main_v73_eq ..).trans (ref_cols _ _ _ _ _ _ 256 (by decide) _ idx_main_v73 (val_main_v73_apply _ _ _ _ _ _)
        fun i => ⟨rfl, rfl, rfl⟩)).trans ((key 1152 256 (by decide)).trans (result8 m c).symm)
    · exact ((val_main_v74_eq ..).trans (ref_cols _ _ _ _ _ _ 1408 (by decide) _ idx_main_v74 (val_main_v74_apply _ _ _ _ _ _)
        fun i => ⟨rfl, rfl, rfl⟩)).trans ((key 384 1408 (by decide)).trans (result9 m c).symm)
    · exact ((val_main_v75_eq ..).trans (ref_cols _ _ _ _ _ _ 1816 (by decide) _ idx_main_v75 (val_main_v75_apply _ _ _ _ _ _)
        fun i => ⟨rfl, rfl, rfl⟩)).trans ((key 384 1816 (by decide)).trans (result11 m c).symm)
    · exact ((val_main_v76_eq ..).trans (ref_cols _ _ _ _ _ _ 2200 (by decide) _ idx_main_v76 (val_main_v76_apply _ _ _ _ _ _)
        fun i => ⟨rfl, rfl, rfl⟩)).trans ((key 128 2200 (by decide)).trans (result12 m c).symm)
    · exact ((val_main_v77_eq ..).trans (ref_cols _ _ _ _ _ _ 2328 (by decide) _ idx_main_v77 (val_main_v77_apply _ _ _ _ _ _)
        fun i => ⟨rfl, rfl, rfl⟩)).trans ((key 128 2328 (by decide)).trans (result13 m c).symm)

end Cert.Proof.Next

end
-- ==== Proof.Last.lean ====
/- The second layer's output projection, whose last tokens alone are wanted: the claims of `out_proj` on the latents. -/
module

public import proofs.«01_k».proof.Defs
public import proofs.«01_k».proof.Proof.Norm
public import proofs.«01_k».proof.Proof.Out
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim

@[expose] public section

set_option maxRecDepth 16384

noncomputable section

namespace Cert.Proof.Last

open Cert.Kernel8Ideal Cert.Kernel8Ideal.Gen Cert.Proof.Norm
open Idealize.ShloMosaic hiding ix1 ix2 ix3 ix4 ix5 eq_ix1 eq_ix2 eq_ix3
open Idealize.ShloMosaic.TcCoe Idealize.ShloMosaic.ValueIdx Idealize.SL.Sem
open scoped BigOperators

/-- The three mixers' outputs of a latent token, side by side; the third has the latents alone. -/
def mixed (Ya : (⟨3, ![8, 2304, 256]⟩ : Shape).Idx → EReal) (Yb : (⟨3, ![8, 2304, 384]⟩ : Shape).Idx → EReal)
    (Yc : (⟨3, ![8, 2048, 384]⟩ : Shape).Idx → EReal) (b : Fin 8) (n : Fin 2048) (k : Fin 1024) : EReal :=
  if h : k.val < 256 then Ya (ix3 b ⟨256 + n.val, by omega⟩ ⟨k.val, h⟩)
  else if h' : k.val < 640 then Yb (ix3 b ⟨256 + n.val, by omega⟩ ⟨k.val - 256, by omega⟩) else Yc (ix3 b n ⟨k.val - 640, by omega⟩)

/-- The latents' residual stream after the projection. -/
def stream (H : (⟨3, ![8, 2304, 1024]⟩ : Shape).Idx → EReal) (Ya : (⟨3, ![8, 2304, 256]⟩ : Shape).Idx → EReal)
    (Yb : (⟨3, ![8, 2304, 384]⟩ : Shape).Idx → EReal) (Yc : (⟨3, ![8, 2048, 384]⟩ : Shape).Idx → EReal)
    (W : (⟨3, ![2, 1024, 1024]⟩ : Shape).Idx → EReal) (M : (⟨3, ![2, 8, 6144]⟩ : Shape).Idx → EReal)
    (b : Fin 8) (n : Fin 2048) (d : Fin 1024) : EReal :=
  H (ix3 b ⟨256 + n.val, by omega⟩ d) + modLat M 1 b 2 d * ∑ k : Fin 1024, mixed Ya Yb Yc b n k * W (ix3 1 k d)

/-- The stream normalized and modulated. -/
def normed (H : (⟨3, ![8, 2304, 1024]⟩ : Shape).Idx → EReal) (Ya : (⟨3, ![8, 2304, 256]⟩ : Shape).Idx → EReal)
    (Yb : (⟨3, ![8, 2304, 384]⟩ : Shape).Idx → EReal) (Yc : (⟨3, ![8, 2048, 384]⟩ : Shape).Idx → EReal)
    (W : (⟨3, ![2, 1024, 1024]⟩ : Shape).Idx → EReal) (M : (⟨3, ![2, 8, 6144]⟩ : Shape).Idx → EReal)
    (G : (⟨2, ![2, 1024]⟩ : Shape).Idx → EReal) (b : Fin 8) (n : Fin 2048) (d : Fin 1024) : EReal :=
  modnorm (stream H Ya Yb Yc W M b n) (fun k => G (ix2 1 k)) (modLat M 1 b 4) (modLat M 1 b 3) d

/-! ## A tile -/

/-- A mixer's output against its rows of the weights. -/
theorem part_apply {N : ℕ} (y : Vec Ideal (⟨3, ![1, 256, N]⟩ : Shape) .f32) (w : FVec Ideal (⟨2, ![N, 1024]⟩ : Shape) .bf16) (h) (h')
    (hb : FTy.bits .bf16 < FTy.bits .f32) (r : Fin 256) (d : Fin 1024) :
    FloatOps.matmul (DotDims.plain 256 N 1024) none (truncf .bf16 (shapeCast (⟨2, ![256, N]⟩ : Shape) y h : FVec Ideal (⟨2, ![256, N]⟩ : Shape) .f32) hb)
      (shapeCast (⟨2, ![N, 1024]⟩ : Shape) w h') (constant (F := Ideal) (⟨2, ![256, 1024]⟩ : Shape) .f32 0x00000000#32) (ix2 r d)
      = ∑ k : Fin N, y (ix3 0 r k) * w (ix2 k d) := by
  rw [shapeCast_self]
  refine (Ideal.matmul_plain_apply none _ w _ r d).trans ?_
  show Ideal.ofBits .f32 0x00000000#32 + _ = _
  rw [Dense.zero_f32, zero_add]
  exact Finset.sum_congr rfl fun k _ => congrArg (fun a : EReal => a * w (ix2 k d)) (flat3 y h r k)

/-- A tile's tokens all lie past the context. -/
theorem past_context : ∀ (a : Fin 8) (r : Fin 256),
    IntOp.cmpi .sge ((256#32 + BitVec.ofNat 32 a.val * 256#32) + BitVec.ofNat 32 (0 * 256 + r.val)) 256#32 = 1#1 := by
  decide +kernel

theorem mask (i : grid0.Coords) (r : Fin 256) : k0_pay3 i (ix2 r 0) = 1#1 := past_context ⟨(i 1).val, (i 1).isLt⟩ r

theorem pick (i : grid0.Coords) (u v : Vec Ideal S1x1x1x1024 .f32) (r : Fin 256) (k : Fin 1024) (h0) (h1) (h2) (h3) (h4) (h5) :
    select (broadcastTo S256x1024 (shapeCast S256x1 (k0_pay3 i) h0) h1)
      (broadcastTo S256x1024 (shapeCast S1x1024 (shapeCast S1x1024 u h2) h3) h4)
      (broadcastTo S256x1024 (shapeCast S1x1024 (shapeCast S1x1024 v h2) h3) h5) (ix2 r k) = u (ix4 0 0 0 k) := by
  rw [shapeCast_self, shapeCast_self, shapeCast_self]
  refine Eq.trans ?_ (flat4 u h2 k)
  show Scalar.select (broadcastTo _ (k0_pay3 i) h1 (ix2 r k)) (broadcastTo _ (shapeCast S1x1024 u h2) h4 (ix2 r k)) _ = _
  rw [spreadColumn, spreadRow, mask]
  rfl

theorem table_row (s : Vec Ideal S1x2x6x1024 .f32) (o p : ℕ) (inb) (ho : o < 2) (hp : p < 6) (k : Fin 1024) :
    View.ld s (Rect.unit (s := S1x2x6x1024) ![0, o, p, 0] S1x1x1x1024.size inb) (ix4 0 0 0 k) = s (ix4 0 ⟨o, ho⟩ ⟨p, hp⟩ k) := by
  show s _ = _
  congr 1
  funext a
  apply Fin.ext
  match a with
  | ⟨0, _⟩ => rfl
  | ⟨1, _⟩ => rfl
  | ⟨2, _⟩ => rfl
  | ⟨3, _⟩ => show 0 + 1 * k.val = k.val; omega

theorem weight_rows {N : ℕ} (w : Vec Ideal S1024x1024 .bf16) (p : ℕ) (inb) (hp : p + N ≤ 1024) (k : Fin N) (d : Fin 1024) :
    View.ld w (Rect.unit (s := S1024x1024) ![p, 0] (⟨2, ![N, 1024]⟩ : Shape).size inb) (ix2 k d) = w (ix2 ⟨p + k.val, by omega⟩ d) := by
  show w _ = _
  congr 1
  funext a
  apply Fin.ext
  match a with
  | ⟨0, _⟩ => show p + 1 * k.val = p + k.val; omega
  | ⟨1, _⟩ => show 0 + 1 * d.val = d.val; omega

variable (i : grid0.Coords) (x0 : Vec Ideal S1x256x1024 .f32) (x1 : Vec Ideal S1x256x256 .f32) (x2 x3 : Vec Ideal S1x256x384 .f32)
  (x4 : Vec Ideal S1024x1024 .bf16) (x5 : Vec Ideal S1x2x6x1024 .f32) (x6 : Vec Ideal S1x1024 .f32) (r : Fin 256) (d : Fin 1024)

theorem product_apply : k0_pay12 i x0 x1 x2 x3 x4 x5 x6 (ix2 r d)
    = (∑ k : Fin 256, x1 (ix3 0 r k) * x4 (ix2 ⟨0 + k.val, by omega⟩ d)) + (∑ k : Fin 384, x2 (ix3 0 r k) * x4 (ix2 ⟨256 + k.val, by omega⟩ d))
      + (∑ k : Fin 384, x3 (ix3 0 r k) * x4 (ix2 ⟨640 + k.val, by omega⟩ d)) := by
  unfold k0_pay12 k0_pay2
  rw [View.ld_unit_zero (by decide), View.ld_unit_zero (by decide), View.ld_unit_zero (by decide)]
  refine congrArg₂ (fun (a b : EReal) => a + b) (congrArg₂ (fun (a b : EReal) => a + b) ((part_apply x1 _ _ _ _ r d).trans ?_)
    ((part_apply x2 _ _ _ _ r d).trans ?_)) ((part_apply x3 _ _ _ _ r d).trans ?_)
  · exact Finset.sum_congr rfl fun k _ => congrArg (x1 (ix3 0 r k) * ·) (weight_rows x4 0 _ (by decide) k d)
  · exact Finset.sum_congr rfl fun k _ => congrArg (x2 (ix3 0 r k) * ·) (weight_rows x4 256 _ (by decide) k d)
  · exact Finset.sum_congr rfl fun k _ => congrArg (x3 (ix3 0 r k) * ·) (weight_rows x4 640 _ (by decide) k d)

/-- The stream a tile leaves, from the product. -/
abbrev resid : FVec Ideal S256x1024 .f32 := k0_pay5 (k0_pay12 i x0 x1 x2 x3 x4 x5 x6) (k0_pay13 i x0 x1 x2 x3 x4 x5 x6)
  (k0_pay14 i x0 x1 x2 x3 x4 x5 x6) (View.ld x5 r0_6) (View.ld x5 r0_7)

theorem resid_apply : resid i x0 x1 x2 x3 x4 x5 x6 (ix2 r d) = x0 (ix3 0 r d)
    + x5 (ix4 0 1 2 d) * k0_pay12 i x0 x1 x2 x3 x4 x5 x6 (ix2 r d) := by
  unfold resid k0_pay5 k0_pay13 k0_pay14 k0_pay4
  rw [View.ld_unit_zero (by decide)]
  refine congrArg₂ (fun (a b : EReal) => a + b) (flat3 x0 _ r d) (congrArg (fun a : EReal => a * _) ((pick i _ _ r d _ _ _ _ _ _).trans ?_))
  rw [table_row x5 1 2 _ (by decide) (by decide)]
  rfl

theorem first_apply : out0_7 i x0 x1 x2 x3 x4 x5 x6 (ix3 0 r d) = resid i x0 x1 x2 x3 x4 x5 x6 (ix2 r d) := by
  unfold out0_7
  rw [View.canon_unit_zero (by decide)]
  unfold k0_pay6
  exact lift3 _ _ r d

theorem second_apply : out0_8 i x0 x1 x2 x3 x4 x5 x6 (ix3 0 r d)
    = modnorm (fun k => resid i x0 x1 x2 x3 x4 x5 x6 (ix2 r k)) (fun k => x6 (ix2 0 k))
        (fun k => x5 (ix4 0 1 4 k))
        (fun k => x5 (ix4 0 1 3 k)) d := by
  have hg : k0_pay7 x6 = x6 := by unfold k0_pay7; exact shapeCast_self _ _
  unfold out0_8
  rw [View.canon_unit_zero (by decide)]
  rw [View.ld_unit_zero (S := S1x1024) (by decide), hg]
  unfold k0_pay1
  refine (lift3 _ _ r d).trans ?_
  unfold modnorm k0_pay8 k0_pay9 k0_pay10 k0_pay11 k0_pay13
  refine congrArg₂ (fun (a b : EReal) => a + b) (congrArg₂ (fun (a b : EReal) => a * b) (congrArg₂ (fun (a b : EReal) => a * b)
    (rms_apply (resid i x0 x1 x2 x3 x4 x5 x6) _ _ _ _ _ _ r d) (spreadRow x6 _ r d))
    (congrArg (fun b : EReal => _ + b) ((pick i _ _ r d _ _ _ _ _ _).trans ?_))) ((pick i _ _ r d _ _ _ _ _ _).trans ?_)
  · rw [table_row x5 1 4 _ (by decide) (by decide)]; rfl
  · rw [table_row x5 1 3 _ (by decide) (by decide)]; rfl

/-! ## The blocks -/

variable (m : (ℓ : Loc nD τ sig) → Buf (Elt Ideal) ℓ)

theorem at0 : ∀ t : Fin cfg0.N, win0_0.index t 0 = t.val / 8 ∧ win0_0.index t 1 = t.val % 8 + 1 ∧ win0_0.index t 2 = 0 :=
  (by decide +kernel : ∀ t : Fin grid0.N, win0_0.index t 0 = t.val / 8 ∧ win0_0.index t 1 = t.val % 8 + 1 ∧ win0_0.index t 2 = 0)
theorem at3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem at7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)
theorem at8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val / 8 ∧ win0_5.index t 1 = 0 ∧ win0_5.index t 2 = 0 ∧ win0_5.index t 3 = 0 :=
  (by decide +kernel : ∀ t : Fin grid0.N, win0_5.index t 0 = t.val / 8 ∧ win0_5.index t 1 = 0 ∧ win0_5.index t 2 = 0 ∧ win0_5.index t 3 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem V_weights (c : Dev nD) : V m c main_v2 = (truncf (F := Ideal) .bf16 (shapeCast S1024x1024
    (extractStridedSlice S1x1024x1024 ![1, 0, 0] (m ((c : Thread nD τ).loc main_arg4)) slices_S2x1024x1024_S1x1024x1024_1_0_0)
    shapeCasts_S1x1024x1024_S1024x1024 : FVec Ideal S1024x1024 .f32) bitsLt_bf16_f32 : Vec Ideal S1024x1024 .bf16) := by
  unfold V; after_results <;> rfl

theorem V_table (c : Dev nD) : V m c main_v8 = shapeCast S8x2x6x1024 (extractStridedSlice S1x8x2x6x1024 ![1, 0, 0, 0, 0]
    (concatenate S2x8x2x6x1024 2
      [⟨S2x8x1x6x1024, broadcastInDim S2x8x1x6x1024 ![0, 1, 2, 3, 4] bcast_S2x1x1x6x1024_S2x8x1x6x1024_0_1_2_3_4
        (shapeCast S2x1x1x6x1024 (m ((c : Thread nD τ).loc main_arg6)) shapeCasts_S2x6144_S2x1x1x6x1024)⟩,
       ⟨S2x8x1x6x1024, shapeCast S2x8x1x6x1024 (m ((c : Thread nD τ).loc main_arg5)) shapeCasts_S2x8x6144_S2x8x1x6x1024⟩]
      concatenates_S2x8x1x6x1024_S2x8x1x6x1024_S2x8x2x6x1024_d2) slices_S2x8x2x6x1024_S1x8x2x6x1024_1_0_0_0_0) shapeCasts_S1x8x2x6x1024_S8x2x6x1024 := by
  unfold V; after_results <;> rfl

theorem V_gain (c : Dev nD) : V m c main_v11 = broadcastInDim S1x1024 ![1] bcast_S1024_S1x1024_1 (shapeCast S1024
    (extractStridedSlice S1x1024 ![1, 0] (m ((c : Thread nD τ).loc main_arg7)) slices_S2x1024_S1x1024_1_0) shapeCasts_S1x1024_S1024) := by
  unfold V; after_results <;> rfl

/-- A row of a block of 256 rows lies in the array at its tile's place. -/
theorem row_read {R N : ℕ} (o : ℕ) (t : Fin cfg0.N) (w : Fin 3 → ℕ) (hw : w 0 = t.val / 8 ∧ w 1 = t.val % 8 + o ∧ w 2 = 0) (r : Fin 256) (k : Fin N)
    (b : Fin 8) (n : Fin R) (hb : b.val = t.val / 8) (hn : n.val = 256 * (t.val % 8 + o) + r.val) (i : (⟨3, ![8, R, N]⟩ : Shape).Idx)
    (h0 : (i 0).val = w 0 * 1 + 1 * 0) (h1 : (i 1).val = w 1 * 256 + 1 * r.val) (h2 : (i 2).val = w 2 * N + 1 * k.val) : i = ix3 b n k := by
  rw [hw.1] at h0
  rw [hw.2.1] at h1
  rw [hw.2.2] at h2
  funext a
  apply Fin.ext
  match a with
  | ⟨0, _⟩ => show (i 0).val = b.val; omega
  | ⟨1, _⟩ => show (i 1).val = n.val; omega
  | ⟨2, _⟩ => show (i 2).val = k.val; omega

section Reads
variable (c : Dev nD) (t : Fin cfg0.N) (b : Fin 8) (n : Fin 2048) (hb : b.val = t.val / 8) (hn : n.val = 256 * (t.val % 8) + r.val)
include hb hn

theorem read0 (k : Fin 1024) : (iblk m c 0 t : Vec Ideal S1x256x1024 .f32) (ix3 0 r k)
    = (m ((c : Thread nD τ).loc main_arg0) : Vec Ideal S8x2304x1024 .f32) (ix3 b ⟨256 + n.val, by omega⟩ k) := by
  unfold iblk
  rw [View.read_apply]
  show V m c main_arg0 _ = _
  rw [V_main_arg0]
  exact congrArg _ (row_read (R := 2304) 1 t (win0_0.index t) (at0 t) r k b ⟨256 + n.val, by omega⟩ hb (by show 256 + n.val = _; omega) _ rfl rfl rfl)

theorem read1 (k : Fin 256) : (iblk m c 1 t : Vec Ideal S1x256x256 .f32) (ix3 0 r k)
    = (m ((c : Thread nD τ).loc main_arg1) : Vec Ideal S8x2304x256 .f32) (ix3 b ⟨256 + n.val, by omega⟩ k) := by
  unfold iblk
  rw [View.read_apply]
  show V m c main_arg1 _ = _
  rw [V_main_arg1]
  exact congrArg _ (row_read (R := 2304) 1 t (win0_1.index t) (at0 t) r k b ⟨256 + n.val, by omega⟩ hb (by show 256 + n.val = _; omega) _ rfl rfl rfl)

theorem read2 (k : Fin 384) : (iblk m c 2 t : Vec Ideal S1x256x384 .f32) (ix3 0 r k)
    = (m ((c : Thread nD τ).loc main_arg2) : Vec Ideal S8x2304x384 .f32) (ix3 b ⟨256 + n.val, by omega⟩ k) := by
  unfold iblk
  rw [View.read_apply]
  show V m c main_arg2 _ = _
  rw [V_main_arg2]
  exact congrArg _ (row_read (R := 2304) 1 t (win0_2.index t) (at0 t) r k b ⟨256 + n.val, by omega⟩ hb (by show 256 + n.val = _; omega) _ rfl rfl rfl)

theorem read3 (k : Fin 384) : (iblk m c 3 t : Vec Ideal S1x256x384 .f32) (ix3 0 r k)
    = (m ((c : Thread nD τ).loc main_arg3) : Vec Ideal S8x2048x384 .f32) (ix3 b n k) := by
  unfold iblk
  rw [View.read_apply]
  show V m c main_arg3 _ = _
  rw [V_main_arg3]
  exact congrArg _ (row_read (R := 2048) 0 t (win0_3.index t) (at3 t) r k b n hb (by omega) _ rfl rfl rfl)

end Reads

theorem read4 (c : Dev nD) (t : Fin cfg0.N) (k d : Fin 1024) : (iblk m c 4 t : Vec Ideal S1024x1024 .bf16) (ix2 k d)
    = (m ((c : Thread nD τ).loc main_arg4) : Vec Ideal S2x1024x1024 .f32) (ix3 1 k d) := by
  have h : (iblk m c 4 t : Vec Ideal S1024x1024 .bf16) (ix2 k d) = (V m c main_v2 : Vec Ideal S1024x1024 .bf16) (ix2 k d) := by
    unfold iblk
    rw [View.read_apply]
    show V m c main_v2 _ = _
    congr 1
    funext a
    apply Fin.ext
    match a with
    | ⟨0, _⟩ => show win0_4.index t 0 * 1024 + 1 * k.val = k.val; rw [(at4 t).1]; omega
    | ⟨1, _⟩ => show win0_4.index t 1 * 1024 + 1 * d.val = d.val; rw [(at4 t).2]; omega
  rw [h, V_weights]
  refine (flat3 (R := 1024) (C := 1024) (extractStridedSlice S1x1024x1024 ![1, 0, 0] (m ((c : Thread nD τ).loc main_arg4))
    slices_S2x1024x1024_S1x1024x1024_1_0_0) _ k d).trans ?_
  exact extractStridedSlice_apply ![1, 0, 0] _ _ (ix3 (0 : Fin 1) k d) (ix3 (1 : Fin 2) k d) (fun a => match a with
    | ⟨0, _⟩ => rfl
    | ⟨1, _⟩ => by show k.val = 0 + k.val; omega
    | ⟨2, _⟩ => by show d.val = 0 + d.val; omega)

theorem read5 (c : Dev nD) (t : Fin cfg0.N) (s : Fin 2) (j : Fin 6) (k : Fin 1024) (b : Fin 8) (hb : b.val = t.val / 8) :
    (iblk m c 5 t : Vec Ideal S1x2x6x1024 .f32) (ix4 0 s j k)
      = if s.val = 0 then modCtx (m ((c : Thread nD τ).loc main_arg6)) 1 j k else modLat (m ((c : Thread nD τ).loc main_arg5)) 1 b j k := by
  have h : (iblk m c 5 t : Vec Ideal S1x2x6x1024 .f32) (ix4 0 s j k) = (V m c main_v8 : Vec Ideal S8x2x6x1024 .f32) (ix4 b s j k) := by
    unfold iblk
    rw [View.read_apply]
    show V m c main_v8 _ = _
    congr 1
    funext a
    apply Fin.ext
    match a with
    | ⟨0, _⟩ => show win0_5.index t 0 * 1 + 1 * 0 = b.val; rw [(at5 t).1]; omega
    | ⟨1, _⟩ => show win0_5.index t 1 * 2 + 1 * s.val = s.val; rw [(at5 t).2.1]; omega
    | ⟨2, _⟩ => show win0_5.index t 2 * 6 + 1 * j.val = j.val; rw [(at5 t).2.2.1]; omega
    | ⟨3, _⟩ => show win0_5.index t 3 * 1024 + 1 * k.val = k.val; rw [(at5 t).2.2.2]; omega
  rw [h, V_table]
  exact table_apply 1 (m ((c : Thread nD τ).loc main_arg5)) (m ((c : Thread nD τ).loc main_arg6)) _ _ _ _ _ _ b s j k

theorem read6 (c : Dev nD) (t : Fin cfg0.N) (k : Fin 1024) :
    (iblk m c 6 t : Vec Ideal S1x1024 .f32) (ix2 0 k) = (m ((c : Thread nD τ).loc main_arg7) : Vec Ideal S2x1024 .f32) (ix2 1 k) := by
  have h : (iblk m c 6 t : Vec Ideal S1x1024 .f32) (ix2 0 k) = (V m c main_v11 : Vec Ideal S1x1024 .f32) (ix2 0 k) := by
    unfold iblk
    rw [View.read_apply]
    show V m c main_v11 _ = _
    congr 1
    funext a
    apply Fin.ext
    match a with
    | ⟨0, _⟩ => show win0_6.index t 0 * 1 + 1 * 0 = 0; rw [(at6 t).1]
    | ⟨1, _⟩ => show win0_6.index t 1 * 1024 + 1 * k.val = k.val; rw [(at6 t).2]; omega
  rw [h, V_gain]
  refine (broadcastInDim_apply ![1] _ _ (ix2 0 k) (ix1 k) (fun a => match a with | ⟨0, _⟩ => rfl)).trans ?_
  refine (shapeCast_apply _ _ (ix1 k) (ix2 0 k) (by
    rewrite [Shape.rowMajor_val_one, Shape.rowMajor_val_two]
    show 0 * 1024 + k.val = k.val
    omega)).trans ?_
  exact extractStridedSlice_apply ![1, 0] _ _ (ix2 (0 : Fin 1) k) (ix2 (1 : Fin 2) k) (fun a => match a with
    | ⟨0, _⟩ => rfl
    | ⟨1, _⟩ => by show k.val = 0 + k.val; omega)

/-! ## The results -/

/-- The stream and the normed tokens, of the arguments in memory. -/
abbrev streamOf (c : Dev nD) : Fin 8 → Fin 2048 → Fin 1024 → EReal :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev normedOf (c : Dev nD) : Fin 8 → Fin 2048 → Fin 1024 → EReal :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7))

section Blocks
variable (c : Dev nD) (t : Fin cfg0.N) (b : Fin 8) (n : Fin 2048) (hb : b.val = t.val / 8) (hn : n.val = 256 * (t.val % 8) + r.val)
include hb

/-- A row of the latents' modulation in a tile's block of the table. -/
theorem row_apply (j : Fin 6) (k : Fin 1024) : (iblk m c 5 t : Vec Ideal S1x2x6x1024 .f32) (ix4 0 1 j k)
    = modLat (m ((c : Thread nD τ).loc main_arg5)) 1 b j k := read5 m c t 1 j k b hb

include hn

theorem resid_block : resid (grid0.coords t) (iblk m c 0 t) (iblk m c 1 t) (iblk m c 2 t) (iblk m c 3 t) (iblk m c 4 t) (iblk m c 5 t)
    (iblk m c 6 t) (ix2 r d) = streamOf m c b n d := by
  refine (resid_apply _ _ _ _ _ _ _ _ r d).trans ?_
  rw [row_apply m c t b hb 2 d, product_apply, read0 r m c t b n hb hn d]
  unfold streamOf stream
  rw [← Cert.Proof.Out.sum_parts]
  refine congrArg (fun a : EReal => _ + _ * a) (congrArg₂ (fun (a b : EReal) => a + b) (congrArg₂ (fun (a b : EReal) => a + b) ?_ ?_) ?_)
  · refine Finset.sum_congr rfl fun k _ => ?_
    rw [read1 r m c t b n hb hn k, read4]
    have hk := k.isLt
    unfold mixed
    rw [dif_pos hk]
    simp only [Nat.zero_add]
  · refine Finset.sum_congr rfl fun k _ => ?_
    rw [read2 r m c t b n hb hn k, read4]
    have hk := k.isLt
    unfold mixed
    rw [dif_neg (by show ¬ 256 + k.val < 256; omega), dif_pos (by show 256 + k.val < 640; omega)]
    congr 3
    exact Fin.ext (by show k.val = 256 + k.val - 256; omega)
  · refine Finset.sum_congr rfl fun k _ => ?_
    rw [read3 r m c t b n hb hn k, read4]
    have hk := k.isLt
    unfold mixed
    rw [dif_neg (by show ¬ 640 + k.val < 256; omega), dif_neg (by show ¬ 640 + k.val < 640; omega)]
    congr 3
    exact Fin.ext (by show k.val = 640 + k.val - 640; omega)

theorem first_block : out0_7 (grid0.coords t) (iblk m c 0 t) (iblk m c 1 t) (iblk m c 2 t) (iblk m c 3 t) (iblk m c 4 t) (iblk m c 5 t)
    (iblk m c 6 t) (ix3 0 r d) = streamOf m c b n d :=
  (first_apply _ _ _ _ _ _ _ _ r d).trans (resid_block r d m c t b n hb hn)

theorem second_block : out0_8 (grid0.coords t) (iblk m c 0 t) (iblk m c 1 t) (iblk m c 2 t) (iblk m c 3 t) (iblk m c 4 t) (iblk m c 5 t)
    (iblk m c 6 t) (ix3 0 r d) = normedOf m c b n d := by
  refine (second_apply _ _ _ _ _ _ _ _ r d).trans ?_
  rw [funext fun k => resid_block r k m c t b n hb hn, funext fun k => read6 m c t k, funext fun k => row_apply m c t b hb 4 k,
    funext fun k => row_apply m c t b hb 3 k]
  rfl

end Blocks

/-- An array is known from its blocks of 256 rows, row by row. -/
theorem of_rows (f : Fin 8 → Fin 2048 → Fin 1024 → EReal) (t : Fin cfg0.N) (w : Fin 3 → ℕ)
    (hw : w 0 = t.val / 8 ∧ w 1 = t.val % 8 ∧ w 2 = 0) (v : (⟨3, ![1, 256, 1024]⟩ : Shape).Idx → EReal)
    (hv : ∀ (r : Fin 256) (d : Fin 1024) (b : Fin 8) (n : Fin 2048), b.val = t.val / 8 → n.val = 256 * (t.val % 8) + r.val → v (ix3 0 r d) = f b n d)
    (y : (⟨3, ![1, 256, 1024]⟩ : Shape).Idx) (i : (⟨3, ![8, 2048, 1024]⟩ : Shape).Idx)
    (h0 : (i 0).val = w 0 * 1 + 1 * (y 0).val) (h1 : (i 1).val = w 1 * 256 + 1 * (y 1).val) (h2 : (i 2).val = w 2 * 1024 + 1 * (y 2).val) :
    v y = f (i 0) (i 1) (i 2) := by
  have hy0 : (y 0).val < 1 := (y 0).isLt
  rw [hw.1] at h0
  rw [hw.2.1] at h1
  rw [hw.2.2] at h2
  have hy : y = ix3 (n0 := 1) (n1 := 256) (n2 := 1024) 0 (y 1) (y 2) := funext fun a => match a with
    | ⟨0, _⟩ => Fin.ext (by show (y 0).val = 0; omega)
    | ⟨1, _⟩ => rfl
    | ⟨2, _⟩ => rfl
  refine (congrArg v hy).trans ((hv (y 1) (y 2) (i 0) (i 1) (by omega) (by omega)).trans (congrArg (f (i 0) (i 1)) (Fin.ext ?_)))
  show (y 2).val = (i 2).val
  omega

theorem result7 (c : Dev nD) : (dats m 0 c).arrAt 7 cfg0.N = fun i : S8x2048x1024.Idx => streamOf m c (i 0) (i 1) (i 2) := by
  refine (dats m 0 c).arrAt_eq_of_covers 7 _ (by decide +kernel) fun t hf y => ?_
  blk_simp
  rw [after0_7]
  exact of_rows (streamOf m c) t (win0_7.index t) (at7 t) _ (fun r d b n hb hn => first_block r d m c t b n hb hn) y _ rfl rfl rfl

theorem result8 (c : Dev nD) : (dats m 0 c).arrAt 8 cfg0.N = fun i : S8x2048x1024.Idx => normedOf m c (i 0) (i 1) (i 2) := by
  refine (dats m 0 c).arrAt_eq_of_covers 8 _ (by decide +kernel) fun t hf y => ?_
  blk_simp
  rw [after0_8]
  exact of_rows (normedOf m c) t (win0_8.index t) (at8 t) _ (fun r d b n hb hn => second_block r d m c t b n hb hn) y _ rfl rfl rfl

/-! ## The reference -/

section Reference
open Cert.Reference8Ideal.Read

variable (x0 : (⟨S8x2304x1024, .f32⟩ : BufTy).Contents (Elt Ideal)) (x1 : (⟨S8x2304x256, .f32⟩ : BufTy).Contents (Elt Ideal))
  (x2 : (⟨S8x2304x384, .f32⟩ : BufTy).Contents (Elt Ideal)) (x3 : (⟨S8x2048x384, .f32⟩ : BufTy).Contents (Elt Ideal))
  (x4 : (⟨S2x1024x1024, .f32⟩ : BufTy).Contents (Elt Ideal)) (x5 : (⟨S2x8x6144, .f32⟩ : BufTy).Contents (Elt Ideal))
  (x7 : (⟨S2x1024, .f32⟩ : BufTy).Contents (Elt Ideal))

/-- A row of the latents' modulation, `o` the first of its columns. -/
theorem ref_lat (b : Fin 8) (k : Fin 1024) (o : Fin 6) (q : Fin 6144) (hq : q.val = 1024 * o.val + k.val) :
    val_main_v2 (F := Ideal) x5 (ix3 b 0 q) = modLat x5 1 b o k := by
  rw [val_main_v2_apply, val_main_v1_apply, val_main_v0_apply]
  unfold modLat
  have hb := b.isLt; have hk := q.isLt
  show x5 _ = x5 _
  congr 1
  funext a
  apply Fin.ext
  match a with
  | ⟨0, _⟩ => rfl
  | ⟨1, _⟩ => show (b.val * 6144 + q.val) / 6144 % 8 = b.val; omega
  | ⟨2, _⟩ => show (b.val * 6144 + q.val) % 6144 = 1024 * o.val + k.val; omega

theorem ref_mixed (b : Fin 8) (n : Fin 2048) (k : Fin 1024) : val_main_v11 (F := Ideal) x1 x2 x3 (ix3 b n k) = mixed x1 x2 x3 b n k := by
  unfold val_main_v11 mixed
  have hk := k.isLt
  by_cases h0 : k.val < 256
  · rw [dif_pos h0]
    refine (concatenate_apply_piece 2 _ _ (ix3 b n k) 0 (by simp) Cert.Reference8Ideal.S8x2048x256 (val_main_v9 (F := Ideal) x1) rfl rfl 0 rfl (ix3 b n ⟨k.val, h0⟩)
      (fun a => match a with
        | ⟨0, _⟩ => fun _ => rfl | ⟨1, _⟩ => fun _ => rfl | ⟨2, _⟩ => fun h => absurd rfl h) (by show 0 + k.val = k.val; omega)).trans ?_
    rw [val_main_v9_apply]
    exact congrArg x1 (funext fun a => match a with | ⟨0, _⟩ => rfl | ⟨1, _⟩ => rfl | ⟨2, _⟩ => rfl)
  · rw [dif_neg h0]
    by_cases h1 : k.val < 640
    · rw [dif_pos h1]
      refine (concatenate_apply_piece 2 _ _ (ix3 b n k) 1 (by simp) S8x2048x384 (val_main_v10 (F := Ideal) x2) rfl rfl 256 rfl
        (ix3 b n ⟨k.val - 256, by omega⟩) (fun a => match a with
        | ⟨0, _⟩ => fun _ => rfl | ⟨1, _⟩ => fun _ => rfl | ⟨2, _⟩ => fun h => absurd rfl h) (by show 256 + (k.val - 256) = k.val; omega)).trans ?_
      rw [val_main_v10_apply]
      exact congrArg x2 (funext fun a => match a with | ⟨0, _⟩ => rfl | ⟨1, _⟩ => rfl | ⟨2, _⟩ => rfl)
    · rw [dif_neg h1]
      exact concatenate_apply_piece 2 _ _ (ix3 b n k) 2 (by simp) S8x2048x384 x3 rfl rfl 640 rfl (ix3 b n ⟨k.val - 640, by omega⟩) (fun a => match a with
        | ⟨0, _⟩ => fun _ => rfl | ⟨1, _⟩ => fun _ => rfl | ⟨2, _⟩ => fun h => absurd rfl h) (by show 640 + (k.val - 640) = k.val; omega)

theorem ref_product (b : Fin 8) (n : Fin 2048) (d : Fin 1024) : val_main_v15 (F := Ideal) x1 x2 x3 x4 (ix3 b n d)
    = ∑ k : Fin 1024, mixed x1 x2 x3 b n k * x4 (ix3 1 k d) := by
  rw [val_main_v15_apply]
  refine Finset.sum_congr rfl fun k _ => congrArg₂ (fun (a b : EReal) => a * b) ?_ ?_
  · rw [← ref_mixed]
    exact congrArg _ (funext fun a => match a with | ⟨0, _⟩ => rfl | ⟨1, _⟩ => rfl | ⟨2, _⟩ => rfl)
  · rw [val_main_v14_apply, val_main_v13_apply]
    have hk := k.isLt; have hd := d.isLt
    refine congrArg x4 (funext fun a => match a with
      | ⟨0, _⟩ => rfl
      | ⟨1, _⟩ => Fin.ext ?_
      | ⟨2, _⟩ => Fin.ext ?_)
    · show (k.val * 1024 + d.val) / 1024 % 1024 = k.val; omega
    · show (k.val * 1024 + d.val) % 1024 = d.val; omega

theorem ref_stream (b : Fin 8) (n : Fin 2048) (d : Fin 1024) : val_main_v18 (F := Ideal) x0 x1 x2 x3 x4 x5 (ix3 b n d)
    = stream x0 x1 x2 x3 x4 x5 b n d := by
  rw [val_main_v18_apply, val_main_v17_apply, val_main_v16_apply, val_main_v12_apply, val_main_v5_apply]
  unfold stream
  rw [← ref_product, ← ref_lat x5 b d 2 ⟨2048 + d.val, by omega⟩ rfl]
  refine congrArg₂ (fun (u v : EReal) => u + v) (congrArg _ ?_) (congrArg (fun u : EReal => u * _) (congrArg _ ?_))
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

theorem ref_latents (b : Fin 8) (n : Fin 2048) (d : Fin 1024) : val_main_v39 (F := Ideal) x0 x1 x2 x3 x4 x5 x7 (ix3 b n d)
    = modnorm (fun k => val_main_v18 (F := Ideal) x0 x1 x2 x3 x4 x5 (ix3 b n k)) (fun k => x7 (ix2 1 k)) (modLat x5 1 b 4) (modLat x5 1 b 3) d := by
  rw [val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v20_apply, val_main_v19_apply, val_main_v7_apply, val_main_v6_apply, val_main_cst_apply, val_main_cst_0_apply, val_main_cst_1_apply, val_main_cst_2_apply]
  have hd := d.isLt
  have hs : ∀ k : Fin 1024, val_main_v21 (F := Ideal) x0 x1 x2 x3 x4 x5 (idx_main_v22 (idx_main_v23 (idx_main_v29 (ix3 b n d))) k)
      = val_main_v18 (F := Ideal) x0 x1 x2 x3 x4 x5 (ix3 b n k) * val_main_v18 (F := Ideal) x0 x1 x2 x3 x4 x5 (ix3 b n k) := fun k => by
    have e : idx_main_v22 (idx_main_v23 (idx_main_v29 (ix3 b n d))) k = ix3 b n k := funext fun a => match a with
      | ⟨0, _⟩ => rfl | ⟨1, _⟩ => rfl | ⟨2, _⟩ => rfl
    rw [e, val_main_v21_apply]
    rfl
  rw [Finset.sum_congr rfl fun k _ => hs k]
  have hg : x7 (idx_main_v19 (idx_main_v20 (idx_main_v31 (idx_main_v32 (ix3 b n d))))) = x7 (ix2 1 d) := congrArg x7 (funext fun a => match a with
    | ⟨0, _⟩ => rfl
    | ⟨1, _⟩ => Fin.ext (by show d.val % 1024 = d.val; omega))
  have hsc : val_main_v2 (F := Ideal) x5 (idx_main_v7 (idx_main_v36 (ix3 b n d))) = modLat x5 1 b 4 d := by
    rw [← ref_lat x5 b d 4 ⟨4096 + d.val, by omega⟩ rfl]
    exact congrArg _ (funext fun a => match a with | ⟨0, _⟩ => rfl | ⟨1, _⟩ => rfl | ⟨2, _⟩ => rfl)
  have hsh : val_main_v2 (F := Ideal) x5 (idx_main_v6 (idx_main_v38 (ix3 b n d))) = modLat x5 1 b 3 d := by
    rw [← ref_lat x5 b d 3 ⟨3072 + d.val, by omega⟩ rfl]
    exact congrArg _ (funext fun a => match a with | ⟨0, _⟩ => rfl | ⟨1, _⟩ => rfl | ⟨2, _⟩ => rfl)
  rw [hg, hsc, hsh]
  show (_ * Ideal.rsqrt (Ideal.div (Ideal.ofBits .f32 0x00000000#32 + _) _ + _)) * _ * _ + _ = _
  rw [Dense.zero_f32, zero_add]
  rfl

theorem ref_normed (b : Fin 8) (n : Fin 2048) (d : Fin 1024) : val_main_v40 (F := Ideal) x0 x1 x2 x3 x4 x5 x7 (ix3 b n d)
    = normed x0 x1 x2 x3 x4 x5 x7 b n d := by
  rw [val_main_v40_apply]
  unfold normed
  rw [← funext fun k => ref_stream x0 x1 x2 x3 x4 x5 b n k]
  exact ref_latents x0 x1 x2 x3 x4 x5 x7 b n d

end Reference

/-! ## The claims -/

theorem kernel_frame : Cert.quiescent_Kernel8 (hKernel8 := Cert.Kernel8.Gen.facts) :=
  fun m ρ _ => Cert.Kernel8.Gen.frame m ρ

theorem ideal_frame : Cert.quiescent_Kernel8Ideal (hKernel8Ideal := Cert.Kernel8Ideal.Gen.facts) :=
  fun m ρ _ => Cert.Kernel8Ideal.Gen.frame m ρ

theorem reference_frame : Cert.quiescent_Reference8Ideal (hReference8Ideal := Cert.Reference8Ideal.Gen.facts) :=
  fun m ρ _ => (θ_run _ _ _).mono (fun r h => ⟨fun c => (h c).2.2, sem_eq_zero_of_no_sems (by decide) r.2⟩)
    (Cert.Reference8Ideal.Value.run m ρ)

theorem preserves : Cert.preserves_Kernel8_Kernel8Ideal := trivial

open Cert.Reference8Ideal.Read in
/-- Both compute the same stream, and the same normed tokens. -/
theorem algebraic : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => (dats m 0 c).arrAt 7 cfg0.N, fun c => (dats m 0 c).arrAt 8 cfg0.N, Cert.Kernel8Ideal.Value.run_blocks m ρ, ?_⟩
  refine (θ_run _ _ _).mono (fun r h c => ?_) (Cert.Reference8Ideal.Value.run m' ρ')
  obtain ⟨h0, h1, h2, h3, h4, h5, h6, h7⟩ := hargs c
  obtain ⟨r0, r1, hr⟩ := h c
  refine ⟨r0.trans ((val_main_v18_eq ..).trans (Eq.trans ?_ (result7 m c).symm)),
    r1.trans ((val_main_v40_eq m' c).trans (Eq.trans ?_ (result8 m c).symm)), hr⟩
  · funext i
    refine ((congrArg _ (eq_ix3 i)).trans (ref_stream _ _ _ _ _ _ (i 0) (i 1) (i 2))).trans ?_
    unfold streamOf
    rw [← h0, ← h1, ← h2, ← h3, ← h4, ← h5]
  · funext i
    refine ((congrArg _ (eq_ix3 i)).trans (ref_normed _ _ _ _ _ _ _ (i 0) (i 1) (i 2))).trans ?_
    unfold normedOf
    rw [← h0, ← h1, ← h2, ← h3, ← h4, ← h5, ← h7]

end Cert.Proof.Last

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Sum
public import proofs.«01_k».proof.Proof.In
public import proofs.«01_k».proof.Proof.Out
public import proofs.«01_k».proof.Proof.Final
public import proofs.«01_k».proof.Proof.Latent
public import proofs.«01_k».proof.Proof.Ctx
public import proofs.«01_k».proof.Proof.Next
public import proofs.«01_k».proof.Proof.Last

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Finite.facts,
  Sum.kernel_frame, Sum.ideal_frame, Sum.reference_frame,
  In.kernel_frame, In.ideal_frame, In.reference_frame,
  Out.kernel_frame, Out.ideal_frame, Out.reference_frame,
  Final.kernel_frame, Final.ideal_frame, Final.reference_frame,
  Latent.kernel_frame, Latent.ideal_frame, Latent.ideal_frame_pre, Latent.reference_frame, Latent.reference_frame_pre,
  Ctx.kernel_frame, Ctx.ideal_frame, Ctx.ideal_frame_pre, Ctx.reference_frame, Ctx.reference_frame_pre,
  Next.kernel_frame, Next.ideal_frame, Next.reference_frame,
  Last.kernel_frame, Last.ideal_frame, Last.reference_frame,
  Sum.preserves, Sum.algebraic,
  In.preserves, In.algebraic,
  Out.preserves, Out.algebraic,
  Final.preserves, Final.algebraic,
  Latent.preserves, Latent.algebraic,
  Ctx.preserves, Ctx.algebraic,
  Next.preserves, Next.algebraic,
  Last.preserves, Last.algebraic⟩

end Cert.Proof

end
